-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  IdealRules.named_const.Statement Cert.KernelIdeal.κ "escale" .f32 0x3E0293EE#32 (((11863283 / 134217728) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)) (v4 : (c : Dev Cert.Kernel3Ideal.nD) → Buf (Elt Ideal) ((c.tc : Thread Cert.Kernel3Ideal.nD Cert.Kernel3Ideal.τ).loc Cert.Kernel3Ideal.main_v9_4)) (v5 : (c : Dev Cert.Kernel3Ideal.nD) → Buf (Elt Ideal) ((c.tc : Thread Cert.Kernel3Ideal.nD Cert.Kernel3Ideal.τ).loc Cert.Kernel3Ideal.main_v9_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_v9_4) = v4 c
          ∧ r.2.mem ((c.tc : Thread Cert.Kernel3Ideal.nD Cert.Kernel3Ideal.τ).loc Cert.Kernel3Ideal.main_v9_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v32) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v34_0)) (v1 : (c : Dev Cert.Kernel4Ideal.nD) → Buf (Elt Ideal) ((c.tc : Thread Cert.Kernel4Ideal.nD Cert.Kernel4Ideal.τ).loc Cert.Kernel4Ideal.main_v34_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_0) = v0 c
          ∧ r.2.mem ((c.tc : Thread Cert.Kernel4Ideal.nD Cert.Kernel4Ideal.τ).loc Cert.Kernel4Ideal.main_v34_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v34)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v37)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v37) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v126) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8704x2048 : Shape := ⟨2, ![8704, 2048]⟩
abbrev S4x12x2048x128 : Shape := ⟨4, ![4, 12, 2048, 128]⟩
abbrev S8192x1536 : Shape := ⟨2, ![8192, 1536]⟩
abbrev S_ : Shape := ⟨0, ![]⟩

class Facts : Prop where
  slices_S8704x2048_S8192x1536_0_0 : S8704x2048.Slices ![0, 0] S8192x1536
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S4x12x2048x128 : S_.BroadcastsInDim S4x12x2048x128 (![] : Fin 0 → Fin S4x12x2048x128.rank)
  reducesTo_S4x12x2048x128_S_d0_1_2_3 : S4x12x2048x128.ReducesTo [0, 1, 2, 3] S_

variable [Facts]

def fn {F : FTy → Type} [FloatOps F] (main_arg0 : FVec F S8704x2048 .f32) (main_arg1 : FVec F S4x12x2048x128 .f32) (main_arg2 : FVec F S4x12x2048x128 .f32) : IVec S_ 1 :=
  let main_v0 : FVec F S8192x1536 .f32 := (extractStridedSlice S8192x1536 ![0, 0] · slices_S8704x2048_S8192x1536_0_0) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S4x12x2048x128 .f32 := Host.absf main_arg1
  let main_cst_0 : FVec F S_ .f32 := constant S_ .f32 0x7F800000#32
  let main_v6 : FVec F S4x12x2048x128 .f32 := broadcastInDim S4x12x2048x128 ![] bcast_S_S4x12x2048x128 main_cst_0
  let main_v7 : IVec S4x12x2048x128 1 := cmpf .olt main_v5 main_v6
  let main_c_1 : IVec S_ 1 := constantI S_ 1 1#1
  let main_v8 : IVec S_ 1 := (fun x v => Host.reduce IntOp.andi x v reducesTo_S4x12x2048x128_S_d0_1_2_3 h_S_) main_v7 main_c_1
  let main_v9 : IVec S_ 1 := andi main_v4 main_v8
  main_v9
-- ==== Kernel.lean ====
abbrev S8704x2048 : Shape := ⟨2, ![8704, 2048]⟩
abbrev S4x12x2048x128 : Shape := ⟨4, ![4, 12, 2048, 128]⟩
abbrev S8192x1536 : Shape := ⟨2, ![8192, 1536]⟩
abbrev S2048x128 : Shape := ⟨2, ![2048, 128]⟩
abbrev S1x1x2048x128 : Shape := ⟨4, ![1, 1, 2048, 128]⟩
abbrev S2048x256 : Shape := ⟨2, ![2048, 256]⟩
abbrev S8x256x128 : Shape := ⟨3, ![8, 256, 128]⟩
abbrev S8x128 : Shape := ⟨2, ![8, 128]⟩
abbrev S8x2048 : Shape := ⟨2, ![8, 2048]⟩
abbrev S2048 : Shape := ⟨1, ![2048]⟩
abbrev S1x2048 : Shape := ⟨2, ![1, 2048]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S512x256 : Shape := ⟨2, ![512, 256]⟩
abbrev S256x512 : Shape := ⟨2, ![256, 512]⟩
abbrev S768x256 : Shape := ⟨2, ![768, 256]⟩
abbrev S256x768 : Shape := ⟨2, ![256, 768]⟩
abbrev S1024x256 : Shape := ⟨2, ![1024, 256]⟩
abbrev S256x1024 : Shape := ⟨2, ![256, 1024]⟩
abbrev S1280x256 : Shape := ⟨2, ![1280, 256]⟩
abbrev S256x1280 : Shape := ⟨2, ![256, 1280]⟩
abbrev S1536x256 : Shape := ⟨2, ![1536, 256]⟩
abbrev S256x1536 : Shape := ⟨2, ![256, 1536]⟩
abbrev S1792x256 : Shape := ⟨2, ![1792, 256]⟩
abbrev S256x1792 : Shape := ⟨2, ![256, 1792]⟩

abbrev nBuf : Space → Nat
  | .hbm => 4
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S4x12x2048x128, .f32⟩
  | .hbm, ⟨2, _⟩ => ⟨S4x12x2048x128, .f32⟩
  | .hbm, ⟨3, _⟩ => ⟨S8192x1536, .bf16⟩
  | .local _ .vmem, ⟨0, _⟩ => ⟨S2048x128, .f32⟩
  | .local _ .vmem, ⟨1, _⟩ => ⟨S2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S2048x128, .bf16⟩
  | .local _ .vmem, ⟨7, _⟩ => ⟨S2048x128, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "escale" => some (((11863283 / 134217728) * (Real.log 2)⁻¹ : ℝ) : EReal)
  | "mask" => some ⊥
  | _ => none
-- ==== ReferenceIdeal.lean ====
abbrev S8704x2048 : Shape := ⟨2, ![8704, 2048]⟩
abbrev S4x12x2048x128 : Shape := ⟨4, ![4, 12, 2048, 128]⟩
abbrev S8192x1536 : Shape := ⟨2, ![8192, 1536]⟩
abbrev S4x2048x12x128 : Shape := ⟨4, ![4, 2048, 12, 128]⟩
abbrev S4x8x256x12x128 : Shape := ⟨5, ![4, 8, 256, 12, 128]⟩
abbrev S_ : Shape := ⟨0, ![]⟩
abbrev S4x8x12x128 : Shape := ⟨4, ![4, 8, 12, 128]⟩
abbrev S4x12x2048x8 : Shape := ⟨4, ![4, 12, 2048, 8]⟩
abbrev S2048 : Shape := ⟨1, ![2048]⟩
abbrev S8 : Shape := ⟨1, ![8]⟩
abbrev S1x1x1x8 : Shape := ⟨4, ![1, 1, 1, 8]⟩
abbrev S1x1x2048x1 : Shape := ⟨4, ![1, 1, 2048, 1]⟩
abbrev S1x1x2048x8 : Shape := ⟨4, ![1, 1, 2048, 8]⟩
abbrev S4x12x2048x3 : Shape := ⟨4, ![4, 12, 2048, 3]⟩
abbrev S4x12x2048x3x1 : Shape := ⟨5, ![4, 12, 2048, 3, 1]⟩
abbrev S1x1x1x1x2048 : Shape := ⟨5, ![1, 1, 1, 1, 2048]⟩
abbrev S4x12x2048x3x2048 : Shape := ⟨5, ![4, 12, 2048, 3, 2048]⟩
abbrev S4x12x2048x2048 : Shape := ⟨4, ![4, 12, 2048, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x12x2048 : Shape := ⟨3, ![4, 12, 2048]⟩
abbrev S4x12x2048x1 : Shape := ⟨4, ![4, 12, 2048, 1]⟩
abbrev S4x12x128x2048 : Shape := ⟨4, ![4, 12, 128, 2048]⟩

abbrev nBuf : Space → Nat
  | .hbm => 99
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x12x2048x128, .f32⟩
  | .hbm, ⟨2, _⟩ => ⟨S4x12x2048x128, .f32⟩
  | .hbm, ⟨3, _⟩ => ⟨S8192x1536, .f32⟩
  | .hbm, ⟨4, _⟩ => ⟨S4x2048x12x128, .f32⟩
  | .hbm, ⟨5, _⟩ => ⟨S4x2048x12x128, .f32⟩
  | .hbm, ⟨6, _⟩ => ⟨S4x2048x12x128, .f32⟩
  | .hbm, ⟨7, _⟩ => ⟨S4x8x256x12x128, .f32⟩
  | .hbm, ⟨8, _⟩ => ⟨S_, .f32⟩
  | .hbm, ⟨9, _⟩ => ⟨S4x8x12x128, .f32⟩
  | .hbm, ⟨10, _⟩ => ⟨S_, .f32⟩
  | .hbm, ⟨11, _⟩ => ⟨S4x8x12x128, .f32⟩
  | .hbm, ⟨12, _⟩ => ⟨S4x8x12x128, .f32⟩
  | .hbm, ⟨13, _⟩ => ⟨S4x12x2048x8, .f32⟩
  | .hbm, ⟨14, _⟩ => ⟨S2048, .i32⟩
  | .hbm, ⟨15, _⟩ => ⟨S_, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S8, .i32⟩
  | .hbm, ⟨34, _⟩ => ⟨S1x1x1x8, .i32⟩
  | .hbm, ⟨35, _⟩ => ⟨S1x1x2048x1, .i32⟩
  | .hbm, ⟨36, _⟩ => ⟨S1x1x2048x8, .i32⟩
  | .hbm, ⟨37, _⟩ => ⟨S1x1x2048x8, .i32⟩
  | .hbm, ⟨38, _⟩ => ⟨S1x1x2048x8, .i1⟩
  | .hbm, ⟨39, _⟩ => ⟨S_, .f32⟩
  | .hbm, ⟨40, _⟩ => ⟨S_, .f32⟩
  | .hbm, ⟨41, _⟩ => ⟨S4x12x2048x8, .i1⟩
  | .hbm, ⟨42, _⟩ => ⟨S4x12x2048x8, .f32⟩
  | .hbm, ⟨43, _⟩ => ⟨S4x12x2048x8, .f32⟩
  | .hbm, ⟨44, _⟩ => ⟨S4x12x2048x3, .f32⟩
  | .hbm, ⟨45, _⟩ => ⟨S4x12x2048x3, .i32⟩
  | .hbm, ⟨46, _⟩ => ⟨S1x1x2048x1, .i32⟩
  | .hbm, ⟨47, _⟩ => ⟨S4x12x2048x3, .i32⟩
  | .hbm, ⟨48, _⟩ => ⟨S4x12x2048x3, .i1⟩
  | .hbm, ⟨49, _⟩ => ⟨S4x12x2048x3x1, .i32⟩
  | .hbm, ⟨50, _⟩ => ⟨S1x1x1x1x2048, .i32⟩
  | .hbm, ⟨51, _⟩ => ⟨S4x12x2048x3x2048, .i32⟩
  | .hbm, ⟨52, _⟩ => ⟨S4x12x2048x3x2048, .i32⟩
  | .hbm, ⟨53, _⟩ => ⟨S4x12x2048x3x2048, .i1⟩
  | .hbm, ⟨54, _⟩ => ⟨S4x12x2048x3x1, .i1⟩
  | .hbm, ⟨55, _⟩ => ⟨S4x12x2048x3x2048, .i1⟩
  | .hbm, ⟨56, _⟩ => ⟨S4x12x2048x3x2048, .i1⟩
  | .hbm, ⟨57, _⟩ => ⟨S_, .i1⟩
  | .hbm, ⟨58, _⟩ => ⟨S4x12x2048x2048, .i1⟩
  | .hbm, ⟨59, _⟩ => ⟨S1x2048, .i32⟩
  | .hbm, ⟨60, _⟩ => ⟨S2048x1, .i32⟩
  | .hbm, ⟨61, _⟩ => ⟨S2048x2048, .i32⟩
  | .hbm, ⟨62, _⟩ => ⟨S2048x2048, .i32⟩
  | .hbm, ⟨63, _⟩ => ⟨S2048x2048, .i1⟩
  | .hbm, ⟨64, _⟩ => ⟨S1x2048, .i32⟩
  | .hbm, ⟨65, _⟩ => ⟨S2048x1, .i32⟩
  | .hbm, ⟨66, _⟩ => ⟨S2048x2048, .i32⟩
  | .hbm, ⟨67, _⟩ => ⟨S2048x2048, .i32⟩
  | .hbm, ⟨68, _⟩ => ⟨S2048x2048, .i1⟩
  | .hbm, ⟨69, _⟩ => ⟨S2048x2048, .i1⟩
  | .hbm, ⟨70, _⟩ => ⟨S4x12x2048x2048, .f32⟩
  | .hbm, ⟨71, _⟩ => ⟨S_, .f32⟩
  | .hbm, ⟨72, _⟩ => ⟨S4x12x2048x2048, .f32⟩
  | .hbm, ⟨73, _⟩ => ⟨S4x12x2048x2048, .f32⟩
  | .hbm, ⟨74, _⟩ => ⟨S1x1x2048x2048, .i1⟩
  | .hbm, ⟨75, _⟩ => ⟨S4x12x2048x2048, .i1⟩
  | .hbm, ⟨76, _⟩ => ⟨S4x12x2048x2048, .i1⟩
  | .hbm, ⟨77, _⟩ => ⟨S_, .f32⟩
  | .hbm, ⟨78, _⟩ => ⟨S_, .f32⟩
  | .hbm, ⟨79, _⟩ => ⟨S4x12x2048x2048, .f32⟩
  | .hbm, ⟨80, _⟩ => ⟨S4x12x2048x2048, .f32⟩
  | .hbm, ⟨81, _⟩ => ⟨S_, .f32⟩
  | .hbm, ⟨82, _⟩ => ⟨S4x12x2048, .f32⟩
  | .hbm, ⟨83, _⟩ => ⟨S_, .f32⟩
  | .hbm, ⟨84, _⟩ => ⟨S4x12x2048, .f32⟩
  | .hbm, ⟨85, _⟩ => ⟨S4x12x2048, .f32⟩
  | .hbm, ⟨86, _⟩ => ⟨S4x12x2048x1, .f32⟩
  | .hbm, ⟨87, _⟩ => ⟨S4x12x2048x2048, .f32⟩
  | .hbm, ⟨88, _⟩ => ⟨S4x12x2048x2048, .f32⟩
  | .hbm, ⟨89, _⟩ => ⟨S4x12x2048x2048, .f32⟩
  | .hbm, ⟨90, _⟩ => ⟨S_, .f32⟩
  | .hbm, ⟨91, _⟩ => ⟨S4x12x2048, .f32⟩
  | .hbm, ⟨92, _⟩ => ⟨S4x12x2048x1, .f32⟩
  | .hbm, ⟨93, _⟩ => ⟨S4x12x2048x2048, .f32⟩
  | .hbm, ⟨94, _⟩ => ⟨S4x12x2048x2048, .f32⟩
  | .hbm, ⟨95, _⟩ => ⟨S4x12x128x2048, .f32⟩
  | .hbm, ⟨96, _⟩ => ⟨S4x2048x12x128, .f32⟩
  | .hbm, ⟨97, _⟩ => ⟨S8192x1536, .f32⟩
  | .hbm, ⟨98, _⟩ => ⟨S8192x1536, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v17 : Ref sig .tc := ⟨.hbm, 43, rfl⟩
abbrev main_values : Ref sig .tc := ⟨.hbm, 44, rfl⟩
abbrev main_indices : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_3 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_4 : Ref sig .tc := ⟨.hbm, 77, rfl⟩
abbrev main_call2_v0 : Ref sig .tc := ⟨.hbm, 78, rfl⟩
abbrev main_call2_v1 : Ref sig .tc := ⟨.hbm, 79, rfl⟩
abbrev main_v47 : Ref sig .tc := ⟨.hbm, 80, rfl⟩
abbrev main_cst_5 : Ref sig .tc := ⟨.hbm, 81, rfl⟩
abbrev main_v48 : Ref sig .tc := ⟨.hbm, 82, rfl⟩
abbrev main_cst_6 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩

abbrev nD : Nat := 1
abbrev τ : Topo := Topo.v7x

variable {F : FTy → Type} [FloatOps F]
-- ==== Kernel2.lean ====
abbrev S8704x2048 : Shape := ⟨2, ![8704, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S512x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg1 : BitVec 32 := BitVec.ofNat 32 (i 1).val
  let c7_i32 : BitVec 32 := 7#32
  let v0 : BitVec 1 := Scalar.cmpi .eq arg1 c7_i32
  let arg0 : BitVec 32 := BitVec.ofNat 32 (i 0).val
  let c16_i32 : BitVec 32 := 16#32
  let v20 : BitVec 1 := Scalar.cmpi .slt arg0 c16_i32
  let v21 : BitVec 1 := Scalar.andi v0 v20
  let v22 : BitVec 32 := Scalar.extui v21
  let c0_i32_12 : BitVec 32 := 0#32
  let v23 : BitVec 1 := Scalar.cmpi .ne v22 c0_i32_12
  v23

def k0_cond3 (i : grid0.Coords) : BitVec 1 :=
  let arg1 : BitVec 32 := BitVec.ofNat 32 (i 1).val
  let c7_i32 : BitVec 32 := 7#32
  let v0 : BitVec 1 := Scalar.cmpi .eq arg1 c7_i32
  let arg0 : BitVec 32 := BitVec.ofNat 32 (i 0).val
  let c16_i32_13 : BitVec 32 := 16#32
  let v24 : BitVec 1 := Scalar.cmpi .sge arg0 c16_i32_13
  let v25 : BitVec 1 := Scalar.andi v0 v24
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S8704x2048 : Shape := ⟨2, ![8704, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x8192 : Shape := ⟨2, ![8704, 8192]⟩
abbrev S512x2048 : Shape := ⟨2, ![512, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8704x2048, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x2048, .f32⟩
  | .hbm, ⟨17, _⟩ => ⟨S8704x2048, .f32⟩
  | .hbm, ⟨18, _⟩ => ⟨S1x2048, .f32⟩
  | .hbm, ⟨19, _⟩ => ⟨S8704x2048, .f32⟩
  | .hbm, ⟨20, _⟩ => ⟨S8704x2048, .f32⟩
  | .hbm, ⟨21, _⟩ => ⟨S8704x8192, .f32⟩
  | .hbm, ⟨22, _⟩ => ⟨S_, .f32⟩
  | .hbm, ⟨23, _⟩ => ⟨S8704x8192, .f32⟩
  | .hbm, ⟨24, _⟩ => ⟨S8704x8192, .f32⟩
  | .hbm, ⟨25, _⟩ => ⟨S8704x8192, .f32⟩
  | .hbm, ⟨26, _⟩ => ⟨S8704x2048, .f32⟩
  | .hbm, ⟨27, _⟩ => ⟨S8704x2048, .f32⟩
  | .hbm, ⟨28, _⟩ => ⟨S8704x2048, .f32⟩
  | .hbm, ⟨29, _⟩ => ⟨S_, .f32⟩
  | .hbm, ⟨30, _⟩ => ⟨S8704, .f32⟩
  | .hbm, ⟨31, _⟩ => ⟨S8704x1, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S_, .f32⟩
  | .hbm, ⟨36, _⟩ => ⟨S8704x1, .f32⟩
  | .hbm, ⟨37, _⟩ => ⟨S8704x1, .f32⟩
  | .hbm, ⟨38, _⟩ => ⟨S8704x1, .f32⟩
  | .hbm, ⟨39, _⟩ => ⟨S8704x2048, .f32⟩
  | .hbm, ⟨40, _⟩ => ⟨S8704x2048, .f32⟩
  | .hbm, ⟨41, _⟩ => ⟨S1x2048, .f32⟩
  | .hbm, ⟨42, _⟩ => ⟨S8704x2048, .f32⟩
  | .hbm, ⟨43, _⟩ => ⟨S8704x2048, .f32⟩
  | .hbm, ⟨44, _⟩ => ⟨S8192x2048, .f32⟩
  | .hbm, ⟨45, _⟩ => ⟨S512x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel3.lean ====
abbrev S8704x2048 : Shape := ⟨2, ![8704, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x2048x2048 : Shape := ⟨3, ![2, 2048, 2048]⟩
abbrev S2048x3072 : Shape := ⟨2, ![2048, 3072]⟩
abbrev S1x2048x2048 : Shape := ⟨3, ![1, 2048, 2048]⟩
abbrev S1x2048 : Shape := ⟨2, ![1, 2048]⟩
abbrev S2048 : Shape := ⟨1, ![2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S1024x2048 : Shape := ⟨2, ![1024, 2048]⟩
abbrev S1x16x8192 : Shape := ⟨3, ![1, 16, 8192]⟩
abbrev S1x64x2048 : Shape := ⟨3, ![1, 64, 2048]⟩
abbrev S1x16x2048 : Shape := ⟨3, ![1, 16, 2048]⟩
abbrev S16x3072 : Shape := ⟨2, ![16, 3072]⟩
abbrev S16x8192 : Shape := ⟨2, ![16, 8192]⟩
abbrev S64x2048 : Shape := ⟨2, ![64, 2048]⟩
abbrev S16x2048 : Shape := ⟨2, ![16, 2048]⟩
abbrev S512 : Shape := ⟨1, ![512]⟩
abbrev S512x1 : Shape := ⟨2, ![512, 1]⟩
abbrev S512x1024 : Shape := ⟨2, ![512, 1024]⟩

abbrev nBuf : Space → Nat
  | .hbm => 22
  | .vmem => 30
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048x2048, .f32⟩
  | .hbm, ⟨5, _⟩ => ⟨S2048x3072, .f32⟩
  | .hbm, ⟨6, _⟩ => ⟨S1x2048x2048, .f32⟩
  | .hbm, ⟨7, _⟩ => ⟨S1x2048, .f32⟩
  | .hbm, ⟨8, _⟩ => ⟨S2048, .f32⟩
  | .hbm, ⟨9, _⟩ => ⟨S1x2048x8192, .f32⟩
  | .hbm, ⟨10, _⟩ => ⟨S2048x8192, .f32⟩
  | .hbm, ⟨11, _⟩ => ⟨S2048x8192, .bf16⟩
  | .hbm, ⟨12, _⟩ => ⟨S1x8192x2048, .f32⟩
  | .hbm, ⟨13, _⟩ => ⟨S8192x2048, .f32⟩
  | .hbm, ⟨14, _⟩ => ⟨S8192x2048, .bf16⟩
  | .hbm, ⟨15, _⟩ => ⟨S1x2048, .f32⟩
  | .hbm, ⟨16, _⟩ => ⟨S8704x2048, .f32⟩
  | .hbm, ⟨17, _⟩ => ⟨S2048x8192, .bf16⟩
  | .hbm, ⟨18, _⟩ => ⟨S8192x2048, .bf16⟩
  | .hbm, ⟨19, _⟩ => ⟨S2048x2048, .bf16⟩
  | .hbm, ⟨20, _⟩ => ⟨S2048x3072, .bf16⟩
  | .hbm, ⟨21, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x16x8192, .f32⟩
  | .local _ .vmem, ⟨8, _⟩ => ⟨S1x16x8192, .f32⟩
  | .local _ .vmem, ⟨9, _⟩ => ⟨S1x64x2048, .f32⟩
  | .local _ .vmem, ⟨10, _⟩ => ⟨S1x64x2048, .f32⟩
  | .local _ .vmem, ⟨11, _⟩ => ⟨S1x16x2048, .f32⟩
  | .local _ .vmem, ⟨12, _⟩ => ⟨S1x16x2048, .f32⟩
  | .local _ .vmem, ⟨13, _⟩ => ⟨S16x3072, .f32⟩
  | .local _ .vmem, ⟨14, _⟩ => ⟨S16x3072, .f32⟩
  | .local _ .vmem, ⟨15, _⟩ => ⟨S1x16x2048, .f32⟩
  | .local _ .vmem, ⟨16, _⟩ => ⟨S1x16x2048, .f32⟩
  | .local _ .vmem, ⟨17, _⟩ => ⟨S512x2048, .f32⟩
  | .local _ .vmem, ⟨18, _⟩ => ⟨S512x2048, .f32⟩
  | .local _ .vmem, ⟨19, _⟩ => ⟨S16x8192, .bf16⟩
  | .local _ .vmem, ⟨20, _⟩ => ⟨S16x8192, .bf16⟩
  | .local _ .vmem, ⟨21, _⟩ => ⟨S64x2048, .bf16⟩
  | .local _ .vmem, ⟨22, _⟩ => ⟨S64x2048, .bf16⟩
  | .local _ .vmem, ⟨23, _⟩ => ⟨S16x2048, .bf16⟩
  | .local _ .vmem, ⟨24, _⟩ => ⟨S16x2048, .bf16⟩
  | .local _ .vmem, ⟨25, _⟩ => ⟨S16x3072, .bf16⟩
  | .local _ .vmem, ⟨26, _⟩ => ⟨S16x3072, .bf16⟩
  | .local _ .vmem, ⟨27, _⟩ => ⟨S16x2048, .bf16⟩
  | .local _ .vmem, ⟨28, _⟩ => ⟨S16x2048, .bf16⟩
  | .local _ .vmem, ⟨29, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c128_i32 : BitVec 32 := 128#32
  let v2 : BitVec 1 := Scalar.cmpi .slt v1 c128_i32
  let v3 : BitVec 32 := Scalar.extui v2
  let c0_i32 : BitVec 32 := 0#32
  let v4 : BitVec 1 := Scalar.cmpi .ne v3 c0_i32
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8704x2048 : Shape := ⟨2, ![8704, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x2048x2048 : Shape := ⟨3, ![2, 2048, 2048]⟩
abbrev S2048x3072 : Shape := ⟨2, ![2048, 3072]⟩
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048x8192 : Shape := ⟨3, ![1, 2048, 8192]⟩
abbrev S2048x8192 : Shape := ⟨2, ![2048, 8192]⟩
abbrev S8704x8192 : Shape := ⟨2, ![8704, 8192]⟩
abbrev S1x8192x2048 : Shape := ⟨3, ![1, 8192, 2048]⟩
abbrev S8192x2048 : Shape := ⟨2, ![8192, 2048]⟩
abbrev S2048x2048 : Shape := ⟨2, ![2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048x2048, .f32⟩
  | .hbm, ⟨5, _⟩ => ⟨S2048x3072, .f32⟩
  | .hbm, ⟨6, _⟩ => ⟨S1x2048x2048, .f32⟩
  | .hbm, ⟨7, _⟩ => ⟨S1x2048, .f32⟩
  | .hbm, ⟨8, _⟩ => ⟨S2048, .f32⟩
  | .hbm, ⟨9, _⟩ => ⟨S8704x2048, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x2048, .f32⟩
  | .hbm, ⟨21, _⟩ => ⟨S8704x2048, .f32⟩
  | .hbm, ⟨22, _⟩ => ⟨S1x2048, .f32⟩
  | .hbm, ⟨23, _⟩ => ⟨S8704x2048, .f32⟩
  | .hbm, ⟨24, _⟩ => ⟨S8704x2048, .f32⟩
  | .hbm, ⟨25, _⟩ => ⟨S1x2048x8192, .f32⟩
  | .hbm, ⟨26, _⟩ => ⟨S2048x8192, .f32⟩
  | .hbm, ⟨27, _⟩ => ⟨S8704x8192, .f32⟩
  | .hbm, ⟨28, _⟩ => ⟨S_, .f32⟩
  | .hbm, ⟨29, _⟩ => ⟨S8704x8192, .f32⟩
  | .hbm, ⟨30, _⟩ => ⟨S8704x8192, .f32⟩
  | .hbm, ⟨31, _⟩ => ⟨S8704x8192, .f32⟩
  | .hbm, ⟨32, _⟩ => ⟨S1x8192x2048, .f32⟩
  | .hbm, ⟨33, _⟩ => ⟨S8192x2048, .f32⟩
  | .hbm, ⟨34, _⟩ => ⟨S8704x2048, .f32⟩
  | .hbm, ⟨35, _⟩ => ⟨S8704x2048, .f32⟩
  | .hbm, ⟨36, _⟩ => ⟨S1x2048x8192, .f32⟩
  | .hbm, ⟨37, _⟩ => ⟨S2048x8192, .f32⟩
  | .hbm, ⟨38, _⟩ => ⟨S2048x8192, .bf16⟩
  | .hbm, ⟨39, _⟩ => ⟨S1x8192x2048, .f32⟩
  | .hbm, ⟨40, _⟩ => ⟨S8192x2048, .f32⟩
  | .hbm, ⟨41, _⟩ => ⟨S8192x2048, .bf16⟩
  | .hbm, ⟨42, _⟩ => ⟨S1x2048x2048, .f32⟩
  | .hbm, ⟨43, _⟩ => ⟨S2048x2048, .f32⟩
  | .hbm, ⟨44, _⟩ => ⟨S2048x2048, .bf16⟩
  | .hbm, ⟨45, _⟩ => ⟨S2048x3072, .bf16⟩
  | .hbm, ⟨46, _⟩ => ⟨S2048x2048, .f32⟩
  | .hbm, ⟨47, _⟩ => ⟨S2048x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel4.lean ====
abbrev S8704x2048 : Shape := ⟨2, ![8704, 2048]⟩
abbrev S2048 : Shape := ⟨1, ![2048]⟩
abbrev S2048x3072 : Shape := ⟨2, ![2048, 3072]⟩
abbrev S16 : Shape := ⟨1, ![16]⟩
abbrev S_ : Shape := ⟨0, ![]⟩
abbrev S4 : Shape := ⟨1, ![4]⟩
abbrev S1x4 : Shape := ⟨2, ![1, 4]⟩
abbrev S128x4 : Shape := ⟨2, ![128, 4]⟩
abbrev S512 : Shape := ⟨1, ![512]⟩
abbrev S2560 : Shape := ⟨1, ![2560]⟩
abbrev S2560x1 : Shape := ⟨2, ![2560, 1]⟩
abbrev S1x16 : Shape := ⟨2, ![1, 16]⟩
abbrev S2560x16 : Shape := ⟨2, ![2560, 16]⟩
abbrev S2560x96 : Shape := ⟨2, ![2560, 96]⟩
abbrev S2560x128 : Shape := ⟨2, ![2560, 128]⟩
abbrev S1x2048 : Shape := ⟨2, ![1, 2048]⟩
abbrev S4x12x2048x128 : Shape := ⟨4, ![4, 12, 2048, 128]⟩
abbrev S512x2048 : Shape := ⟨2, ![512, 2048]⟩
abbrev S512x128 : Shape := ⟨2, ![512, 128]⟩
abbrev S1x12x512x128 : Shape := ⟨4, ![1, 12, 512, 128]⟩
abbrev S512x1 : Shape := ⟨2, ![512, 1]⟩
abbrev S512x3072 : Shape := ⟨2, ![512, 3072]⟩
abbrev S1x1x512x128 : Shape := ⟨4, ![1, 1, 512, 128]⟩

abbrev nBuf : Space → Nat
  | .hbm => 46
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x3072, .f32⟩
  | .hbm, ⟨3, _⟩ => ⟨S2048x3072, .bf16⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S2048, .i32⟩
  | .hbm, ⟨16, _⟩ => ⟨S4, .i32⟩
  | .hbm, ⟨17, _⟩ => ⟨S1x4, .i32⟩
  | .hbm, ⟨18, _⟩ => ⟨S128x4, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S2560, .i32⟩
  | .hbm, ⟨24, _⟩ => ⟨S2560, .f32⟩
  | .hbm, ⟨25, _⟩ => ⟨S2560x1, .f32⟩
  | .hbm, ⟨26, _⟩ => ⟨S1x16, .f32⟩
  | .hbm, ⟨27, _⟩ => ⟨S2560x16, .f32⟩
  | .hbm, ⟨28, _⟩ => ⟨S2560x16, .f32⟩
  | .hbm, ⟨29, _⟩ => ⟨S2560x16, .f32⟩
  | .hbm, ⟨30, _⟩ => ⟨S2560x16, .f32⟩
  | .hbm, ⟨31, _⟩ => ⟨S2560x16, .f32⟩
  | .hbm, ⟨32, _⟩ => ⟨S_, .f32⟩
  | .hbm, ⟨33, _⟩ => ⟨S2560x16, .f32⟩
  | .hbm, ⟨34, _⟩ => ⟨S_, .f32⟩
  | .hbm, ⟨35, _⟩ => ⟨S2560x96, .f32⟩
  | .hbm, ⟨36, _⟩ => ⟨S_, .f32⟩
  | .hbm, ⟨37, _⟩ => ⟨S2560x96, .f32⟩
  | .hbm, ⟨38, _⟩ => ⟨S2560x96, .f32⟩
  | .hbm, ⟨39, _⟩ => ⟨S2560x128, .f32⟩
  | .hbm, ⟨40, _⟩ => ⟨S2560x16, .f32⟩
  | .hbm, ⟨41, _⟩ => ⟨S2560x128, .f32⟩
  | .hbm, ⟨42, _⟩ => ⟨S2560x128, .f32⟩
  | .hbm, ⟨43, _⟩ => ⟨S1x2048, .f32⟩
  | .hbm, ⟨44, _⟩ => ⟨S4x12x2048x128, .f32⟩
  | .hbm, ⟨45, _⟩ => ⟨S4x12x2048x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x12x512x128, .f32⟩
  | .local _ .vmem, ⟨11, _⟩ => ⟨S1x12x512x128, .f32⟩
  | .local _ .vmem, ⟨12, _⟩ => ⟨S1x12x512x128, .f32⟩
  | .local _ .vmem, ⟨13, _⟩ => ⟨S1x12x512x128, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34_0 : Ref sig .tc := ⟨.hbm, 44, rfl⟩
abbrev main_v34_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x12x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x12x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8704x2048 : Shape := ⟨2, ![8704, 2048]⟩
abbrev S2048 : Shape := ⟨1, ![2048]⟩
abbrev S2048x3072 : Shape := ⟨2, ![2048, 3072]⟩
abbrev S8192x2048 : Shape := ⟨2, ![8192, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x3072 : Shape := ⟨3, ![4, 2048, 3072]⟩
abbrev S4x2048x1536 : Shape := ⟨3, ![4, 2048, 1536]⟩
abbrev S4x2048x12x128 : Shape := ⟨4, ![4, 2048, 12, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x12x16 : Shape := ⟨4, ![4, 2048, 12, 16]⟩
abbrev S1x2048x1x16 : Shape := ⟨4, ![1, 2048, 1, 16]⟩
abbrev S4x2048x12x96 : Shape := ⟨4, ![4, 2048, 12, 96]⟩
abbrev S4x12x2048x128 : Shape := ⟨4, ![4, 12, 2048, 128]⟩

abbrev nBuf : Space → Nat
  | .hbm => 68
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x3072, .f32⟩
  | .hbm, ⟨3, _⟩ => ⟨S8192x2048, .f32⟩
  | .hbm, ⟨4, _⟩ => ⟨S4x2048x2048, .f32⟩
  | .hbm, ⟨5, _⟩ => ⟨S2048, .i32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x3072, .f32⟩
  | .hbm, ⟨23, _⟩ => ⟨S4x2048x1536, .f32⟩
  | .hbm, ⟨24, _⟩ => ⟨S4x2048x12x128, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S2048, .f32⟩
  | .hbm, ⟨37, _⟩ => ⟨S2048x1, .f32⟩
  | .hbm, ⟨38, _⟩ => ⟨S1x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x1x16, .f32⟩
  | .hbm, ⟨44, _⟩ => ⟨S2048x16, .f32⟩
  | .hbm, ⟨45, _⟩ => ⟨S2048x1x16, .f32⟩
  | .hbm, ⟨46, _⟩ => ⟨S4x2048x12x16, .f32⟩
  | .hbm, ⟨47, _⟩ => ⟨S4x2048x12x16, .f32⟩
  | .hbm, ⟨48, _⟩ => ⟨S1x2048x1x16, .f32⟩
  | .hbm, ⟨49, _⟩ => ⟨S4x2048x12x16, .f32⟩
  | .hbm, ⟨50, _⟩ => ⟨S4x2048x12x16, .f32⟩
  | .hbm, ⟨51, _⟩ => ⟨S1x2048x1x16, .f32⟩
  | .hbm, ⟨52, _⟩ => ⟨S4x2048x12x16, .f32⟩
  | .hbm, ⟨53, _⟩ => ⟨S4x2048x12x16, .f32⟩
  | .hbm, ⟨54, _⟩ => ⟨S4x2048x12x16, .f32⟩
  | .hbm, ⟨55, _⟩ => ⟨S1x2048x1x16, .f32⟩
  | .hbm, ⟨56, _⟩ => ⟨S4x2048x12x16, .f32⟩
  | .hbm, ⟨57, _⟩ => ⟨S4x2048x12x16, .f32⟩
  | .hbm, ⟨58, _⟩ => ⟨S1x2048x1x16, .f32⟩
  | .hbm, ⟨59, _⟩ => ⟨S4x2048x12x16, .f32⟩
  | .hbm, ⟨60, _⟩ => ⟨S4x2048x12x16, .f32⟩
  | .hbm, ⟨61, _⟩ => ⟨S4x2048x12x16, .f32⟩
  | .hbm, ⟨62, _⟩ => ⟨S4x2048x12x96, .f32⟩
  | .hbm, ⟨63, _⟩ => ⟨S4x2048x12x128, .f32⟩
  | .hbm, ⟨64, _⟩ => ⟨S4x2048x1536, .f32⟩
  | .hbm, ⟨65, _⟩ => ⟨S4x2048x12x128, .f32⟩
  | .hbm, ⟨66, _⟩ => ⟨S4x12x2048x128, .f32⟩
  | .hbm, ⟨67, _⟩ => ⟨S4x12x2048x128, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩

abbrev nD : Nat := 1
abbrev τ : Topo := Topo.v7x

variable {F : FTy → Type} [FloatOps F]
-- ==== Kernel5.lean ====
abbrev S8704x2048 : Shape := ⟨2, ![8704, 2048]⟩
abbrev S2048 : Shape := ⟨1, ![2048]⟩
abbrev S2048x3072 : Shape := ⟨2, ![2048, 3072]⟩
abbrev S16 : Shape := ⟨1, ![16]⟩
abbrev S_ : Shape := ⟨0, ![]⟩
abbrev S4 : Shape := ⟨1, ![4]⟩
abbrev S1x4 : Shape := ⟨2, ![1, 4]⟩
abbrev S128x4 : Shape := ⟨2, ![128, 4]⟩
abbrev S512 : Shape := ⟨1, ![512]⟩
abbrev S2560 : Shape := ⟨1, ![2560]⟩
abbrev S2560x1 : Shape := ⟨2, ![2560, 1]⟩
abbrev S1x16 : Shape := ⟨2, ![1, 16]⟩
abbrev S2560x16 : Shape := ⟨2, ![2560, 16]⟩
abbrev S2560x96 : Shape := ⟨2, ![2560, 96]⟩
abbrev S2560x128 : Shape := ⟨2, ![2560, 128]⟩
abbrev S1x2048 : Shape := ⟨2, ![1, 2048]⟩
abbrev S512x3072 : Shape := ⟨2, ![512, 3072]⟩
abbrev S512x2048 : Shape := ⟨2, ![512, 2048]⟩
abbrev S512x128 : Shape := ⟨2, ![512, 128]⟩
abbrev S512x1 : Shape := ⟨2, ![512, 1]⟩

abbrev nBuf : Space → Nat
  | .hbm => 45
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x3072, .f32⟩
  | .hbm, ⟨3, _⟩ => ⟨S2048x3072, .bf16⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S2048, .i32⟩
  | .hbm, ⟨16, _⟩ => ⟨S4, .i32⟩
  | .hbm, ⟨17, _⟩ => ⟨S1x4, .i32⟩
  | .hbm, ⟨18, _⟩ => ⟨S128x4, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S2560, .i32⟩
  | .hbm, ⟨24, _⟩ => ⟨S2560, .f32⟩
  | .hbm, ⟨25, _⟩ => ⟨S2560x1, .f32⟩
  | .hbm, ⟨26, _⟩ => ⟨S1x16, .f32⟩
  | .hbm, ⟨27, _⟩ => ⟨S2560x16, .f32⟩
  | .hbm, ⟨28, _⟩ => ⟨S2560x16, .f32⟩
  | .hbm, ⟨29, _⟩ => ⟨S2560x16, .f32⟩
  | .hbm, ⟨30, _⟩ => ⟨S2560x16, .f32⟩
  | .hbm, ⟨31, _⟩ => ⟨S2560x16, .f32⟩
  | .hbm, ⟨32, _⟩ => ⟨S_, .f32⟩
  | .hbm, ⟨33, _⟩ => ⟨S2560x16, .f32⟩
  | .hbm, ⟨34, _⟩ => ⟨S_, .f32⟩
  | .hbm, ⟨35, _⟩ => ⟨S2560x96, .f32⟩
  | .hbm, ⟨36, _⟩ => ⟨S_, .f32⟩
  | .hbm, ⟨37, _⟩ => ⟨S2560x96, .f32⟩
  | .hbm, ⟨38, _⟩ => ⟨S2560x96, .f32⟩
  | .hbm, ⟨39, _⟩ => ⟨S2560x128, .f32⟩
  | .hbm, ⟨40, _⟩ => ⟨S2560x16, .f32⟩
  | .hbm, ⟨41, _⟩ => ⟨S2560x128, .f32⟩
  | .hbm, ⟨42, _⟩ => ⟨S2560x128, .f32⟩
  | .hbm, ⟨43, _⟩ => ⟨S1x2048, .f32⟩
  | .hbm, ⟨44, _⟩ => ⟨S512x3072, .f32⟩
  | .local _ .vmem, ⟨0, _⟩ => ⟨S512x2048, .f32⟩
  | .local _ .vmem, ⟨1, _⟩ => ⟨S1x2048, .f32⟩
  | .local _ .vmem, ⟨2, _⟩ => ⟨S2048x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x3072, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c16_i32 : BitVec 32 := 16#32
  let c0_i32 : BitVec 32 := 0#32
  let c0_i32_0 : BitVec 32 := 0#32
  ![c16_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8704x2048 : Shape := ⟨2, ![8704, 2048]⟩
abbrev S2048 : Shape := ⟨1, ![2048]⟩
abbrev S2048x3072 : Shape := ⟨2, ![2048, 3072]⟩
abbrev S512x2048 : Shape := ⟨2, ![512, 2048]⟩
abbrev S128x4x2048 : Shape := ⟨3, ![128, 4, 2048]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S128x4x3072 : Shape := ⟨3, ![128, 4, 3072]⟩
abbrev S128x4x1536 : Shape := ⟨3, ![128, 4, 1536]⟩
abbrev S128x4x12x128 : Shape := ⟨4, ![128, 4, 12, 128]⟩
abbrev S16 : Shape := ⟨1, ![16]⟩
abbrev S4x1 : Shape := ⟨2, ![4, 1]⟩
abbrev S1x16 : Shape := ⟨2, ![1, 16]⟩
abbrev S4x16 : Shape := ⟨2, ![4, 16]⟩
abbrev S4x1x16 : Shape := ⟨3, ![4, 1, 16]⟩
abbrev S128x4x12x16 : Shape := ⟨4, ![128, 4, 12, 16]⟩
abbrev S1x4x1x16 : Shape := ⟨4, ![1, 4, 1, 16]⟩
abbrev S128x4x12x96 : Shape := ⟨4, ![128, 4, 12, 96]⟩
abbrev S512x1536 : Shape := ⟨2, ![512, 1536]⟩
abbrev S512x3072 : Shape := ⟨2, ![512, 3072]⟩

abbrev nBuf : Space → Nat
  | .hbm => 72
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x3072, .f32⟩
  | .hbm, ⟨3, _⟩ => ⟨S512x2048, .f32⟩
  | .hbm, ⟨4, _⟩ => ⟨S128x4x2048, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S128x4x2048, .f32⟩
  | .hbm, ⟨10, _⟩ => ⟨S_, .f32⟩
  | .hbm, ⟨11, _⟩ => ⟨S128x4, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S_, .f32⟩
  | .hbm, ⟨17, _⟩ => ⟨S128x4x1, .f32⟩
  | .hbm, ⟨18, _⟩ => ⟨S128x4x1, .f32⟩
  | .hbm, ⟨19, _⟩ => ⟨S128x4x1, .f32⟩
  | .hbm, ⟨20, _⟩ => ⟨S128x4x2048, .f32⟩
  | .hbm, ⟨21, _⟩ => ⟨S128x4x2048, .f32⟩
  | .hbm, ⟨22, _⟩ => ⟨S1x1x2048, .f32⟩
  | .hbm, ⟨23, _⟩ => ⟨S128x4x2048, .f32⟩
  | .hbm, ⟨24, _⟩ => ⟨S128x4x2048, .f32⟩
  | .hbm, ⟨25, _⟩ => ⟨S128x4x3072, .f32⟩
  | .hbm, ⟨26, _⟩ => ⟨S128x4x1536, .f32⟩
  | .hbm, ⟨27, _⟩ => ⟨S128x4x12x128, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S4, .f32⟩
  | .hbm, ⟨40, _⟩ => ⟨S4x1, .f32⟩
  | .hbm, ⟨41, _⟩ => ⟨S1x16, .f32⟩
  | .hbm, ⟨42, _⟩ => ⟨S4x16, .f32⟩
  | .hbm, ⟨43, _⟩ => ⟨S4x16, .f32⟩
  | .hbm, ⟨44, _⟩ => ⟨S4x16, .f32⟩
  | .hbm, ⟨45, _⟩ => ⟨S4x16, .f32⟩
  | .hbm, ⟨46, _⟩ => ⟨S4x1x16, .f32⟩
  | .hbm, ⟨47, _⟩ => ⟨S4x16, .f32⟩
  | .hbm, ⟨48, _⟩ => ⟨S4x1x16, .f32⟩
  | .hbm, ⟨49, _⟩ => ⟨S128x4x12x16, .f32⟩
  | .hbm, ⟨50, _⟩ => ⟨S128x4x12x16, .f32⟩
  | .hbm, ⟨51, _⟩ => ⟨S1x4x1x16, .f32⟩
  | .hbm, ⟨52, _⟩ => ⟨S128x4x12x16, .f32⟩
  | .hbm, ⟨53, _⟩ => ⟨S128x4x12x16, .f32⟩
  | .hbm, ⟨54, _⟩ => ⟨S1x4x1x16, .f32⟩
  | .hbm, ⟨55, _⟩ => ⟨S128x4x12x16, .f32⟩
  | .hbm, ⟨56, _⟩ => ⟨S128x4x12x16, .f32⟩
  | .hbm, ⟨57, _⟩ => ⟨S128x4x12x16, .f32⟩
  | .hbm, ⟨58, _⟩ => ⟨S1x4x1x16, .f32⟩
  | .hbm, ⟨59, _⟩ => ⟨S128x4x12x16, .f32⟩
  | .hbm, ⟨60, _⟩ => ⟨S128x4x12x16, .f32⟩
  | .hbm, ⟨61, _⟩ => ⟨S1x4x1x16, .f32⟩
  | .hbm, ⟨62, _⟩ => ⟨S128x4x12x16, .f32⟩
  | .hbm, ⟨63, _⟩ => ⟨S128x4x12x16, .f32⟩
  | .hbm, ⟨64, _⟩ => ⟨S128x4x12x16, .f32⟩
  | .hbm, ⟨65, _⟩ => ⟨S128x4x12x96, .f32⟩
  | .hbm, ⟨66, _⟩ => ⟨S128x4x12x128, .f32⟩
  | .hbm, ⟨67, _⟩ => ⟨S128x4x1536, .f32⟩
  | .hbm, ⟨68, _⟩ => ⟨S128x4x12x128, .f32⟩
  | .hbm, ⟨69, _⟩ => ⟨S512x1536, .f32⟩
  | .hbm, ⟨70, _⟩ => ⟨S512x1536, .f32⟩
  | .hbm, ⟨71, _⟩ => ⟨S512x3072, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩

abbrev nD : Nat := 1
abbrev τ : Topo := Topo.v7x

variable {F : FTy → Type} [FloatOps F]
-- ==== Kernel6.lean ====
abbrev S4x256x2048 : Shape := ⟨3, ![4, 256, 2048]⟩
abbrev S2x2048 : Shape := ⟨2, ![2, 2048]⟩
abbrev S2x2048x1024 : Shape := ⟨3, ![2, 2048, 1024]⟩
abbrev S1024x2048 : Shape := ⟨2, ![1024, 2048]⟩
abbrev S2x1x2048 : Shape := ⟨3, ![2, 1, 2048]⟩
abbrev S2x4x1024x128 : Shape := ⟨4, ![2, 4, 1024, 128]⟩
abbrev S256x2048 : Shape := ⟨2, ![256, 2048]⟩
abbrev S1x1x2048 : Shape := ⟨3, ![1, 1, 2048]⟩
abbrev S1x2048x1024 : Shape := ⟨3, ![1, 2048, 1024]⟩
abbrev S1x1x1024x128 : Shape := ⟨4, ![1, 1, 1024, 128]⟩
abbrev S256 : Shape := ⟨1, ![256]⟩
abbrev S256x1 : Shape := ⟨2, ![256, 1]⟩
abbrev S1x2048 : Shape := ⟨2, ![1, 2048]⟩
abbrev S2048x1024 : Shape := ⟨2, ![2048, 1024]⟩
abbrev S256x1024 : Shape := ⟨2, ![256, 1024]⟩
abbrev S256x128 : Shape := ⟨2, ![256, 128]⟩
abbrev S1x1x256x128 : Shape := ⟨4, ![1, 1, 256, 128]⟩

abbrev nBuf : Space → Nat
  | .hbm => 8
  | .vmem => 10
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x1024, .f32⟩
  | .hbm, ⟨3, _⟩ => ⟨S1024x2048, .f32⟩
  | .hbm, ⟨4, _⟩ => ⟨S2x2048x1024, .bf16⟩
  | .hbm, ⟨5, _⟩ => ⟨S2x1x2048, .f32⟩
  | .hbm, ⟨6, _⟩ => ⟨S2x4x1024x128, .f32⟩
  | .hbm, ⟨7, _⟩ => ⟨S2x4x1024x128, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024x128, .f32⟩
  | .local _ .vmem, ⟨7, _⟩ => ⟨S1x1x1024x128, .f32⟩
  | .local _ .vmem, ⟨8, _⟩ => ⟨S1x1x1024x128, .f32⟩
  | .local _ .vmem, ⟨9, _⟩ => ⟨S1x1x1024x128, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4x256x2048 : Shape := ⟨3, ![4, 256, 2048]⟩
abbrev S2x2048 : Shape := ⟨2, ![2, 2048]⟩
abbrev S2x2048x1024 : Shape := ⟨3, ![2, 2048, 1024]⟩
abbrev S_ : Shape := ⟨0, ![]⟩
abbrev S4x256 : Shape := ⟨2, ![4, 256]⟩
abbrev S4x256x1 : Shape := ⟨3, ![4, 256, 1]⟩
abbrev S1x2048 : Shape := ⟨2, ![1, 2048]⟩
abbrev S2048 : Shape := ⟨1, ![2048]⟩
abbrev S1x1x2048 : Shape := ⟨3, ![1, 1, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S1x4x256x4x128 : Shape := ⟨5, ![1, 4, 256, 4, 128]⟩
abbrev S2x4x256x4x128 : Shape := ⟨5, ![2, 4, 256, 4, 128]⟩
abbrev S2x4x1024x128 : Shape := ⟨4, ![2, 4, 1024, 128]⟩

abbrev nBuf : Space → Nat
  | .hbm => 61
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x1024, .f32⟩
  | .hbm, ⟨3, _⟩ => ⟨S4x256x2048, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x2048, .f32⟩
  | .hbm, ⟨15, _⟩ => ⟨S4x256x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S1x2048x1024, .f32⟩
  | .hbm, ⟨22, _⟩ => ⟨S2048x1024, .f32⟩
  | .hbm, ⟨23, _⟩ => ⟨S4x256x1024, .f32⟩
  | .hbm, ⟨24, _⟩ => ⟨S4x256x512, .f32⟩
  | .hbm, ⟨25, _⟩ => ⟨S4x256x4x128, .f32⟩
  | .hbm, ⟨26, _⟩ => ⟨S4x256x512, .f32⟩
  | .hbm, ⟨27, _⟩ => ⟨S4x256x4x128, .f32⟩
  | .hbm, ⟨28, _⟩ => ⟨S4x256x2048, .f32⟩
  | .hbm, ⟨29, _⟩ => ⟨S_, .f32⟩
  | .hbm, ⟨30, _⟩ => ⟨S4x256, .f32⟩
  | .hbm, ⟨31, _⟩ => ⟨S4x256x1, .f32⟩
  | .hbm, ⟨32, _⟩ => ⟨S_, .f32⟩
  | .hbm, ⟨33, _⟩ => ⟨S4x256x1, .f32⟩
  | .hbm, ⟨34, _⟩ => ⟨S4x256x1, .f32⟩
  | .hbm, ⟨35, _⟩ => ⟨S_, .f32⟩
  | .hbm, ⟨36, _⟩ => ⟨S4x256x1, .f32⟩
  | .hbm, ⟨37, _⟩ => ⟨S4x256x1, .f32⟩
  | .hbm, ⟨38, _⟩ => ⟨S4x256x1, .f32⟩
  | .hbm, ⟨39, _⟩ => ⟨S4x256x2048, .f32⟩
  | .hbm, ⟨40, _⟩ => ⟨S4x256x2048, .f32⟩
  | .hbm, ⟨41, _⟩ => ⟨S1x2048, .f32⟩
  | .hbm, ⟨42, _⟩ => ⟨S2048, .f32⟩
  | .hbm, ⟨43, _⟩ => ⟨S1x1x2048, .f32⟩
  | .hbm, ⟨44, _⟩ => ⟨S4x256x2048, .f32⟩
  | .hbm, ⟨45, _⟩ => ⟨S4x256x2048, .f32⟩
  | .hbm, ⟨46, _⟩ => ⟨S1x2048x1024, .f32⟩
  | .hbm, ⟨47, _⟩ => ⟨S2048x1024, .f32⟩
  | .hbm, ⟨48, _⟩ => ⟨S4x256x1024, .f32⟩
  | .hbm, ⟨49, _⟩ => ⟨S4x256x512, .f32⟩
  | .hbm, ⟨50, _⟩ => ⟨S4x256x4x128, .f32⟩
  | .hbm, ⟨51, _⟩ => ⟨S4x256x512, .f32⟩
  | .hbm, ⟨52, _⟩ => ⟨S4x256x4x128, .f32⟩
  | .hbm, ⟨53, _⟩ => ⟨S1x4x256x4x128, .f32⟩
  | .hbm, ⟨54, _⟩ => ⟨S1x4x256x4x128, .f32⟩
  | .hbm, ⟨55, _⟩ => ⟨S2x4x256x4x128, .f32⟩
  | .hbm, ⟨56, _⟩ => ⟨S2x4x1024x128, .f32⟩
  | .hbm, ⟨57, _⟩ => ⟨S1x4x256x4x128, .f32⟩
  | .hbm, ⟨58, _⟩ => ⟨S1x4x256x4x128, .f32⟩
  | .hbm, ⟨59, _⟩ => ⟨S2x4x256x4x128, .f32⟩
  | .hbm, ⟨60, _⟩ => ⟨S2x4x1024x128, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== Kernel7.lean ====
abbrev S8704x2048 : Shape := ⟨2, ![8704, 2048]⟩
abbrev S2x2048 : Shape := ⟨2, ![2, 2048]⟩
abbrev S1x2048x2048 : Shape := ⟨3, ![1, 2048, 2048]⟩
abbrev S1x2048 : Shape := ⟨2, ![1, 2048]⟩
abbrev S2048 : Shape := ⟨1, ![2048]⟩
abbrev S2048x2048 : Shape := ⟨2, ![2048, 2048]⟩
abbrev S16 : Shape := ⟨1, ![16]⟩
abbrev S_ : Shape := ⟨0, ![]⟩
abbrev S4 : Shape := ⟨1, ![4]⟩
abbrev S1x4 : Shape := ⟨2, ![1, 4]⟩
abbrev S128x4 : Shape := ⟨2, ![128, 4]⟩
abbrev S512 : Shape := ⟨1, ![512]⟩
abbrev S2560 : Shape := ⟨1, ![2560]⟩
abbrev S2560x1 : Shape := ⟨2, ![2560, 1]⟩
abbrev S1x16 : Shape := ⟨2, ![1, 16]⟩
abbrev S2560x16 : Shape := ⟨2, ![2560, 16]⟩
abbrev S2560x96 : Shape := ⟨2, ![2560, 96]⟩
abbrev S2560x128 : Shape := ⟨2, ![2560, 128]⟩
abbrev S512x2048 : Shape := ⟨2, ![512, 2048]⟩
abbrev S512x128 : Shape := ⟨2, ![512, 128]⟩
abbrev S512x1 : Shape := ⟨2, ![512, 1]⟩
abbrev S512x512 : Shape := ⟨2, ![512, 512]⟩

abbrev nBuf : Space → Nat
  | .hbm => 48
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S1x2048x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2048, .i32⟩
  | .hbm, ⟨19, _⟩ => ⟨S4, .i32⟩
  | .hbm, ⟨20, _⟩ => ⟨S1x4, .i32⟩
  | .hbm, ⟨21, _⟩ => ⟨S128x4, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S2560, .i32⟩
  | .hbm, ⟨27, _⟩ => ⟨S2560, .f32⟩
  | .hbm, ⟨28, _⟩ => ⟨S2560x1, .f32⟩
  | .hbm, ⟨29, _⟩ => ⟨S1x16, .f32⟩
  | .hbm, ⟨30, _⟩ => ⟨S2560x16, .f32⟩
  | .hbm, ⟨31, _⟩ => ⟨S2560x16, .f32⟩
  | .hbm, ⟨32, _⟩ => ⟨S2560x16, .f32⟩
  | .hbm, ⟨33, _⟩ => ⟨S2560x16, .f32⟩
  | .hbm, ⟨34, _⟩ => ⟨S2560x16, .f32⟩
  | .hbm, ⟨35, _⟩ => ⟨S_, .f32⟩
  | .hbm, ⟨36, _⟩ => ⟨S2560x16, .f32⟩
  | .hbm, ⟨37, _⟩ => ⟨S_, .f32⟩
  | .hbm, ⟨38, _⟩ => ⟨S2560x96, .f32⟩
  | .hbm, ⟨39, _⟩ => ⟨S_, .f32⟩
  | .hbm, ⟨40, _⟩ => ⟨S2560x96, .f32⟩
  | .hbm, ⟨41, _⟩ => ⟨S2560x96, .f32⟩
  | .hbm, ⟨42, _⟩ => ⟨S2560x128, .f32⟩
  | .hbm, ⟨43, _⟩ => ⟨S2560x16, .f32⟩
  | .hbm, ⟨44, _⟩ => ⟨S2560x128, .f32⟩
  | .hbm, ⟨45, _⟩ => ⟨S2560x128, .f32⟩
  | .hbm, ⟨46, _⟩ => ⟨S1x2048, .f32⟩
  | .hbm, ⟨47, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8704x2048 : Shape := ⟨2, ![8704, 2048]⟩
abbrev S2x2048 : Shape := ⟨2, ![2, 2048]⟩
abbrev S1x2048x2048 : Shape := ⟨3, ![1, 2048, 2048]⟩
abbrev S8192x2048 : Shape := ⟨2, ![8192, 2048]⟩
abbrev S4x2048x2048 : Shape := ⟨3, ![4, 2048, 2048]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x1536 : Shape := ⟨3, ![4, 2048, 1536]⟩
abbrev S4x2048x12x128 : Shape := ⟨4, ![4, 2048, 12, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x12x16 : Shape := ⟨4, ![4, 2048, 12, 16]⟩
abbrev S1x2048x1x16 : Shape := ⟨4, ![1, 2048, 1, 16]⟩
abbrev S4x2048x12x96 : Shape := ⟨4, ![4, 2048, 12, 96]⟩
abbrev S8192x1536 : Shape := ⟨2, ![8192, 1536]⟩
abbrev S4x2048x512 : Shape := ⟨3, ![4, 2048, 512]⟩
abbrev S8192x512 : Shape := ⟨2, ![8192, 512]⟩
abbrev S512x2048 : Shape := ⟨2, ![512, 2048]⟩
abbrev S128x4x2048 : Shape := ⟨3, ![128, 4, 2048]⟩
abbrev S4 : Shape := ⟨1, ![4]⟩
abbrev S128x4 : Shape := ⟨2, ![128, 4]⟩
abbrev S128x4x1 : Shape := ⟨3, ![128, 4, 1]⟩
abbrev S128x4x1536 : Shape := ⟨3, ![128, 4, 1536]⟩
abbrev S128x4x12x128 : Shape := ⟨4, ![128, 4, 12, 128]⟩
abbrev S4x1 : Shape := ⟨2, ![4, 1]⟩
abbrev S4x16 : Shape := ⟨2, ![4, 16]⟩
abbrev S4x1x16 : Shape := ⟨3, ![4, 1, 16]⟩
abbrev S128x4x12x16 : Shape := ⟨4, ![128, 4, 12, 16]⟩
abbrev S1x4x1x16 : Shape := ⟨4, ![1, 4, 1, 16]⟩
abbrev S128x4x12x96 : Shape := ⟨4, ![128, 4, 12, 96]⟩
abbrev S512x1536 : Shape := ⟨2, ![512, 1536]⟩
abbrev S128x4x512 : Shape := ⟨3, ![128, 4, 512]⟩
abbrev S512x512 : Shape := ⟨2, ![512, 512]⟩

abbrev nBuf : Space → Nat
  | .hbm => 143
  | .vmem => 0
  | .smem => 0
  | _ => 0

abbrev hbmTy0_0 (i : Nat) : BufTy := match i % 128 with
  | 0 => ⟨S8704x2048, .f32⟩
  | 1 => ⟨S2x2048, .f32⟩
  | 2 => ⟨S1x2048x2048, .f32⟩
  | 3 => ⟨S8192x2048, .f32⟩
  | 4 => ⟨S4x2048x2048, .f32⟩
  | 5 => ⟨S2048, .i32⟩
  | 6 => ⟨S1x2048, .f32⟩
  | 7 => ⟨S2048, .f32⟩
  | 8 => ⟨S2048x2048, .f32⟩
  | 9 => ⟨S4x2048x2048, .f32⟩
  | 10 => ⟨S_, .f32⟩
  | 11 => ⟨S4x2048, .f32⟩
  | 12 => ⟨S4x2048x1, .f32⟩
  | 13 => ⟨S_, .f32⟩
  | 14 => ⟨S4x2048x1, .f32⟩
  | 15 => ⟨S4x2048x1, .f32⟩
  | 16 => ⟨S_, .f32⟩
  | 17 => ⟨S4x2048x1, .f32⟩
  | 18 => ⟨S4x2048x1, .f32⟩
  | 19 => ⟨S4x2048x1, .f32⟩
  | 20 => ⟨S4x2048x2048, .f32⟩
  | 21 => ⟨S4x2048x2048, .f32⟩
  | 22 => ⟨S1x1x2048, .f32⟩
  | 23 => ⟨S4x2048x2048, .f32⟩
  | 24 => ⟨S4x2048x2048, .f32⟩
  | 25 => ⟨S4x2048x2048, .f32⟩
  | 26 => ⟨S4x2048x1536, .f32⟩
  | 27 => ⟨S4x2048x12x128, .f32⟩
  | 28 => ⟨S16, .f32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S2048, .f32⟩
  | 40 => ⟨S2048x1, .f32⟩
  | 41 => ⟨S1x16, .f32⟩
  | 42 => ⟨S2048x16, .f32⟩
  | 43 => ⟨S2048x16, .f32⟩
  | 44 => ⟨S2048x16, .f32⟩
  | 45 => ⟨S2048x16, .f32⟩
  | 46 => ⟨S2048x1x16, .f32⟩
  | 47 => ⟨S2048x16, .f32⟩
  | 48 => ⟨S2048x1x16, .f32⟩
  | 49 => ⟨S4x2048x12x16, .f32⟩
  | 50 => ⟨S4x2048x12x16, .f32⟩
  | 51 => ⟨S1x2048x1x16, .f32⟩
  | 52 => ⟨S4x2048x12x16, .f32⟩
  | 53 => ⟨S4x2048x12x16, .f32⟩
  | 54 => ⟨S1x2048x1x16, .f32⟩
  | 55 => ⟨S4x2048x12x16, .f32⟩
  | 56 => ⟨S4x2048x12x16, .f32⟩
  | 57 => ⟨S4x2048x12x16, .f32⟩
  | 58 => ⟨S1x2048x1x16, .f32⟩
  | 59 => ⟨S4x2048x12x16, .f32⟩
  | 60 => ⟨S4x2048x12x16, .f32⟩
  | 61 => ⟨S1x2048x1x16, .f32⟩
  | 62 => ⟨S4x2048x12x16, .f32⟩
  | 63 => ⟨S4x2048x12x16, .f32⟩
  | 64 => ⟨S4x2048x12x16, .f32⟩
  | 65 => ⟨S4x2048x12x96, .f32⟩
  | 66 => ⟨S4x2048x12x128, .f32⟩
  | 67 => ⟨S8192x1536, .f32⟩
  | 68 => ⟨S4x2048x512, .f32⟩
  | 69 => ⟨S8192x512, .f32⟩
  | 70 => ⟨S8192x2048, .f32⟩
  | 71 => ⟨S512x2048, .f32⟩
  | 72 => ⟨S128x4x2048, .f32⟩
  | 73 => ⟨S4, .i32⟩
  | 74 => ⟨S_, .i32⟩
  | 75 => ⟨S4, .i32⟩
  | 76 => ⟨S4, .i32⟩
  | 77 => ⟨S1x2048, .f32⟩
  | 78 => ⟨S2048, .f32⟩
  | 79 => ⟨S2048x2048, .f32⟩
  | 80 => ⟨S128x4x2048, .f32⟩
  | 81 => ⟨S_, .f32⟩
  | 82 => ⟨S128x4, .f32⟩
  | 83 => ⟨S128x4x1, .f32⟩
  | 84 => ⟨S_, .f32⟩
  | 85 => ⟨S128x4x1, .f32⟩
  | 86 => ⟨S128x4x1, .f32⟩
  | 87 => ⟨S_, .f32⟩
  | 88 => ⟨S128x4x1, .f32⟩
  | 89 => ⟨S128x4x1, .f32⟩
  | 90 => ⟨S128x4x1, .f32⟩
  | 91 => ⟨S128x4x2048, .f32⟩
  | 92 => ⟨S128x4x2048, .f32⟩
  | 93 => ⟨S1x1x2048, .f32⟩
  | 94 => ⟨S128x4x2048, .f32⟩
  | 95 => ⟨S128x4x2048, .f32⟩
  | 96 => ⟨S128x4x2048, .f32⟩
  | 97 => ⟨S128x4x1536, .f32⟩
  | 98 => ⟨S128x4x12x128, .f32⟩
  | 99 => ⟨S16, .f32⟩
  | 100 => ⟨S_, .f32⟩
  | 101 => ⟨S16, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S4, .f32⟩
  | 111 => ⟨S4x1, .f32⟩
  | 112 => ⟨S1x16, .f32⟩
  | 113 => ⟨S4x16, .f32⟩
  | 114 => ⟨S4x16, .f32⟩
  | 115 => ⟨S4x16, .f32⟩
  | 116 => ⟨S4x16, .f32⟩
  | 117 => ⟨S4x1x16, .f32⟩
  | 118 => ⟨S4x16, .f32⟩
  | 119 => ⟨S4x1x16, .f32⟩
  | 120 => ⟨S128x4x12x16, .f32⟩
  | 121 => ⟨S128x4x12x16, .f32⟩
  | 122 => ⟨S1x4x1x16, .f32⟩
  | 123 => ⟨S128x4x12x16, .f32⟩
  | 124 => ⟨S128x4x12x16, .f32⟩
  | 125 => ⟨S1x4x1x16, .f32⟩
  | 126 => ⟨S128x4x12x16, .f32⟩
  | 127 => ⟨S128x4x12x16, .f32⟩
  | _ => ⟨S8704x2048, .f32⟩

abbrev hbmTy0_1 (i : Nat) : BufTy := match i % 128 with
  | 0 => ⟨S128x4x12x16, .f32⟩
  | 1 => ⟨S1x4x1x16, .f32⟩
  | 2 => ⟨S128x4x12x16, .f32⟩
  | 3 => ⟨S128x4x12x16, .f32⟩
  | 4 => ⟨S1x4x1x16, .f32⟩
  | 5 => ⟨S128x4x12x16, .f32⟩
  | 6 => ⟨S128x4x12x16, .f32⟩
  | 7 => ⟨S128x4x12x16, .f32⟩
  | 8 => ⟨S128x4x12x96, .f32⟩
  | 9 => ⟨S128x4x12x128, .f32⟩
  | 10 => ⟨S512x1536, .f32⟩
  | 11 => ⟨S128x4x512, .f32⟩
  | 12 => ⟨S512x512, .f32⟩
  | 13 => ⟨S512x2048, .f32⟩
  | 14 => ⟨S8704x2048, .f32⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_c : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_v72 : Ref sig .tc := ⟨.hbm, 83, rfl⟩
abbrev main_cst_6 : Ref sig .tc := ⟨.hbm, 84, rfl⟩
abbrev main_v73 : Ref sig .tc := ⟨.hbm, 85, rfl⟩
abbrev main_v74 : Ref sig .tc := ⟨.hbm, 86, rfl⟩
abbrev main_cst_7 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_8 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_9 : Ref sig .tc := ⟨.hbm, 104, rfl⟩
abbrev main_v90 : Ref sig .tc := ⟨.hbm, 105, rfl⟩
abbrev main_v91 : Ref sig .tc := ⟨.hbm, 106, rfl⟩
abbrev main_cst_10 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩

abbrev nD : Nat := 1
abbrev τ : Topo := Topo.v7x

variable {F : FTy → Type} [FloatOps F]
-- ==== Kernel8.lean ====
abbrev S8704x2048 : Shape := ⟨2, ![8704, 2048]⟩
abbrev S8192x1536 : Shape := ⟨2, ![8192, 1536]⟩
abbrev S512x1536 : Shape := ⟨2, ![512, 1536]⟩
abbrev S8192x512 : Shape := ⟨2, ![8192, 512]⟩
abbrev S512x512 : Shape := ⟨2, ![512, 512]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S512x2048 : Shape := ⟨2, ![512, 2048]⟩
abbrev S1536x2048 : Shape := ⟨2, ![1536, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8704x2048, .f32⟩
  | .hbm, ⟨1, _⟩ => ⟨S8192x1536, .bf16⟩
  | .hbm, ⟨2, _⟩ => ⟨S512x1536, .bf16⟩
  | .hbm, ⟨3, _⟩ => ⟨S8192x512, .bf16⟩
  | .hbm, ⟨4, _⟩ => ⟨S512x512, .bf16⟩
  | .hbm, ⟨5, _⟩ => ⟨S2x2048x2048, .f32⟩
  | .hbm, ⟨6, _⟩ => ⟨S1x2048x2048, .f32⟩
  | .hbm, ⟨7, _⟩ => ⟨S2048x2048, .f32⟩
  | .hbm, ⟨8, _⟩ => ⟨S2048x2048, .bf16⟩
  | .hbm, ⟨9, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S512x1536, .bf16⟩
  | .local _ .vmem, ⟨3, _⟩ => ⟨S512x1536, .bf16⟩
  | .local _ .vmem, ⟨4, _⟩ => ⟨S512x1536, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1536x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![17, 1], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S8704x2048 : Shape := ⟨2, ![8704, 2048]⟩
abbrev S8192x1536 : Shape := ⟨2, ![8192, 1536]⟩
abbrev S512x1536 : Shape := ⟨2, ![512, 1536]⟩
abbrev S8192x512 : Shape := ⟨2, ![8192, 512]⟩
abbrev S512x512 : Shape := ⟨2, ![512, 512]⟩
abbrev S2x2048x2048 : Shape := ⟨3, ![2, 2048, 2048]⟩
abbrev S8704x1536 : Shape := ⟨2, ![8704, 1536]⟩
abbrev S8704x512 : Shape := ⟨2, ![8704, 512]⟩
abbrev S1x2048x2048 : Shape := ⟨3, ![1, 2048, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8192x1536, .bf16⟩
  | .hbm, ⟨2, _⟩ => ⟨S512x1536, .bf16⟩
  | .hbm, ⟨3, _⟩ => ⟨S8192x512, .bf16⟩
  | .hbm, ⟨4, _⟩ => ⟨S512x512, .bf16⟩
  | .hbm, ⟨5, _⟩ => ⟨S2x2048x2048, .f32⟩
  | .hbm, ⟨6, _⟩ => ⟨S8704x1536, .bf16⟩
  | .hbm, ⟨7, _⟩ => ⟨S8704x1536, .f32⟩
  | .hbm, ⟨8, _⟩ => ⟨S8704x512, .bf16⟩
  | .hbm, ⟨9, _⟩ => ⟨S8704x512, .f32⟩
  | .hbm, ⟨10, _⟩ => ⟨S8704x2048, .f32⟩
  | .hbm, ⟨11, _⟩ => ⟨S1x2048x2048, .f32⟩
  | .hbm, ⟨12, _⟩ => ⟨S2048x2048, .f32⟩
  | .hbm, ⟨13, _⟩ => ⟨S8704x2048, .f32⟩
  | .hbm, ⟨14, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel9.lean ====
abbrev S8192x2048 : Shape := ⟨2, ![8192, 2048]⟩
abbrev S512x2048 : Shape := ⟨2, ![512, 2048]⟩
abbrev S2x2048 : Shape := ⟨2, ![2, 2048]⟩
abbrev S1x2048x3584 : Shape := ⟨3, ![1, 2048, 3584]⟩
abbrev S1x2048 : Shape := ⟨2, ![1, 2048]⟩
abbrev S2048 : Shape := ⟨1, ![2048]⟩
abbrev S2048x3584 : Shape := ⟨2, ![2048, 3584]⟩
abbrev S8704x3584 : Shape := ⟨2, ![8704, 3584]⟩
abbrev S2048x1792 : Shape := ⟨2, ![2048, 1792]⟩
abbrev S512x1792 : Shape := ⟨2, ![512, 1792]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2x2048, .f32⟩
  | .hbm, ⟨3, _⟩ => ⟨S1x2048x3584, .f32⟩
  | .hbm, ⟨4, _⟩ => ⟨S1x2048, .f32⟩
  | .hbm, ⟨5, _⟩ => ⟨S2048, .f32⟩
  | .hbm, ⟨6, _⟩ => ⟨S2048x3584, .f32⟩
  | .hbm, ⟨7, _⟩ => ⟨S2048x3584, .bf16⟩
  | .hbm, ⟨8, _⟩ => ⟨S1x2048, .f32⟩
  | .hbm, ⟨9, _⟩ => ⟨S8704x3584, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S2048x1792, .bf16⟩
  | .local _ .vmem, ⟨5, _⟩ => ⟨S2048x1792, .bf16⟩
  | .local _ .vmem, ⟨6, _⟩ => ⟨S512x1792, .f32⟩
  | .local _ .vmem, ⟨7, _⟩ => ⟨S512x1792, .f32⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x2048 : Shape := ⟨2, ![8192, 2048]⟩
abbrev S512x2048 : Shape := ⟨2, ![512, 2048]⟩
abbrev S2x2048 : Shape := ⟨2, ![2, 2048]⟩
abbrev S1x2048x3584 : Shape := ⟨3, ![1, 2048, 3584]⟩
abbrev S8704x2048 : Shape := ⟨2, ![8704, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩
abbrev S2048x3584 : Shape := ⟨2, ![2048, 3584]⟩
abbrev S8704x3584 : Shape := ⟨2, ![8704, 3584]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2x2048, .f32⟩
  | .hbm, ⟨3, _⟩ => ⟨S1x2048x3584, .f32⟩
  | .hbm, ⟨4, _⟩ => ⟨S8704x2048, .f32⟩
  | .hbm, ⟨5, _⟩ => ⟨S8704x2048, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x2048, .f32⟩
  | .hbm, ⟨17, _⟩ => ⟨S8704x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8704x2048, .f32⟩
  | .hbm, ⟨22, _⟩ => ⟨S8704x2048, .f32⟩
  | .hbm, ⟨23, _⟩ => ⟨S2048x3584, .f32⟩
  | .hbm, ⟨24, _⟩ => ⟨S8704x3584, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel10.lean ====
abbrev S8704x3584 : Shape := ⟨2, ![8704, 3584]⟩
abbrev S1x1536 : Shape := ⟨2, ![1, 1536]⟩
abbrev S2x12x128x128 : Shape := ⟨4, ![2, 12, 128, 128]⟩
abbrev S2x128x12 : Shape := ⟨3, ![2, 128, 12]⟩
abbrev S1536 : Shape := ⟨1, ![1536]⟩
abbrev S8704x1536 : Shape := ⟨2, ![8704, 1536]⟩
abbrev S512x1536 : Shape := ⟨2, ![512, 1536]⟩
abbrev S128x3584 : Shape := ⟨2, ![128, 3584]⟩
abbrev S1x12x128x128 : Shape := ⟨4, ![1, 12, 128, 128]⟩
abbrev S1x128x12 : Shape := ⟨3, ![1, 128, 12]⟩
abbrev S128x1536 : Shape := ⟨2, ![128, 1536]⟩
abbrev S128 : Shape := ⟨1, ![128]⟩
abbrev S128x1 : Shape := ⟨2, ![128, 1]⟩
abbrev S128x12 : Shape := ⟨2, ![128, 12]⟩
abbrev S1x1x128x128 : Shape := ⟨4, ![1, 1, 128, 128]⟩
abbrev S128x128 : Shape := ⟨2, ![128, 128]⟩

abbrev nBuf : Space → Nat
  | .hbm => 8
  | .vmem => 11
  | .smem => 0
  | _ => 0

abbrev bufTy : (tb : Table) → Fin (tcTables nBuf tb) → BufTy
  | .hbm, ⟨0, _⟩ => ⟨S8704x3584, .f32⟩
  | .hbm, ⟨1, _⟩ => ⟨S1x1536, .f32⟩
  | .hbm, ⟨2, _⟩ => ⟨S2x12x128x128, .bf16⟩
  | .hbm, ⟨3, _⟩ => ⟨S2x128x12, .f32⟩
  | .hbm, ⟨4, _⟩ => ⟨S1536, .f32⟩
  | .hbm, ⟨5, _⟩ => ⟨S1x1536, .f32⟩
  | .hbm, ⟨6, _⟩ => ⟨S8704x1536, .bf16⟩
  | .hbm, ⟨7, _⟩ => ⟨S512x1536, .f32⟩
  | .local _ .vmem, ⟨0, _⟩ => ⟨S128x3584, .f32⟩
  | .local _ .vmem, ⟨1, _⟩ => ⟨S128x3584, .f32⟩
  | .local _ .vmem, ⟨2, _⟩ => ⟨S1x1536, .f32⟩
  | .local _ .vmem, ⟨3, _⟩ => ⟨S1x12x128x128, .bf16⟩
  | .local _ .vmem, ⟨4, _⟩ => ⟨S1x12x128x128, .bf16⟩
  | .local _ .vmem, ⟨5, _⟩ => ⟨S1x128x12, .f32⟩
  | .local _ .vmem, ⟨6, _⟩ => ⟨S1x128x12, .f32⟩
  | .local _ .vmem, ⟨7, _⟩ => ⟨S128x1536, .bf16⟩
  | .local _ .vmem, ⟨8, _⟩ => ⟨S128x1536, .bf16⟩
  | .local _ .vmem, ⟨9, _⟩ => ⟨S128x1536, .f32⟩
  | .local _ .vmem, ⟨10, _⟩ => ⟨S128x1536, .f32⟩
  | _, _ => ⟨S8704x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x12x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8704x3584 : Shape := ⟨2, ![8704, 3584]⟩
abbrev S1x1536 : Shape := ⟨2, ![1, 1536]⟩
abbrev S2x12x128x128 : Shape := ⟨4, ![2, 12, 128, 128]⟩
abbrev S2x128x12 : Shape := ⟨3, ![2, 128, 12]⟩
abbrev S512x3584 : Shape := ⟨2, ![512, 3584]⟩
abbrev S128x4x3584 : Shape := ⟨3, ![128, 4, 3584]⟩
abbrev S128x4x3072 : Shape := ⟨3, ![128, 4, 3072]⟩
abbrev S_ : Shape := ⟨0, ![]⟩
abbrev S128x4x1536 : Shape := ⟨3, ![128, 4, 1536]⟩
abbrev S128x4 : Shape := ⟨2, ![128, 4]⟩
abbrev S128x4x1 : Shape := ⟨3, ![128, 4, 1]⟩
abbrev S1536 : Shape := ⟨1, ![1536]⟩
abbrev S1x1x1536 : Shape := ⟨3, ![1, 1, 1536]⟩
abbrev S512x1536 : Shape := ⟨2, ![512, 1536]⟩

abbrev nBuf : Space → Nat
  | .hbm => 43
  | .vmem => 0
  | .smem => 0
  | _ => 0

abbrev bufTy : (tb : Table) → Fin (tcTables nBuf tb) → BufTy
  | .hbm, ⟨0, _⟩ => ⟨S8704x3584, .f32⟩
  | .hbm, ⟨1, _⟩ => ⟨S1x1536, .f32⟩
  | .hbm, ⟨2, _⟩ => ⟨S2x12x128x128, .bf16⟩
  | .hbm, ⟨3, _⟩ => ⟨S2x128x12, .f32⟩
  | .hbm, ⟨4, _⟩ => ⟨S512x3584, .f32⟩
  | .hbm, ⟨5, _⟩ => ⟨S128x4x3584, .f32⟩
  | .hbm, ⟨6, _⟩ => ⟨S128x4x3072, .f32⟩
  | .hbm, ⟨7, _⟩ => ⟨S128x4x3072, .f32⟩
  | .hbm, ⟨8, _⟩ => ⟨S128x4x3072, .f32⟩
  | .hbm, ⟨9, _⟩ => ⟨S_, .f32⟩
  | .hbm, ⟨10, _⟩ => ⟨S128x4x3072, .f32⟩
  | .hbm, ⟨11, _⟩ => ⟨S128x4x3072, .f32⟩
  | .hbm, ⟨12, _⟩ => ⟨S128x4x3072, .f32⟩
  | .hbm, ⟨13, _⟩ => ⟨S_, .f32⟩
  | .hbm, ⟨14, _⟩ => ⟨S128x4x3072, .f32⟩
  | .hbm, ⟨15, _⟩ => ⟨S128x4x3072, .f32⟩
  | .hbm, ⟨16, _⟩ => ⟨S128x4x3072, .f32⟩
  | .hbm, ⟨17, _⟩ => ⟨S_, .f32⟩
  | .hbm, ⟨18, _⟩ => ⟨S128x4x3072, .f32⟩
  | .hbm, ⟨19, _⟩ => ⟨S128x4x3072, .f32⟩
  | .hbm, ⟨20, _⟩ => ⟨S_, .f32⟩
  | .hbm, ⟨21, _⟩ => ⟨S128x4x3072, .f32⟩
  | .hbm, ⟨22, _⟩ => ⟨S128x4x3072, .f32⟩
  | .hbm, ⟨23, _⟩ => ⟨S128x4x3072, .f32⟩
  | .hbm, ⟨24, _⟩ => ⟨S128x4x1536, .f32⟩
  | .hbm, ⟨25, _⟩ => ⟨S128x4x1536, .f32⟩
  | .hbm, ⟨26, _⟩ => ⟨S_, .f32⟩
  | .hbm, ⟨27, _⟩ => ⟨S128x4, .f32⟩
  | .hbm, ⟨28, _⟩ => ⟨S128x4x1, .f32⟩
  | .hbm, ⟨29, _⟩ => ⟨S_, .f32⟩
  | .hbm, ⟨30, _⟩ => ⟨S128x4x1, .f32⟩
  | .hbm, ⟨31, _⟩ => ⟨S128x4x1, .f32⟩
  | .hbm, ⟨32, _⟩ => ⟨S_, .f32⟩
  | .hbm, ⟨33, _⟩ => ⟨S128x4x1, .f32⟩
  | .hbm, ⟨34, _⟩ => ⟨S128x4x1, .f32⟩
  | .hbm, ⟨35, _⟩ => ⟨S128x4x1, .f32⟩
  | .hbm, ⟨36, _⟩ => ⟨S128x4x1536, .f32⟩
  | .hbm, ⟨37, _⟩ => ⟨S128x4x1536, .f32⟩
  | .hbm, ⟨38, _⟩ => ⟨S1536, .f32⟩
  | .hbm, ⟨39, _⟩ => ⟨S1x1x1536, .f32⟩
  | .hbm, ⟨40, _⟩ => ⟨S128x4x1536, .f32⟩
  | .hbm, ⟨41, _⟩ => ⟨S128x4x1536, .f32⟩
  | .hbm, ⟨42, _⟩ => ⟨S512x1536, .f32⟩
  | _, _ => ⟨S8704x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.MobaStore.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

/-! What one grid point of the attention stores: its three scratch arrays as functions of the point's three blocks, and its output block as eight
    row tiles over them. -/

noncomputable section

namespace Cert.KernelIdeal.Moba

open Cert.KernelIdeal Cert.KernelIdeal.Gen Idealize.ShloMosaic Idealize.ShloMosaic.TcCoe Idealize.SL.Sem

variable {F : FTy → Type} [FloatOps F] [Named F]

/-- The block number's word, at every (block, query). -/
def blkW : IVec S8x2048 32 := iota .tc S8x2048 32 [0] iota_S8x2048_d0_w32
/-- The query's word, at every (block, query). -/
def rowW : IVec S8x2048 32 := iota .tc S8x2048 32 [1] iota_S8x2048_d1_w32
/-- The gate scores of the point: block `n` against query `i`. -/
def gateW (x0 : Vec F S2048x128 .f32) (x1 : Vec F S1x1x2048x128 .f32) : FVec F S8x2048 .f32 := k0_pay6 (k0_pay1 x1) x0
/-- The bias columns: 0 in column `n` of a query that selects block `n`, the mask elsewhere. -/
def biasW (x0 : Vec F S2048x128 .f32) (x1 : Vec F S1x1x2048x128 .f32) : FVec F S2048x128 .bf16 :=
  k0_pay17 (k0_pay10 blkW rowW 256#32 k0_pay7 k0_pay8 k0_pay9) blkW
    (k0_pay13 (gateW x0 x1) blkW rowW 256#32 k0_pay7 k0_pay8 k0_pay9)
    (k0_pay14 (gateW x0 x1) blkW rowW 256#32 k0_pay7 k0_pay8 k0_pay9)
    (k0_pay15 (gateW x0 x1) blkW rowW 256#32 k0_pay7 k0_pay8 k0_pay9)

/-- The left 128 columns of a scratch array. -/
abbrev rL : Rect S2048x256 := Rect.unit (s := S2048x256) ![0, 0] S2048x128.size inb_S2048x256_S2048x128_0_0
/-- The right 128 columns of a scratch array. -/
abbrev rR : Rect S2048x256 := Rect.unit (s := S2048x256) ![0, 128] S2048x128.size inb_S2048x256_S2048x128_0_128

/-- The query scratch: scaled queries, then the bias columns. -/
def QA (x0 : Vec F S2048x128 .f32) (x1 : Vec F S1x1x2048x128 .f32) : S2048x256.Idx → Elt F .bf16 :=
  View.canon [⟨rR, biasW x0 x1⟩, ⟨rL, k0_pay16 x0⟩]
/-- The key scratch: keys, then the one-hot block number. -/
def KA (x1 : Vec F S1x1x2048x128 .f32) : S2048x256.Idx → Elt F .bf16 := View.canon [⟨rR, k0_pay3⟩, ⟨rL, k0_pay2 x1⟩]
/-- The value scratch: values, then a column of ones. -/
def VA (x2 : Vec F S1x1x2048x128 .f32) : S2048x256.Idx → Elt F .bf16 :=
  View.canon [⟨rR, k0_pay5 (iota .tc S2048x128 32 [1] iota_S2048x128_d1_w32)⟩, ⟨rL, k0_pay4 x2⟩]

/-- The column's word within a tile. -/
def colW : IVec S256x256 32 := iota .tc S256x256 32 [1] iota_S256x256_d1_w32

section Tiles
variable (Q K V : S2048x256.Idx → Elt F .bf16)

/-- Tile 0: the output rows from 0, over the first 0 keys and the tile's own. -/
def tile0 : FVec F S256x128 .bf16 :=
  k0_pay19 colW (View.ld Q (Rect.unit (s := S2048x256) ![0, 0] S256x128.size inb_S2048x256_S256x128_0_0)) (View.ld K (Rect.unit (s := S2048x256) ![0, 0] S256x128.size inb_S2048x256_S256x128_0_0)) (View.ld V (Rect.unit (s := S2048x256) ![0, 0] S256x256.size inb_S2048x256_S256x256_0_0))
/-- Tile 1: the output rows from 256, over the first 256 keys and the tile's own. -/
def tile1 : FVec F S256x128 .bf16 :=
  k0_pay23 (k0_pay20 colW (View.ld Q (Rect.unit (s := S2048x256) ![256, 0] S256x128.size inb_S2048x256_S256x128_256_0)) (View.ld K (Rect.unit (s := S2048x256) ![256, 0] S256x128.size inb_S2048x256_S256x128_256_0))) (k0_pay21 (View.ld Q (Rect.unit (s := S2048x256) ![256, 0] S256x256.size inb_S2048x256_S256x256_256_0)) (View.ld K (Rect.unit (s := S2048x256) ![0, 0] S256x256.size inb_S2048x256_S256x256_0_0))) (k0_pay22 colW (View.ld Q (Rect.unit (s := S2048x256) ![256, 0] S256x128.size inb_S2048x256_S256x128_256_0)) (View.ld K (Rect.unit (s := S2048x256) ![256, 0] S256x128.size inb_S2048x256_S256x128_256_0)) (View.ld Q (Rect.unit (s := S2048x256) ![256, 0] S256x256.size inb_S2048x256_S256x256_256_0)) (View.ld K (Rect.unit (s := S2048x256) ![0, 0] S256x256.size inb_S2048x256_S256x256_0_0))) (View.ld V (Rect.unit (s := S2048x256) ![256, 0] S256x256.size inb_S2048x256_S256x256_256_0)) (View.ld V (Rect.unit (s := S2048x256) ![0, 0] S256x256.size inb_S2048x256_S256x256_0_0))
/-- Tile 2: the output rows from 512, over the first 512 keys and the tile's own. -/
def tile2 : FVec F S256x128 .bf16 :=
  k0_pay28 (k0_pay25 (View.ld Q (Rect.unit (s := S2048x256) ![512, 0] S256x256.size inb_S2048x256_S256x256_512_0)) (View.ld K (Rect.unit (s := S2048x256) ![0, 0] S512x256.size inb_S2048x256_S512x256_0_0))) (k0_pay26 (k0_pay18 colW) (View.ld Q (Rect.unit (s := S2048x256) ![512, 0] S256x128.size inb_S2048x256_S256x128_512_0)) (View.ld K (Rect.unit (s := S2048x256) ![512, 0] S256x128.size inb_S2048x256_S256x128_512_0)) (View.ld Q (Rect.unit (s := S2048x256) ![512, 0] S256x256.size inb_S2048x256_S256x256_512_0)) (View.ld K (Rect.unit (s := S2048x256) ![0, 0] S512x256.size inb_S2048x256_S512x256_0_0))) (k0_pay27 (k0_pay18 colW) (View.ld Q (Rect.unit (s := S2048x256) ![512, 0] S256x128.size inb_S2048x256_S256x128_512_0)) (View.ld K (Rect.unit (s := S2048x256) ![512, 0] S256x128.size inb_S2048x256_S256x128_512_0)) (View.ld Q (Rect.unit (s := S2048x256) ![512, 0] S256x256.size inb_S2048x256_S256x256_512_0)) (View.ld K (Rect.unit (s := S2048x256) ![0, 0] S512x256.size inb_S2048x256_S512x256_0_0))) (View.ld V (Rect.unit (s := S2048x256) ![512, 0] S256x256.size inb_S2048x256_S256x256_512_0)) (View.ld V (Rect.unit (s := S2048x256) ![0, 0] S512x256.size inb_S2048x256_S512x256_0_0))
/-- Tile 3: the output rows from 768, over the first 768 keys and the tile's own. -/
def tile3 : FVec F S256x128 .bf16 :=
  k0_pay34 (k0_pay32 (k0_pay18 colW) (View.ld Q (Rect.unit (s := S2048x256) ![768, 0] S256x128.size inb_S2048x256_S256x128_768_0)) (View.ld K (Rect.unit (s := S2048x256) ![768, 0] S256x128.size inb_S2048x256_S256x128_768_0)) (View.ld Q (Rect.unit (s := S2048x256) ![768, 0] S256x256.size inb_S2048x256_S256x256_768_0)) (View.ld K (Rect.unit (s := S2048x256) ![0, 0] S768x256.size inb_S2048x256_S768x256_0_0)) (View.ld V (Rect.unit (s := S2048x256) ![768, 0] S256x256.size inb_S2048x256_S256x256_768_0))) (k0_pay33 (k0_pay18 colW) (View.ld Q (Rect.unit (s := S2048x256) ![768, 0] S256x128.size inb_S2048x256_S256x128_768_0)) (View.ld K (Rect.unit (s := S2048x256) ![768, 0] S256x128.size inb_S2048x256_S256x128_768_0)) (View.ld Q (Rect.unit (s := S2048x256) ![768, 0] S256x256.size inb_S2048x256_S256x256_768_0)) (View.ld K (Rect.unit (s := S2048x256) ![0, 0] S768x256.size inb_S2048x256_S768x256_0_0))) (View.ld V (Rect.unit (s := S2048x256) ![0, 0] S768x256.size inb_S2048x256_S768x256_0_0))
/-- Tile 4: the output rows from 1024, over the first 1024 keys and the tile's own. -/
def tile4 : FVec F S256x128 .bf16 :=
  k0_pay40 (k0_pay38 (k0_pay18 colW) (View.ld Q (Rect.unit (s := S2048x256) ![1024, 0] S256x128.size inb_S2048x256_S256x128_1024_0)) (View.ld K (Rect.unit (s := S2048x256) ![1024, 0] S256x128.size inb_S2048x256_S256x128_1024_0)) (View.ld Q (Rect.unit (s := S2048x256) ![1024, 0] S256x256.size inb_S2048x256_S256x256_1024_0)) (View.ld K (Rect.unit (s := S2048x256) ![0, 0] S1024x256.size inb_S2048x256_S1024x256_0_0)) (View.ld V (Rect.unit (s := S2048x256) ![1024, 0] S256x256.size inb_S2048x256_S256x256_1024_0))) (k0_pay39 (k0_pay18 colW) (View.ld Q (Rect.unit (s := S2048x256) ![1024, 0] S256x128.size inb_S2048x256_S256x128_1024_0)) (View.ld K (Rect.unit (s := S2048x256) ![1024, 0] S256x128.size inb_S2048x256_S256x128_1024_0)) (View.ld Q (Rect.unit (s := S2048x256) ![1024, 0] S256x256.size inb_S2048x256_S256x256_1024_0)) (View.ld K (Rect.unit (s := S2048x256) ![0, 0] S1024x256.size inb_S2048x256_S1024x256_0_0)) (View.ld V (Rect.unit (s := S2048x256) ![0, 0] S1024x256.size inb_S2048x256_S1024x256_0_0)))
/-- Tile 5: the output rows from 1280, over the first 1280 keys and the tile's own. -/
def tile5 : FVec F S256x128 .bf16 :=
  k0_pay41 (k0_pay18 colW) (View.ld Q (Rect.unit (s := S2048x256) ![1280, 0] S256x128.size inb_S2048x256_S256x128_1280_0)) (View.ld K (Rect.unit (s := S2048x256) ![1280, 0] S256x128.size inb_S2048x256_S256x128_1280_0)) (View.ld Q (Rect.unit (s := S2048x256) ![1280, 0] S256x256.size inb_S2048x256_S256x256_1280_0)) (View.ld K (Rect.unit (s := S2048x256) ![0, 0] S1280x256.size inb_S2048x256_S1280x256_0_0)) (View.ld V (Rect.unit (s := S2048x256) ![1280, 0] S256x256.size inb_S2048x256_S256x256_1280_0)) (View.ld V (Rect.unit (s := S2048x256) ![0, 0] S1280x256.size inb_S2048x256_S1280x256_0_0))
/-- Tile 6: the output rows from 1536, over the first 1536 keys and the tile's own. -/
def tile6 : FVec F S256x128 .bf16 :=
  k0_pay42 (k0_pay18 colW) (View.ld Q (Rect.unit (s := S2048x256) ![1536, 0] S256x128.size inb_S2048x256_S256x128_1536_0)) (View.ld K (Rect.unit (s := S2048x256) ![1536, 0] S256x128.size inb_S2048x256_S256x128_1536_0)) (View.ld Q (Rect.unit (s := S2048x256) ![1536, 0] S256x256.size inb_S2048x256_S256x256_1536_0)) (View.ld K (Rect.unit (s := S2048x256) ![0, 0] S1536x256.size inb_S2048x256_S1536x256_0_0)) (View.ld V (Rect.unit (s := S2048x256) ![1536, 0] S256x256.size inb_S2048x256_S256x256_1536_0)) (View.ld V (Rect.unit (s := S2048x256) ![0, 0] S1536x256.size inb_S2048x256_S1536x256_0_0))
/-- Tile 7: the output rows from 1792, over the first 1792 keys and the tile's own. -/
def tile7 : FVec F S256x128 .bf16 :=
  k0_pay43 (k0_pay18 colW) (View.ld Q (Rect.unit (s := S2048x256) ![1792, 0] S256x128.size inb_S2048x256_S256x128_1792_0)) (View.ld K (Rect.unit (s := S2048x256) ![1792, 0] S256x128.size inb_S2048x256_S256x128_1792_0)) (View.ld Q (Rect.unit (s := S2048x256) ![1792, 0] S256x256.size inb_S2048x256_S256x256_1792_0)) (View.ld K (Rect.unit (s := S2048x256) ![0, 0] S1792x256.size inb_S2048x256_S1792x256_0_0)) (View.ld V (Rect.unit (s := S2048x256) ![1792, 0] S256x256.size inb_S2048x256_S256x256_1792_0)) (View.ld V (Rect.unit (s := S2048x256) ![0, 0] S1792x256.size inb_S2048x256_S1792x256_0_0))

/-- The output block's stores, last first. -/
def tiles : List (View.Piece (Elt F) S2048x128 .bf16) :=
  [⟨Rect.unit (s := S2048x128) ![1792, 0] S256x128.size inb_S2048x128_S256x128_1792_0, tile7 Q K V⟩,
    ⟨Rect.unit (s := S2048x128) ![1536, 0] S256x128.size inb_S2048x128_S256x128_1536_0, tile6 Q K V⟩,
    ⟨Rect.unit (s := S2048x128) ![1280, 0] S256x128.size inb_S2048x128_S256x128_1280_0, tile5 Q K V⟩,
    ⟨Rect.unit (s := S2048x128) ![1024, 0] S256x128.size inb_S2048x128_S256x128_1024_0, tile4 Q K V⟩,
    ⟨Rect.unit (s := S2048x128) ![768, 0] S256x128.size inb_S2048x128_S256x128_768_0, tile3 Q K V⟩,
    ⟨Rect.unit (s := S2048x128) ![512, 0] S256x128.size inb_S2048x128_S256x128_512_0, tile2 Q K V⟩,
    ⟨Rect.unit (s := S2048x128) ![256, 0] S256x128.size inb_S2048x128_S256x128_256_0, tile1 Q K V⟩,
    ⟨Rect.unit (s := S2048x128) ![0, 0] S256x128.size inb_S2048x128_S256x128_0_0, tile0 Q K V⟩]

end Tiles

set_option maxHeartbeats 2000000 in
/-- The output block is the eight tiles over the three scratch arrays. -/
theorem out_tiles (c : Dev nD) (i : grid0.Coords) (arg2 : Memref sig .tc .vmem S2048x128 .f32) (harg2 : arg2.IsWhole)
    (arg3 : Memref sig .tc .vmem S1x1x2048x128 .f32) (harg3 : arg3.IsWhole) (arg4 : Memref sig .tc .vmem S1x1x2048x128 .f32) (harg4 : arg4.IsWhole)
    (arg5 : Memref sig .tc .vmem S2048x128 .bf16) (harg5 : arg5.IsWhole) (arg6 : Memref sig .tc .vmem S2048x256 .bf16) (harg6 : arg6.IsWhole)
    (arg7 : Memref sig .tc .vmem S2048x256 .bf16) (harg7 : arg7.IsWhole) (arg8 : Memref sig .tc .vmem S2048x256 .bf16) (harg8 : arg8.IsWhole)
    (x0 : Vec F S2048x128 .f32) (x1 x2 : Vec F S1x1x2048x128 .f32) :
    out0_A_3 c i arg2 harg2 arg3 harg3 arg4 harg4 arg5 harg5 arg6 harg6 arg7 harg7 arg8 harg8 x0 x1 x2
      = View.canon (tiles (QA x0 x1) (KA x1) (VA x2)) := by
  unfold out0_A_3
  frame_open
  simp (disch := decide) only [View.read_writes_junk_eq_canon, View.readAt_eq_ld, View.ld_unit_lit', Memref.IsWhole.read_unread, View.readCov_eq_canon']
  rfl

end Cert.KernelIdeal.Moba
-- ==== Proof.MobaMath.lean ====
module

public import Idealize.ShloMosaic.PureOps.Ideal
public import Idealize.ShloMosaic.Lib.Pointwise
public import Idealize.ShloMosaic.Lib.SortFacts
public import Idealize.ShloMosaic.Lib.SortPrefix

@[expose] public section

/-! The mathematics of the block-sparse attention, without programs: three rounds of "take the first greatest" choose what a stable sort's first
    three places hold, and a base-two softmax over rescaled scores is the softmax. -/

noncomputable section

namespace Cert.Moba

open Idealize.ShloMosaic
open scoped Classical

variable {n : ℕ}

/-- `a` comes before `b`: a greater value, or an equal one at a lower place. -/
def Bef (g : Fin n → EReal) (a b : Fin n) : Prop := g b < g a ∨ (g a = g b ∧ a < b)

/-- How many places come before `k`. -/
def rank (g : Fin n → EReal) (k : Fin n) : ℕ := (Finset.univ.filter fun a => Bef g a k).card

/-- `k` is the first place of the greatest value. -/
def Pick (g : Fin n → EReal) (k : Fin n) : Prop := g k = Finset.univ.sup g ∧ ∀ a < k, g a ≠ Finset.univ.sup g

/-- The values with the first greatest one struck out. -/
def strike (g : Fin n → EReal) (k : Fin n) : EReal := if Pick g k then ⊥ else g k

/-- Some place is the first of the greatest value. -/
theorem exists_pick (g : Fin n → EReal) (k : Fin n) : ∃ p, Pick g p := by
  have hne : (Finset.univ.filter fun a : Fin n => g a = Finset.univ.sup g).Nonempty := by
    obtain ⟨a, _, ha⟩ := Finset.exists_mem_eq_sup Finset.univ ⟨k, Finset.mem_univ k⟩ g
    exact ⟨a, Finset.mem_filter.mpr ⟨Finset.mem_univ _, ha.symm⟩⟩
  refine ⟨(Finset.univ.filter fun a : Fin n => g a = Finset.univ.sup g).min' hne, ?_, ?_⟩
  · exact (Finset.mem_filter.mp (Finset.min'_mem _ hne)).2
  · intro a ha e
    exact absurd (Finset.min'_le _ a (Finset.mem_filter.mpr ⟨Finset.mem_univ _, e⟩)) (not_le.mpr ha)

/-- There is one such place. -/
theorem pick_unique {g : Fin n → EReal} {p q : Fin n} (hp : Pick g p) (hq : Pick g q) : p = q := by
  rcases lt_trichotomy p q with h | h | h
  · exact absurd hp.1 (hq.2 p h)
  · exact h
  · exact absurd hq.1 (hp.2 q h)

/-- Nothing comes before the first greatest. -/
theorem rank_of_pick {g : Fin n → EReal} {k : Fin n} (h : Pick g k) : rank g k = 0 := by
  refine Finset.card_eq_zero.mpr (Finset.filter_eq_empty_iff.mpr fun a _ ha => ?_)
  have hle : g a ≤ g k := h.1 ▸ Finset.le_sup (Finset.mem_univ a)
  rcases ha with ha | ⟨e, hlt⟩
  · exact absurd hle (not_le.mpr ha)
  · exact h.2 a hlt (e.trans h.1)

theorem strike_of_not_pick {g : Fin n → EReal} {k : Fin n} (h : ¬Pick g k) : strike g k = g k := if_neg h

/-- Striking the first greatest out moves every other place with a value up by one. -/
theorem rank_strike {g : Fin n → EReal} {k : Fin n} (hk : g k ≠ ⊥) (h : ¬Pick g k) : rank g k = rank (strike g) k + 1 := by
  obtain ⟨p, hp⟩ := exists_pick g k
  have hpk : p ≠ k := fun e => h (e ▸ hp)
  have hset : (Finset.univ.filter fun a => Bef g a k) = insert p (Finset.univ.filter fun a => Bef (strike g) a k) := by
    ext a
    simp only [Finset.mem_filter, Finset.mem_univ, true_and, Finset.mem_insert]
    by_cases ha : a = p
    · subst ha
      refine ⟨fun _ => Or.inl rfl, fun _ => ?_⟩
      have hle : g k ≤ g a := hp.1 ▸ Finset.le_sup (Finset.mem_univ k)
      rcases lt_or_eq_of_le hle with hlt | e
      · exact Or.inl hlt
      · refine Or.inr ⟨e.symm, ?_⟩
        rcases lt_or_gt_of_ne hpk with hl | hl
        · exact hl
        · exact absurd (e.trans hp.1) (hp.2 k hl)
    · have hna : ¬Pick g a := fun hq => ha (pick_unique hq hp)
      simp only [Bef, strike_of_not_pick hna, strike_of_not_pick h, ha, false_or]
  have hnot : p ∉ Finset.univ.filter fun a => Bef (strike g) a k := by
    have hpb : strike g p = ⊥ := if_pos hp
    intro hm
    rcases (Finset.mem_filter.mp hm).2 with hb | ⟨e, _⟩
    · rw [hpb] at hb; exact absurd hb not_lt_bot
    · rw [hpb, strike_of_not_pick h] at e; exact hk e.symm
  unfold rank
  rw [hset, Finset.card_insert_of_notMem hnot]

/-- THREE ROUNDS: a place with a value is picked in one of three rounds exactly when fewer than three places come before it. -/
theorem three_rounds {g : Fin n → EReal} {k : Fin n} (hk : g k ≠ ⊥) :
    (Pick g k ∨ Pick (strike g) k ∨ Pick (strike (strike g)) k) ↔ rank g k < 3 := by
  by_cases h0 : Pick g k
  · simp [h0, rank_of_pick h0]
  have e0 := rank_strike hk h0
  have hk1 : strike g k ≠ ⊥ := by rwa [strike_of_not_pick h0]
  by_cases h1 : Pick (strike g) k
  · simp [h1, e0, rank_of_pick h1]
  have e1 := rank_strike hk1 h1
  have hk2 : strike (strike g) k ≠ ⊥ := by rwa [strike_of_not_pick h1]
  by_cases h2 : Pick (strike (strike g)) k
  · simp [h2, e0, e1, rank_of_pick h2]
  have e2 := rank_strike hk2 h2
  simp only [h0, h1, h2, or_self, false_iff]
  omega

/-- The order "greater, then earlier", as a test. -/
def befB (g : Fin n → EReal) (a b : Fin n) : Bool := decide (Bef g a b)

theorem befB_iff {g : Fin n → EReal} {a b : Fin n} : befB g a b = true ↔ Bef g a b := decide_eq_true_iff

theorem befB_strictTotal (g : Fin n → EReal) : StrictTotalBefore (befB g) where
  irrefl a := by simp [befB, Bef]
  trans a b c hab hbc := by
    rw [befB_iff] at *
    rcases hab with hab | ⟨e, hab⟩ <;> rcases hbc with hbc | ⟨e', hbc⟩
    · exact Or.inl (hbc.trans hab)
    · exact Or.inl (e' ▸ hab)
    · exact Or.inl (e ▸ hbc)
    · exact Or.inr ⟨e.trans e', hab.trans hbc⟩
  total a b hne := by
    rw [befB_iff, befB_iff]
    rcases lt_trichotomy (g a) (g b) with h | h | h
    · exact Or.inr (Or.inl h)
    · rcases lt_or_gt_of_ne hne with hl | hl
      · exact Or.inl (Or.inr ⟨h, hl⟩)
      · exact Or.inr (Or.inr ⟨h.symm, hl⟩)
    · exact Or.inl (Or.inl h)

/-- The stable sort by value alone is the sort by value, then place. -/
theorem stableSort_gt (g : Fin n → EReal) (R : Fin n → Fin n → Bool) (hR : ∀ a b, R a b = decide (g b < g a)) (l : List (Fin n))
    (hl : l.Pairwise (· < ·)) : stableSort R l = stableSort (befB g) l := by
  induction l with
  | nil => rfl
  | cons a l ih =>
    obtain ⟨ha, hl⟩ := List.pairwise_cons.mp hl
    unfold stableSort
    rw [ih hl]
    refine insertBefore_congr R (befB g) a _ fun b hb => ?_
    have hab : a < b := ha b ((perm_stableSort _ l).mem_iff.mp hb)
    rw [hR, befB, Bef, decide_eq_decide]
    exact ⟨Or.inl, fun h => h.resolve_right fun h' => absurd h'.2 (not_lt.mpr hab.le)⟩

/-- The place that the stable sort puts at position `r` has `r` places before it. -/
theorem rank_sortedFrom (g : Fin n → EReal) (R : Fin n → Fin n → Bool) (hR : ∀ a b, R a b = decide (g b < g a)) (r : Fin n) :
    rank g (sortedFrom R r) = r.val := by
  have hsame : sortedFrom R = sortedFrom (befB g) := by
    have hp : sortPositions n R = sortPositions n (befB g) := stableSort_gt g R hR _ (List.pairwise_lt_finRange n)
    funext k
    unfold sortedFrom
    simp only [List.get_eq_getElem, hp, Fin.val_cast]
  rw [hsame]
  have hB := befB_strictTotal g
  have hlt : ∀ i j : Fin n, i < j → befB g (sortedFrom (befB g) i) (sortedFrom (befB g) j) = true := fun i j hij => by
    have h := sortedFrom_noInversion (befB g) (befB g) (fun a b h => hB.asymm a b h) (fun _ _ h => h) hB.negTrans i j hij
    have hne : sortedFrom (befB g) i ≠ sortedFrom (befB g) j := fun e => absurd (sortedFrom_injective _ e) hij.ne
    rcases hB.total _ _ hne with h' | h'
    · exact h'
    · rw [h'] at h; exact absurd h (by decide)
  have hset : (Finset.univ.filter fun a => Bef g a (sortedFrom (befB g) r)) = (Finset.univ.filter fun i => i < r).image (sortedFrom (befB g)) := by
    ext a
    obtain ⟨i, rfl⟩ := sortedFrom_surjective (befB g) a
    simp only [Finset.mem_filter, Finset.mem_univ, true_and, Finset.mem_image]
    constructor
    · intro h
      refine ⟨i, ?_, rfl⟩
      rcases lt_trichotomy i r with hi | hi | hi
      · exact hi
      · subst hi
        have := hB.irrefl (sortedFrom (befB g) i)
        simp [befB, h] at this
      · have h1 := hB.asymm _ _ (hlt r i hi)
        simp [befB, h] at h1
    · rintro ⟨j, hj, e⟩
      have := hlt j r hj
      rw [e] at this
      simpa [befB] using this
  unfold rank
  rw [hset, Finset.card_image_of_injective _ (sortedFrom_injective _)]
  have : (Finset.univ.filter fun i => i < r) = Finset.Iio r := by ext; simp
  rw [this, Fin.card_Iio]

/-- A place is among the first three of the stable sort exactly when fewer than three come before it. -/
theorem sortedFrom_three (g : Fin 8 → EReal) (R : Fin 8 → Fin 8 → Bool) (hR : ∀ a b, R a b = decide (g b < g a)) (k : Fin 8) :
    (∃ r : Fin 3, sortedFrom R ⟨r.val, by omega⟩ = k) ↔ rank g k < 3 := by
  constructor
  · rintro ⟨r, rfl⟩
    rw [rank_sortedFrom g R hR]
    exact r.isLt
  · intro h
    obtain ⟨r, rfl⟩ := sortedFrom_surjective R k
    rw [rank_sortedFrom g R hR] at h
    exact ⟨⟨r.val, h⟩, rfl⟩

/-! ## Sums over the keys, split at a tile -/

/-- A sum over all keys, zero past a tile, is the tile's sum plus the sum over the keys before it. -/
theorem sum_tile {N P : ℕ} (h : P + 256 ≤ N) (f : Fin N → EReal) (h0 : ∀ j : Fin N, P + 256 ≤ j.val → f j = 0) :
    ∑ j, f j = ∑ c : Fin 256, f ⟨P + c.val, by omega⟩ + ∑ j : Fin P, f ⟨j.val, by omega⟩ := by
  obtain ⟨R, rfl⟩ := Nat.exists_eq_add_of_le h
  rw [Fin.sum_univ_add, Fin.sum_univ_add]
  have hz : ∑ i : Fin R, f (Fin.natAdd (P + 256) i) = 0 :=
    Finset.sum_eq_zero fun i _ => h0 _ (by simp)
  rw [hz, add_zero, add_comm]
  rfl

/-- The greatest over all keys, nothing past a tile, is the greater of the tile's and of the keys' before it. -/
theorem sup_tile {N P : ℕ} (h : P + 256 ≤ N) (f : Fin N → EReal) (h0 : ∀ j : Fin N, P + 256 ≤ j.val → f j = ⊥) :
    Finset.univ.sup f
      = max (Finset.univ.sup fun c : Fin 256 => f ⟨P + c.val, by omega⟩) (Finset.univ.sup fun j : Fin P => f ⟨j.val, by omega⟩) := by
  apply le_antisymm
  · refine Finset.sup_le fun j _ => ?_
    by_cases h1 : j.val < P
    · exact le_max_of_le_right (Finset.le_sup (f := fun j : Fin P => f ⟨j.val, by omega⟩) (Finset.mem_univ ⟨j.val, h1⟩))
    by_cases h2 : j.val < P + 256
    · refine le_max_of_le_left ?_
      have := Finset.le_sup (f := fun c : Fin 256 => f ⟨P + c.val, by omega⟩) (Finset.mem_univ ⟨j.val - P, by omega⟩)
      have e : (⟨P + (j.val - P), by omega⟩ : Fin N) = j := Fin.ext (by simp; omega)
      simpa only [e] using this
    · rw [h0 j (by omega)]; exact bot_le
  · exact max_le (Finset.sup_le fun c _ => Finset.le_sup (Finset.mem_univ _)) (Finset.sup_le fun c _ => Finset.le_sup (Finset.mem_univ _))

/-! ## The softmax -/

theorem sum_coe {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- A real factor that is not negative distributes over a sum of extended reals. -/
theorem sum_mul_coe {ι : Type} (s : Finset ι) (f : ι → EReal) {r : ℝ} (hr : 0 ≤ r) :
    (∑ i ∈ s, f i) * (r : EReal) = ∑ i ∈ s, f i * (r : EReal) := by
  induction s using Finset.cons_induction with
  | empty => simp
  | cons a s ha ih =>
    rw [Finset.sum_cons, Finset.sum_cons, ← ih, EReal.right_distrib_of_nonneg_of_ne_top (EReal.coe_nonneg.mpr hr) (EReal.coe_ne_top r)]

/-- Two to the power `x / ln 2` is `e` to the power `x`. -/
theorem exp2_scaled (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = _
  rw [Real.rpow_def_of_pos (by norm_num)]
  congr 1
  have : Real.log 2 ≠ 0 := (Real.log_pos (by norm_num)).ne'
  field_simp

/-- The scores of a row, masked. -/
def masked (A : Fin n → Prop) (s : Fin n → ℝ) (j : Fin n) : EReal := if A j then ((s j : ℝ) : EReal) else ⊥

/-- The greatest masked score is a real one. -/
theorem sup_masked (A : Fin n → Prop) (s : Fin n → ℝ) (i : Fin n) (hi : A i) :
    ∃ j0, A j0 ∧ (∀ j, A j → s j ≤ s j0) ∧ Finset.univ.sup (masked A s) = ((s j0 : ℝ) : EReal) := by
  obtain ⟨j0, _, h0⟩ := Finset.exists_mem_eq_sup Finset.univ ⟨i, Finset.mem_univ i⟩ (masked A s)
  have hle : ∀ j, masked A s j ≤ masked A s j0 := fun j => h0 ▸ Finset.le_sup (Finset.mem_univ j)
  have hA : A j0 := by
    by_contra hn
    have := hle i
    rw [masked, masked, if_pos hi, if_neg hn] at this
    exact EReal.coe_ne_bot _ (le_bot_iff.mp this)
  refine ⟨j0, hA, fun j hj => ?_, ?_⟩
  · have := hle j
    rw [masked, masked, if_pos hj, if_pos hA] at this
    exact EReal.coe_le_coe_iff.mp this
  · rw [h0, masked, if_pos hA]

/-- THE SOFTMAX: base-two exponentials of the scores over `ln 2`, summed against the values and divided by their sum, are the probabilities summed
    against the values. -/
theorem softmax_eq (A : Fin n → Prop) (s : Fin n → ℝ) (v : Fin n → EReal) (i : Fin n) (hi : A i) :
    Ideal.div
        (∑ j, Ideal.exp2 (masked A (fun j => s j * (Real.log 2)⁻¹) j - Finset.univ.sup (masked A fun j => s j * (Real.log 2)⁻¹)) * v j)
        (∑ j, Ideal.exp2 (masked A (fun j => s j * (Real.log 2)⁻¹) j - Finset.univ.sup (masked A fun j => s j * (Real.log 2)⁻¹)))
      = ∑ j, v j * Ideal.div (Ideal.exp (masked A s j - Finset.univ.sup (masked A s)))
          (∑ j, Ideal.exp (masked A s j - Finset.univ.sup (masked A s))) := by
  have hc : 0 < (Real.log 2)⁻¹ := inv_pos.mpr (Real.log_pos (by norm_num))
  obtain ⟨j0, hA, hmax, hsup⟩ := sup_masked A s i hi
  obtain ⟨j1, hA1, hmax1, hsup1⟩ := sup_masked A (fun j => s j * (Real.log 2)⁻¹) i hi
  have e1 : s j1 * (Real.log 2)⁻¹ = s j0 * (Real.log 2)⁻¹ :=
    le_antisymm (mul_le_mul_of_nonneg_right (hmax j1 hA1) hc.le) (hmax1 j0 hA)
  have hw2 : ∀ j, Ideal.exp2 (masked A (fun j => s j * (Real.log 2)⁻¹) j - Finset.univ.sup (masked A fun j => s j * (Real.log 2)⁻¹))
      = (((if A j then Real.exp (s j - s j0) else 0 : ℝ)) : EReal) := fun j => by
    rw [hsup1, e1, masked]
    by_cases h : A j
    · rw [if_pos h, if_pos h, ← EReal.coe_sub, ← sub_mul, exp2_scaled]
    · rw [if_neg h, if_neg h, EReal.bot_sub]; simp
  have hw : ∀ j, Ideal.exp (masked A s j - Finset.univ.sup (masked A s))
      = (((if A j then Real.exp (s j - s j0) else 0 : ℝ)) : EReal) := fun j => by
    rw [hsup, masked]
    by_cases h : A j
    · rw [if_pos h, if_pos h, ← EReal.coe_sub, Ideal.exp_coe]
    · rw [if_neg h, if_neg h, EReal.bot_sub]; simp
  simp only [hw2, hw]
  rw [sum_coe]
  have hpos : 0 < ∑ j, (if A j then Real.exp (s j - s j0) else 0 : ℝ) :=
    Finset.sum_pos' (fun j _ => by split <;> positivity) ⟨j0, Finset.mem_univ _, by rw [if_pos hA]; positivity⟩
  rw [Ideal.div_coe hpos.ne', sum_mul_coe _ _ (by positivity)]
  refine Finset.sum_congr rfl fun j _ => ?_
  rw [Ideal.div_coe hpos.ne', mul_comm _ (v j), mul_assoc]

end Cert.Moba
-- ==== Proof.MobaTile.lean ====
module

public import proofs.«01_k».proof.Proof.MobaStore
public import proofs.«01_k».proof.Proof.MobaMath

@[expose] public section

set_option maxRecDepth 16384

/-! A row tile of the output block is the base-two softmax of its rows over all the keys, where keys past the tile have no score. -/

noncomputable section

namespace Cert.KernelIdeal.Moba

open Cert.KernelIdeal Cert.KernelIdeal.Gen Cert.Moba Idealize.ShloMosaic Idealize.ShloMosaic.TcCoe Idealize.SL.Sem
open scoped Classical

/-- The named mask is no score at all. -/
theorem named_mask {φ : FTy} (b : BitVec φ.bits) : (Named.named (F := Ideal) (φ := φ) κ "mask" b : EReal) = ⊥ := IdealRules.named_const.ideal_named_scalar κ "mask" b _ rfl

/-- The seed of a greatest-of. -/
theorem seed_bot : Ideal.ofBits .f32 4286578688#32 = ⊥ := by simp [Ideal.ofBits, Ideal.ieee]

theorem fold_max_bot {ι : Type} (s : Finset ι) (f : ι → EReal) : Finset.fold max ⊥ f s = s.sup f := rfl

/-- The score of key `j` for query `i`: in the query's own block the plain product where the key is not later, in an earlier block the product over the
    bias columns too, none in a later block. -/
def scoreK (Q K : S2048x256.Idx → EReal) (i j : Fin 2048) : EReal :=
  if j.val / 256 = i.val / 256 then
    (if j.val ≤ i.val then ∑ x : Fin 128, Q (ix2 i ⟨x.val, by omega⟩) * K (ix2 j ⟨x.val, by omega⟩) else ⊥)
  else if j.val / 256 < i.val / 256 then ∑ x : Fin 256, Q (ix2 i x) * K (ix2 j x) else ⊥

/-- Weighted sum of column `d` of the values, the weights base-two exponentials of the scores below the row's greatest. -/
def weighK (Q K V : S2048x256.Idx → EReal) (i : Fin 2048) (d : Fin 256) : EReal :=
  ∑ j, Ideal.exp2 (scoreK Q K i j - Finset.univ.sup (scoreK Q K i)) * V (ix2 j d)

/-- A row of the output block. -/
def rowK (Q K V : S2048x256.Idx → EReal) (i : Fin 2048) (d : Fin 128) : EReal :=
  Ideal.div (weighK Q K V i ⟨d.val, by omega⟩) (weighK Q K V i 128)

/-- A tile's causal test is the order of the places. -/
theorem causal_word (r x : Fin 256) : (k0_pay18 (iota Kind.tc S256x256 32 [1] iota_S256x256_d1_w32) (ix2 r x)) = if x.val ≤ r.val then 1#1 else 0#1 := by
  pointwise [k0_pay18]
  word_cmp
  by_cases h : x.val ≤ r.val <;> simp [h]

section
variable (Q K V : S2048x256.Idx → EReal) (P : ℕ) (hP : P % 256 = 0) (hN : P + 256 ≤ 2048) (r : Fin 256)

include hP in
/-- In the tile's own block. -/
theorem score_own (x : Fin 256) :
    scoreK Q K ⟨P + r.val, by omega⟩ ⟨P + x.val, by omega⟩
      = Scalar.select (k0_pay18 (iota Kind.tc S256x256 32 [1] iota_S256x256_d1_w32) (ix2 r x))
          (∑ y : Fin 128, Q (ix2 ⟨P + r.val, by omega⟩ ⟨y.val, by omega⟩) * K (ix2 ⟨P + x.val, by omega⟩ ⟨y.val, by omega⟩)) ⊥ := by
  have h : (P + x.val) / 256 = (P + r.val) / 256 := by omega
  rw [causal_word]
  unfold scoreK
  simp only [h, if_true]
  by_cases hx : x.val ≤ r.val
  · rw [if_pos hx, if_pos (by omega)]; rfl
  · rw [if_neg hx, if_neg (by omega)]; rfl

include hP in
/-- Before the tile. -/
theorem score_past (x : Fin P) :
    scoreK Q K ⟨P + r.val, by omega⟩ ⟨x.val, by omega⟩ = ∑ y : Fin 256, Q (ix2 ⟨P + r.val, by omega⟩ y) * K (ix2 ⟨x.val, by omega⟩ y) := by
  unfold scoreK
  rw [if_neg (by show ¬(x.val / 256 = (P + r.val) / 256); omega), if_pos (by show x.val / 256 < (P + r.val) / 256; omega)]

include hP in
/-- Past the tile. -/
theorem score_later (j : Fin 2048) (hj : P + 256 ≤ j.val) : scoreK Q K ⟨P + r.val, by omega⟩ j = ⊥ := by
  unfold scoreK
  rw [if_neg (by show ¬(j.val / 256 = (P + r.val) / 256); omega), if_neg (by show ¬(j.val / 256 < (P + r.val) / 256); omega)]

include hP in
/-- The row's greatest score. -/
theorem sup_row : Finset.univ.sup (scoreK Q K ⟨P + r.val, by omega⟩)
    = max (Finset.univ.sup fun x : Fin 256 => Scalar.select (k0_pay18 (iota Kind.tc S256x256 32 [1] iota_S256x256_d1_w32) (ix2 r x))
          (∑ y : Fin 128, Q (ix2 ⟨P + r.val, by omega⟩ ⟨y.val, by omega⟩) * K (ix2 ⟨P + x.val, by omega⟩ ⟨y.val, by omega⟩)) ⊥)
        (Finset.univ.sup fun x : Fin P => ∑ y : Fin 256, Q (ix2 ⟨P + r.val, by omega⟩ y) * K (ix2 ⟨x.val, by omega⟩ y)) := by
  rw [sup_tile hN _ (score_later Q K P hP hN r)]
  simp only [score_own Q K P hP hN r, score_past Q K P hP hN r]

include hP in
/-- The row's weighted sum, over the tile's own keys and over those before. -/
theorem weigh_row (d : Fin 256) : weighK Q K V ⟨P + r.val, by omega⟩ d
    = ∑ x : Fin 256, Ideal.exp2 (Scalar.select (k0_pay18 (iota Kind.tc S256x256 32 [1] iota_S256x256_d1_w32) (ix2 r x))
          (∑ y : Fin 128, Q (ix2 ⟨P + r.val, by omega⟩ ⟨y.val, by omega⟩) * K (ix2 ⟨P + x.val, by omega⟩ ⟨y.val, by omega⟩)) ⊥
            - Finset.univ.sup (scoreK Q K ⟨P + r.val, by omega⟩)) * V (ix2 ⟨P + x.val, by omega⟩ d)
      + ∑ x : Fin P, Ideal.exp2 (∑ y : Fin 256, Q (ix2 ⟨P + r.val, by omega⟩ y) * K (ix2 ⟨x.val, by omega⟩ y)
            - Finset.univ.sup (scoreK Q K ⟨P + r.val, by omega⟩)) * V (ix2 ⟨x.val, by omega⟩ d) := by
  unfold weighK
  rw [sum_tile hN _ fun j hj => ?_]
  · simp only [score_own Q K P hP hN r, score_past Q K P hP hN r]
  · rw [score_later Q K P hP hN r j hj, EReal.bot_sub, show Ideal.exp2 ⊥ = 0 by simp, zero_mul]

end

section
variable (Q K V : S2048x256.Idx → Elt Ideal .bf16) (r : Fin 256) (d : Fin 128)

set_option maxHeartbeats 1000000 in
/-- Tile 0's rows: no keys before it. -/
theorem tile0_row : tile0 Q K V (ix2 r d) = rowK Q K V ⟨r.val, by omega⟩ d := by
  unfold tile0; pointwise [k0_pay19, colW]
  unfold rowK
  have hw := fun d => weigh_row Q K V 0 (by decide) (by decide) r d
  have hs := sup_row Q K 0 (by decide) (by decide) r
  simp only [zero_add, Finset.univ_eq_empty, Finset.sum_empty, Finset.sup_empty, max_bot_right, add_zero] at hw hs
  rw [hw, hw, hs]
  simp only [named_mask, seed_bot, fold_max_bot]
  rfl

set_option maxHeartbeats 1000000 in
/-- Tile 1's rows. -/
theorem tile1_row : tile1 Q K V (ix2 r d) = rowK Q K V ⟨256 + r.val, by omega⟩ d := by
  unfold tile1; pointwise [k0_pay20, k0_pay21, k0_pay22, k0_pay23, colW]
  unfold rowK
  rw [weigh_row Q K V 256 (by decide) (by decide) r, weigh_row Q K V 256 (by decide) (by decide) r, sup_row Q K 256 (by decide) (by decide) r]
  simp only [named_mask, seed_bot, fold_max_bot]
  rfl

set_option maxHeartbeats 1000000 in
/-- Tile 2's rows. -/
theorem tile2_row : tile2 Q K V (ix2 r d) = rowK Q K V ⟨512 + r.val, by omega⟩ d := by
  unfold tile2; pointwise [k0_pay24, k0_pay25, k0_pay26, k0_pay27, k0_pay28, colW]
  unfold rowK
  rw [weigh_row Q K V 512 (by decide) (by decide) r, weigh_row Q K V 512 (by decide) (by decide) r, sup_row Q K 512 (by decide) (by decide) r]
  simp only [named_mask, seed_bot, fold_max_bot]
  rfl

set_option maxHeartbeats 1000000 in
/-- Tile 3's rows. -/
theorem tile3_row : tile3 Q K V (ix2 r d) = rowK Q K V ⟨768 + r.val, by omega⟩ d := by
  unfold tile3; pointwise [k0_pay29, k0_pay30, k0_pay31, k0_pay32, k0_pay33, k0_pay34, colW]
  unfold rowK
  rw [weigh_row Q K V 768 (by decide) (by decide) r, weigh_row Q K V 768 (by decide) (by decide) r, sup_row Q K 768 (by decide) (by decide) r]
  simp only [named_mask, seed_bot, fold_max_bot]
  rfl

set_option maxHeartbeats 1000000 in
/-- Tile 4's rows. -/
theorem tile4_row : tile4 Q K V (ix2 r d) = rowK Q K V ⟨1024 + r.val, by omega⟩ d := by
  unfold tile4; pointwise [k0_pay35, k0_pay36, k0_pay37, k0_pay38, k0_pay39, k0_pay40, colW]
  unfold rowK
  rw [weigh_row Q K V 1024 (by decide) (by decide) r, weigh_row Q K V 1024 (by decide) (by decide) r, sup_row Q K 1024 (by decide) (by decide) r]
  simp only [named_mask, seed_bot, fold_max_bot]
  rfl

set_option maxHeartbeats 1000000 in
/-- Tile 5's rows. -/
theorem tile5_row : tile5 Q K V (ix2 r d) = rowK Q K V ⟨1280 + r.val, by omega⟩ d := by
  unfold tile5; pointwise [k0_pay41, colW]
  unfold rowK
  rw [weigh_row Q K V 1280 (by decide) (by decide) r, weigh_row Q K V 1280 (by decide) (by decide) r, sup_row Q K 1280 (by decide) (by decide) r]
  simp only [named_mask, seed_bot, fold_max_bot]
  rfl

set_option maxHeartbeats 1000000 in
/-- Tile 6's rows. -/
theorem tile6_row : tile6 Q K V (ix2 r d) = rowK Q K V ⟨1536 + r.val, by omega⟩ d := by
  unfold tile6; pointwise [k0_pay42, colW]
  unfold rowK
  rw [weigh_row Q K V 1536 (by decide) (by decide) r, weigh_row Q K V 1536 (by decide) (by decide) r, sup_row Q K 1536 (by decide) (by decide) r]
  simp only [named_mask, seed_bot, fold_max_bot]
  rfl

set_option maxHeartbeats 1000000 in
/-- Tile 7's rows. -/
theorem tile7_row : tile7 Q K V (ix2 r d) = rowK Q K V ⟨1792 + r.val, by omega⟩ d := by
  unfold tile7; pointwise [k0_pay43, colW]
  unfold rowK
  rw [weigh_row Q K V 1792 (by decide) (by decide) r, weigh_row Q K V 1792 (by decide) (by decide) r, sup_row Q K 1792 (by decide) (by decide) r]
  simp only [named_mask, seed_bot, fold_max_bot]
  rfl

end

end Cert.KernelIdeal.Moba
-- ==== Proof.MobaSelect.lean ====
module

public import proofs.«01_k».proof.Proof.MobaTile

@[expose] public section

set_option maxRecDepth 16384

/-! The blocks that one grid point selects: three rounds of "the first greatest" over the gate scores of the earlier blocks, and the bias columns. -/

noncomputable section

namespace Cert.KernelIdeal.Moba

open Cert.KernelIdeal Cert.KernelIdeal.Gen Cert.Moba Idealize.ShloMosaic Idealize.ShloMosaic.TcCoe Idealize.SL.Sem
open scoped Classical

/-- The first marked place of eight, found by the least of the marked places' words. -/
theorem first_word : ∀ (c : Fin 8 → Bool) (k : Fin 8),
    IntOp.cmpi .eq (BitVec.ofNat 32 k.val) (Finset.fold IntOp.minsi 2147483647#32 (fun x : Fin 8 => if c x = true then BitVec.ofNat 32 x.val else 8#32) Finset.univ)
      = if c k = true ∧ ∀ a < k, c a = false then 1#1 else 0#1 := by
  decide +kernel

theorem first_prop (p : Fin 8 → Prop) [DecidablePred p] (k : Fin 8) :
    IntOp.cmpi .eq (BitVec.ofNat 32 k.val) (Finset.fold IntOp.minsi 2147483647#32 (fun x : Fin 8 => if p x then BitVec.ofNat 32 x.val else 8#32) Finset.univ)
      = if p k ∧ ∀ a < k, ¬p a then 1#1 else 0#1 := by
  have h := first_word (fun x => decide (p x)) k
  simpa using h

variable (x0 : S2048x128.Idx → EReal) (x1 : S1x1x2048x128.Idx → EReal) (n : Fin 8) (i : Fin 2048)

/-- The query's block number as the program computes it, a division rounded down. -/
theorem block_word : ∀ i : Fin 2048,
    Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 256#32 0#32)) (Scalar.extui (Scalar.cmpi CmpIPredicate.slt 256#32 0#32))))
          (IntOp.cmpi CmpIPredicate.ne (IntOp.remsi ArithUnit.vector (BitVec.ofNat 32 i.val) 256#32) 0#32))
        (IntOp.subi (IntOp.divsi ArithUnit.vector (BitVec.ofNat 32 i.val) 256#32) 1#32)
        (IntOp.divsi ArithUnit.vector (BitVec.ofNat 32 i.val) 256#32)
      = BitVec.ofNat 32 (i.val / 256) := by
  decide +kernel

theorem lt_word (a b : ℕ) (ha : a < 4096) (hb : b < 4096) :
    IntOp.cmpi .slt (BitVec.ofNat 32 a) (BitVec.ofNat 32 b) = if a < b then 1#1 else 0#1 := by
  word_cmp
  by_cases h : a < b <;> simp [h]

theorem eq_word (a b : ℕ) (ha : a < 4096) (hb : b < 4096) :
    IntOp.cmpi .eq (BitVec.ofNat 32 a) (BitVec.ofNat 32 b) = if a = b then 1#1 else 0#1 := by
  word_cmp
  by_cases h : a = b <;> simp [h]

/-- A test's word as a float. -/
theorem float_of_test (p : Prop) [Decidable p] :
    (FloatOps.sitofp (F := Ideal) .f32 (BitVec.setWidth 32 (if p then 1#1 else 0#1)) : EReal) = if p then 1 else 0 := by
  by_cases h : p
  · rw [if_pos h, if_pos h]
    show (((BitVec.setWidth 32 1#1).toInt : ℝ) : EReal) = 1
    rw [show (BitVec.setWidth 32 1#1).toInt = 1 by decide]; norm_cast
  · rw [if_neg h, if_neg h]
    show (((BitVec.setWidth 32 0#1).toInt : ℝ) : EReal) = 0
    rw [show (BitVec.setWidth 32 0#1).toInt = 0 by decide]; norm_cast

theorem select_test {α : Type} (p : Prop) [Decidable p] (a b : α) : Scalar.select (if p then 1#1 else 0#1) a b = if p then a else b := by
  by_cases h : p <;> simp [h, Scalar.select]

section
variable (n : Fin 8) (i : Fin 2048) (G : FVec Ideal S8x2048 .f32)

/-- Block `n` lies before the query's own. -/
theorem valid_at : k0_pay10 blkW rowW 256#32 k0_pay7 k0_pay8 k0_pay9 (ix2 n i) = if n.val < i.val / 256 then 1#1 else 0#1 := by
  pointwise [k0_pay10, k0_pay7, k0_pay8, k0_pay9, blkW, rowW]
  rw [block_word, lt_word _ _ (by omega) (by omega)]

/-- The gate scores of the earlier blocks. -/
def earlier (n : Fin 8) : EReal := if n.val < i.val / 256 then G (ix2 n i) else ⊥

theorem round1_at : k0_pay11 G blkW rowW 256#32 k0_pay7 k0_pay8 k0_pay9 (ix2 n i) = earlier i G n := by
  pointwise [k0_pay11]
  rw [valid_at, seed_bot, select_test]; rfl

theorem pick1_at : k0_pay12 G blkW rowW 256#32 k0_pay7 k0_pay8 k0_pay9 (ix2 n i) = if Pick (earlier i G) n then 1#1 else 0#1 := by
  pointwise [k0_pay12]
  rw [first_prop]
  simp only [round1_at, seed_bot, fold_max_bot]
  exact if_congr Iff.rfl rfl rfl

theorem once_at : k0_pay13 G blkW rowW 256#32 k0_pay7 k0_pay8 k0_pay9 (ix2 n i) = if Pick (earlier i G) n then (1 : EReal) else 0 := by
  pointwise [k0_pay13]
  rw [pick1_at, select_test]

theorem round2_at : k0_pay14 G blkW rowW 256#32 k0_pay7 k0_pay8 k0_pay9 (ix2 n i) = strike (earlier i G) n := by
  pointwise [k0_pay14]
  rw [pick1_at, select_test, round1_at, seed_bot]; rfl

theorem pick2_at : k0_pay15 G blkW rowW 256#32 k0_pay7 k0_pay8 k0_pay9 (ix2 n i) = if Pick (strike (earlier i G)) n then 1#1 else 0#1 := by
  pointwise [k0_pay15]
  rw [first_prop]
  simp only [round2_at, seed_bot, fold_max_bot]
  exact if_congr Iff.rfl rfl rfl

end

/-- Query `i` selects block `n`. -/
def Sel (G : FVec Ideal S8x2048 .f32) (i : Fin 2048) (n : Fin 8) : Prop :=
  n.val < i.val / 256 ∧ (Pick (earlier i G) n ∨ Pick (strike (earlier i G)) n ∨ Pick (strike (strike (earlier i G))) n)

theorem half_lt (p : Prop) [Decidable p] : (Ideal.ofBits .f32 1056964608#32 < (if p then (1 : EReal) else 0)) ↔ p := by
  have e : Ideal.ofBits .f32 1056964608#32 = ((1 / 2 : ℝ) : EReal) := by simp [Ideal.ofBits, Ideal.ieee, -EReal.coe_mul]; norm_num
  rw [e]
  by_cases h : p
  · simp only [h, if_true, iff_true]
    rw [show (1 : EReal) = ((1 : ℝ) : EReal) by norm_cast]
    exact EReal.coe_lt_coe_iff.mpr (by norm_num)
  · simp only [h, if_false, iff_false, not_lt]
    rw [show (0 : EReal) = ((0 : ℝ) : EReal) by norm_cast]
    exact EReal.coe_le_coe_iff.mpr (by norm_num)

/-- A one-hot sum over the blocks: the term of the block whose number is the column's. -/
theorem onehot_sum (S : Fin 8 → Prop) (l : Fin 128) (t : Fin 8 → EReal)
    (ht : ∀ x, t x = if S x ∧ x.val = l.val then (1 : EReal) else 0) : ∑ x, t x = if ∃ n : Fin 8, n.val = l.val ∧ S n then (1 : EReal) else 0 := by
  by_cases h : ∃ n : Fin 8, n.val = l.val ∧ S n
  · obtain ⟨n, hn, hS⟩ := h
    rw [if_pos ⟨n, hn, hS⟩, Finset.sum_eq_single n]
    · rw [ht, if_pos ⟨hS, hn⟩]
    · intro b _ hb
      rw [ht, if_neg fun h' => hb (Fin.ext (h'.2.trans hn.symm))]
    · intro hn'; exact absurd (Finset.mem_univ n) hn'
  · rw [if_neg h]
    exact Finset.sum_eq_zero fun x _ => by rw [ht, if_neg fun h' => h ⟨x, h'.2, h'.1⟩]

/-- The bias columns. -/
theorem bias_at (x0 : S2048x128.Idx → EReal) (x1 : S1x1x2048x128.Idx → EReal) (i : Fin 2048) (l : Fin 128) :
    biasW (F := Ideal) x0 x1 (ix2 i l) = if ∃ n : Fin 8, n.val = l.val ∧ Sel (gateW x0 x1) i n then (0 : EReal) else ⊥ := by
  have es : ∀ (g : Fin 8 → EReal) (x : Fin 8), (if Pick g x then ⊥ else g x) = strike g x := fun _ _ => rfl
  have ep : ∀ (g : Fin 8 → EReal) (x : Fin 8), (g x = Finset.univ.sup (fun x => g x) ∧ ∀ a < x, ¬g a = Finset.univ.sup fun x => g x) ↔ Pick g x := fun _ _ => Iff.rfl
  have eb : ∀ x : Fin 8, blkW (ix2 x i) = BitVec.ofNat 32 x.val := fun x => by pointwise [blkW]
  unfold biasW
  pointwise [k0_pay17]
  simp only [eb, valid_at, pick2_at, round2_at, once_at, named_mask, seed_bot, fold_max_bot, select_test, es, first_prop, ep]
  rw [onehot_sum (Sel (gateW x0 x1) i) l _ fun x => ?_]
  · exact if_congr (half_lt _) rfl rfl
  · rw [eq_word _ _ (by omega) (by omega), float_of_test]
    unfold Sel
    by_cases h1 : x.val < i.val / 256 <;> by_cases h2 : Pick (earlier i (gateW x0 x1)) x <;> by_cases h3 : Pick (strike (earlier i (gateW x0 x1))) x <;>
      by_cases h4 : Pick (strike (strike (earlier i (gateW x0 x1)))) x <;> by_cases h5 : x.val = l.val <;> simp [h1, h2, h3, h4, h5]

/-- The one-hot columns of the keys: the key's block number. -/
theorem hot_at (c : Fin 2048) (l : Fin 128) : (k0_pay3 (F := Ideal) (ix2 c l) : EReal) = if l.val = c.val / 256 then 1 else 0 := by
  pointwise [k0_pay3]
  rw [block_word, eq_word _ _ (by omega) (by omega), float_of_test]

/-- The value scratch's right half: a column of ones, then zeros. -/
theorem ones_at (c : Fin 2048) (l : Fin 128) :
    (k0_pay5 (F := Ideal) (iota .tc S2048x128 32 [1] iota_S2048x128_d1_w32) (ix2 c l) : EReal) = if l.val = 0 then 1 else 0 := by
  pointwise [k0_pay5]
  rw [show (0#32) = BitVec.ofNat 32 0 from rfl, eq_word _ _ (by omega) (by omega), float_of_test]

/-- Among real gate scores the three rounds select the earlier blocks that fewer than three come before. -/
theorem sel_iff (G : FVec Ideal S8x2048 .f32) (i : Fin 2048) (n : Fin 8) (h : ∀ n, (G (ix2 n i) : EReal) ≠ ⊥) :
    Sel G i n ↔ n.val < i.val / 256 ∧ rank (earlier i G) n < 3 := by
  unfold Sel
  refine and_congr_right fun hn => three_rounds ?_
  rw [earlier, if_pos hn]
  exact h n

end Cert.KernelIdeal.Moba
-- ==== Proof.MobaSpec.lean ====
module

public import proofs.«01_k».proof.Proof.MobaMath

@[expose] public section

/-! The block-sparse attention of one head, on real queries and keys: each query attends to its own block up to itself, and to the three earlier
    blocks whose mean key it matches best. -/

noncomputable section

namespace Cert.Moba

open Idealize.ShloMosaic
open scoped Classical

variable (q k : Fin 2048 → Fin 128 → ℝ)

/-- The gate score of block `n` for query `i`: the query against the block's mean key. -/
def gate (i : Fin 2048) (n : Fin 8) : ℝ := ∑ x, q i x * ((∑ c : Fin 256, k ⟨n.val * 256 + c.val, by omega⟩ x) * (1 / 256))

/-- The gate scores of the blocks before the query's own. -/
def gated (i : Fin 2048) (n : Fin 8) : EReal := if n.val < i.val / 256 then ((gate q k i n : ℝ) : EReal) else ⊥

/-- Query `i` attends to key `j`. -/
def Allow (i j : Fin 2048) : Prop :=
  (j.val / 256 = i.val / 256 ∧ j.val ≤ i.val) ∨ (j.val / 256 < i.val / 256 ∧ rank (gated q k i) ⟨j.val / 256, by omega⟩ < 3)

theorem allow_self (i : Fin 2048) : Allow q k i i := Or.inl ⟨rfl, le_refl _⟩

/-- The attention's scale, as the single-precision number it is. -/
def scale : ℝ := 11863283 / 134217728

/-- The score of key `j` for query `i`. -/
def score (i j : Fin 2048) : ℝ := (∑ x, q i x * k j x) * scale

/-- The attention's output: the values weighed by the softmax of the allowed scores. -/
def attn (v : Fin 2048 → Fin 128 → EReal) (i : Fin 2048) (d : Fin 128) : EReal :=
  ∑ j, v j d * Ideal.div (Ideal.exp (masked (Allow q k i) (score q k i) j - Finset.univ.sup (masked (Allow q k i) (score q k i))))
    (∑ j, Ideal.exp (masked (Allow q k i) (score q k i) j - Finset.univ.sup (masked (Allow q k i) (score q k i))))

/-- Sums of products of reals. -/
theorem sum_mul_real {ι : Type} (s : Finset ι) (f g : ι → ℝ) :
    ∑ i ∈ s, ((f i : ℝ) : EReal) * ((g i : ℝ) : EReal) = ((∑ i ∈ s, f i * g i : ℝ) : EReal) := by
  simp only [← EReal.coe_mul, sum_coe]

theorem div_256 (r : ℝ) : Ideal.div (r : EReal) (Ideal.ofBits .f32 1132462080#32) = ((r * (1 / 256) : ℝ) : EReal) := by
  have e : Ideal.ofBits .f32 1132462080#32 = ((256 : ℝ) : EReal) := by simp [Ideal.ofBits, Ideal.ieee, -EReal.coe_mul]; norm_num
  rw [e, Ideal.div_coe (by norm_num), EReal.coe_mul]

theorem scale_word : Ideal.ofBits .f32 1035273459#32 = ((scale : ℝ) : EReal) := by
  unfold scale
  simp [Ideal.ofBits, Ideal.ieee, -EReal.coe_mul]; norm_num

end Cert.Moba
-- ==== Proof.MobaBlock.lean ====
module

public import proofs.«01_k».proof.Proof.MobaSelect
public import proofs.«01_k».proof.Proof.MobaSpec

@[expose] public section

set_option maxRecDepth 16384

/-! What one grid point of the kernel writes is the attention of its head: the scratch arrays read at an index, the scores they give, the rows. -/

noncomputable section

namespace Cert.KernelIdeal.Moba

open Cert.KernelIdeal Cert.KernelIdeal.Gen Cert.Moba Idealize.ShloMosaic Idealize.ShloMosaic.TcCoe Idealize.SL.Sem
open scoped Classical

/-- An index by its two coordinates. -/
theorem idx_eq (x : S2048x128.Idx) (i : Fin 2048) (y : Fin 128) (h0 : i.val = (x 0).val) (h1 : y.val = (x 1).val) : x = ix2 i y := by
  funext a
  match a with
  | 0 => exact Fin.ext h0.symm
  | 1 => exact Fin.ext h1.symm

/-- A scratch array of two halves, left. -/
theorem halves_left (A B : S2048x128.Idx → EReal) (i : Fin 2048) (y : Fin 128) :
    View.canon (Val := Elt Ideal) (e := .bf16) [⟨rR, A⟩, ⟨rL, B⟩] (ix2 i ⟨y.val, by omega⟩) = B (ix2 i y) := by
  canon_tiles x h
  · have h1' : y.val = 128 + (x 1).val := h1
    omega
  · rw [idx_eq x i y h0 h1]

/-- A scratch array of two halves, right. -/
theorem halves_right (A B : S2048x128.Idx → EReal) (i : Fin 2048) (y : Fin 128) :
    View.canon (Val := Elt Ideal) (e := .bf16) [⟨rR, A⟩, ⟨rL, B⟩] (ix2 i ⟨128 + y.val, by omega⟩) = A (ix2 i y) := by
  canon_tiles x h
  · have h1' : 128 + y.val = 128 + (x 1).val := h1
    rw [idx_eq x i y h0 (by omega)]
  · have h1' : 128 + y.val = (x 1).val := h1
    omega

theorem named_scale {φ : FTy} (b : BitVec φ.bits) :
    (Named.named (F := Ideal) (φ := φ) κ "escale" b : EReal) = ((scale * (Real.log 2)⁻¹ : ℝ) : EReal) :=
  IdealRules.named_const.ideal_named_scalar κ "escale" b _ rfl

variable (x0 : S2048x128.Idx → EReal) (x1 x2 : S1x1x2048x128.Idx → EReal) (i j : Fin 2048) (d : Fin 128)

theorem queries_at : QA (F := Ideal) x0 x1 (ix2 i ⟨d.val, by omega⟩) = x0 (ix2 i d) * ((scale * (Real.log 2)⁻¹ : ℝ) : EReal) := by
  unfold QA
  rw [halves_left]
  pointwise [k0_pay16]
  rw [named_scale]

theorem biases_at : QA (F := Ideal) x0 x1 (ix2 i ⟨128 + d.val, by omega⟩) = if ∃ n : Fin 8, n.val = d.val ∧ Sel (gateW x0 x1) i n then (0 : EReal) else ⊥ := by
  unfold QA
  rw [halves_right, bias_at]

theorem keys_at : KA (F := Ideal) x1 (ix2 j ⟨d.val, by omega⟩) = x1 (ix4 0 0 j d) := by
  unfold KA
  rw [halves_left]
  pointwise [k0_pay2, k0_pay1]

theorem hots_at : KA (F := Ideal) x1 (ix2 j ⟨128 + d.val, by omega⟩) = if d.val = j.val / 256 then (1 : EReal) else 0 := by
  unfold KA
  rw [halves_right, hot_at]

theorem values_at : VA (F := Ideal) x2 (ix2 j ⟨d.val, by omega⟩) = x2 (ix4 0 0 j d) := by
  unfold VA
  rw [halves_left]
  pointwise [k0_pay4]

theorem value_one : VA (F := Ideal) x2 (ix2 j 128) = (1 : EReal) := by
  unfold VA
  have h := halves_right (k0_pay5 (F := Ideal) (iota .tc S2048x128 32 [1] iota_S2048x128_d1_w32)) (k0_pay4 (F := Ideal) x2) j 0
  exact h.trans (ones_at j 0)

section
variable (q k : Fin 2048 → Fin 128 → ℝ) (h0 : ∀ i x, x0 (ix2 i x) = ((q i x : ℝ) : EReal)) (h1 : ∀ j x, x1 (ix4 0 0 j x) = ((k j x : ℝ) : EReal))

include h0 h1 in
/-- The gate scores, which the kernel sums in three parts, of which two vanish. -/
theorem gate_at (n : Fin 8) : (gateW (F := Ideal) x0 x1 (ix2 n i) : EReal) = ((gate q k i n : ℝ) : EReal) := by
  unfold gateW
  pointwise [k0_pay1, k0_pay6]
  simp only [h0, h1, sum_coe, div_256, ← EReal.coe_sub, sub_self, sum_mul_real, ← EReal.coe_mul, ← EReal.coe_add, mul_zero, zero_mul,
    Finset.sum_const_zero, add_zero, EReal.coe_eq_coe_iff, gate]
  exact Finset.sum_congr rfl fun x _ => mul_comm _ _

include h0 h1 in
theorem sel_rank (n : Fin 8) : Sel (gateW (F := Ideal) x0 x1) i n ↔ n.val < i.val / 256 ∧ rank (gated q k i) n < 3 := by
  rw [sel_iff _ _ _ fun n => by rw [gate_at x0 x1 i q k h0 h1]; exact EReal.coe_ne_bot _]
  have e : earlier i (gateW (F := Ideal) x0 x1) = gated q k i := by
    funext n
    unfold earlier gated
    rw [gate_at x0 x1 i q k h0 h1]
  rw [e]

include h0 h1 in
theorem score_left : ∑ x : Fin 128, QA (F := Ideal) x0 x1 (ix2 i ⟨x.val, by omega⟩) * KA (F := Ideal) x1 (ix2 j ⟨x.val, by omega⟩)
    = ((score q k i j * (Real.log 2)⁻¹ : ℝ) : EReal) := by
  simp only [queries_at, keys_at, h0, h1, ← EReal.coe_mul, sum_coe, EReal.coe_eq_coe_iff, score]
  rw [mul_assoc, Finset.sum_mul]
  exact Finset.sum_congr rfl fun x _ => by ring

include h0 h1 in
theorem score_right (hj : j.val / 256 < i.val / 256) : ∑ x : Fin 128, QA (F := Ideal) x0 x1 (ix2 i ⟨128 + x.val, by omega⟩) * KA (F := Ideal) x1 (ix2 j ⟨128 + x.val, by omega⟩)
    = if rank (gated q k i) ⟨j.val / 256, by omega⟩ < 3 then (0 : EReal) else ⊥ := by
  simp only [biases_at, hots_at]
  rw [Finset.sum_eq_single ⟨j.val / 256, by omega⟩]
  · rw [if_pos rfl, mul_one]
    refine if_congr ⟨?_, fun h => ⟨⟨j.val / 256, by omega⟩, rfl, ?_⟩⟩ rfl rfl
    · rintro ⟨n, hn, hs⟩
      have e : n = ⟨j.val / 256, by omega⟩ := Fin.ext hn
      exact e ▸ ((sel_rank x0 x1 i q k h0 h1 _).mp hs).2
    · exact (sel_rank x0 x1 i q k h0 h1 _).mpr ⟨hj, h⟩
  · intro b _ hb
    rw [if_neg fun h => hb (Fin.ext h), mul_zero]
  · intro h; exact absurd (Finset.mem_univ _) h

include h0 h1 in
/-- The kernel's scores are the allowed scores over `ln 2`. -/
theorem score_masked : scoreK (QA (F := Ideal) x0 x1) (KA (F := Ideal) x1) i j = masked (Allow q k i) (fun j => score q k i j * (Real.log 2)⁻¹) j := by
  unfold scoreK masked
  by_cases he : j.val / 256 = i.val / 256
  · rw [if_pos he]
    refine (if_congr ?_ (score_left x0 x1 i j q k h0 h1) rfl)
    unfold Allow
    constructor
    · exact fun h => Or.inl ⟨he, h⟩
    · rintro (h | h)
      · exact h.2
      · omega
  · rw [if_neg he]
    by_cases hl : j.val / 256 < i.val / 256
    · rw [if_pos hl]
      have e := Fin.sum_univ_add (a := 128) (b := 128) fun x : Fin 256 => QA (F := Ideal) x0 x1 (ix2 i x) * KA (F := Ideal) x1 (ix2 j x)
      refine e.trans ((congrArg₂ (· + ·) (score_left x0 x1 i j q k h0 h1) (score_right x0 x1 i j q k h0 h1 hl)).trans ?_)
      by_cases hr : rank (gated q k i) ⟨j.val / 256, by omega⟩ < 3
      · rw [if_pos hr, if_pos (show Allow q k i j from Or.inr ⟨hl, hr⟩), add_zero]
      · rw [if_neg hr, if_neg (show ¬Allow q k i j by rintro (h | h); exacts [he h.1, hr h.2]), EReal.add_bot]
    · rw [if_neg hl, if_neg (show ¬Allow q k i j by rintro (h | h); exacts [he h.1, hl h.1])]

include h0 h1 in
/-- THE BLOCK: a row of the output block is the attention. -/
theorem row_attn : rowK (QA (F := Ideal) x0 x1) (KA (F := Ideal) x1) (VA (F := Ideal) x2) i d = attn q k (fun j d => x2 (ix4 0 0 j d)) i d := by
  unfold rowK weighK attn
  have hs : scoreK (QA (F := Ideal) x0 x1) (KA (F := Ideal) x1) i = masked (Allow q k i) fun j => score q k i j * (Real.log 2)⁻¹ :=
    funext fun j => score_masked x0 x1 i j q k h0 h1
  simp only [hs, values_at, value_one, mul_one]
  exact softmax_eq (Allow q k i) (score q k i) (fun j => x2 (ix4 0 0 j d)) i (allow_self q k i)

end

end Cert.KernelIdeal.Moba
-- ==== Proof.MobaStages.lean ====
module

public import proofs.«01_k».proof.Proof.Gen.ReferenceIdeal.Run
public import Idealize.ShloMosaic.Lib.Pointwise

@[expose] public section

set_option maxRecDepth 16384

/-! The reference's stages, named: block numbers, masked gates, the chosen blocks, masked scores, the softmax, the result. -/

noncomputable section

namespace Cert.ReferenceIdeal.Moba

open Cert.ReferenceIdeal Cert.ReferenceIdeal.Gen Cert.ReferenceIdeal.Value Idealize.ShloMosaic Idealize.ShloMosaic.TcCoe Idealize.SL.Sem

variable {F : FTy → Type} [FloatOps F] [Named F]

/-- The block number of every position. -/
def ownR : IVec S2048 32 :=
  (select (andi (cmpi .ne (signi (iotaInDim S2048 32 0)) (broadcastInDim S2048 ![] bcast_S_S2048 (signi (id (constantI S_ 32 256#32))))) (cmpi .ne (Host.remsi (iotaInDim S2048 32 0) (broadcastInDim S2048 ![] bcast_S_S2048 (id (constantI S_ 32 256#32)))) (broadcastInDim S2048 ![] bcast_S_S2048 (constantI S_ 32 0#32)))) (subi (Host.divsi (iotaInDim S2048 32 0) (broadcastInDim S2048 ![] bcast_S_S2048 (id (constantI S_ 32 256#32)))) (broadcastInDim S2048 ![] bcast_S_S2048 (constantI S_ 32 1#32))) (Host.divsi (iotaInDim S2048 32 0) (broadcastInDim S2048 ![] bcast_S_S2048 (id (constantI S_ 32 256#32)))))
/-- The gate scores, masked to the earlier blocks. -/
def gateR (a0 : Vec F S8704x2048 .f32) (a1 : Vec F S4x12x2048x128 .f32) : Vec F S4x12x2048x8 .f32 :=
  (select (broadcastInDim S4x12x2048x8 ![0, 1, 2, 3] bcast_S1x1x2048x8_S4x12x2048x8_0_1_2_3 (cmpi .slt (broadcastInDim S1x1x2048x8 ![0, 1, 2, 3] bcast_S1x1x1x8_S1x1x2048x8_0_1_2_3 (broadcastInDim S1x1x1x8 ![3] bcast_S8_S1x1x1x8_3 (iotaInDim S8 32 0))) (broadcastInDim S1x1x2048x8 ![0, 1, 2, 3] bcast_S1x1x2048x1_S1x1x2048x8_0_1_2_3 (broadcastInDim S1x1x2048x1 ![2] bcast_S2048_S1x1x2048x1_2 ownR)))) (Host.dotGeneral dot_S4x2048x12x128_S4x8x12x128_S4x12x2048x8_3_3_1_1_02_02 none (shapeCast _ (extractStridedSlice S8192x1536 ![0, 0] a0 slices_S8704x2048_S8192x1536_0_0) shapeCasts_S8192x1536_S4x2048x12x128) (Host.divf (Host.reduceAdd (shapeCast _ (transpose S4x2048x12x128 [0, 2, 1, 3] a1 transposes_S4x12x2048x128_S4x2048x12x128_0_2_1_3) shapeCasts_S4x2048x12x128_S4x8x256x12x128) (constant S_ .f32 0x00000000#32) reducesTo_S4x8x256x12x128_S4x8x12x128_d2 h_S_) (broadcastInDim S4x8x12x128 ![] bcast_S_S4x8x12x128 (constant S_ .f32 0x43800000#32)))) (broadcastInDim S4x12x2048x8 ![] bcast_S_S4x12x2048x8 (id (constant S_ .f32 0xFF800000#32))))
/-- The three greatest gates of every query, with their blocks. -/
def topR (a0 : Vec F S8704x2048 .f32) (a1 : Vec F S4x12x2048x128 .f32) : Vec F S4x12x2048x3 .f32 × IVec S4x12x2048x3 32 :=
  (Host.topK S4x12x2048x3 3 (FloatOps.cmpfTotal .gt) (gateR a0 a1) sliceFits_S4x12x2048x8_S4x12x2048x3)
/-- Whether a query picks a key's block. -/
def pickedR (a0 : Vec F S8704x2048 .f32) (a1 : Vec F S4x12x2048x128 .f32) : IVec S4x12x2048x2048 1 :=
  (Host.reduce IntOp.ori (andi (cmpi .eq (broadcastInDim S4x12x2048x3x2048 ![0, 1, 2, 3, 4] bcast_S4x12x2048x3x1_S4x12x2048x3x2048_0_1_2_3_4 (broadcastInDim S4x12x2048x3x1 ![0, 1, 2, 3] bcast_S4x12x2048x3_S4x12x2048x3x1_0_1_2_3 ((topR a0 a1).2))) (broadcastInDim S4x12x2048x3x2048 ![0, 1, 2, 3, 4] bcast_S1x1x1x1x2048_S4x12x2048x3x2048_0_1_2_3_4 (broadcastInDim S1x1x1x1x2048 ![4] bcast_S2048_S1x1x1x1x2048_4 ownR))) (broadcastInDim S4x12x2048x3x2048 ![0, 1, 2, 3, 4] bcast_S4x12x2048x3x1_S4x12x2048x3x2048_0_1_2_3_4 (broadcastInDim S4x12x2048x3x1 ![0, 1, 2, 3] bcast_S4x12x2048x3_S4x12x2048x3x1_0_1_2_3 (cmpi .slt ((topR a0 a1).2) (broadcastInDim S4x12x2048x3 ![0, 1, 2, 3] bcast_S1x1x2048x1_S4x12x2048x3_0_1_2_3 (broadcastInDim S1x1x2048x1 ![2] bcast_S2048_S1x1x2048x1_2 ownR)))))) (constantI S_ 1 0#1) reducesTo_S4x12x2048x3x2048_S4x12x2048x2048_d3 h_S_)
/-- The scores, masked to the picked and the own keys. -/
def scoreR (a0 : Vec F S8704x2048 .f32) (a1 : Vec F S4x12x2048x128 .f32) : Vec F S4x12x2048x2048 .f32 :=
  (select (ori (pickedR a0 a1) (broadcastInDim S4x12x2048x2048 ![0, 1, 2, 3] bcast_S1x1x2048x2048_S4x12x2048x2048_0_1_2_3 (broadcastInDim S1x1x2048x2048 ![2, 3] bcast_S2048x2048_S1x1x2048x2048_2_3 (andi (cmpi .eq (broadcastInDim S2048x2048 ![0, 1] bcast_S1x2048_S2048x2048_0_1 (broadcastInDim S1x2048 ![1] bcast_S2048_S1x2048_1 ownR)) (broadcastInDim S2048x2048 ![0, 1] bcast_S2048x1_S2048x2048_0_1 (broadcastInDim S2048x1 ![0] bcast_S2048_S2048x1_0 ownR))) (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))))) (mulf (Host.dotGeneral dot_S4x2048x12x128_S4x2048x12x128_S4x12x2048x2048_3_3_1_1_02_02 none (shapeCast _ (extractStridedSlice S8192x1536 ![0, 0] a0 slices_S8704x2048_S8192x1536_0_0) shapeCasts_S8192x1536_S4x2048x12x128) (transpose S4x2048x12x128 [0, 2, 1, 3] a1 transposes_S4x12x2048x128_S4x2048x12x128_0_2_1_3)) (broadcastInDim S4x12x2048x2048 ![] bcast_S_S4x12x2048x2048 (constant S_ .f32 0x3DB504F3#32))) (broadcastInDim S4x12x2048x2048 ![] bcast_S_S4x12x2048x2048 (id (constant S_ .f32 0xFF800000#32))))
/-- Every row's greatest score. -/
def rowMaxR (a0 : Vec F S8704x2048 .f32) (a1 : Vec F S4x12x2048x128 .f32) : Vec F S4x12x2048 .f32 :=
  (maximumf (broadcastInDim S4x12x2048 ![] bcast_S_S4x12x2048 (constant S_ .f32 0xFF800000#32)) (Host.reduce FloatOps.maximumf (scoreR a0 a1) (constant S_ .f32 0xFF800000#32) reducesTo_S4x12x2048x2048_S4x12x2048_d3 h_S_))
/-- The exponentials of the scores less their row's maximum. -/
def expsR (a0 : Vec F S8704x2048 .f32) (a1 : Vec F S4x12x2048x128 .f32) : Vec F S4x12x2048x2048 .f32 :=
  (Host.exp (subf (scoreR a0 a1) (broadcastInDim S4x12x2048x2048 ![0, 1, 2, 3] bcast_S4x12x2048x1_S4x12x2048x2048_0_1_2_3 (broadcastInDim S4x12x2048x1 ![0, 1, 2] bcast_S4x12x2048_S4x12x2048x1_0_1_2 (rowMaxR a0 a1)))))
/-- The probabilities. -/
def probR (a0 : Vec F S8704x2048 .f32) (a1 : Vec F S4x12x2048x128 .f32) : Vec F S4x12x2048x2048 .f32 :=
  (Host.divf (expsR a0 a1) (broadcastInDim S4x12x2048x2048 ![0, 1, 2, 3] bcast_S4x12x2048x1_S4x12x2048x2048_0_1_2_3 (broadcastInDim S4x12x2048x1 ![0, 1, 2] bcast_S4x12x2048_S4x12x2048x1_0_1_2 (Host.reduceAdd (expsR a0 a1) (constant S_ .f32 0x00000000#32) reducesTo_S4x12x2048x2048_S4x12x2048_d3 h_S_))))
/-- The result. -/
def resultR (a0 : Vec F S8704x2048 .f32) (a1 : Vec F S4x12x2048x128 .f32) (a2 : Vec F S4x12x2048x128 .f32) : Vec F S8192x1536 .bf16 :=
  truncf .bf16 (shapeCast _ (transpose S4x2048x12x128 [0, 3, 1, 2] (Host.dotGeneral dot_S4x2048x12x128_S4x12x2048x2048_S4x12x128x2048_1_3_3_2_02_01 none (transpose S4x2048x12x128 [0, 2, 1, 3] a2 transposes_S4x12x2048x128_S4x2048x12x128_0_2_1_3) (probR a0 a1)) transposes_S4x12x128x2048_S4x2048x12x128_0_3_1_2) shapeCasts_S4x2048x12x128_S8192x1536) bitsLt_bf16_f32

/-- The reference's result is these stages. -/
theorem res_eq (m : (ℓ : Loc nD τ sig) → Buf (Elt F) ℓ) (c : Dev nD) :
    res_main_v62 m c = resultR (m ((c.tc : Thread nD τ).loc main_arg0)) (m ((c.tc : Thread nD τ).loc main_arg1)) (m ((c.tc : Thread nD τ).loc main_arg2)) := rfl

end Cert.ReferenceIdeal.Moba
-- ==== Proof.MobaRef.lean ====
module

public import proofs.«01_k».proof.Proof.MobaStages
public import proofs.«01_k».proof.Proof.MobaSpec
public import Idealize.ShloMosaic.Lib.Pointwise
public import Idealize.ShloMosaic.Lib.Routing.OpsOrder

@[expose] public section

set_option maxRecDepth 16384

/-! The reference at an index: its block numbers, its gates, the three blocks that its sort puts first, its masked scores, its softmax. -/

noncomputable section

namespace Cert.ReferenceIdeal.Moba

open Cert.ReferenceIdeal Cert.ReferenceIdeal.Gen Cert.ReferenceIdeal.Value Cert.Moba Idealize.ShloMosaic Idealize.ShloMosaic.TcCoe Idealize.SL.Sem
open scoped Classical

/-- The block number as the reference computes it. -/
theorem own_word : ∀ i : Fin 2048,
    Scalar.select
      (IntOp.andi
        (IntOp.cmpi CmpIPredicate.ne
          (if BitVec.ofNat 32 i.val = 0 then (0 : BitVec 32) else if (BitVec.ofNat 32 i.val).msb = true then -1 else 1)
          (if 256#32 = 0 then (0 : BitVec 32) else if (256#32).msb = true then -1 else 1))
        (IntOp.cmpi CmpIPredicate.ne (IntOp.remsi ArithUnit.host (BitVec.ofNat 32 i.val) 256#32) 0#32))
      (IntOp.subi (IntOp.divsi ArithUnit.host (BitVec.ofNat 32 i.val) 256#32) 1#32)
      (IntOp.divsi ArithUnit.host (BitVec.ofNat 32 i.val) 256#32) = BitVec.ofNat 32 (i.val / 256) := by
  decide +kernel

theorem own_at (i : Fin 2048) : ownR (ix1 i) = BitVec.ofNat 32 (i.val / 256) := by
  unfold ownR
  pointwise []
  exact own_word i

theorem lt_word (a b : ℕ) (ha : a < 4096) (hb : b < 4096) :
    IntOp.cmpi .slt (BitVec.ofNat 32 a) (BitVec.ofNat 32 b) = if a < b then 1#1 else 0#1 := by
  word_cmp
  by_cases h : a < b <;> simp [h]

theorem le_word (a b : ℕ) (ha : a < 4096) (hb : b < 4096) :
    IntOp.cmpi .sle (BitVec.ofNat 32 a) (BitVec.ofNat 32 b) = if a ≤ b then 1#1 else 0#1 := by
  word_cmp
  by_cases h : a ≤ b <;> simp [h]

theorem eq_word (a b : ℕ) (ha : a < 4096) (hb : b < 4096) :
    IntOp.cmpi .eq (BitVec.ofNat 32 a) (BitVec.ofNat 32 b) = if a = b then 1#1 else 0#1 := by
  word_cmp
  by_cases h : a = b <;> simp [h]

theorem and_tests (p q : Prop) [Decidable p] [Decidable q] : IntOp.andi (if p then 1#1 else 0#1) (if q then 1#1 else 0#1) = if p ∧ q then 1#1 else 0#1 := by
  by_cases h : p <;> by_cases h' : q <;> simp [h, h', IntOp.andi]

theorem or_tests (p q : Prop) [Decidable p] [Decidable q] : IntOp.ori (if p then 1#1 else 0#1) (if q then 1#1 else 0#1) = if p ∨ q then 1#1 else 0#1 := by
  by_cases h : p <;> by_cases h' : q <;> simp [h, h', IntOp.ori]

theorem select_test {α : Type} (p : Prop) [Decidable p] (a b : α) : Scalar.select (if p then 1#1 else 0#1) a b = if p then a else b := by
  by_cases h : p <;> simp [h, Scalar.select]

theorem seed_bot : Ideal.ofBits .f32 4286578688#32 = ⊥ := by simp [Ideal.ofBits, Ideal.ieee]

theorem fold_max_bot {ι : Type} (s : Finset ι) (f : ι → EReal) : Finset.fold max ⊥ f s = s.sup f := rfl

/-- The greatest along the rows of any scores. -/
theorem reduce_max_at (s : FVec Ideal S4x12x2048x2048 .f32) (b : Fin 4) (h : Fin 12) (i : Fin 2048) :
    (Host.reduce (FloatOps.maximumf (F := Ideal) (φ := .f32)) s (constant (F := Ideal) S_ .f32 0xFF800000#32) reducesTo_S4x12x2048x2048_S4x12x2048_d3 h_S_ (ix3 b h i) : EReal)
      = Finset.univ.sup fun x => (s (ix4 b h i x) : EReal) := by
  have key : ∀ g : FVec Ideal S_ .f32,
      (Host.reduce (FloatOps.maximumf (F := Ideal) (φ := .f32)) s g reducesTo_S4x12x2048x2048_S4x12x2048_d3 h_S_ (ix3 b h i) : EReal)
        = Finset.fold max (g (Shape.Idx.first h_S_) : EReal) (fun x => (s (ix4 b h i x) : EReal)) Finset.univ := fun g => by pointwise []
  rw [key, show (constant (F := Ideal) S_ .f32 0xFF800000#32 (Shape.Idx.first h_S_) : EReal) = ⊥ from seed_bot, fold_max_bot]

/-- The greater of nothing and any array is the array. -/
theorem max_bot_at (mx : FVec Ideal S4x12x2048 .f32) (b : Fin 4) (h : Fin 12) (i : Fin 2048) :
    (maximumf (broadcastInDim S4x12x2048 ![] bcast_S_S4x12x2048 (constant (F := Ideal) S_ .f32 0xFF800000#32)) mx (ix3 b h i) : EReal) = mx (ix3 b h i) := by
  pointwise []
  rw [seed_bot, max_bot_left]

/-- The exponentials of any scores less any row values. -/
theorem exps_of (s : FVec Ideal S4x12x2048x2048 .f32) (mx : FVec Ideal S4x12x2048 .f32) (b : Fin 4) (h : Fin 12) (i j : Fin 2048) :
    ((Host.exp (F := Ideal) (φ := .f32) (subf s (broadcastInDim S4x12x2048x2048 ![0, 1, 2, 3] bcast_S4x12x2048x1_S4x12x2048x2048_0_1_2_3
      (broadcastInDim S4x12x2048x1 ![0, 1, 2] bcast_S4x12x2048_S4x12x2048x1_0_1_2 mx)))) (ix4 b h i j) : EReal)
      = Ideal.exp (s (ix4 b h i j) - mx (ix3 b h i)) := by
  pointwise []

/-- The ratio of any weights to their row's sum. -/
theorem ratio_of (e : FVec Ideal S4x12x2048x2048 .f32) (b : Fin 4) (h : Fin 12) (i j : Fin 2048) :
    ((Host.divf (F := Ideal) (φ := .f32) e (broadcastInDim S4x12x2048x2048 ![0, 1, 2, 3] bcast_S4x12x2048x1_S4x12x2048x2048_0_1_2_3
      (broadcastInDim S4x12x2048x1 ![0, 1, 2] bcast_S4x12x2048_S4x12x2048x1_0_1_2
        (Host.reduceAdd e (constant S_ .f32 0x00000000#32) reducesTo_S4x12x2048x2048_S4x12x2048_d3 h_S_)))) (ix4 b h i j) : EReal)
      = Ideal.div (e (ix4 b h i j)) (∑ x, (e (ix4 b h i x) : EReal)) := by
  pointwise []

variable (a0 : S8704x2048.Idx → EReal) (a1 a2 : S4x12x2048x128.Idx → EReal)

theorem gate_at (b : Fin 4) (h : Fin 12) (i : Fin 2048) (n : Fin 8) : (gateR (F := Ideal) a0 a1 (ix4 b h i n) : EReal)
    = if n.val < i.val / 256 then ∑ x : Fin 128, a0 (ix2 ⟨b.val * 2048 + i.val, by omega⟩ ⟨h.val * 128 + x.val, by omega⟩)
        * Ideal.div (∑ c : Fin 256, a1 (ix4 b h ⟨n.val * 256 + c.val, by omega⟩ x)) (Ideal.ofBits .f32 1132462080#32) else ⊥ := by
  unfold gateR
  pointwise []
  rw [own_at, lt_word _ _ (by omega) (by omega), select_test]
  exact if_congr Iff.rfl rfl seed_bot

theorem top_at (b : Fin 4) (h : Fin 12) (i : Fin 2048) (r : Fin 3) : (topR (F := Ideal) a0 a1).2 (ix4 b h i r)
    = BitVec.ofNat 32 (sortedFrom (fun k k' : Fin 8 =>
        FloatOps.cmpfTotal (F := Ideal) (φ := .f32) .gt (gateR (F := Ideal) a0 a1 (ix4 b h i k)) (gateR (F := Ideal) a0 a1 (ix4 b h i k')) == 1#1) ⟨r.val, by omega⟩).val := by
  have ha : ∀ (u : Fin 8) (k : Fin 8), ((ix4 b h i u : S4x12x2048x8.Idx).along 3 k) = ix4 b h i k := fun u k => by
    funext a
    match a with
    | 0 => rfl
    | 1 => rfl
    | 2 => rfl
    | 3 => rfl
  unfold topR Host.topK Host.sort2
  pointwise []
  simp only [ha]
  rfl

section
variable (b : Fin 4) (h : Fin 12) (q k : Fin 2048 → Fin 128 → ℝ)
  (hq : ∀ i x, a0 (ix2 ⟨b.val * 2048 + i.val, by omega⟩ ⟨h.val * 128 + x.val, by omega⟩) = ((q i x : ℝ) : EReal))
  (hk : ∀ j x, a1 (ix4 b h j x) = ((k j x : ℝ) : EReal))

include hq hk in
theorem gate_real (i : Fin 2048) (n : Fin 8) : (gateR (F := Ideal) a0 a1 (ix4 b h i n) : EReal) = gated q k i n := by
  rw [gate_at, gated]
  refine if_congr Iff.rfl ?_ rfl
  simp only [hq, hk, sum_coe, div_256, sum_mul_real, gate]

theorem gt_test (x y : Ideal .f32) : (FloatOps.cmpfTotal (F := Ideal) (φ := .f32) .gt x y == 1#1) = decide ((y : EReal) < x) := by
  rw [Ideal.cmpfTotal_def]
  by_cases h : (y : EReal) < x <;> simp [Ideal.cmp, CmpDirection.ordered, h]

include hq hk in
/-- A key's block is among the three that the sort puts first, and lies before the query's own. -/
theorem picked_at (i j : Fin 2048) : pickedR (F := Ideal) a0 a1 (ix4 b h i j)
    = if j.val / 256 < i.val / 256 ∧ rank (gated q k i) ⟨j.val / 256, by omega⟩ < 3 then 1#1 else 0#1 := by
  have hR : ∀ a c : Fin 8, (FloatOps.cmpfTotal (F := Ideal) (φ := .f32) .gt (gateR (F := Ideal) a0 a1 (ix4 b h i a)) (gateR (F := Ideal) a0 a1 (ix4 b h i c)) == 1#1)
      = decide (gated q k i c < gated q k i a) := fun a c => by
    rw [gt_test, gate_real a0 a1 b h q k hq hk, gate_real a0 a1 b h q k hq hk]
  have h3 := sortedFrom_three (gated q k i) _ hR ⟨j.val / 256, by omega⟩
  have hbit : ∀ (x : BitVec 1) (p : Prop) [Decidable p], (x = 1#1 ↔ p) → x = if p then 1#1 else 0#1 := fun x p _ hx => by
    by_cases hp : p
    · rw [if_pos hp]; exact hx.mpr hp
    · rw [if_neg hp]
      rcases BitVec.eq_zero_or_eq_one x with e | e
      · exact e
      · exact absurd (hx.mp e) hp
  unfold pickedR
  pointwise []
  refine hbit _ _ ((Routing.fold_ori _ _).trans ?_)
  simp only [top_at, own_at, Finset.mem_univ, true_and]
  rw [← h3]
  constructor
  · rintro ⟨r, hr⟩
    rw [eq_word _ _ (by omega) (by omega), lt_word _ _ (by omega) (by omega), and_tests] at hr
    have hr' := (ite_eq_left_iff.mp hr)
    by_contra hn
    refine absurd (hr' fun hh => hn ⟨?_, r, Fin.ext hh.1⟩) (by decide)
    rw [← hh.1]; exact hh.2
  · rintro ⟨hl, r, hr⟩
    refine ⟨r, ?_⟩
    rw [eq_word _ _ (by omega) (by omega), lt_word _ _ (by omega) (by omega), and_tests, if_pos]
    rw [hr]; exact ⟨rfl, hl⟩

include hq hk in
/-- The masked scores. -/
theorem score_at (i j : Fin 2048) : (scoreR (F := Ideal) a0 a1 (ix4 b h i j) : EReal) = masked (Allow q k i) (score q k i) j := by
  unfold scoreR
  pointwise []
  rw [picked_at a0 a1 b h q k hq hk, own_at, own_at, eq_word _ _ (by omega) (by omega), le_word _ _ (by omega) (by omega), and_tests, or_tests, select_test,
    masked]
  refine if_congr or_comm ?_ seed_bot
  simp only [hq, hk, sum_mul_real]
  rw [scale_word, ← EReal.coe_mul, score]

include hq hk in
theorem rowMax_at (i : Fin 2048) : (rowMaxR (F := Ideal) a0 a1 (ix3 b h i) : EReal) = Finset.univ.sup (masked (Allow q k i) (score q k i)) := by
  refine (max_bot_at _ b h i).trans ((reduce_max_at _ b h i).trans ?_)
  simp only [score_at a0 a1 b h q k hq hk]

include hq hk in
theorem exps_at (i j : Fin 2048) : (expsR (F := Ideal) a0 a1 (ix4 b h i j) : EReal)
    = Ideal.exp (masked (Allow q k i) (score q k i) j - Finset.univ.sup (masked (Allow q k i) (score q k i))) := by
  refine (exps_of _ _ b h i j).trans ?_
  rw [score_at a0 a1 b h q k hq hk, rowMax_at a0 a1 b h q k hq hk]

include hq hk in
theorem prob_at (i j : Fin 2048) : (probR (F := Ideal) a0 a1 (ix4 b h i j) : EReal)
    = Ideal.div (Ideal.exp (masked (Allow q k i) (score q k i) j - Finset.univ.sup (masked (Allow q k i) (score q k i))))
        (∑ j, Ideal.exp (masked (Allow q k i) (score q k i) j - Finset.univ.sup (masked (Allow q k i) (score q k i)))) := by
  refine (ratio_of _ b h i j).trans ?_
  simp only [exps_at a0 a1 b h q k hq hk]

end

/-- The product of any weights with the values, laid out as the result. -/
theorem product_of (p : FVec Ideal S4x12x2048x2048 .f32) (i : Fin 8192) (n : Fin 1536) :
    (truncf (F := Ideal) .bf16 (shapeCast _ (transpose S4x2048x12x128 [0, 3, 1, 2] (Host.dotGeneral (φ₁ := .f32) (φ₂ := .f32) dot_S4x2048x12x128_S4x12x2048x2048_S4x12x128x2048_1_3_3_2_02_01 none
        (transpose S4x2048x12x128 [0, 2, 1, 3] a2 transposes_S4x12x2048x128_S4x2048x12x128_0_2_1_3) p) transposes_S4x12x128x2048_S4x2048x12x128_0_3_1_2)
        shapeCasts_S4x2048x12x128_S8192x1536) bitsLt_bf16_f32 (ix2 i n) : EReal)
      = ∑ x : Fin 2048, a2 (ix4 ⟨i.val / 2048, by omega⟩ ⟨n.val / 128, by omega⟩ x ⟨n.val % 128, by omega⟩)
          * p (ix4 ⟨i.val / 2048, by omega⟩ ⟨n.val / 128, by omega⟩ ⟨i.val % 2048, by omega⟩ x) := by
  pointwise []

/-- THE REFERENCE: on real queries and keys, each head of the result is the attention. -/
theorem result_attn (b : Fin 4) (h : Fin 12) (q k : Fin 2048 → Fin 128 → ℝ)
    (hq : ∀ i x, a0 (ix2 ⟨b.val * 2048 + i.val, by omega⟩ ⟨h.val * 128 + x.val, by omega⟩) = ((q i x : ℝ) : EReal))
    (hk : ∀ j x, a1 (ix4 b h j x) = ((k j x : ℝ) : EReal)) (i : Fin 8192) (n : Fin 1536) (hb : i.val / 2048 = b.val) (hh : n.val / 128 = h.val) :
    (resultR (F := Ideal) a0 a1 a2 (ix2 i n) : EReal) = attn q k (fun j d => a2 (ix4 b h j d)) ⟨i.val % 2048, by omega⟩ ⟨n.val % 128, by omega⟩ := by
  refine (product_of a2 _ i n).trans ?_
  have eb : (⟨i.val / 2048, by omega⟩ : Fin 4) = b := Fin.ext hb
  have eh : (⟨n.val / 128, by omega⟩ : Fin 12) = h := Fin.ext hh
  simp only [eb, eh, prob_at a0 a1 b h q k hq hk]
  rfl

end Cert.ReferenceIdeal.Moba
-- ==== Proof.MobaArray.lean ====
module

public import proofs.«01_k».proof.Proof.MobaBlock
public import proofs.«01_k».proof.Proof.MobaRef
public import proofs.«01_k».proof.Proof.Gen.KernelIdeal.Value

@[expose] public section

set_option maxRecDepth 16384

/-! The kernel's whole output array: every grid point writes one batch entry's one head, which is its attention. -/

noncomputable section

namespace Cert.KernelIdeal.Moba

open Cert.KernelIdeal Cert.KernelIdeal.Gen Cert.Moba Idealize.ShloMosaic Idealize.ShloMosaic.TcCoe Idealize.SL.Sem
open scoped Classical

variable (m : (ℓ : Loc nD τ sig) → Buf (Elt Ideal) ℓ) (c : Dev nD)

/-- An index of a tile by its coordinates. -/
theorem tile_idx (x : S256x128.Idx) : x = ix2 (x 0) (x 1) := by
  funext a
  match a with
  | 0 => rfl
  | 1 => rfl

/-- The tiles read back at an index. -/
theorem tiles_row (Q K V : S2048x256.Idx → Elt Ideal .bf16) (i : Fin 2048) (d : Fin 128) :
    (View.canon (tiles Q K V) (ix2 i d) : EReal) = rowK Q K V i d := by
  have row : ∀ (f : FVec Ideal S256x128 .bf16) (P : ℕ) (hP : P + 256 ≤ 2048)
      (hf : ∀ (r : Fin 256) (d : Fin 128), (f (ix2 r d) : EReal) = rowK Q K V ⟨P + r.val, by omega⟩ d) (x : S256x128.Idx)
      (h0 : i.val = P + (x 0).val) (h1 : d.val = (x 1).val), (f x : EReal) = rowK Q K V i d := fun f P hP hf x h0 h1 => by
    have hx : x = ix2 (x 0) d := (tile_idx x).trans (congrArg (ix2 (x 0)) (Fin.ext h1.symm))
    exact (congrArg f hx).trans ((hf (x 0) d).trans (congrArg (fun i => rowK Q K V i d) (Fin.ext h0.symm)))
  unfold tiles
  canon_tiles x h
  · exact row _ 1792 (by decide) (tile7_row Q K V) x h0 h1
  · exact row _ 1536 (by decide) (tile6_row Q K V) x h0 h1
  · exact row _ 1280 (by decide) (tile5_row Q K V) x h0 h1
  · exact row _ 1024 (by decide) (tile4_row Q K V) x h0 h1
  · exact row _ 768 (by decide) (tile3_row Q K V) x h0 h1
  · exact row _ 512 (by decide) (tile2_row Q K V) x h0 h1
  · exact row _ 256 (by decide) (tile1_row Q K V) x h0 h1
  · refine row _ 0 (by decide) (fun r d => (tile0_row Q K V r d).trans ?_) x (h0.trans (Nat.zero_add _).symm) h1
    congr 1
    exact Fin.ext (Nat.zero_add _).symm

/-- The windows' block indices at a grid point: the batch entry and the head. -/
theorem index0 : ∀ t : Fin cfg0.N, win0_0.index t = ![t.val / 12, t.val % 12] :=
  (by decide +kernel : ∀ t : Fin grid0.N, win0_0.index t = ![t.val / 12, t.val % 12])
theorem index1 : ∀ t : Fin cfg0.N, win0_1.index t = ![t.val / 12, t.val % 12, 0, 0] :=
  (by decide +kernel : ∀ t : Fin grid0.N, win0_1.index t = ![t.val / 12, t.val % 12, 0, 0])
theorem index2 : ∀ t : Fin cfg0.N, win0_2.index t = ![t.val / 12, t.val % 12, 0, 0] :=
  (by decide +kernel : ∀ t : Fin grid0.N, win0_2.index t = ![t.val / 12, t.val % 12, 0, 0])
theorem index3 : ∀ t : Fin cfg0.N, win0_3.index t = ![t.val / 12, t.val % 12] :=
  (by decide +kernel : ∀ t : Fin grid0.N, win0_3.index t = ![t.val / 12, t.val % 12])

theorem points (t : Fin cfg0.N) : t.val < 48 := t.isLt

section
variable (a0 : S8704x2048.Idx → EReal) (a1 a2 : S4x12x2048x128.Idx → EReal)
  (h0 : V m c main_arg0 = a0) (h1 : V m c main_arg1 = a1) (h2 : V m c main_arg2 = a2) (t : Fin cfg0.N)

include h0 in
/-- The query block of a point. -/
theorem queries_block (i : Fin 2048) (x : Fin 128) : (X0_0 m c t (ix2 i x) : EReal)
    = a0 (ix2 ⟨t.val / 12 * 2048 + i.val, by have := points t; omega⟩ ⟨t.val % 12 * 128 + x.val, by omega⟩) := by
  unfold X0_0 Pipeline.Window.fill
  rw [dif_pos (moved0_0 t _)]
  unfold iblk
  blk_simp
  rw [h0]
  congr 1
  funext a
  apply Fin.ext
  have e := Pipeline.Window.rect_emb_val win0_0 t
  match a with
  | 0 =>
    refine (e _ 0).trans ?_
    rw [index0]
    rfl
  | 1 =>
    refine (e _ 1).trans ?_
    rw [index0]
    rfl

include h1 in
/-- The key block of a point. -/
theorem keys_block (i : Fin 2048) (x : Fin 128) : (iblk m c 1 t (ix4 0 0 i x) : EReal)
    = a1 (ix4 ⟨t.val / 12, by have := points t; omega⟩ ⟨t.val % 12, by omega⟩ i x) := by
  unfold iblk
  blk_simp
  rw [h1]
  congr 1
  funext a
  apply Fin.ext
  refine (Pipeline.Window.rect_emb_val win0_1 t _ a).trans ?_
  rw [index1]
  match a with
  | 0 => show t.val / 12 * 1 + 0 = t.val / 12; omega
  | 1 => show t.val % 12 * 1 + 0 = t.val % 12; omega
  | 2 => show 0 * 2048 + i.val = i.val; omega
  | 3 => show 0 * 128 + x.val = x.val; omega

include h2 in
/-- The value block of a point. -/
theorem values_block (i : Fin 2048) (x : Fin 128) : (iblk m c 2 t (ix4 0 0 i x) : EReal)
    = a2 (ix4 ⟨t.val / 12, by have := points t; omega⟩ ⟨t.val % 12, by omega⟩ i x) := by
  unfold iblk
  blk_simp
  rw [h2]
  congr 1
  funext a
  apply Fin.ext
  refine (Pipeline.Window.rect_emb_val win0_2 t _ a).trans ?_
  rw [index2]
  match a with
  | 0 => show t.val / 12 * 1 + 0 = t.val / 12; omega
  | 1 => show t.val % 12 * 1 + 0 = t.val % 12; omega
  | 2 => show 0 * 2048 + i.val = i.val; omega
  | 3 => show 0 * 128 + x.val = x.val; omega

include h0 h1 h2 in
/-- The array after the last point, when every query and key is finite: it is the reference's. -/
theorem arr_at (q : Fin 8192 → Fin 1536 → ℝ) (k : Fin 4 → Fin 12 → Fin 2048 → Fin 128 → ℝ)
    (hq : ∀ (i : Fin 8192) (n : Fin 1536), a0 (ix2 ⟨i.val, by omega⟩ ⟨n.val, by omega⟩) = ((q i n : ℝ) : EReal))
    (hk : ∀ b h j x, a1 (ix4 b h j x) = ((k b h j x : ℝ) : EReal)) :
    (dats m 0 c).arrAt 3 cfg0.N = Cert.ReferenceIdeal.Moba.resultR (F := Ideal) a0 a1 a2 := by
  refine (dats m 0 c).arrAt_eq_of_covers 3 _ (by decide +kernel) fun t hf y => ?_
  blk_simp
  rw [after0_3]
  unfold outsAt0
  rw [out_tiles]
  have ht := points t
  have hb : t.val / 12 < 4 := by omega
  have hh : t.val % 12 < 12 := by omega
  have hi : (y 0 : ℕ) < 2048 := (y 0).isLt
  have hd : (y 1 : ℕ) < 128 := (y 1).isLt
  have ey : y = ix2 ⟨(y 0 : ℕ), hi⟩ ⟨(y 1 : ℕ), hd⟩ := by
    funext a
    match a with
    | 0 => rfl
    | 1 => rfl
  have eo : (win0_3.blk t).view.emb y
      = ix2 ⟨t.val / 12 * 2048 + (y 0 : ℕ), by omega⟩ ⟨t.val % 12 * 128 + (y 1 : ℕ), by omega⟩ := by
    funext a
    apply Fin.ext
    refine (Pipeline.Window.rect_emb_val win0_3 t y a).trans ?_
    rw [index3]
    match a with
    | 0 => rfl
    | 1 => rfl
  refine Eq.trans ?_ (congrArg (Cert.ReferenceIdeal.Moba.resultR (F := Ideal) a0 a1 a2) eo).symm
  refine (congrArg _ ey).trans ?_
  refine (tiles_row _ _ _ _ _).trans ?_
  refine (row_attn (X0_0 m c t) (iblk m c 1 t) (iblk m c 2 t) _ _
    (fun i x => q ⟨t.val / 12 * 2048 + i.val, by omega⟩ ⟨t.val % 12 * 128 + x.val, by omega⟩)
    (k ⟨t.val / 12, hb⟩ ⟨t.val % 12, hh⟩)
    (fun i x => (queries_block m c a0 h0 t i x).trans (hq ⟨t.val / 12 * 2048 + i.val, by omega⟩ ⟨t.val % 12 * 128 + x.val, by omega⟩))
    (fun j x => (keys_block m c a1 h1 t j x).trans (hk _ _ j x))).trans ?_
  refine Eq.trans ?_ (Cert.ReferenceIdeal.Moba.result_attn a0 a1 a2 ⟨t.val / 12, hb⟩ ⟨t.val % 12, hh⟩
    (fun i x => q ⟨t.val / 12 * 2048 + i.val, by omega⟩ ⟨t.val % 12 * 128 + x.val, by omega⟩)
    (k ⟨t.val / 12, hb⟩ ⟨t.val % 12, hh⟩)
    (fun i x => hq ⟨t.val / 12 * 2048 + i.val, by omega⟩ ⟨t.val % 12 * 128 + x.val, by omega⟩) (fun j x => hk _ _ j x) _ _
    (by show (t.val / 12 * 2048 + (y 0 : ℕ)) / 2048 = t.val / 12; omega)
    (by show (t.val % 12 * 128 + (y 1 : ℕ)) / 128 = t.val % 12; omega)).symm
  have ev : (fun j d => (iblk m c 2 t (ix4 0 0 j d) : EReal)) = fun j d => a2 (ix4 ⟨t.val / 12, hb⟩ ⟨t.val % 12, hh⟩ j d) :=
    funext fun j => funext fun d => values_block m c a2 h2 t j d
  have e0 : (t.val / 12 * 2048 + (y 0 : ℕ)) % 2048 = y 0 := by omega
  have e1 : (t.val % 12 * 128 + (y 1 : ℕ)) % 128 = y 1 := by omega
  refine (congrArg (fun v => attn _ _ v _ _) ev).trans ?_
  exact congrArg₂ (attn _ _ _) (Fin.ext e0.symm) (Fin.ext e1.symm)

end

end Cert.KernelIdeal.Moba
-- ==== Proof.MobaClaims.lean ====
module

public import proofs.«01_k».proof.Defs
public import proofs.«01_k».proof.Proof.MobaArray
public import proofs.«01_k».proof.Proof.Gen.Kernel.Frame
public import proofs.«01_k».proof.Proof.Gen.Pre_finite
public import Idealize.ShloMosaic.Lib.ReduceAll
public import Idealize.ShloMosaic.Lib.Quiescent

@[expose] public section

set_option maxRecDepth 16384

/-! What the precondition says of the arguments, and the claims about the prompt's attention. -/

noncomputable section

namespace Cert.MobaClaims

open Idealize.ShloMosaic Idealize.SL.Sem

/-- The word of positive infinity. -/
theorem inf_top : Ideal.ofBits .f32 0x7F800000#32 = ⊤ := by simp [Ideal.ofBits, Ideal.ieee]

/-- An entry of size less than infinity is a real. -/
theorem real_of_test (x : EReal) (h : (FloatOps.cmpf (F := Ideal) (φ := .f32) .olt (max x (-x) : EReal) (Ideal.ofBits .f32 0x7F800000#32 : EReal)) = 1#1) :
    x = ((x.toReal : ℝ) : EReal) := by
  rw [inf_top] at h
  have h' : max x (-x) < ⊤ := by
    by_contra hn
    simp [FloatOps.cmpf, Ideal.cmp, hn] at h
  induction x using EReal.rec with
  | bot => simp at h'
  | coe r => simp
  | top => simp at h'

open Cert.Pre_finite Cert.Pre_finite.Facts in
/-- The precondition's two tests, one entry at a time. -/
theorem finite_entries [Cert.Pre_finite.Facts] (a0 : FVec Ideal Cert.Pre_finite.S8704x2048 .f32) (a1 a2 : FVec Ideal Cert.Pre_finite.S4x12x2048x128 .f32)
    (h : Cert.Pre_finite.fn (F := Ideal) a0 a1 a2 = fun _ => 1#1) :
    (∀ (i : Fin 8192) (n : Fin 1536), (a0 (ix2 ⟨i.val, by omega⟩ ⟨n.val, by omega⟩) : EReal) = ((a0 (ix2 ⟨i.val, by omega⟩ ⟨n.val, by omega⟩) : EReal).toReal : EReal))
      ∧ ∀ b h j x, (a1 (ix4 b h j x) : EReal) = ((a1 (ix4 b h j x) : EReal).toReal : EReal) := by
  have e := congrFun h (Shape.Idx.first h_S_)
  dsimp only [Cert.Pre_finite.fn] at e
  obtain ⟨e0, e1⟩ := IntOp.andi_eq_one.1 e
  haveI : Subsingleton Cert.Pre_finite.S_.Idx := ⟨fun a b => funext fun i => i.elim0⟩
  constructor
  · intro i n
    have t := Host.reduce_andi_all _ _ _ _ _ e0 (ix2 i n)
    refine real_of_test _ ?_
    rw [← t]
    pointwise []
    rfl
  · intro b h j x
    have t := Host.reduce_andi_all _ _ _ _ _ e1 (ix4 b h j x)
    refine real_of_test _ ?_
    rw [← t]
    pointwise []
    rfl

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ => frame_reference m ρ trivial

/-- The two constants are named what the table gives them. -/
theorem preserves : Cert.preserves_Kernel_KernelIdeal :=
  ⟨IdealRules.named_const.statement _ _ _ _ _ rfl, IdealRules.named_const.statement _ _ _ _ _ rfl⟩

/-- On finite queries and keys, the kernel's output array is the reference's result. -/
theorem algebraic : Cert.algebraic_KernelIdeal_ReferenceIdeal_pre_finite := fun m ρ m' ρ' hp ha =>
  ⟨fun c => Cert.ReferenceIdeal.Value.res_main_v62 m' c,
    (θ_run Cert.KernelIdeal.defs _ _).mono (fun r h c => by
      refine ⟨(h c).1.trans ?_, (h c).2⟩
      obtain ⟨hq, hk⟩ := finite_entries _ _ _ (hp c)
      refine (Cert.KernelIdeal.Moba.arr_at m c _ _ _ rfl rfl rfl (fun i n => _) (fun b h j x => _) hq hk).trans ?_
      refine Eq.trans ?_ (Cert.ReferenceIdeal.Moba.res_eq m' c).symm
      obtain ⟨e0, e1, e2⟩ := ha c
      rw [e0, e1, e2]) (Cert.KernelIdeal.Value.run_blocks m ρ),
    Cert.ReferenceIdeal.Value.run m' ρ'⟩

end Cert.MobaClaims
-- ==== Proof.MlpRun.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.WholeRead

@[expose] public section

set_option maxRecDepth 16384

/-! The feed-forward body run on any staging buffers, in its four cases: the first hidden tile of a block of rows, a
    middle one, the last one of a block of the prompt, the last one of the sample's block. -/

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The condition of the first hidden tile. -/
abbrev isFirst (i : grid0.Coords) : Prop :=
  (Scalar.cmpi .ne (Scalar.extui (Scalar.cmpi .eq (BitVec.ofNat 32 (i 1).val) 0#32)) 0#32) = 1#1

variable (c : Dev nD) (i : grid0.Coords)
  (arg2 : Memref sig .tc .vmem S512x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S1024x2048 .bf16) (harg5 : arg5.IsWhole)
  (arg6 : Memref sig .tc .vmem S1x2048 .f32) (harg6 : arg6.IsWhole) (arg7 : Memref sig .tc .vmem S512x2048 .f32) (harg7 : arg7.IsWhole)
  (arg8 : Memref sig .tc .vmem S512x2048 .f32) (harg8 : arg8.IsWhole) (arg9 : Memref sig .tc .vmem S512x2048 .bf16) (harg9 : arg9.IsWhole)
  (arg10 : Memref sig .tc .vmem S512x2048 .f32) (harg10 : arg10.IsWhole)
  (x : Vec F S512x2048 .f32) (g : Vec F S1x2048 .f32) (wu : Vec F S2048x1024 .bf16) (wd : Vec F S1024x2048 .bf16) (gf : Vec F S1x2048 .f32)

/-- The five inputs' buffers, at their contents. -/
def inputs : sProp (MT nD τ sig Unit (Elt F) ℕ (UR sig nD τ) ℕ) :=
  iprop(owns (c : Thread nD τ) arg2 fullShare x ∗ owns (c : Thread nD τ) arg3 fullShare g ∗ owns (c : Thread nD τ) arg4 fullShare wu
    ∗ owns (c : Thread nD τ) arg5 fullShare wd ∗ owns (c : Thread nD τ) arg6 fullShare gf)

set_option maxHeartbeats 1000000 in
/-- The first hidden tile: the normalized rows and the first partial product are stored. -/
theorem run_first (h1 : isFirst i) (h2 : ¬k0_cond2 i = 1#1) (h3 : ¬k0_cond3 i = 1#1) (E : Set ℕ)
    (K : PUnit → sProp (MT nD τ sig Unit (Elt F) ℕ (UR sig nD τ) ℕ)) :
    iprop(inputs c arg2 arg3 arg4 arg5 arg6 x g wu wd gf ∗ (∃ d, owns (c : Thread nD τ) arg9 fullShare d) ∗ (∃ d, owns (c : Thread nD τ) arg10 fullShare d)
        ∗ (iprop(inputs c arg2 arg3 arg4 arg5 arg6 x g wu wd gf ∗ owns (c : Thread nD τ) arg9 fullShare (k0_pay1 x g)
            ∗ owns (c : Thread nD τ) arg10 fullShare (k0_pay3 (k0_pay1 x g) wu k0_pay2 wd)) -∗ K ⟨⟩))
      ⊢ wp frame (wpE (defs₀ (F := F)) Variants.none c none) E
          (cc0_mlp i arg2 harg2 arg3 harg3 arg4 harg4 arg5 harg5 arg6 harg6 arg7 harg7 arg8 harg8 arg9 harg9 arg10 harg10) K := by
  simp only [cc0_mlp_eq_skeleton]; unfold cc0_mlp_skel
  unfold inputs owns
  iintro ⟨⟨⟨%f0, %hf0, H0⟩, ⟨%f1, %hf1, H1⟩, ⟨%f2, %hf2, H2⟩, ⟨%f3, %hf3, H3⟩, ⟨%f4, %hf4, H4⟩⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact h1 | sl_exact h2 | sl_exact h3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [HS0]
  · iexists _; isplitr
    swap; · iexact HS0
    ipureintro
    delta run_first.sl.HS0_1
    rw [View.read_writes_full, View.readAt_full, harg2.read_unread, View.readAt_full, harg3.read_unread]
  iexists _; isplitr
  swap; · iexact HS1
  ipureintro
  delta run_first.sl.v4 run_first.sl.v10 run_first.sl.HS0_1 run_first.sl.HS1_1
  rw [View.read_writes_full, View.readCov_full, View.readCov_full, View.readAt_full, harg2.read_unread, View.readAt_full, harg3.read_unread,
    View.readAt_full, harg4.read_unread, View.readAt_full, harg5.read_unread]

set_option maxHeartbeats 1000000 in
/-- A middle hidden tile: its partial product is added to what the scratch held. -/
theorem run_middle (h1 : ¬isFirst i) (h2 : ¬k0_cond2 i = 1#1) (h3 : ¬k0_cond3 i = 1#1) (h : Vec F S512x2048 .bf16) (a : Vec F S512x2048 .f32) (E : Set ℕ)
    (K : PUnit → sProp (MT nD τ sig Unit (Elt F) ℕ (UR sig nD τ) ℕ)) :
    iprop(inputs c arg2 arg3 arg4 arg5 arg6 x g wu wd gf ∗ owns (c : Thread nD τ) arg9 fullShare h ∗ owns (c : Thread nD τ) arg10 fullShare a
        ∗ (iprop(inputs c arg2 arg3 arg4 arg5 arg6 x g wu wd gf ∗ owns (c : Thread nD τ) arg9 fullShare h
            ∗ owns (c : Thread nD τ) arg10 fullShare (k0_pay3 h wu a wd)) -∗ K ⟨⟩))
      ⊢ wp frame (wpE (defs₀ (F := F)) Variants.none c none) E
          (cc0_mlp i arg2 harg2 arg3 harg3 arg4 harg4 arg5 harg5 arg6 harg6 arg7 harg7 arg8 harg8 arg9 harg9 arg10 harg10) K := by
  simp only [cc0_mlp_eq_skeleton]; unfold cc0_mlp_skel
  unfold inputs owns
  iintro ⟨⟨⟨%f0, %hf0, H0⟩, ⟨%f1, %hf1, H1⟩, ⟨%f2, %hf2, H2⟩, ⟨%f3, %hf3, H3⟩, ⟨%f4, %hf4, H4⟩⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hs0; obtain rfl := harg10.eq_unread hs1
  sl_exec (disch := first | sl_exact h1 | sl_exact h2 | sl_exact h3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [HS0]
  · iexists _; isplitr; · ipureintro; exact harg9.read_unread _
    iexact HS0
  iexists _; isplitr
  swap; · iexact HS1
  ipureintro
  rw [View.read_writes_full, View.readAt_full, harg9.read_unread, View.readAt_full, harg4.read_unread, View.readAt_full, harg10.read_unread,
    View.readAt_full, harg5.read_unread]

set_option maxHeartbeats 1000000 in
/-- The last hidden tile of a block of the prompt: the finished rows are stored too. -/
theorem run_prompt (h1 : ¬isFirst i) (h2 : k0_cond2 i = 1#1) (h3 : ¬k0_cond3 i = 1#1) (h : Vec F S512x2048 .bf16) (a : Vec F S512x2048 .f32) (E : Set ℕ)
    (K : PUnit → sProp (MT nD τ sig Unit (Elt F) ℕ (UR sig nD τ) ℕ)) :
    iprop(inputs c arg2 arg3 arg4 arg5 arg6 x g wu wd gf ∗ (∃ d, owns (c : Thread nD τ) arg7 fullShare d)
        ∗ owns (c : Thread nD τ) arg9 fullShare h ∗ owns (c : Thread nD τ) arg10 fullShare a
        ∗ (iprop(inputs c arg2 arg3 arg4 arg5 arg6 x g wu wd gf ∗ owns (c : Thread nD τ) arg7 fullShare (k0_pay4 x (k0_pay3 h wu a wd) gf)
            ∗ owns (c : Thread nD τ) arg9 fullShare h ∗ owns (c : Thread nD τ) arg10 fullShare (k0_pay3 h wu a wd)) -∗ K ⟨⟩))
      ⊢ wp frame (wpE (defs₀ (F := F)) Variants.none c none) E
          (cc0_mlp i arg2 harg2 arg3 harg3 arg4 harg4 arg5 harg5 arg6 harg6 arg7 harg7 arg8 harg8 arg9 harg9 arg10 harg10) K := by
  simp only [cc0_mlp_eq_skeleton]; unfold cc0_mlp_skel
  unfold inputs owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hs0; obtain rfl := harg10.eq_unread hs1
  sl_exec (disch := first | sl_exact h1 | sl_exact h2 | sl_exact h3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    delta run_prompt.sl.v29 run_prompt.sl.HS1_1
    rw [View.read_writes_full, View.readCov_full, View.readAt_full, harg2.read_unread, View.readAt_full, harg9.read_unread, View.readAt_full,
      harg4.read_unread, View.readAt_full, harg10.read_unread, View.readAt_full, harg5.read_unread, View.readAt_full, harg6.read_unread]
  isplitl [HS0]
  · iexists _; isplitr; · ipureintro; exact harg9.read_unread _
    iexact HS0
  iexists _; isplitr
  swap; · iexact HS1
  ipureintro
  delta run_prompt.sl.HS1_1
  rw [View.read_writes_full, View.readAt_full, harg9.read_unread, View.readAt_full, harg4.read_unread, View.readAt_full, harg10.read_unread,
    View.readAt_full, harg5.read_unread]

set_option maxHeartbeats 1000000 in
/-- The last hidden tile of the sample's block: the finished rows are stored in the sample's result. -/
theorem run_sample (h1 : ¬isFirst i) (h2 : ¬k0_cond2 i = 1#1) (h3 : k0_cond3 i = 1#1) (h : Vec F S512x2048 .bf16) (a : Vec F S512x2048 .f32) (E : Set ℕ)
    (K : PUnit → sProp (MT nD τ sig Unit (Elt F) ℕ (UR sig nD τ) ℕ)) :
    iprop(inputs c arg2 arg3 arg4 arg5 arg6 x g wu wd gf ∗ (∃ d, owns (c : Thread nD τ) arg8 fullShare d)
        ∗ owns (c : Thread nD τ) arg9 fullShare h ∗ owns (c : Thread nD τ) arg10 fullShare a
        ∗ (iprop(inputs c arg2 arg3 arg4 arg5 arg6 x g wu wd gf ∗ owns (c : Thread nD τ) arg8 fullShare (k0_pay5 x (k0_pay3 h wu a wd) gf)
            ∗ owns (c : Thread nD τ) arg9 fullShare h ∗ owns (c : Thread nD τ) arg10 fullShare (k0_pay3 h wu a wd)) -∗ K ⟨⟩))
      ⊢ wp frame (wpE (defs₀ (F := F)) Variants.none c none) E
          (cc0_mlp i arg2 harg2 arg3 harg3 arg4 harg4 arg5 harg5 arg6 harg6 arg7 harg7 arg8 harg8 arg9 harg9 arg10 harg10) K := by
  simp only [cc0_mlp_eq_skeleton]; unfold cc0_mlp_skel
  unfold inputs owns
  iintro ⟨⟨⟨%f0, %hf0, H0⟩, ⟨%f1, %hf1, H1⟩, ⟨%f2, %hf2, H2⟩, ⟨%f3, %hf3, H3⟩, ⟨%f4, %hf4, H4⟩⟩, ⟨%d6, %f6, -, H6⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hs0; obtain rfl := harg10.eq_unread hs1
  sl_exec (disch := first | sl_exact h1 | sl_exact h2 | sl_exact h3)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H6]
  · iexists _; isplitr
    swap; · iexact H6
    ipureintro
    delta run_sample.sl.v29 run_sample.sl.HS1_1
    rw [View.read_writes_full, View.readCov_full, View.readAt_full, harg2.read_unread, View.readAt_full, harg9.read_unread, View.readAt_full,
      harg4.read_unread, View.readAt_full, harg10.read_unread, View.readAt_full, harg5.read_unread, View.readAt_full, harg6.read_unread]
  isplitl [HS0]
  · iexists _; isplitr; · ipureintro; exact harg9.read_unread _
    iexact HS0
  iexists _; isplitr
  swap; · iexact HS1
  ipureintro
  delta run_sample.sl.HS1_1
  rw [View.read_writes_full, View.readAt_full, harg9.read_unread, View.readAt_full, harg4.read_unread, View.readAt_full, harg10.read_unread,
    View.readAt_full, harg5.read_unread]

end Cert.Kernel2Ideal.Mlp

end
-- ==== Proof.MlpFrame.lean ====
module

public import proofs.«01_k».proof.Proof.MlpRun
public import Idealize.ShloMosaic.Lib.Claim

@[expose] public section

set_option maxRecDepth 16384

/-! The feed-forward part's run over its whole grid. The prompt's window is written back a last time at the grid's last
    point, whose body stores into the sample's window only: between, its buffer keeps the prompt's last block. -/

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid's points -/

theorem first_iff : ∀ t : Fin cfg0.N, isFirst (grid0.coords t) ↔ t.val % 8 = 0 :=
  (by decide +kernel : ∀ t : Fin grid0.N, isFirst (grid0.coords t) ↔ t.val % 8 = 0)
theorem prompt_iff : ∀ t : Fin cfg0.N, k0_cond2 (grid0.coords t) = 1#1 ↔ t.val % 8 = 7 ∧ t.val < 128 :=
  (by decide +kernel : ∀ t : Fin grid0.N, k0_cond2 (grid0.coords t) = 1#1 ↔ t.val % 8 = 7 ∧ t.val < 128)
theorem sample_iff : ∀ t : Fin cfg0.N, k0_cond3 (grid0.coords t) = 1#1 ↔ t.val = 135 :=
  (by decide +kernel : ∀ t : Fin grid0.N, k0_cond3 (grid0.coords t) = 1#1 ↔ t.val = 135)
theorem flush_prompt : ∀ t : Fin cfg0.N, (cfg0.win 5).flush t = true ↔ (t.val % 8 = 7 ∧ t.val < 120) ∨ t.val = 135 :=
  (by decide +kernel : ∀ t : Fin grid0.N, win0_5.flush t = true ↔ (t.val % 8 = 7 ∧ t.val < 120) ∨ t.val = 135)
theorem flush_sample : ∀ t : Fin cfg0.N, (cfg0.win 6).flush t = true ↔ t.val = 135 :=
  (by decide +kernel : ∀ t : Fin grid0.N, win0_6.flush t = true ↔ t.val = 135)
theorem points (t : Fin cfg0.N) : t.val < 136 := lt_of_lt_of_eq t.isLt N_0

/-- The prompt's window is untouched wherever its condition fails. -/
theorem idle5 (t : Fin cfg0.N) (h : ¬k0_cond2 (grid0.coords t) = 1#1) : cfg0.idle 5 (cfg0.grid.coords t) = true := by
  show (!(k0_cond2 (grid0.coords t) == 1#1)) = true
  simpa using h
theorem live5 (t : Fin cfg0.N) (h : k0_cond2 (grid0.coords t) = 1#1) : cfg0.idle 5 (cfg0.grid.coords t) = false := by
  show (!(k0_cond2 (grid0.coords t) == 1#1)) = false
  simpa using h
/-- The sample's window is untouched wherever its condition fails. -/
theorem idle6 (t : Fin cfg0.N) (h : ¬k0_cond3 (grid0.coords t) = 1#1) : cfg0.idle 6 (cfg0.grid.coords t) = true := by
  show (!(k0_cond3 (grid0.coords t) == 1#1)) = true
  simpa using h
theorem live6 (t : Fin cfg0.N) (h : k0_cond3 (grid0.coords t) = 1#1) : cfg0.idle 6 (cfg0.grid.coords t) = false := by
  show (!(k0_cond3 (grid0.coords t) == 1#1)) = false
  simpa using h

variable (m : (ℓ : Loc nD τ sig) → Buf (Elt F) ℓ) (ρ : Dev nD → PrngReg)

/-! ## What the scratch holds after each point -/

/-- The scratch after a block of rows' first point: the normalized rows and the first partial product. -/
def begun (c : Dev nD) (t : Fin cfg0.N) : Vec F S512x2048 .bf16 × Vec F S512x2048 .f32 :=
  (k0_pay1 (iblk m c 0 t) (iblk m c 1 t), k0_pay3 (k0_pay1 (iblk m c 0 t) (iblk m c 1 t)) (iblk m c 2 t) k0_pay2 (iblk m c 3 t))

/-- The scratch after one point, from the scratch before it. -/
def added (c : Dev nD) (t : Fin cfg0.N) (p : Vec F S512x2048 .bf16 × Vec F S512x2048 .f32) : Vec F S512x2048 .bf16 × Vec F S512x2048 .f32 :=
  (p.1, k0_pay3 p.1 (iblk m c 2 t) p.2 (iblk m c 3 t))

/-- The scratch after the point at a position. -/
def scratch (c : Dev nD) : (n : ℕ) → n < cfg0.N → Vec F S512x2048 .bf16 × Vec F S512x2048 .f32
  | 0, hn => begun m c ⟨0, hn⟩
  | n + 1, hn => if (n + 1) % 8 = 0 then begun m c ⟨n + 1, hn⟩ else added m c ⟨n + 1, hn⟩ (scratch c n (Nat.lt_of_succ_lt hn))

theorem scratch_first (c : Dev nD) (t : Fin cfg0.N) (h : t.val % 8 = 0) : scratch m c t.val t.isLt = begun m c t := by
  obtain ⟨n, hn⟩ := t
  cases n with
  | zero => rfl
  | succ n => exact if_pos h

theorem scratch_next (c : Dev nD) (t : Fin cfg0.N) (h : ¬t.val % 8 = 0) :
    scratch m c t.val t.isLt = added m c t (scratch m c (t.val - 1) (Nat.lt_of_le_of_lt (Nat.sub_le _ _) t.isLt)) := by
  obtain ⟨n, hn⟩ := t
  cases n with
  | zero => exact absurd (Nat.zero_mod _) h
  | succ n => exact if_neg h

/-- The region's invariant before a position: the scratch at what the point before left. -/
def invariant (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) (Memref.whole cc0_scratch0) fullShare (scratch m c n hn).1
      ∗ owns (c : Thread nD τ) (Memref.whole cc0_scratch1) fullShare (scratch m c n hn).2) ∗ (∃ r, prngReg c r))

theorem invariant_zero (c : Dev nD) :
    (Pipeline.ΦA spec0 c : sProp (MT nD τ sig Unit (Elt F) ℕ (UR sig nD τ) ℕ))
      = iprop(iprop((∃ d, owns (c : Thread nD τ) (Memref.whole cc0_scratch0 : Memref sig .tc .vmem S512x2048 .bf16) fullShare d)
          ∗ (∃ d, owns (c : Thread nD τ) (Memref.whole cc0_scratch1 : Memref sig .tc .vmem S512x2048 .f32) fullShare d)) ∗ (∃ r, prngReg c r)) := by
  unfold Pipeline.ΦA; rw [scopedRest0_eq]; simp only [owns_whole]; try rfl

theorem invariant_pos (c : Dev nD) (n : ℕ) (h : n ≤ cfg0.N) (hz : n ≠ 0) :
    invariant m c n h = iprop(iprop(owns (c : Thread nD τ) (Memref.whole cc0_scratch0) fullShare (scratch m c (n - 1) (by omega)).1
      ∗ owns (c : Thread nD τ) (Memref.whole cc0_scratch1) fullShare (scratch m c (n - 1) (by omega)).2) ∗ (∃ r, prngReg c r)) := by
  cases n with
  | zero => exact absurd rfl hz
  | succ n => rfl

/-- Whatever the scratch holds, it is held at something. -/
theorem invariant_any (c : Dev nD) (n : ℕ) (h : n ≤ cfg0.N) : invariant m c n h ⊢ Pipeline.ΦA spec0 c := by
  by_cases hz : n = 0
  · subst hz; exact .rfl
  rw [invariant_pos m c n h hz, invariant_zero]
  iintro ⟨⟨HS0, HS1⟩, Hg⟩
  isplitl [HS0 HS1]
  · isplitl [HS0]
    · iexists _; iexact HS0
    iexists _; iexact HS1
  iexact Hg

/-! ## The proof data -/

/-- The last point of the prompt. -/
def lastPrompt : Fin cfg0.N := ⟨127, by rw [show cfg0.N = 136 from N_0]; decide⟩

/-- The finished rows of the prompt, and of the sample, from the scratch after a point. -/
def rowsPrompt (c : Dev nD) (t : Fin cfg0.N) : Vec F S512x2048 .f32 := k0_pay4 (iblk m c 0 t) (scratch m c t.val t.isLt).2 (iblk m c 4 t)
def rowsSample (c : Dev nD) (t : Fin cfg0.N) : Vec F S512x2048 .f32 := k0_pay5 (iblk m c 0 t) (scratch m c t.val t.isLt).2 (iblk m c 4 t)

/-- What the prompt's buffer holds when a point is done: its finished rows, past the prompt its last ones. -/
def leftPrompt (c : Dev nD) (t : Fin cfg0.N) : Vec F S512x2048 .f32 := if t.val < 128 then rowsPrompt m c t else rowsPrompt m c lastPrompt

/-- The proof data of the one pipeline: each input's buffer at its block, the outputs' at the finished rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => leftPrompt m c t
    | ⟨6, _⟩ => rowsSample m c t
  Φ t := invariant m c t.val (Nat.le_of_lt_succ t.isLt)
  q _ := fullShare
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = leftPrompt m c t := by dsimp only [dats]
theorem after6 (c : Dev nD) (t : Fin cfg0.N) : (dats m 0 c).after 6 t = rowsSample m c t := by dsimp only [dats]

theorem before0 (c : Dev nD) (t : Fin cfg0.N) (d) : (dats m 0 c).before 0 t d = iblk m c 0 t := before0_0_of m (dats m 0 c) (arrays m c 0) (after0 m c) t d
theorem before1 (c : Dev nD) (t : Fin cfg0.N) (d) : (dats m 0 c).before 1 t d = iblk m c 1 t := before0_1_of m (dats m 0 c) (arrays m c 1) (after1 m c) t d
theorem before2 (c : Dev nD) (t : Fin cfg0.N) (d) : (dats m 0 c).before 2 t d = iblk m c 2 t := before0_2_of m (dats m 0 c) (arrays m c 2) (after2 m c) t d
theorem before3 (c : Dev nD) (t : Fin cfg0.N) (d) : (dats m 0 c).before 3 t d = iblk m c 3 t := before0_3_of m (dats m 0 c) (arrays m c 3) (after3 m c) t d
theorem before4 (c : Dev nD) (t : Fin cfg0.N) (d) : (dats m 0 c).before 4 t d = iblk m c 4 t := before0_4_of m (dats m 0 c) (arrays m c 4) (after4 m c) t d

/-- Past the prompt its buffer still holds the prompt's last rows. -/
theorem before5_late (c : Dev nD) (k : ℕ) : ∀ (t : Fin cfg0.N) (d), t.val = 128 + k → (dats m 0 c).before 5 t d = rowsPrompt m c lastPrompt := by
  induction k with
  | zero =>
    intro t d ht
    have hp : t.val - 1 < cfg0.N := Nat.lt_of_le_of_lt (Nat.sub_le _ _) t.isLt
    have hf : (cfg0.win 5).flush ⟨t.val - 1, hp⟩ = false := by
      rw [Bool.eq_false_iff, ne_eq, flush_prompt]; dsimp only; omega
    have hc : k0_cond2 (grid0.coords ⟨t.val - 1, hp⟩) = 1#1 := (prompt_iff _).2 (by dsimp only; omega)
    rw [Dat.before_of_pos _ 5 t (by omega) rfl, if_neg (by rw [hf]; decide)]
    unfold Dat.left
    rw [live5 _ hc]
    show (dats m 0 c).after 5 ⟨t.val - 1, hp⟩ = _
    rw [after5, leftPrompt, if_pos (by dsimp only; omega)]
    exact congrArg (rowsPrompt m c) (Fin.ext (by show t.val - 1 = 127; omega))
  | succ k ih =>
    intro t d ht
    have hp : t.val - 1 < cfg0.N := Nat.lt_of_le_of_lt (Nat.sub_le _ _) t.isLt
    have hN := points t
    have hf : (cfg0.win 5).flush ⟨t.val - 1, hp⟩ = false := by
      rw [Bool.eq_false_iff, ne_eq, flush_prompt]; dsimp only; omega
    have hc : ¬k0_cond2 (grid0.coords ⟨t.val - 1, hp⟩) = 1#1 := fun h => by have := (prompt_iff _).1 h; dsimp only at this; omega
    rw [Dat.before_of_pos _ 5 t (by omega) rfl, if_neg (by rw [hf]; decide)]
    unfold Dat.left
    rw [idle5 _ hc]
    exact ih ⟨t.val - 1, hp⟩ d (by show t.val - 1 = _; omega)

/-! ## The body at every point -/

/-- An input's buffer is handed back at its block. -/
theorem leaves_in (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The current buffers of the seven windows. -/
abbrev buf0 (t : Fin cfg0.N) : Memref sig .tc .vmem S512x2048 .f32 := win0_0.stage (cfg0.slots t 0)
abbrev buf1 (t : Fin cfg0.N) : Memref sig .tc .vmem S1x2048 .f32 := win0_1.stage (cfg0.slots t 1)
abbrev buf2 (t : Fin cfg0.N) : Memref sig .tc .vmem S2048x1024 .bf16 := win0_2.stage (cfg0.slots t 2)
abbrev buf3 (t : Fin cfg0.N) : Memref sig .tc .vmem S1024x2048 .bf16 := win0_3.stage (cfg0.slots t 3)
abbrev buf4 (t : Fin cfg0.N) : Memref sig .tc .vmem S1x2048 .f32 := win0_4.stage (cfg0.slots t 4)
abbrev buf5 (t : Fin cfg0.N) : Memref sig .tc .vmem S512x2048 .f32 := win0_5.stage (cfg0.slots t 5)
abbrev buf6 (t : Fin cfg0.N) : Memref sig .tc .vmem S512x2048 .f32 := win0_6.stage (cfg0.slots t 6)

/-- The five inputs' buffers at a point, at their blocks. -/
abbrev inputsAt (c : Dev nD) (t : Fin cfg0.N) : sProp (MT nD τ sig Unit (Elt F) ℕ (UR sig nD τ) ℕ) :=
  inputs c (buf0 t) (buf1 t) (buf2 t) (buf3 t) (buf4 t) (iblk m c 0 t) (iblk m c 1 t) (iblk m c 2 t) (iblk m c 3 t) (iblk m c 4 t)

set_option maxHeartbeats 4000000 in
/-- The body's obligation with the inputs' buffers put together. -/
theorem sound (c : Dev nD) (t : Fin cfg0.N) :
    iprop(invariant m c t.val (Nat.le_of_lt t.isLt) ∗ (dats m 0 c).owesAt () t.castSucc ∗ inputsAt m c t
        ∗ (∃ d, owns (c : Thread nD τ) (buf5 t) fullShare ((dats m 0 c).before 5 t d))
        ∗ (∃ d, owns (c : Thread nD τ) (buf6 t) fullShare ((dats m 0 c).before 6 t d)))
      ⊢ wp frame (wpE (defs₀ (F := F)) Variants.none c none) Set.univ (bodyAt0 t) (fun _ =>
          iprop(invariant m c (t.val + 1) t.isLt ∗ (dats m 0 c).owesAt () t.castSucc ∗ inputsAt m c t
            ∗ (dats m 0 c).leavesExact 5 t ∗ (dats m 0 c).leavesExact 6 t)) := by
  have hN := points t
  unfold bodyAt0
  rw [show invariant m c (t.val + 1) t.isLt = iprop(iprop(owns (c : Thread nD τ) (Memref.whole cc0_scratch0) fullShare (scratch m c t.val t.isLt).1
      ∗ owns (c : Thread nD τ) (Memref.whole cc0_scratch1) fullShare (scratch m c t.val t.isLt).2) ∗ (∃ r, prngReg c r)) from rfl]
  by_cases h0 : t.val % 8 = 0
  · have c1 : isFirst (grid0.coords t) := (first_iff t).2 h0
    have c2 : ¬k0_cond2 (grid0.coords t) = 1#1 := fun h => by have := (prompt_iff t).1 h; omega
    have c3 : ¬k0_cond3 (grid0.coords t) = 1#1 := fun h => by have := (sample_iff t).1 h; omega
    have f5 : (cfg0.win 5).flush t = false := by rw [Bool.eq_false_iff, ne_eq, flush_prompt]; omega
    have f6 : (cfg0.win 6).flush t = false := by rw [Bool.eq_false_iff, ne_eq, flush_sample]; omega
    rw [Dat.leavesExact_idle _ 5 t (idle5 t c2) f5, Dat.leavesExact_idle _ 6 t (idle6 t c3) f6, scratch_first m c t h0]
    refine BIBase.Entails.trans (sep_mono (invariant_any m c t.val _) .rfl) ?_
    rw [invariant_zero]
    iintro ⟨⟨⟨HS0, HS1⟩, Hg⟩, Ho, Hi, H5, H6⟩
    iapply (run_first c (grid0.coords t) _ _ _ _ _ _ _ _ _ _ _ _ _ _ _ _ _ _ _ _ _ _ _ c1 c2 c3 Set.univ _)
    isplitl [Hi]; · iexact Hi
    isplitl [HS0]; · iexact HS0
    isplitl [HS1]; · iexact HS1
    iintro ⟨Hi, HS0, HS1⟩
    isplitl [HS0 HS1 Hg]
    · isplitl [HS0 HS1]
      · isplitl [HS0]; · iexact HS0
        iexact HS1
      iexact Hg
    isplitl [Ho]; · iexact Ho
    isplitl [Hi]; · iexact Hi
    isplitl [H5]; · iexact H5
    iexact H6
  have c1 : ¬isFirst (grid0.coords t) := fun h => h0 ((first_iff t).1 h)
  rw [invariant_pos m c t.val _ (by omega), scratch_next m c t h0]
  by_cases h2 : t.val % 8 = 7 ∧ t.val < 128
  · have c2 : k0_cond2 (grid0.coords t) = 1#1 := (prompt_iff t).2 h2
    have c3 : ¬k0_cond3 (grid0.coords t) = 1#1 := fun h => by have := (sample_iff t).1 h; omega
    have f6 : (cfg0.win 6).flush t = false := by rw [Bool.eq_false_iff, ne_eq, flush_sample]; omega
    rw [leaves_in m c 5 t (live5 t c2), Dat.leavesExact_idle _ 6 t (idle6 t c3) f6, after5, leftPrompt, if_pos h2.2, rowsPrompt, scratch_next m c t h0]
    iintro ⟨⟨⟨HS0, HS1⟩, Hg⟩, Ho, Hi, ⟨%d5, H5⟩, H6⟩
    iapply (run_prompt c (grid0.coords t) _ _ _ _ _ _ _ _ _ _ _ _ _ _ _ _ _ _ _ _ _ _ _ c1 c2 c3 _ _ Set.univ _)
    isplitl [Hi]; · iexact Hi
    isplitl [H5]; · iexists _; iexact H5
    isplitl [HS0]; · iexact HS0
    isplitl [HS1]; · iexact HS1
    iintro ⟨Hi, H5, HS0, HS1⟩
    isplitl [HS0 HS1 Hg]
    · isplitl [HS0 HS1]
      · isplitl [HS0]; · iexact HS0
        iexact HS1
      iexact Hg
    isplitl [Ho]; · iexact Ho
    isplitl [Hi]; · iexact Hi
    isplitl [H5]; · iexact H5
    iexact H6
  have c2 : ¬k0_cond2 (grid0.coords t) = 1#1 := fun h => h2 ((prompt_iff t).1 h)
  by_cases h3 : t.val = 135
  · have c3 : k0_cond3 (grid0.coords t) = 1#1 := (sample_iff t).2 h3
    have f5 : (cfg0.win 5).flush t = true := (flush_prompt t).2 (.inr h3)
    rw [show (dats m 0 c).leavesExact 5 t = owns (c : Thread nD τ) (buf5 t) fullShare ((dats m 0 c).after 5 t) from by
        unfold Dat.leavesExact; rw [idle5 t c2, f5],
      leaves_in m c 6 t (live6 t c3), after5, after6, leftPrompt, if_neg (by omega), rowsSample, scratch_next m c t h0]
    simp only [before5_late m c 7 t _ (by omega)]
    iintro ⟨⟨⟨HS0, HS1⟩, Hg⟩, Ho, Hi, ⟨%d5, H5⟩, ⟨%d6, H6⟩⟩
    iapply (run_sample c (grid0.coords t) _ _ _ _ _ _ _ _ _ _ _ _ _ _ _ _ _ _ _ _ _ _ _ c1 c2 c3 _ _ Set.univ _)
    isplitl [Hi]; · iexact Hi
    isplitl [H6]; · iexists _; iexact H6
    isplitl [HS0]; · iexact HS0
    isplitl [HS1]; · iexact HS1
    iintro ⟨Hi, H6, HS0, HS1⟩
    isplitl [HS0 HS1 Hg]
    · isplitl [HS0 HS1]
      · isplitl [HS0]; · iexact HS0
        iexact HS1
      iexact Hg
    isplitl [Ho]; · iexact Ho
    isplitl [Hi]; · iexact Hi
    isplitl [H5]; · iexact H5
    iexact H6
  have c3 : ¬k0_cond3 (grid0.coords t) = 1#1 := fun h => h3 ((sample_iff t).1 h)
  have f5 : (cfg0.win 5).flush t = false := by rw [Bool.eq_false_iff, ne_eq, flush_prompt]; omega
  have f6 : (cfg0.win 6).flush t = false := by rw [Bool.eq_false_iff, ne_eq, flush_sample]; omega
  rw [Dat.leavesExact_idle _ 5 t (idle5 t c2) f5, Dat.leavesExact_idle _ 6 t (idle6 t c3) f6]
  iintro ⟨⟨⟨HS0, HS1⟩, Hg⟩, Ho, Hi, H5, H6⟩
  iapply (run_middle c (grid0.coords t) _ _ _ _ _ _ _ _ _ _ _ _ _ _ _ _ _ _ _ _ _ _ _ c1 c2 c3 _ _ Set.univ _)
  isplitl [Hi]; · iexact Hi
  isplitl [HS0]; · iexact HS0
  isplitl [HS1]; · iexact HS1
  iintro ⟨Hi, HS0, HS1⟩
  isplitl [HS0 HS1 Hg]
  · isplitl [HS0 HS1]
    · isplitl [HS0]; · iexact HS0
      iexact HS1
    iexact Hg
  isplitl [Ho]; · iexact Ho
  isplitl [Hi]; · iexact Hi
  isplitl [H5]; · iexact H5
  iexact H6

set_option maxHeartbeats 4000000 in
/-- The same with the windows' buffers one by one. -/
theorem sound_windows (c : Dev nD) (t : Fin cfg0.N) :
    iprop((dats m 0 c).Φ t.castSucc ∗ (dats m 0 c).owesAt () t.castSucc
        ∗ (∃ d, owns (c : Thread nD τ) (buf0 t) fullShare ((dats m 0 c).before 0 t d))
        ∗ (∃ d, owns (c : Thread nD τ) (buf1 t) fullShare ((dats m 0 c).before 1 t d))
        ∗ (∃ d, owns (c : Thread nD τ) (buf2 t) fullShare ((dats m 0 c).before 2 t d))
        ∗ (∃ d, owns (c : Thread nD τ) (buf3 t) fullShare ((dats m 0 c).before 3 t d))
        ∗ (∃ d, owns (c : Thread nD τ) (buf4 t) fullShare ((dats m 0 c).before 4 t d))
        ∗ (∃ d, owns (c : Thread nD τ) (buf5 t) fullShare ((dats m 0 c).before 5 t d))
        ∗ (∃ d, owns (c : Thread nD τ) (buf6 t) fullShare ((dats m 0 c).before 6 t d)))
      ⊢ wp frame (wpE (defs₀ (F := F)) Variants.none c none) Set.univ (bodyAt0 t) (fun _ =>
          iprop((dats m 0 c).Φ t.succ ∗ (dats m 0 c).owesAt () t.succ
            ∗ (dats m 0 c).leavesExact 0 t ∗ (dats m 0 c).leavesExact 1 t ∗ (dats m 0 c).leavesExact 2 t ∗ (dats m 0 c).leavesExact 3 t
            ∗ (dats m 0 c).leavesExact 4 t ∗ (dats m 0 c).leavesExact 5 t ∗ (dats m 0 c).leavesExact 6 t)) := by
  simp only [before0, before1, before2, before3, before4]
  rw [show (dats m 0 c).owesAt () t.succ = (dats m 0 c).owesAt () t.castSucc from rfl,
    show (dats m 0 c).Φ t.succ = invariant m c (t.val + 1) t.isLt from rfl,
    show (dats m 0 c).Φ t.castSucc = invariant m c t.val (Nat.le_of_lt t.isLt) from rfl,
    leaves_in m c 0 t rfl, leaves_in m c 1 t rfl, leaves_in m c 2 t rfl, leaves_in m c 3 t rfl, leaves_in m c 4 t rfl,
    after0, after1, after2, after3, after4]
  refine triple_restated (sound m c t) rfl ?_ fun _ => ?_
  · unfold inputsAt inputs
    iintro ⟨HP, Ho, ⟨%d0, H0⟩, ⟨%d1, H1⟩, ⟨%d2, H2⟩, ⟨%d3, H3⟩, ⟨%d4, H4⟩, H5, H6⟩
    isplitl [HP]; · iexact HP
    isplitl [Ho]; · iexact Ho
    isplitl [H0 H1 H2 H3 H4]
    · isplitl [H0]; · iexact H0
      isplitl [H1]; · iexact H1
      isplitl [H2]; · iexact H2
      isplitl [H3]; · iexact H3
      iexact H4
    isplitl [H5]; · iexact H5
    iexact H6
  · unfold inputsAt inputs
    iintro ⟨HP, Ho, ⟨H0, H1, H2, H3, H4⟩, H5, H6⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_windows m c t) rfl .rfl fun _ => .rfl

/-! ## The run and the frame -/

set_option backward.isDefEq.respectTransparency.types false in
/-- Every execution ends, with every array at what the blocks write and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := fun _ => .rfl) (hout := fun c => invariant_any m c cfg0.N le_rfl)

/-- The same without the counters. -/
theorem run_arrays : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays m) (run_arrays m ρ)) ((θ_run defs _ _).mono (fun _ h => h.2) (run_quiescent m ρ))

end Cert.Kernel2Ideal.Mlp

end
-- ==== Proof.MlpSpec.lean ====
module

public import Idealize.ShloMosaic.PureOps.Ideal

@[expose] public section

/-! The feed-forward part in extended reals: a row's normalization, the hidden layer's share of a result, the finished row. -/

noncomputable section

namespace Cert.Mlp

open Idealize.ShloMosaic

/-- A row divided by the root of its mean square, and scaled. -/
def normed (x g : Fin 2048 → EReal) (n : Fin 2048) : EReal :=
  x n * Ideal.rsqrt (Ideal.div (∑ k, x k * x k) (Ideal.ofBits FTy.f32 0x45000000#32) + Ideal.ofBits FTy.f32 0x358637BD#32) * g n

/-- One hidden unit's share of one result. -/
def share (h : Fin 2048 → EReal) (wu : Fin 2048 → Fin 8192 → EReal) (wd : Fin 8192 → Fin 2048 → EReal) (n : Fin 2048) (j : Fin 8192) : EReal :=
  max (∑ k, h k * wu k j) 0 * max (∑ k, h k * wu k j) 0 * wd j n

/-- The finished row. -/
def finished (x g : Fin 2048 → EReal) (wu : Fin 2048 → Fin 8192 → EReal) (wd : Fin 8192 → Fin 2048 → EReal) (gf : Fin 2048 → EReal) (n : Fin 2048) : EReal :=
  normed (fun k => x k + ∑ j, share (normed x g) wu wd k j) gf n

/-- The shares of the hidden units before a position. -/
def partly (f : Fin 8192 → EReal) (s : ℕ) : EReal := ∑ j ∈ Finset.range s, if h : j < 8192 then f ⟨j, h⟩ else 0

theorem partly_zero (f : Fin 8192 → EReal) : partly f 0 = 0 := Finset.sum_range_zero _

theorem partly_all (f : Fin 8192 → EReal) : partly f 8192 = ∑ j, f j := by
  unfold partly
  rw [Finset.sum_range]
  exact Finset.sum_congr rfl fun j _ => dif_pos j.isLt

/-- The next thousand and twenty-four. -/
theorem partly_step (f : Fin 8192 → EReal) (s : ℕ) (hs : s < 8) :
    partly f (s * 1024) + ∑ j : Fin 1024, f ⟨s * 1024 + j.val, by omega⟩ = partly f ((s + 1) * 1024) := by
  unfold partly
  rw [Nat.succ_mul, Finset.sum_range_add, Finset.sum_range (n := 1024)]
  congr 1
  refine Finset.sum_congr rfl fun j _ => ?_
  rw [dif_pos (by omega)]

end Cert.Mlp

end
-- ==== Proof.MlpValue.lean ====
module

public import proofs.«01_k».proof.Proof.MlpFrame
public import proofs.«01_k».proof.Proof.MlpSpec
public import Idealize.ShloMosaic.Lib.Pointwise
public import Idealize.ShloMosaic.Lib.Pipeline.ValueKit.Point

@[expose] public section

set_option maxRecDepth 16384

/-! The feed-forward part's arrays: what the scratch holds after each point, and the two results. -/

noncomputable section

namespace Cert.Kernel2Ideal.Mlp

open Cert.Kernel2Ideal Cert.Kernel2Ideal.Gen Cert.Mlp
open Idealize.ShloMosaic Idealize.ShloMosaic.TcCoe
open Idealize.ShloMosaic.Pipeline (Dat Cfg Window BodyObligation cellOf)

/-! ## The body's values at an index -/

theorem normed_at (x : Vec Ideal S512x2048 .f32) (g : Vec Ideal S1x2048 .f32) (i : Fin 512) (n : Fin 2048) :
    (k0_pay1 x g (ix2 i n) : EReal) = normed (fun k => x (ix2 i k)) (fun k => g (ix2 0 k)) n := by
  pointwise [k0_pay1]
  rfl

theorem zero_at (i : Fin 512) (n : Fin 2048) : (k0_pay2 (F := Ideal) (ix2 i n) : EReal) = 0 := by
  pointwise [k0_pay2]

theorem added_at (h : Vec Ideal S512x2048 .bf16) (u : Vec Ideal S2048x1024 .bf16) (a : Vec Ideal S512x2048 .f32) (d : Vec Ideal S1024x2048 .bf16) (i : Fin 512) (n : Fin 2048) :
    (k0_pay3 h u a d (ix2 i n) : EReal) = a (ix2 i n)
      + ∑ j, max (∑ k, (h (ix2 i k) : EReal) * u (ix2 k j)) 0 * max (∑ k, (h (ix2 i k) : EReal) * u (ix2 k j)) 0 * d (ix2 j n) := by
  pointwise [k0_pay3]

theorem prompt_rows_at (x a : Vec Ideal S512x2048 .f32) (g : Vec Ideal S1x2048 .f32) (i : Fin 512) (n : Fin 2048) :
    (k0_pay4 x a g (ix2 i n) : EReal) = normed (fun k => x (ix2 i k) + a (ix2 i k)) (fun k => g (ix2 0 k)) n := by
  pointwise [k0_pay4]
  rfl

theorem sample_rows_at (x a : Vec Ideal S512x2048 .f32) (g : Vec Ideal S1x2048 .f32) (i : Fin 512) (n : Fin 2048) :
    (k0_pay5 x a g (ix2 i n) : EReal) = normed (fun k => x (ix2 i k) + a (ix2 i k)) (fun k => g (ix2 0 k)) n := by
  pointwise [k0_pay5]
  rfl

/-! ## The blocks -/

variable (m : (ℓ : Loc nD τ sig) → Buf (Elt Ideal) ℓ) (c : Dev nD)

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![0, 0] :=
  (by decide +kernel : ∀ t : Fin grid0.N, win0_1.index t = ![0, 0])
theorem index2 : ∀ t : Fin cfg0.N, win0_2.index t = ![0, t.val % 8] :=
  (by decide +kernel : ∀ t : Fin grid0.N, win0_2.index t = ![0, t.val % 8])
theorem index3 : ∀ t : Fin cfg0.N, win0_3.index t = ![t.val % 8, 0] :=
  (by decide +kernel : ∀ t : Fin grid0.N, win0_3.index t = ![t.val % 8, 0])
theorem index4 : ∀ t : Fin cfg0.N, win0_4.index t = ![0, 0] :=
  (by decide +kernel : ∀ t : Fin grid0.N, win0_4.index t = ![0, 0])
theorem index5 : ∀ t : Fin cfg0.N, win0_5.index t = ![min (t.val / 8) 15, 0] :=
  (by decide +kernel : ∀ t : Fin grid0.N, win0_5.index t = ![min (t.val / 8) 15, 0])
theorem index6 : ∀ t : Fin cfg0.N, win0_6.index t = ![0, 0] :=
  (by decide +kernel : ∀ t : Fin grid0.N, win0_6.index t = ![0, 0])

section
variable (a0 : FVec Ideal S8704x2048 .f32) (a1 : FVec Ideal S2048 .f32) (a2 : FVec Ideal S2048x8192 .f32) (a3 : FVec Ideal S8192x2048 .f32)
  (a4 : FVec Ideal S2048 .f32)
  (h0 : m ((c.tc : Thread nD τ).loc main_arg0) = a0) (h1 : m ((c.tc : Thread nD τ).loc main_arg1) = a1) (h2 : m ((c.tc : Thread nD τ).loc main_arg2) = a2)
  (h3 : m ((c.tc : Thread nD τ).loc main_arg3) = a3) (h4 : m ((c.tc : Thread nD τ).loc main_arg4) = a4)

include h2 in
theorem up_weights (k : Fin 2048) (j : Fin 8192) : (V m c main_v0 (ix2 k j) : EReal) = a2 (ix2 k j) := by
  have e : V m c main_v0 = (truncf .bf16 (m ((c.tc : Thread nD τ).loc main_arg2) : FVec Ideal S2048x8192 .f32) bitsLt_bf16_f32 : FVec Ideal S2048x8192 .bf16) := by
    unfold V hostOps0
    after_results_simp
  rw [e, h2]
  pointwise []

include h3 in
theorem down_weights (j : Fin 8192) (n : Fin 2048) : (V m c main_v1 (ix2 j n) : EReal) = a3 (ix2 j n) := by
  have e : V m c main_v1 = (truncf .bf16 (m ((c.tc : Thread nD τ).loc main_arg3) : FVec Ideal S8192x2048 .f32) bitsLt_bf16_f32 : FVec Ideal S8192x2048 .bf16) := by
    unfold V hostOps0
    after_results_simp
  rw [e, h3]
  pointwise []

include h1 in
theorem scales (n : Fin 2048) : (V m c main_v2 (ix2 0 n) : EReal) = a1 (ix1 n) := by
  have e : V m c main_v2 = shapeCast S1x2048 (m ((c.tc : Thread nD τ).loc main_arg1)) shapeCasts_S2048_S1x2048 := by
    unfold V hostOps0
    after_results_simp
    rfl
  rw [e, h1]
  pointwise []

include h4 in
theorem last_scales (n : Fin 2048) : (V m c main_v3 (ix2 0 n) : EReal) = a4 (ix1 n) := by
  have e : V m c main_v3 = shapeCast S1x2048 (m ((c.tc : Thread nD τ).loc main_arg4)) shapeCasts_S2048_S1x2048 := by
    unfold V hostOps0
    after_results_simp
    rfl
  rw [e, h4]
  pointwise []

variable (t : Fin cfg0.N)

include h0 in
theorem rows_block (i : Fin 512) (n : Fin 2048) : (iblk m c 0 t (ix2 i n) : EReal) = a0 (ix2 ⟨t.val / 8 * 512 + i.val, by have := points t; omega⟩ n) := by
  unfold iblk
  blk_simp
  rw [show V m c (Pipeline.arrRef spec0 0) = a0 from (V_main_arg0 m c).trans h0]
  congr 1
  funext a
  apply Fin.ext
  refine (Pipeline.Window.rect_emb_val win0_0 t _ a).trans ?_
  rw [index0]
  match a with
  | 0 => rfl
  | 1 => show 0 * 2048 + n.val = n.val; omega

include h1 in
theorem scales_block (n : Fin 2048) : (iblk m c 1 t (ix2 0 n) : EReal) = a1 (ix1 n) := by
  refine Eq.trans ?_ (scales m c a1 h1 n)
  unfold iblk
  blk_simp
  refine congrArg (V m c main_v2) (funext fun a => Fin.ext ?_)
  refine (Pipeline.Window.rect_emb_val win0_1 t _ a).trans ?_
  rw [index1]
  match a with
  | 0 => rfl
  | 1 => show 0 * 2048 + n.val = n.val; omega

include h2 in
theorem up_block (k : Fin 2048) (j : Fin 1024) : (iblk m c 2 t (ix2 k j) : EReal) = a2 (ix2 k ⟨t.val % 8 * 1024 + j.val, by omega⟩) := by
  refine Eq.trans ?_ (up_weights m c a2 h2 k _)
  unfold iblk
  blk_simp
  refine congrArg (V m c main_v0) (funext fun a => Fin.ext ?_)
  refine (Pipeline.Window.rect_emb_val win0_2 t _ a).trans ?_
  rw [index2]
  match a with
  | 0 => show 0 * 2048 + k.val = k.val; omega
  | 1 => rfl

include h3 in
theorem down_block (j : Fin 1024) (n : Fin 2048) : (iblk m c 3 t (ix2 j n) : EReal) = a3 (ix2 ⟨t.val % 8 * 1024 + j.val, by omega⟩ n) := by
  refine Eq.trans ?_ (down_weights m c a3 h3 _ n)
  unfold iblk
  blk_simp
  refine congrArg (V m c main_v1) (funext fun a => Fin.ext ?_)
  refine (Pipeline.Window.rect_emb_val win0_3 t _ a).trans ?_
  rw [index3]
  match a with
  | 0 => rfl
  | 1 => show 0 * 2048 + n.val = n.val; omega

include h4 in
theorem last_scales_block (n : Fin 2048) : (iblk m c 4 t (ix2 0 n) : EReal) = a4 (ix1 n) := by
  refine Eq.trans ?_ (last_scales m c a4 h4 n)
  unfold iblk
  blk_simp
  refine congrArg (V m c main_v3) (funext fun a => Fin.ext ?_)
  refine (Pipeline.Window.rect_emb_val win0_4 t _ a).trans ?_
  rw [index4]
  match a with
  | 0 => rfl
  | 1 => show 0 * 2048 + n.val = n.val; omega

/-! ## The scratch -/

/-- A position's normalized row. -/
def normRow (i : Fin 8704) : Fin 2048 → EReal := normed (fun k => a0 (ix2 i k)) (fun k => a1 (ix1 k))

/-- The hidden units' shares of a result. -/
def shares (i : Fin 8704) (n : Fin 2048) : Fin 8192 → EReal := share (normRow a0 a1 i) (fun k j => a2 (ix2 k j)) (fun j k => a3 (ix2 j k)) n

include h0 h1 in
theorem begun_rows (i : Fin 512) (n : Fin 2048) : (k0_pay1 (iblk m c 0 t) (iblk m c 1 t) (ix2 i n) : EReal)
    = normRow a0 a1 ⟨t.val / 8 * 512 + i.val, by have := points t; omega⟩ n := by
  rw [normed_at]
  unfold normRow
  congr 1
  · funext k; exact rows_block m c a0 h0 t i k
  · funext k; exact scales_block m c a1 h1 t k

include h2 h3 in
/-- One point adds the shares of its hidden units. -/
theorem point_adds (h : Vec Ideal S512x2048 .bf16) (a : Vec Ideal S512x2048 .f32) (i : Fin 512) (n : Fin 2048) (r : Fin 8704)
    (hh : ∀ k, (h (ix2 i k) : EReal) = normRow a0 a1 r k) (ha : (a (ix2 i n) : EReal) = partly (shares a0 a1 a2 a3 r n) (t.val % 8 * 1024)) :
    (k0_pay3 h (iblk m c 2 t) a (iblk m c 3 t) (ix2 i n) : EReal) = partly (shares a0 a1 a2 a3 r n) ((t.val % 8 + 1) * 1024) := by
  rw [added_at, ha, ← partly_step _ _ (Nat.mod_lt _ (by decide))]
  congr 1
  refine Finset.sum_congr rfl fun j _ => ?_
  simp only [hh, up_block m c a2 h2 t, down_block m c a3 h3 t]
  rfl

include h0 h1 h2 h3 in
/-- The scratch after a point: the normalized rows, and the shares of the hidden units so far. -/
theorem scratch_at (i : Fin 512) : ∀ (n : ℕ) (hn : n < cfg0.N),
    (∀ k, ((scratch m c n hn).1 (ix2 i k) : EReal) = normRow a0 a1 ⟨n / 8 * 512 + i.val, by have := points ⟨n, hn⟩; dsimp only at this; omega⟩ k)
    ∧ ∀ k, ((scratch m c n hn).2 (ix2 i k) : EReal)
        = partly (shares a0 a1 a2 a3 ⟨n / 8 * 512 + i.val, by have := points ⟨n, hn⟩; dsimp only at this; omega⟩ k) ((n % 8 + 1) * 1024) := by
  intro n
  induction n with
  | zero =>
    intro hn
    have hb := begun_rows m c a0 a1 h0 h1 ⟨0, hn⟩ i
    refine ⟨hb, fun k => ?_⟩
    exact point_adds m c a0 a1 a2 a3 h2 h3 ⟨0, hn⟩ _ _ i k _ hb ((zero_at i k).trans (partly_zero _).symm)
  | succ n ih =>
    intro hn
    by_cases h8 : (n + 1) % 8 = 0
    · have hb := begun_rows m c a0 a1 h0 h1 ⟨n + 1, hn⟩ i
      rw [scratch_first m c ⟨n + 1, hn⟩ h8]
      refine ⟨hb, fun k => ?_⟩
      refine point_adds m c a0 a1 a2 a3 h2 h3 ⟨n + 1, hn⟩ _ _ i k _ hb ?_
      refine (zero_at i k).trans ?_
      show 0 = partly _ ((n + 1) % 8 * 1024)
      rw [h8]
      exact (partly_zero _).symm
    · obtain ⟨i1, i2⟩ := ih (Nat.lt_of_succ_lt hn)
      have e8 : (n + 1) / 8 = n / 8 := by omega
      have m8 : n % 8 + 1 = (n + 1) % 8 := by omega
      rw [scratch_next m c ⟨n + 1, hn⟩ h8]
      have er : (⟨(n + 1) / 8 * 512 + i.val, by have := points ⟨n + 1, hn⟩; dsimp only at this; omega⟩ : Fin 8704)
          = ⟨n / 8 * 512 + i.val, by have := points ⟨n + 1, hn⟩; dsimp only at this; omega⟩ := Fin.ext (by show (n + 1) / 8 * 512 + i.val = _; rw [e8])
      rw [er]
      refine ⟨i1, fun k => ?_⟩
      refine point_adds m c a0 a1 a2 a3 h2 h3 ⟨n + 1, hn⟩ _ _ i k _ i1 ?_
      rw [← m8]
      exact i2 k

/-! ## The finished rows -/

/-- The finished row of a position of the residual stream. -/
def row (i : Fin 8704) (n : Fin 2048) : EReal :=
  finished (fun k => a0 (ix2 i k)) (fun k => a1 (ix1 k)) (fun k j => a2 (ix2 k j)) (fun j k => a3 (ix2 j k)) (fun k => a4 (ix1 k)) n

include h0 h1 h2 h3 in
theorem before_norm (h7 : t.val % 8 = 7) (i : Fin 512) (k : Fin 2048) : HAdd.hAdd (α := EReal) (β := EReal) (γ := EReal) (iblk m c 0 t (ix2 i k)) ((scratch m c t.val t.isLt).2 (ix2 i k))
    = a0 (ix2 ⟨t.val / 8 * 512 + i.val, by have := points t; omega⟩ k) + ∑ j, shares a0 a1 a2 a3 ⟨t.val / 8 * 512 + i.val, by have := points t; omega⟩ k j := by
  rw [rows_block m c a0 h0 t, (scratch_at m c a0 a1 a2 a3 h0 h1 h2 h3 i t.val t.isLt).2 k, h7, ← partly_all]

include h0 h1 h2 h3 h4 in
theorem prompt_row_at (h7 : t.val % 8 = 7) (i : Fin 512) (n : Fin 2048) :
    (rowsPrompt m c t (ix2 i n) : EReal) = row a0 a1 a2 a3 a4 ⟨t.val / 8 * 512 + i.val, by have := points t; omega⟩ n := by
  unfold rowsPrompt
  rw [prompt_rows_at]
  unfold row finished
  congr 1
  · funext k; exact before_norm m c a0 a1 a2 a3 h0 h1 h2 h3 t h7 i k
  · funext k; exact last_scales_block m c a4 h4 t k

include h0 h1 h2 h3 h4 in
theorem sample_row_at (h7 : t.val % 8 = 7) (i : Fin 512) (n : Fin 2048) :
    (rowsSample m c t (ix2 i n) : EReal) = row a0 a1 a2 a3 a4 ⟨t.val / 8 * 512 + i.val, by have := points t; omega⟩ n := by
  unfold rowsSample
  rw [sample_rows_at]
  unfold row finished
  congr 1
  · funext k; exact before_norm m c a0 a1 a2 a3 h0 h1 h2 h3 t h7 i k
  · funext k; exact last_scales_block m c a4 h4 t k

/-! ## The arrays -/

include h0 h1 h2 h3 h4 in
/-- The prompt's array after the last point. -/
theorem prompt_array (R : FVec Ideal S8192x2048 .f32) (hR : ∀ (i : Fin 8192) (n : Fin 2048), (R (ix2 i n) : EReal) = row a0 a1 a2 a3 a4 ⟨i.val, by omega⟩ n) :
    (dats m 0 c).arrAt 5 cfg0.N = R := by
  refine (dats m 0 c).arrAt_eq_of_covers 5 _ (by decide +kernel) fun t hf y => ?_
  blk_simp
  rw [after5]
  have ht := points t
  have hfl := (flush_prompt t).1 hf
  have hi : (y 0 : ℕ) < 512 := (y 0).isLt
  have hd : (y 1 : ℕ) < 2048 := (y 1).isLt
  have ey : y = ix2 ⟨(y 0 : ℕ), hi⟩ ⟨(y 1 : ℕ), hd⟩ := by
    funext a
    match a with
    | 0 => rfl
    | 1 => rfl
  have eo : (win0_5.blk t).view.emb y = ix2 ⟨min (t.val / 8) 15 * 512 + (y 0 : ℕ), by omega⟩ ⟨(y 1 : ℕ), hd⟩ := by
    funext a
    apply Fin.ext
    refine (Pipeline.Window.rect_emb_val win0_5 t y a).trans ?_
    rw [index5]
    match a with
    | 0 => rfl
    | 1 => show 0 * 2048 + (y 1 : ℕ) = (y 1 : ℕ); omega
  refine Eq.trans ?_ (congrArg R eo).symm
  refine (congrArg _ ey).trans ?_
  refine Eq.trans ?_ (hR _ _).symm
  unfold leftPrompt
  by_cases hp : t.val < 128
  · rw [if_pos hp]
    refine (prompt_row_at m c a0 a1 a2 a3 a4 h0 h1 h2 h3 h4 t (by omega) _ _).trans ?_
    exact congrArg (fun i => row a0 a1 a2 a3 a4 i _) (Fin.ext (by show t.val / 8 * 512 + (y 0 : ℕ) = min (t.val / 8) 15 * 512 + (y 0 : ℕ); omega))
  · rw [if_neg hp]
    refine (prompt_row_at m c a0 a1 a2 a3 a4 h0 h1 h2 h3 h4 lastPrompt rfl _ _).trans ?_
    exact congrArg (fun i => row a0 a1 a2 a3 a4 i _) (Fin.ext (by show 127 / 8 * 512 + (y 0 : ℕ) = min (t.val / 8) 15 * 512 + (y 0 : ℕ); omega))

include h0 h1 h2 h3 h4 in
/-- The sample's array after the last point. -/
theorem sample_array (R : FVec Ideal S512x2048 .f32) (hR : ∀ (i : Fin 512) (n : Fin 2048), (R (ix2 i n) : EReal) = row a0 a1 a2 a3 a4 ⟨8192 + i.val, by omega⟩ n) :
    (dats m 0 c).arrAt 6 cfg0.N = R := by
  refine (dats m 0 c).arrAt_eq_of_covers 6 _ (by decide +kernel) fun t hf y => ?_
  blk_simp
  rw [after6]
  have hfl := (flush_sample t).1 hf
  have hi : (y 0 : ℕ) < 512 := (y 0).isLt
  have hd : (y 1 : ℕ) < 2048 := (y 1).isLt
  have ey : y = ix2 ⟨(y 0 : ℕ), hi⟩ ⟨(y 1 : ℕ), hd⟩ := by
    funext a
    match a with
    | 0 => rfl
    | 1 => rfl
  have eo : (win0_6.blk t).view.emb y = ix2 ⟨(y 0 : ℕ), hi⟩ ⟨(y 1 : ℕ), hd⟩ := by
    funext a
    apply Fin.ext
    refine (Pipeline.Window.rect_emb_val win0_6 t y a).trans ?_
    rw [index6]
    match a with
    | 0 => show 0 * 512 + (y 0 : ℕ) = (y 0 : ℕ); omega
    | 1 => show 0 * 2048 + (y 1 : ℕ) = (y 1 : ℕ); omega
  refine Eq.trans ?_ (congrArg R eo).symm
  refine (congrArg _ ey).trans ?_
  refine Eq.trans ?_ (hR _ _).symm
  refine (sample_row_at m c a0 a1 a2 a3 a4 h0 h1 h2 h3 h4 t (by omega) _ _).trans ?_
  exact congrArg (fun i => row a0 a1 a2 a3 a4 i _) (Fin.ext (by show t.val / 8 * 512 + (y 0 : ℕ) = 8192 + (y 0 : ℕ); omega))

end

end Cert.Kernel2Ideal.Mlp

end
-- ==== Proof.MlpRef.lean ====
module

public import proofs.«01_k».proof.Proof.MlpSpec
public import proofs.«01_k».proof.Proof.Gen.Reference2Ideal.Run
public import Idealize.ShloMosaic.Lib.Pointwise

@[expose] public section

set_option maxRecDepth 16384

/-! The feed-forward part's reference at an index. -/

noncomputable section

namespace Cert.Reference2Ideal.Mlp

open Cert.Reference2Ideal Cert.Reference2Ideal.Gen Cert.Reference2Ideal.Value Cert.Mlp
open Idealize.ShloMosaic Idealize.ShloMosaic.TcCoe

variable (a0 : FVec Ideal S8704x2048 .f32) (a1 : FVec Ideal S2048 .f32) (a2 : FVec Ideal S2048x8192 .f32) (a3 : FVec Ideal S8192x2048 .f32)
  (a4 : FVec Ideal S2048 .f32)

/-- The finished row of a position of the residual stream. -/
def row (i : Fin 8704) (n : Fin 2048) : EReal :=
  finished (fun k => a0 (ix2 i k)) (fun k => a1 (ix1 k)) (fun k j => a2 (ix2 k j)) (fun j k => a3 (ix2 j k)) (fun k => a4 (ix1 k)) n

variable (m : (ℓ : Loc nD τ sig) → Buf (Elt Ideal) ℓ) (c : Dev nD)

/-- The prompt's result at an index. -/
theorem prompt_at (h0 : m ((c.tc : Thread nD τ).loc main_arg0) = a0) (h1 : m ((c.tc : Thread nD τ).loc main_arg1) = a1) (h2 : m ((c.tc : Thread nD τ).loc main_arg2) = a2)
    (h3 : m ((c.tc : Thread nD τ).loc main_arg3) = a3) (h4 : m ((c.tc : Thread nD τ).loc main_arg4) = a4) (i : Fin 8192) (n : Fin 2048) :
    (res_main_v31 m c (ix2 i n) : EReal) = row a0 a1 a2 a3 a4 ⟨i.val, by omega⟩ n := by
  unfold res_main_v31
  rw [h0, h1, h2, h3, h4]
  pointwise []
  rfl

/-- The sample's result at an index. -/
theorem sample_at (h0 : m ((c.tc : Thread nD τ).loc main_arg0) = a0) (h1 : m ((c.tc : Thread nD τ).loc main_arg1) = a1) (h2 : m ((c.tc : Thread nD τ).loc main_arg2) = a2)
    (h3 : m ((c.tc : Thread nD τ).loc main_arg3) = a3) (h4 : m ((c.tc : Thread nD τ).loc main_arg4) = a4) (i : Fin 512) (n : Fin 2048) :
    (res_main_v32 m c (ix2 i n) : EReal) = row a0 a1 a2 a3 a4 ⟨8192 + i.val, by omega⟩ n := by
  unfold res_main_v32
  rw [h0, h1, h2, h3, h4]
  pointwise []
  rfl

end Cert.Reference2Ideal.Mlp

end
-- ==== Proof.MlpClaims.lean ====
module

public import proofs.«01_k».proof.Defs
public import proofs.«01_k».proof.Proof.MlpValue
public import proofs.«01_k».proof.Proof.MlpRef
public import proofs.«01_k».proof.Proof.Gen.Kernel2
public import Idealize.ShloMosaic.Lib.Quiescent

@[expose] public section

set_option maxRecDepth 16384

/-! The claims about the feed-forward part. -/

noncomputable section

namespace Cert.MlpClaims

open Idealize.ShloMosaic Idealize.SL.Sem

/-- The two programs' kernels are one text. -/
theorem bodies_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl

theorem defs_eq : Cert.Kernel2.defs (F := Bits) = Cert.Kernel2Ideal.defs (F := Bits) :=
  congrArg (Pipeline.defs Cert.Kernel2.pcfgs) bodies_eq

/-- The compiled program's run is the idealized one's, read at words. -/
theorem frame_kernel : Cert.quiescent_Kernel2 := fun m ρ _ =>
  (congrArg (fun D => θ_run D (onTc (τ := Cert.Kernel2.τ) (Cert.Kernel2.main (F := Bits))) ⟨m, fun _ => 0, ρ⟩ _) defs_eq).mpr
    (Cert.Kernel2Ideal.Mlp.frame_any (F := Bits) m ρ)

theorem frame_ideal : Cert.quiescent_Kernel2Ideal := fun m ρ _ => Cert.Kernel2Ideal.Mlp.frame_any (F := Ideal) m ρ

theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Nothing is replaced. -/
theorem preserves : Cert.preserves_Kernel2_Kernel2Ideal := trivial

open Cert.Kernel2Ideal Cert.Kernel2Ideal.Gen Cert.Kernel2Ideal.Mlp in
/-- The kernel's two output arrays, with the arguments unchanged. -/
theorem kernel_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v4_0) = (dats m 0 c).arrAt 5 cfg0.N
        ∧ r.2.mem ((c.tc : Thread nD τ).loc main_v4_1) = (dats m 0 c).arrAt 6 cfg0.N)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun _ h c => ⟨⟨(h.1 c).1 5, (h.1 c).1 6⟩, h.2 c⟩)
    (θ_run_and (run_arrays m ρ) (frame_of m ρ (dats m) (arrays m) (run_arrays m ρ)))

/-- The kernel's two output arrays are the reference's results. -/
theorem algebraic : Cert.algebraic_Kernel2Ideal_Reference2Ideal := fun m ρ m' ρ' _ ha =>
  ⟨fun c => Cert.Reference2Ideal.Value.res_main_v31 m' c, fun c => Cert.Reference2Ideal.Value.res_main_v32 m' c,
    (θ_run Cert.Kernel2Ideal.defs _ _).mono (fun r h c => by
      obtain ⟨⟨hp, hs⟩, hr⟩ := h c
      obtain ⟨e0, e1, e2, e3, e4⟩ := ha c
      refine ⟨hp.trans ?_, hs.trans ?_, hr⟩
      · exact Cert.Kernel2Ideal.Mlp.prompt_array m c _ _ _ _ _ e0.symm e1.symm e2.symm e3.symm e4.symm _
          (fun i n => Cert.Reference2Ideal.Mlp.prompt_at _ _ _ _ _ m' c rfl rfl rfl rfl rfl i n)
      · exact Cert.Kernel2Ideal.Mlp.sample_array m c _ _ _ _ _ e0.symm e1.symm e2.symm e3.symm e4.symm _
          (fun i n => Cert.Reference2Ideal.Mlp.sample_at _ _ _ _ _ m' c rfl rfl rfl rfl rfl i n)) (kernel_arrays m ρ),
    Cert.Reference2Ideal.Value.run m' ρ'⟩

end Cert.MlpClaims

end
-- ==== Proof.MlpCastRun.lean ====
module

public import proofs.«01_k».proof.Proof.Gen.Kernel3Ideal.Frame
public import proofs.«01_k».proof.Proof.Gen.Kernel3Ideal.Skeleton
public import Idealize.ShloMosaic.Lib.VecWindow
public import Idealize.ShloMosaic.Lib.WholeRead

@[expose] public section

set_option maxRecDepth 16384

/-! The first layer's feed-forward body run on any staging buffers: the weight casts that ride on a point, then the
    feed-forward part, for the first hidden tile of a block of rows and for a later one. -/

noncomputable section

namespace Cert.Kernel3Ideal.MlpCast

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The condition of the first hidden tile. -/
abbrev isFirst (i : grid0.Coords) : Prop :=
  (Scalar.cmpi .ne (Scalar.extui (Scalar.cmpi .eq (BitVec.ofNat 32 (i 1).val) 0#32)) 0#32) = 1#1

/-- A buffer at contents that read as a value holds that value. -/
theorem held (c : Dev nD) {s : Shape} {e : EltTy} (a : Memref sig .tc .vmem s e) (f : a.view.ty.Contents (Elt F)) (x : s.Idx → Elt F e)
    (hf : a.view.read (Elt F) f = x) :
    ((a.view.loc (c : Thread nD τ)) ↦[a.view.set]{fullShare} f : sProp (MT nD τ sig Unit (Elt F) ℕ (UR sig nD τ) ℕ))
      ⊢ iprop(∃ f, ⌜a.view.read (Elt F) f = x⌝ ∗ ((a.view.loc (c : Thread nD τ)) ↦[a.view.set]{fullShare} f)) := by
  iintro H
  iexists f
  isplitr
  · ipureintro; exact hf
  iexact H

variable (c : Dev nD) (i : grid0.Coords)
  (arg2 : Memref sig .tc .vmem S512x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S1024x2048 .bf16) (harg5 : arg5.IsWhole)
  (arg6 : Memref sig .tc .vmem S1x16x8192 .f32) (harg6 : arg6.IsWhole) (arg7 : Memref sig .tc .vmem S1x64x2048 .f32) (harg7 : arg7.IsWhole)
  (arg8 : Memref sig .tc .vmem S1x16x2048 .f32) (harg8 : arg8.IsWhole) (arg9 : Memref sig .tc .vmem S16x3072 .f32) (harg9 : arg9.IsWhole)
  (arg10 : Memref sig .tc .vmem S1x16x2048 .f32) (harg10 : arg10.IsWhole) (arg11 : Memref sig .tc .vmem S512x2048 .f32) (harg11 : arg11.IsWhole)
  (arg12 : Memref sig .tc .vmem S16x8192 .bf16) (harg12 : arg12.IsWhole) (arg13 : Memref sig .tc .vmem S64x2048 .bf16) (harg13 : arg13.IsWhole)
  (arg14 : Memref sig .tc .vmem S16x2048 .bf16) (harg14 : arg14.IsWhole) (arg15 : Memref sig .tc .vmem S16x3072 .bf16) (harg15 : arg15.IsWhole)
  (arg16 : Memref sig .tc .vmem S16x2048 .bf16) (harg16 : arg16.IsWhole) (arg17 : Memref sig .tc .vmem S512x2048 .bf16) (harg17 : arg17.IsWhole)
  (x : Vec F S512x2048 .f32) (g : Vec F S1x2048 .f32) (wu : Vec F S2048x1024 .bf16) (wd : Vec F S1024x2048 .bf16)
  (s1 : Vec F S1x16x8192 .f32) (s2 : Vec F S1x64x2048 .f32) (s3 : Vec F S1x16x2048 .f32) (s4 : Vec F S16x3072 .f32) (s5 : Vec F S1x16x2048 .f32)

/-- The four buffers that the feed-forward part reads, at their contents. -/
def inputs : sProp (MT nD τ sig Unit (Elt F) ℕ (UR sig nD τ) ℕ) :=
  iprop(owns (c : Thread nD τ) arg2 fullShare x ∗ owns (c : Thread nD τ) arg3 fullShare g ∗ owns (c : Thread nD τ) arg4 fullShare wu
    ∗ owns (c : Thread nD τ) arg5 fullShare wd)

/-- The five buffers that the casts read, at their contents. -/
def sources : sProp (MT nD τ sig Unit (Elt F) ℕ (UR sig nD τ) ℕ) :=
  iprop(owns (c : Thread nD τ) arg6 fullShare s1 ∗ owns (c : Thread nD τ) arg7 fullShare s2 ∗ owns (c : Thread nD τ) arg8 fullShare s3
    ∗ owns (c : Thread nD τ) arg9 fullShare s4 ∗ owns (c : Thread nD τ) arg10 fullShare s5)

/-- The five buffers that the casts fill, at the cast contents. -/
def filled : sProp (MT nD τ sig Unit (Elt F) ℕ (UR sig nD τ) ℕ) :=
  iprop(owns (c : Thread nD τ) arg12 fullShare (k0_pay1 s1) ∗ owns (c : Thread nD τ) arg13 fullShare (k0_pay2 s2) ∗ owns (c : Thread nD τ) arg14 fullShare (k0_pay3 s3)
    ∗ owns (c : Thread nD τ) arg15 fullShare (k0_pay4 s4) ∗ owns (c : Thread nD τ) arg16 fullShare (k0_pay5 s5))

/-- The same five at anything. -/
def unfilled : sProp (MT nD τ sig Unit (Elt F) ℕ (UR sig nD τ) ℕ) :=
  iprop((∃ d, owns (c : Thread nD τ) arg12 fullShare d) ∗ (∃ d, owns (c : Thread nD τ) arg13 fullShare d) ∗ (∃ d, owns (c : Thread nD τ) arg14 fullShare d)
    ∗ (∃ d, owns (c : Thread nD τ) arg15 fullShare d) ∗ (∃ d, owns (c : Thread nD τ) arg16 fullShare d))

/-- The casts that ride on a point: each of the five chunks is stored rounded, while there are chunks. -/
def castPart : Prog (TpuEff nD τ sig (Elt F) Λ₀ .tc) PUnit := do
  if k0_h1 : k0_cond1 i = 1#1 then do
    let v23 : Vec F S1x16x8192 .f32 ← Prog.lift (.load arg6 (Rect.unit (s := S1x16x8192) ![0, 0, 0] S1x16x8192.size inb_S1x16x8192_S1x16x8192_0_0_0).toLoadRect (View.loadsAt_vmem h_S1x16x8192))
    let v26 : Vec F S16x8192 .bf16 ← Prog.lift (.load arg12 (Rect.unit (s := S16x8192) ![0, 0] S16x8192.size inb_S16x8192_S16x8192_0_0).toLoadRect (View.loadsAt_vmem h_S16x8192))
    Prog.lift (.store arg12 (Rect.unit (s := S16x8192) ![0, 0] S16x8192.size inb_S16x8192_S16x8192_0_0) (k0_pay1 v23) Finset.univ (View.stores_vmem h_S16x8192 (harg12.storeExact_slice rfl _ packedbf16_S16x8192_S16x8192_0_0) (fun _ => rfl)) (.inl rfl))
    let v27 : Vec F S1x64x2048 .f32 ← Prog.lift (.load arg7 (Rect.unit (s := S1x64x2048) ![0, 0, 0] S1x64x2048.size inb_S1x64x2048_S1x64x2048_0_0_0).toLoadRect (View.loadsAt_vmem h_S1x64x2048))
    let v30 : Vec F S64x2048 .bf16 ← Prog.lift (.load arg13 (Rect.unit (s := S64x2048) ![0, 0] S64x2048.size inb_S64x2048_S64x2048_0_0).toLoadRect (View.loadsAt_vmem h_S64x2048))
    Prog.lift (.store arg13 (Rect.unit (s := S64x2048) ![0, 0] S64x2048.size inb_S64x2048_S64x2048_0_0) (k0_pay2 v27) Finset.univ (View.stores_vmem h_S64x2048 (harg13.storeExact_slice rfl _ packedbf16_S64x2048_S64x2048_0_0) (fun _ => rfl)) (.inl rfl))
    let v31 : Vec F S1x16x2048 .f32 ← Prog.lift (.load arg8 (Rect.unit (s := S1x16x2048) ![0, 0, 0] S1x16x2048.size inb_S1x16x2048_S1x16x2048_0_0_0).toLoadRect (View.loadsAt_vmem h_S1x16x2048))
    let v34 : Vec F S16x2048 .bf16 ← Prog.lift (.load arg14 (Rect.unit (s := S16x2048) ![0, 0] S16x2048.size inb_S16x2048_S16x2048_0_0).toLoadRect (View.loadsAt_vmem h_S16x2048))
    Prog.lift (.store arg14 (Rect.unit (s := S16x2048) ![0, 0] S16x2048.size inb_S16x2048_S16x2048_0_0) (k0_pay3 v31) Finset.univ (View.stores_vmem h_S16x2048 (harg14.storeExact_slice rfl _ packedbf16_S16x2048_S16x2048_0_0) (fun _ => rfl)) (.inl rfl))
    let v35 : Vec F S16x3072 .f32 ← Prog.lift (.load arg9 (Rect.unit (s := S16x3072) ![0, 0] S16x3072.size inb_S16x3072_S16x3072_0_0).toLoadRect (View.loadsAt_vmem h_S16x3072))
    let v37 : Vec F S16x3072 .bf16 ← Prog.lift (.load arg15 (Rect.unit (s := S16x3072) ![0, 0] S16x3072.size inb_S16x3072_S16x3072_0_0).toLoadRect (View.loadsAt_vmem h_S16x3072))
    Prog.lift (.store arg15 (Rect.unit (s := S16x3072) ![0, 0] S16x3072.size inb_S16x3072_S16x3072_0_0) (k0_pay4 v35) Finset.univ (View.stores_vmem h_S16x3072 (harg15.storeExact_slice rfl _ packedbf16_S16x3072_S16x3072_0_0) (fun _ => rfl)) (.inl rfl))
    let v38 : Vec F S1x16x2048 .f32 ← Prog.lift (.load arg10 (Rect.unit (s := S1x16x2048) ![0, 0, 0] S1x16x2048.size inb_S1x16x2048_S1x16x2048_0_0_0).toLoadRect (View.loadsAt_vmem h_S1x16x2048))
    let v41 : Vec F S16x2048 .bf16 ← Prog.lift (.load arg16 (Rect.unit (s := S16x2048) ![0, 0] S16x2048.size inb_S16x2048_S16x2048_0_0).toLoadRect (View.loadsAt_vmem h_S16x2048))
    Prog.lift (.store arg16 (Rect.unit (s := S16x2048) ![0, 0] S16x2048.size inb_S16x2048_S16x2048_0_0) (k0_pay5 v38) Finset.univ (View.stores_vmem h_S16x2048 (harg16.storeExact_slice rfl _ packedbf16_S16x2048_S16x2048_0_0) (fun _ => rfl)) (.inl rfl))
    pure ⟨⟩
  else do
    pure ⟨⟩

/-- The feed-forward part of a point. -/
def tilePart : Prog (TpuEff nD τ sig (Elt F) Λ₀ .tc) PUnit := do
  let arg1 : BitVec 32 := BitVec.ofNat 32 (i 1).val
  let v5 : BitVec 1 := Scalar.cmpi .eq arg1 0#32
  let v6 : BitVec 32 := Scalar.extui v5
  let v7 : BitVec 1 := Scalar.cmpi .ne v6 0#32
  if k0_h2 : v7 = 1#1 then do
    let v23 : Vec F S512x2048 .f32 ← Prog.lift (.load arg2 (Rect.unit (s := S512x2048) ![0, 0] S512x2048.size inb_S512x2048_S512x2048_0_0).toLoadRect (View.loadsAt_vmem h_S512x2048))
    let v34 : Vec F S1x2048 .f32 ← Prog.lift (.load arg3 (Rect.unit (s := S1x2048) ![0, 0] S1x2048.size inb_S1x2048_S1x2048_0_0).toLoadRect (View.loadsAt_vmem h_S1x2048))
    let v39 : Vec F S512x2048 .bf16 ← Prog.lift (.load arg17 (Rect.unit (s := S512x2048) ![0, 0] S512x2048.size inb_S512x2048_S512x2048_0_0).toLoadRect (View.loadsAt_vmem h_S512x2048))
    Prog.lift (.store arg17 (Rect.unit (s := S512x2048) ![0, 0] S512x2048.size inb_S512x2048_S512x2048_0_0) (k0_pay6 v23 v34) Finset.univ (View.stores_vmem h_S512x2048 (harg17.storeExact_slice rfl _ packedbf16_S512x2048_S512x2048_0_0) (fun _ => rfl)) (.inl rfl))
    let v42 : Vec F S512x2048 .f32 ← Prog.lift (.load arg11 (Rect.unit (s := S512x2048) ![0, 0] S512x2048.size inb_S512x2048_S512x2048_0_0).toLoadRect (View.loadsAt_vmem h_S512x2048))
    Prog.lift (.store arg11 (Rect.unit (s := S512x2048) ![0, 0] S512x2048.size inb_S512x2048_S512x2048_0_0) v23 Finset.univ (View.stores_vmem_bits_univ h_S512x2048 rfl) (.inl rfl))
    pure ⟨⟩
  else do
    pure ⟨⟩
  let v8 : Vec F S512x2048 .bf16 ← Prog.lift (.load arg17 (Rect.unit (s := S512x2048) ![0, 0] S512x2048.size inb_S512x2048_S512x2048_0_0).toLoadRect (View.loadsAt_vmem h_S512x2048))
  let v9 : Vec F S2048x1024 .bf16 ← Prog.lift (.load arg4 (Rect.unit (s := S2048x1024) ![0, 0] S2048x1024.size inb_S2048x1024_S2048x1024_0_0).toLoadRect (View.loadsAt_vmem h_S2048x1024))
  let v14 : Vec F S512x2048 .f32 ← Prog.lift (.load arg11 (Rect.unit (s := S512x2048) ![0, 0] S512x2048.size inb_S512x2048_S512x2048_0_0).toLoadRect (View.loadsAt_vmem h_S512x2048))
  let v18 : Vec F S1024x2048 .bf16 ← Prog.lift (.load arg5 (Rect.unit (s := S1024x2048) ![0, 0] S1024x2048.size inb_S1024x2048_S1024x2048_0_0).toLoadRect (View.loadsAt_vmem h_S1024x2048))
  let v22 : Vec F S512x2048 .f32 ← Prog.lift (.load arg11 (Rect.unit (s := S512x2048) ![0, 0] S512x2048.size inb_S512x2048_S512x2048_0_0).toLoadRect (View.loadsAt_vmem h_S512x2048))
  Prog.lift (.store arg11 (Rect.unit (s := S512x2048) ![0, 0] S512x2048.size inb_S512x2048_S512x2048_0_0) (k0_pay7 v8 v9 v14 v18) Finset.univ (View.stores_vmem_bits_univ h_S512x2048 rfl) (.inl rfl))
  pure ⟨⟩

set_option maxRecDepth 65536 in
/-- The body is the casts, then the feed-forward part. -/
theorem body_eq : cc0_mlp (F := F) i arg2 harg2 arg3 harg3 arg4 harg4 arg5 harg5 arg6 harg6 arg7 harg7 arg8 harg8 arg9 harg9 arg10 harg10 arg11 harg11 arg12 harg12
            arg13 harg13 arg14 harg14 arg15 harg15 arg16 harg16 arg17 harg17
    = castPart i arg6 arg7 arg8 arg9 arg10 arg12 harg12 arg13 harg13 arg14 harg14 arg15 harg15 arg16 harg16 >>= fun _ => tilePart i arg2 arg3 arg4 arg5 arg11 arg17 harg17 := by
  rw [cc0_mlp_eq_skeleton]
  unfold cc0_mlp_skel castPart
  by_cases h : k0_cond1 i = 1#1
  · rw [dif_pos h, dif_pos h]; rfl
  · rw [dif_neg h, dif_neg h]; rfl

include harg2 harg3 harg4 harg5 harg11 in
set_option maxHeartbeats 1000000 in
/-- The first hidden tile: the normalized rows are stored, and the rows with the first partial product. -/
theorem run_first (h2 : isFirst i) (E : Set ℕ) (K : PUnit → sProp (MT nD τ sig Unit (Elt F) ℕ (UR sig nD τ) ℕ)) :
    iprop(inputs c arg2 arg3 arg4 arg5 x g wu wd
        ∗ (∃ d, owns (c : Thread nD τ) arg11 fullShare d) ∗ (∃ d, owns (c : Thread nD τ) arg17 fullShare d)
        ∗ (iprop(inputs c arg2 arg3 arg4 arg5 x g wu wd ∗ owns (c : Thread nD τ) arg11 fullShare (k0_pay7 (k0_pay6 x g) wu x wd)
            ∗ owns (c : Thread nD τ) arg17 fullShare (k0_pay6 x g)) -∗ K ⟨⟩))
      ⊢ wp frame (wpE (defs₀ (F := F)) Variants.none c none) E
          (tilePart i arg2 arg3 arg4 arg5 arg11 arg17 harg17) K := by
  unfold tilePart inputs owns
  iintro ⟨⟨⟨%f0, %hf0, H0⟩, ⟨%f1, %hf1, H1⟩, ⟨%f2, %hf2, H2⟩, ⟨%f3, %hf3, H3⟩⟩, ⟨%dr, %fr, -, HR⟩, ⟨%ds, %fs, -, HS⟩, Hk⟩
  obtain rfl := harg2.eq_unread hf0; obtain rfl := harg3.eq_unread hf1; obtain rfl := harg4.eq_unread hf2; obtain rfl := harg5.eq_unread hf3
  sl_exec (disch := sl_exact h2)
  sl_step
  iapply Hk
  isplitl [H0 H1 H2 H3]
  · isplitl [H0]; · iapply (held c arg2 _ _ (harg2.read_unread _)); iexact H0
    isplitl [H1]; · iapply (held c arg3 _ _ (harg3.read_unread _)); iexact H1
    isplitl [H2]; · iapply (held c arg4 _ _ (harg4.read_unread _)); iexact H2
    iapply (held c arg5 _ _ (harg5.read_unread _)); iexact H3
  isplitl [HR]
  · iexists _; isplitr
    swap; · iexact HR
    ipureintro
    delta run_first.sl.v8 run_first.sl.v14 run_first.sl.HS_1 run_first.sl.HR_1
    rw [View.read_writes_full, View.readCov_full, View.readCov_full, View.readAt_full, harg2.read_unread, View.readAt_full, harg3.read_unread,
      View.readAt_full, harg4.read_unread, View.readAt_full, harg5.read_unread]
  iexists _; isplitr
  swap; · iexact HS
  ipureintro
  delta run_first.sl.HS_1
  rw [View.read_writes_full, View.readAt_full, harg2.read_unread, View.readAt_full, harg3.read_unread]

include harg2 harg3 harg4 harg5 harg11 in
set_option maxHeartbeats 1000000 in
/-- A later hidden tile: its partial product is added to the rows. -/
theorem run_next (h2 : ¬isFirst i) (h : Vec F S512x2048 .bf16) (a : Vec F S512x2048 .f32) (E : Set ℕ) (K : PUnit → sProp (MT nD τ sig Unit (Elt F) ℕ (UR sig nD τ) ℕ)) :
    iprop(inputs c arg2 arg3 arg4 arg5 x g wu wd
        ∗ owns (c : Thread nD τ) arg11 fullShare a ∗ owns (c : Thread nD τ) arg17 fullShare h
        ∗ (iprop(inputs c arg2 arg3 arg4 arg5 x g wu wd ∗ owns (c : Thread nD τ) arg11 fullShare (k0_pay7 h wu a wd)
            ∗ owns (c : Thread nD τ) arg17 fullShare h) -∗ K ⟨⟩))
      ⊢ wp frame (wpE (defs₀ (F := F)) Variants.none c none) E
          (tilePart i arg2 arg3 arg4 arg5 arg11 arg17 harg17) K := by
  unfold tilePart inputs owns
  iintro ⟨⟨⟨%f0, %hf0, H0⟩, ⟨%f1, %hf1, H1⟩, ⟨%f2, %hf2, H2⟩, ⟨%f3, %hf3, H3⟩⟩, ⟨%fr, %hfr, HR⟩, ⟨%fs, %hfs, HS⟩, Hk⟩
  obtain rfl := harg2.eq_unread hf0; obtain rfl := harg3.eq_unread hf1; obtain rfl := harg4.eq_unread hf2; obtain rfl := harg5.eq_unread hf3
  obtain rfl := harg11.eq_unread hfr; obtain rfl := harg17.eq_unread hfs
  sl_exec (disch := sl_exact h2)
  sl_step
  iapply Hk
  isplitl [H0 H1 H2 H3]
  · isplitl [H0]; · iapply (held c arg2 _ _ (harg2.read_unread _)); iexact H0
    isplitl [H1]; · iapply (held c arg3 _ _ (harg3.read_unread _)); iexact H1
    isplitl [H2]; · iapply (held c arg4 _ _ (harg4.read_unread _)); iexact H2
    iapply (held c arg5 _ _ (harg5.read_unread _)); iexact H3
  isplitl [HR]
  · iexists _; isplitr
    swap; · iexact HR
    ipureintro
    rw [View.read_writes_full, View.readAt_full, harg17.read_unread, View.readAt_full, harg4.read_unread, View.readAt_full, harg11.read_unread,
      View.readAt_full, harg5.read_unread]
  iapply (held c arg17 _ _ (harg17.read_unread _)); iexact HS

include harg6 harg7 harg8 harg9 harg10 in
set_option maxHeartbeats 1000000 in
/-- The casts at a point that has chunks. -/
theorem run_casts (h1 : k0_cond1 i = 1#1) (E : Set ℕ) (K : PUnit → sProp (MT nD τ sig Unit (Elt F) ℕ (UR sig nD τ) ℕ)) :
    iprop(sources c arg6 arg7 arg8 arg9 arg10 s1 s2 s3 s4 s5 ∗ unfilled c arg12 arg13 arg14 arg15 arg16
        ∗ (iprop(sources c arg6 arg7 arg8 arg9 arg10 s1 s2 s3 s4 s5 ∗ filled c arg12 arg13 arg14 arg15 arg16 s1 s2 s3 s4 s5) -∗ K ⟨⟩))
      ⊢ wp frame (wpE (defs₀ (F := F)) Variants.none c none) E (castPart i arg6 arg7 arg8 arg9 arg10 arg12 harg12 arg13 harg13 arg14 harg14 arg15 harg15 arg16 harg16) K := by
  unfold castPart sources filled unfilled owns
  iintro ⟨⟨⟨%e1, %he1, G1⟩, ⟨%e2, %he2, G2⟩, ⟨%e3, %he3, G3⟩, ⟨%e4, %he4, G4⟩, ⟨%e5, %he5, G5⟩⟩,
    ⟨⟨%t1, %u1, -, T1⟩, ⟨%t2, %u2, -, T2⟩, ⟨%t3, %u3, -, T3⟩, ⟨%t4, %u4, -, T4⟩, ⟨%t5, %u5, -, T5⟩⟩, Hk⟩
  obtain rfl := harg6.eq_unread he1; obtain rfl := harg7.eq_unread he2; obtain rfl := harg8.eq_unread he3; obtain rfl := harg9.eq_unread he4
  obtain rfl := harg10.eq_unread he5
  sl_exec (disch := sl_exact h1)
  sl_step
  iapply Hk
  isplitl [G1 G2 G3 G4 G5]
  · isplitl [G1]; · iapply (held c arg6 _ _ (harg6.read_unread _)); iexact G1
    isplitl [G2]; · iapply (held c arg7 _ _ (harg7.read_unread _)); iexact G2
    isplitl [G3]; · iapply (held c arg8 _ _ (harg8.read_unread _)); iexact G3
    isplitl [G4]; · iapply (held c arg9 _ _ (harg9.read_unread _)); iexact G4
    iapply (held c arg10 _ _ (harg10.read_unread _)); iexact G5
  isplitl [T1]; · iapply (held c arg12 _ _ ((View.read_writes_full ..).trans (congrArg k0_pay1 ((View.readAt_full ..).trans (harg6.read_unread _))))); iexact T1
  isplitl [T2]; · iapply (held c arg13 _ _ ((View.read_writes_full ..).trans (congrArg k0_pay2 ((View.readAt_full ..).trans (harg7.read_unread _))))); iexact T2
  isplitl [T3]; · iapply (held c arg14 _ _ ((View.read_writes_full ..).trans (congrArg k0_pay3 ((View.readAt_full ..).trans (harg8.read_unread _))))); iexact T3
  isplitl [T4]; · iapply (held c arg15 _ _ ((View.read_writes_full ..).trans (congrArg k0_pay4 ((View.readAt_full ..).trans (harg9.read_unread _))))); iexact T4
  iapply (held c arg16 _ _ ((View.read_writes_full ..).trans (congrArg k0_pay5 ((View.readAt_full ..).trans (harg10.read_unread _))))); iexact T5

/-- Past the chunks nothing is cast. -/
theorem skip_casts (h1 : ¬k0_cond1 i = 1#1) (E : Set ℕ) (K : PUnit → sProp (MT nD τ sig Unit (Elt F) ℕ (UR sig nD τ) ℕ)) :
    K ⟨⟩ ⊢ wp frame (wpE (defs₀ (F := F)) Variants.none c none) E (castPart i arg6 arg7 arg8 arg9 arg10 arg12 harg12 arg13 harg13 arg14 harg14 arg15 harg15 arg16 harg16) K := by
  unfold castPart
  iintro Hk
  sl_exec (disch := sl_exact h1)
  sl_step
  iexact Hk

end Cert.Kernel3Ideal.MlpCast

end
-- ==== Proof.MlpCastFrame.lean ====
module

public import proofs.«01_k».proof.Proof.MlpCastRun
public import Idealize.ShloMosaic.Lib.Claim

@[expose] public section

set_option maxRecDepth 16384

/-! The first layer's feed-forward part run over its whole grid. The cast windows are written back a last time at the
    grid's last point, whose body casts nothing: from the last chunk on, their buffers keep that chunk's casts. -/

noncomputable section

namespace Cert.Kernel3Ideal.MlpCast

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid's points -/

theorem first_iff : ∀ t : Fin cfg0.N, isFirst (grid0.coords t) ↔ t.val % 8 = 0 :=
  (by decide +kernel : ∀ t : Fin grid0.N, isFirst (grid0.coords t) ↔ t.val % 8 = 0)
theorem cast_iff : ∀ t : Fin cfg0.N, k0_cond1 (grid0.coords t) = 1#1 ↔ t.val < 128 :=
  (by decide +kernel : ∀ t : Fin grid0.N, k0_cond1 (grid0.coords t) = 1#1 ↔ t.val < 128)
theorem points (t : Fin cfg0.N) : t.val < 136 := lt_of_lt_of_eq t.isLt N_0

/-- The point that casts the last chunk. -/
def lastChunk : Fin cfg0.N := ⟨127, by rw [show cfg0.N = 136 from N_0]; decide⟩

/-- The point whose casts a buffer holds after a point. -/
def chunk (t : Fin cfg0.N) : Fin cfg0.N := if t.val < 128 then t else lastChunk

theorem chunk_early (t : Fin cfg0.N) (h : t.val < 128) : chunk t = t := if_pos h
theorem chunk_late (t : Fin cfg0.N) (h : 127 ≤ t.val) : chunk t = lastChunk := by
  unfold chunk
  split
  · exact Fin.ext (by show t.val = 127; omega)
  · rfl

variable (m : (ℓ : Loc nD τ sig) → Buf (Elt F) ℓ) (ρ : Dev nD → PrngReg)

/-! ## What the scratch and the rows' buffer hold after each point -/

/-- After a block of rows' first point: the normalized rows, and the rows with the first partial product. -/
def begun (c : Dev nD) (t : Fin cfg0.N) : Vec F S512x2048 .bf16 × Vec F S512x2048 .f32 :=
  (k0_pay6 (iblk m c 0 t) (iblk m c 1 t), k0_pay7 (k0_pay6 (iblk m c 0 t) (iblk m c 1 t)) (iblk m c 2 t) (iblk m c 0 t) (iblk m c 3 t))

/-- After one more point. -/
def added (c : Dev nD) (t : Fin cfg0.N) (p : Vec F S512x2048 .bf16 × Vec F S512x2048 .f32) : Vec F S512x2048 .bf16 × Vec F S512x2048 .f32 :=
  (p.1, k0_pay7 p.1 (iblk m c 2 t) p.2 (iblk m c 3 t))

/-- The normalized rows and the rows so far, after the point at a position. -/
def tile (c : Dev nD) : (n : ℕ) → n < cfg0.N → Vec F S512x2048 .bf16 × Vec F S512x2048 .f32
  | 0, hn => begun m c ⟨0, hn⟩
  | n + 1, hn => if (n + 1) % 8 = 0 then begun m c ⟨n + 1, hn⟩ else added m c ⟨n + 1, hn⟩ (tile c n (Nat.lt_of_succ_lt hn))

theorem tile_first (c : Dev nD) (t : Fin cfg0.N) (h : t.val % 8 = 0) : tile m c t.val t.isLt = begun m c t := by
  obtain ⟨n, hn⟩ := t
  cases n with
  | zero => rfl
  | succ n => exact if_pos h

theorem tile_next (c : Dev nD) (t : Fin cfg0.N) (h : ¬t.val % 8 = 0) :
    tile m c t.val t.isLt = added m c t (tile m c (t.val - 1) (Nat.lt_of_le_of_lt (Nat.sub_le _ _) t.isLt)) := by
  obtain ⟨n, hn⟩ := t
  cases n with
  | zero => exact absurd (Nat.zero_mod _) h
  | succ n => exact if_neg h

/-- The region's invariant before a position: the scratch at the normalized rows the point before left. -/
def invariant (c : Dev nD) : (n : ℕ) → n ≤ cfg0.N → sProp (MT nD τ sig Unit (Elt F) ℕ (UR sig nD τ) ℕ)
  | 0, _ => Pipeline.ΦA spec0 c
  | n + 1, hn => iprop(owns (c : Thread nD τ) (Memref.whole cc0_scratch0) fullShare (tile m c n hn).1 ∗ (∃ r, prngReg c r))

theorem invariant_zero (c : Dev nD) :
    (Pipeline.ΦA spec0 c : sProp (MT nD τ sig Unit (Elt F) ℕ (UR sig nD τ) ℕ))
      = iprop((∃ d, owns (c : Thread nD τ) (Memref.whole cc0_scratch0 : Memref sig .tc .vmem S512x2048 .bf16) fullShare d) ∗ (∃ r, prngReg c r)) := by
  unfold Pipeline.ΦA; rw [scopedRest0_eq]; simp only [owns_whole]; try rfl

theorem invariant_pos (c : Dev nD) (n : ℕ) (h : n ≤ cfg0.N) (hz : n ≠ 0) :
    invariant m c n h = iprop(owns (c : Thread nD τ) (Memref.whole cc0_scratch0) fullShare (tile m c (n - 1) (by omega)).1 ∗ (∃ r, prngReg c r)) := by
  cases n with
  | zero => exact absurd rfl hz
  | succ n => rfl

/-- Whatever the scratch holds, it is held at something. -/
theorem invariant_any (c : Dev nD) (n : ℕ) (h : n ≤ cfg0.N) : invariant m c n h ⊢ Pipeline.ΦA spec0 c := by
  by_cases hz : n = 0
  · subst hz; exact .rfl
  rw [invariant_pos m c n h hz, invariant_zero]
  iintro ⟨HS, Hg⟩
  isplitl [HS]
  · iexists _; iexact HS
  iexact Hg

/-! ## The proof data -/

/-- The proof data of the one pipeline: each input's buffer at its block, the rows' at the rows so far, the casts' at
    the casts of the latest chunk. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (tile m c t.val t.isLt).2
    | ⟨10, _⟩ => k0_pay1 (iblk m c 4 (chunk t))
    | ⟨11, _⟩ => k0_pay2 (iblk m c 5 (chunk t))
    | ⟨12, _⟩ => k0_pay3 (iblk m c 6 (chunk t))
    | ⟨13, _⟩ => k0_pay4 (iblk m c 7 (chunk t))
    | ⟨14, _⟩ => k0_pay5 (iblk m c 8 (chunk t))
  Φ t := invariant m c t.val (Nat.le_of_lt_succ t.isLt)
  q _ := fullShare
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (tile m c t.val t.isLt).2 := by dsimp only [dats]
theorem after10 (c : Dev nD) (t : Fin cfg0.N) : (dats m 0 c).after 10 t = k0_pay1 (iblk m c 4 (chunk t)) := by dsimp only [dats]
theorem after11 (c : Dev nD) (t : Fin cfg0.N) : (dats m 0 c).after 11 t = k0_pay2 (iblk m c 5 (chunk t)) := by dsimp only [dats]
theorem after12 (c : Dev nD) (t : Fin cfg0.N) : (dats m 0 c).after 12 t = k0_pay3 (iblk m c 6 (chunk t)) := by dsimp only [dats]
theorem after13 (c : Dev nD) (t : Fin cfg0.N) : (dats m 0 c).after 13 t = k0_pay4 (iblk m c 7 (chunk t)) := by dsimp only [dats]
theorem after14 (c : Dev nD) (t : Fin cfg0.N) : (dats m 0 c).after 14 t = k0_pay5 (iblk m c 8 (chunk t)) := by dsimp only [dats]

theorem before0 (c : Dev nD) (t : Fin cfg0.N) (d) : (dats m 0 c).before 0 t d = iblk m c 0 t := before0_0_of m (dats m 0 c) (arrays m c 0) (after0 m c) t d
theorem before1 (c : Dev nD) (t : Fin cfg0.N) (d) : (dats m 0 c).before 1 t d = iblk m c 1 t := before0_1_of m (dats m 0 c) (arrays m c 1) (after1 m c) t d
theorem before2 (c : Dev nD) (t : Fin cfg0.N) (d) : (dats m 0 c).before 2 t d = iblk m c 2 t := before0_2_of m (dats m 0 c) (arrays m c 2) (after2 m c) t d
theorem before3 (c : Dev nD) (t : Fin cfg0.N) (d) : (dats m 0 c).before 3 t d = iblk m c 3 t := before0_3_of m (dats m 0 c) (arrays m c 3) (after3 m c) t d
theorem before4 (c : Dev nD) (t : Fin cfg0.N) (d) : (dats m 0 c).before 4 t d = iblk m c 4 t := before0_4_of m (dats m 0 c) (arrays m c 4) (after4 m c) t d
theorem before5 (c : Dev nD) (t : Fin cfg0.N) (d) : (dats m 0 c).before 5 t d = iblk m c 5 t := before0_5_of m (dats m 0 c) (arrays m c 5) (after5 m c) t d
theorem before6 (c : Dev nD) (t : Fin cfg0.N) (d) : (dats m 0 c).before 6 t d = iblk m c 6 t := before0_6_of m (dats m 0 c) (arrays m c 6) (after6 m c) t d
theorem before7 (c : Dev nD) (t : Fin cfg0.N) (d) : (dats m 0 c).before 7 t d = iblk m c 7 t := before0_7_of m (dats m 0 c) (arrays m c 7) (after7 m c) t d
theorem before8 (c : Dev nD) (t : Fin cfg0.N) (d) : (dats m 0 c).before 8 t d = iblk m c 8 t := before0_8_of m (dats m 0 c) (arrays m c 8) (after8 m c) t d

/-- Past a block's first point the rows' buffer holds what the point before left. -/
theorem before9 (c : Dev nD) (t : Fin cfg0.N) (h : ¬t.val % 8 = 0) (d) :
    (dats m 0 c).before 9 t d = (tile m c (t.val - 1) (Nat.lt_of_le_of_lt (Nat.sub_le _ _) t.isLt)).2 := by
  have hf : (cfg0.win 9).flush ⟨t.val - 1, Nat.lt_of_le_of_lt (Nat.sub_le _ _) t.isLt⟩ = false := by
    rw [Bool.eq_false_iff, ne_eq, flush0_9]; dsimp only; omega
  rw [Dat.before_out_kept _ 9 rfl t (by omega) hf (fun _ => rfl) (fun _ _ => rfl), after9]

/-- A window's buffer that is not idle is handed back at what the data say. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-! ## The windows that only the casts fill -/

/-- What such a window has to satisfy: when it is written back and when it is idle, and that its contents stay from the
    last chunk on. -/
structure Rides (c : Dev nD) (w : Fin cfg0.W) : Prop where
  out : (cfg0.win w).isOut = true
  flush_iff : ∀ t, (cfg0.win w).flush t = true ↔ t.val < 127 ∨ t.val = 135
  idle_eq : ∀ t : Fin cfg0.N, cfg0.idle w (cfg0.grid.coords t) = !(k0_cond1 (grid0.coords t) == 1#1)
  whole : ∀ t d, (dats m 0 c).kept w t d = (dats m 0 c).after w t
  stays : ∀ t : Fin cfg0.N, 127 ≤ t.val → (dats m 0 c).after w t = (dats m 0 c).after w lastChunk

section
variable {m} {c : Dev nD} {w : Fin cfg0.W} (R : Rides m c w)
include R

theorem Rides.live (t : Fin cfg0.N) (h : t.val < 128) : cfg0.idle w (cfg0.grid.coords t) = false := by
  rw [R.idle_eq]; simpa using (cast_iff t).2 h

theorem Rides.idle (t : Fin cfg0.N) (h : 128 ≤ t.val) : cfg0.idle w (cfg0.grid.coords t) = true := by
  rw [R.idle_eq]; simpa using fun e => absurd ((cast_iff t).1 e) (by omega)

/-- Past the chunks the buffer still holds the last chunk's casts. -/
theorem Rides.before_late (k : ℕ) : ∀ (t : Fin cfg0.N) (d), t.val = 128 + k → (dats m 0 c).before w t d = (dats m 0 c).after w lastChunk := by
  induction k with
  | zero =>
    intro t d ht
    have hp : t.val - 1 < cfg0.N := Nat.lt_of_le_of_lt (Nat.sub_le _ _) t.isLt
    have hf : (cfg0.win w).flush ⟨t.val - 1, hp⟩ = false := by
      rw [Bool.eq_false_iff, ne_eq, R.flush_iff]; dsimp only; omega
    rw [Dat.before_of_pos _ w t (by omega) ((cfg0.win w).fetch_out R.out t), if_neg (by rw [hf]; decide)]
    unfold Dat.left
    rw [R.live ⟨t.val - 1, hp⟩ (by show t.val - 1 < 128; omega)]
    exact (R.whole _ d).trans (R.stays _ (by show 127 ≤ t.val - 1; omega))
  | succ k ih =>
    intro t d ht
    have hp : t.val - 1 < cfg0.N := Nat.lt_of_le_of_lt (Nat.sub_le _ _) t.isLt
    have hN := points t
    have hf : (cfg0.win w).flush ⟨t.val - 1, hp⟩ = false := by
      rw [Bool.eq_false_iff, ne_eq, R.flush_iff]; dsimp only; omega
    rw [Dat.before_of_pos _ w t (by omega) ((cfg0.win w).fetch_out R.out t), if_neg (by rw [hf]; decide)]
    unfold Dat.left
    rw [R.idle ⟨t.val - 1, hp⟩ (by show 128 ≤ t.val - 1; omega)]
    exact ih ⟨t.val - 1, hp⟩ d (by show t.val - 1 = _; omega)

/-- Past the chunks a point that leaves the buffer alone hands back what is due. -/
theorem Rides.untouched (t : Fin cfg0.N) (h : 128 ≤ t.val) :
    iprop(∃ d, owns (c : Thread nD τ) ((cfg0.win w).stage (cfg0.slots t w)) fullShare ((dats m 0 c).before w t d)) ⊢ (dats m 0 c).leavesExact w t := by
  by_cases hl : t.val = 135
  · rw [show (dats m 0 c).leavesExact w t = owns (c : Thread nD τ) ((cfg0.win w).stage (cfg0.slots t w)) fullShare ((dats m 0 c).after w t) from by
      unfold Dat.leavesExact; rw [R.idle t h, (R.flush_iff t).2 (.inr hl)]]
    iintro ⟨%d, H⟩
    rw [R.before_late 7 t d (by omega), R.stays t (by omega)]
    iexact H
  · rw [Dat.leavesExact_idle _ w t (R.idle t h) (by have := points t; rw [Bool.eq_false_iff, ne_eq, R.flush_iff]; omega)]

end

theorem rides10 (c : Dev nD) : Rides m c 10 where
  out := rfl
  flush_iff := (by decide +kernel : ∀ t : Fin grid0.N, win0_10.flush t = true ↔ t.val < 127 ∨ t.val = 135)
  idle_eq _ := rfl
  whole _ _ := rfl
  stays t h := by rw [after10, after10, chunk_late t h, chunk_late lastChunk le_rfl]
theorem rides11 (c : Dev nD) : Rides m c 11 where
  out := rfl
  flush_iff := (by decide +kernel : ∀ t : Fin grid0.N, win0_11.flush t = true ↔ t.val < 127 ∨ t.val = 135)
  idle_eq _ := rfl
  whole _ _ := rfl
  stays t h := by rw [after11, after11, chunk_late t h, chunk_late lastChunk le_rfl]
theorem rides12 (c : Dev nD) : Rides m c 12 where
  out := rfl
  flush_iff := (by decide +kernel : ∀ t : Fin grid0.N, win0_12.flush t = true ↔ t.val < 127 ∨ t.val = 135)
  idle_eq _ := rfl
  whole _ _ := rfl
  stays t h := by rw [after12, after12, chunk_late t h, chunk_late lastChunk le_rfl]
theorem rides13 (c : Dev nD) : Rides m c 13 where
  out := rfl
  flush_iff := (by decide +kernel : ∀ t : Fin grid0.N, win0_13.flush t = true ↔ t.val < 127 ∨ t.val = 135)
  idle_eq _ := rfl
  whole _ _ := rfl
  stays t h := by rw [after13, after13, chunk_late t h, chunk_late lastChunk le_rfl]
theorem rides14 (c : Dev nD) : Rides m c 14 where
  out := rfl
  flush_iff := (by decide +kernel : ∀ t : Fin grid0.N, win0_14.flush t = true ↔ t.val < 127 ∨ t.val = 135)
  idle_eq _ := rfl
  whole _ _ := rfl
  stays t h := by rw [after14, after14, chunk_late t h, chunk_late lastChunk le_rfl]

/-! ## The body at every point -/

/-- The current buffers of the fifteen windows. -/
abbrev buf0 (t : Fin cfg0.N) : Memref sig .tc .vmem S512x2048 .f32 := win0_0.stage (cfg0.slots t 0)
abbrev buf1 (t : Fin cfg0.N) : Memref sig .tc .vmem S1x2048 .f32 := win0_1.stage (cfg0.slots t 1)
abbrev buf2 (t : Fin cfg0.N) : Memref sig .tc .vmem S2048x1024 .bf16 := win0_2.stage (cfg0.slots t 2)
abbrev buf3 (t : Fin cfg0.N) : Memref sig .tc .vmem S1024x2048 .bf16 := win0_3.stage (cfg0.slots t 3)
abbrev buf4 (t : Fin cfg0.N) : Memref sig .tc .vmem S1x16x8192 .f32 := win0_4.stage (cfg0.slots t 4)
abbrev buf5 (t : Fin cfg0.N) : Memref sig .tc .vmem S1x64x2048 .f32 := win0_5.stage (cfg0.slots t 5)
abbrev buf6 (t : Fin cfg0.N) : Memref sig .tc .vmem S1x16x2048 .f32 := win0_6.stage (cfg0.slots t 6)
abbrev buf7 (t : Fin cfg0.N) : Memref sig .tc .vmem S16x3072 .f32 := win0_7.stage (cfg0.slots t 7)
abbrev buf8 (t : Fin cfg0.N) : Memref sig .tc .vmem S1x16x2048 .f32 := win0_8.stage (cfg0.slots t 8)
abbrev buf9 (t : Fin cfg0.N) : Memref sig .tc .vmem S512x2048 .f32 := win0_9.stage (cfg0.slots t 9)
abbrev buf10 (t : Fin cfg0.N) : Memref sig .tc .vmem S16x8192 .bf16 := win0_10.stage (cfg0.slots t 10)
abbrev buf11 (t : Fin cfg0.N) : Memref sig .tc .vmem S64x2048 .bf16 := win0_11.stage (cfg0.slots t 11)
abbrev buf12 (t : Fin cfg0.N) : Memref sig .tc .vmem S16x2048 .bf16 := win0_12.stage (cfg0.slots t 12)
abbrev buf13 (t : Fin cfg0.N) : Memref sig .tc .vmem S16x3072 .bf16 := win0_13.stage (cfg0.slots t 13)
abbrev buf14 (t : Fin cfg0.N) : Memref sig .tc .vmem S16x2048 .bf16 := win0_14.stage (cfg0.slots t 14)

/-- What the feed-forward part reads at a point, at the blocks. -/
abbrev inputsAt (c : Dev nD) (t : Fin cfg0.N) : sProp (MT nD τ sig Unit (Elt F) ℕ (UR sig nD τ) ℕ) :=
  inputs c (buf0 t) (buf1 t) (buf2 t) (buf3 t) (iblk m c 0 t) (iblk m c 1 t) (iblk m c 2 t) (iblk m c 3 t)

/-- What the casts read at a point, at the blocks. -/
abbrev sourcesAt (c : Dev nD) (t : Fin cfg0.N) : sProp (MT nD τ sig Unit (Elt F) ℕ (UR sig nD τ) ℕ) :=
  sources c (buf4 t) (buf5 t) (buf6 t) (buf7 t) (buf8 t) (iblk m c 4 t) (iblk m c 5 t) (iblk m c 6 t) (iblk m c 7 t) (iblk m c 8 t)

/-- The rows' buffer as a point finds it. -/
abbrev rowsFound (c : Dev nD) (t : Fin cfg0.N) : sProp (MT nD τ sig Unit (Elt F) ℕ (UR sig nD τ) ℕ) :=
  iprop(∃ d, owns (c : Thread nD τ) (buf9 t) fullShare ((dats m 0 c).before 9 t d))

/-- The casts' buffers as a point finds them, and as it hands them back. -/
def castsFound (c : Dev nD) (t : Fin cfg0.N) : sProp (MT nD τ sig Unit (Elt F) ℕ (UR sig nD τ) ℕ) :=
  iprop((∃ d, owns (c : Thread nD τ) (buf10 t) fullShare ((dats m 0 c).before 10 t d)) ∗ (∃ d, owns (c : Thread nD τ) (buf11 t) fullShare ((dats m 0 c).before 11 t d)) ∗ (∃ d, owns (c : Thread nD τ) (buf12 t) fullShare ((dats m 0 c).before 12 t d)) ∗ (∃ d, owns (c : Thread nD τ) (buf13 t) fullShare ((dats m 0 c).before 13 t d)) ∗ (∃ d, owns (c : Thread nD τ) (buf14 t) fullShare ((dats m 0 c).before 14 t d)))
def castsLeft (c : Dev nD) (t : Fin cfg0.N) : sProp (MT nD τ sig Unit (Elt F) ℕ (UR sig nD τ) ℕ) :=
  iprop((dats m 0 c).leavesExact 10 t ∗ (dats m 0 c).leavesExact 11 t ∗ (dats m 0 c).leavesExact 12 t ∗ (dats m 0 c).leavesExact 13 t ∗ (dats m 0 c).leavesExact 14 t)

set_option maxHeartbeats 1000000 in
/-- The casts at every point. -/
theorem casts_sound (c : Dev nD) (t : Fin cfg0.N) (h4 : (buf4 t).IsWhole) (h5 : (buf5 t).IsWhole) (h6 : (buf6 t).IsWhole) (h7 : (buf7 t).IsWhole) (h8 : (buf8 t).IsWhole) (h10 : (buf10 t).IsWhole) (h11 : (buf11 t).IsWhole) (h12 : (buf12 t).IsWhole) (h13 : (buf13 t).IsWhole) (h14 : (buf14 t).IsWhole) (E : Set ℕ)
    (K : PUnit → sProp (MT nD τ sig Unit (Elt F) ℕ (UR sig nD τ) ℕ)) :
    iprop(sourcesAt m c t ∗ castsFound m c t ∗ (iprop(sourcesAt m c t ∗ castsLeft m c t) -∗ K ⟨⟩))
      ⊢ wp frame (wpE (defs₀ (F := F)) Variants.none c none) E
          (castPart (grid0.coords t) (buf4 t) (buf5 t) (buf6 t) (buf7 t) (buf8 t) (buf10 t) h10 (buf11 t) h11 (buf12 t) h12 (buf13 t) h13 (buf14 t) h14) K := by
  unfold castsFound castsLeft
  by_cases h : t.val < 128
  · rw [leaves_live m c 10 t ((rides10 m c).live t h), leaves_live m c 11 t ((rides11 m c).live t h), leaves_live m c 12 t ((rides12 m c).live t h), leaves_live m c 13 t ((rides13 m c).live t h), leaves_live m c 14 t ((rides14 m c).live t h),
      after10, after11, after12, after13, after14, chunk_early t h]
    iintro ⟨Hs, ⟨⟨%d0, H0⟩, ⟨%d1, H1⟩, ⟨%d2, H2⟩, ⟨%d3, H3⟩, ⟨%d4, H4⟩⟩, Hk⟩
    iapply (run_casts c (grid0.coords t) (buf4 t) h4 (buf5 t) h5 (buf6 t) h6 (buf7 t) h7 (buf8 t) h8 (buf10 t) h10 (buf11 t) h11 (buf12 t) h12 (buf13 t) h13 (buf14 t) h14
      (iblk m c 4 t) (iblk m c 5 t) (iblk m c 6 t) (iblk m c 7 t) (iblk m c 8 t) ((cast_iff t).2 h) E K)
    unfold unfilled filled
    isplitl [Hs]; · iexact Hs
    isplitl [H0 H1 H2 H3 H4]
    · isplitl [H0]; · iexists _; iexact H0
      isplitl [H1]; · iexists _; iexact H1
      isplitl [H2]; · iexists _; iexact H2
      isplitl [H3]; · iexists _; iexact H3
      iexists _; iexact H4
    iexact Hk
  · have hl : 128 ≤ t.val := by omega
    iintro ⟨Hs, ⟨H0, H1, H2, H3, H4⟩, Hk⟩
    iapply (skip_casts c (grid0.coords t) (buf4 t) (buf5 t) (buf6 t) (buf7 t) (buf8 t) (buf10 t) h10 (buf11 t) h11 (buf12 t) h12 (buf13 t) h13 (buf14 t) h14
      (fun e => h ((cast_iff t).1 e)) E K)
    iapply Hk
    isplitl [Hs]; · iexact Hs
    isplitl [H0]; · iapply ((rides10 m c).untouched t hl); iexact H0
    isplitl [H1]; · iapply ((rides11 m c).untouched t hl); iexact H1
    isplitl [H2]; · iapply ((rides12 m c).untouched t hl); iexact H2
    isplitl [H3]; · iapply ((rides13 m c).untouched t hl); iexact H3
    iapply ((rides14 m c).untouched t hl); iexact H4

set_option maxHeartbeats 1000000 in
/-- The feed-forward part at every point. -/
theorem tile_sound (c : Dev nD) (t : Fin cfg0.N) (h0 : (buf0 t).IsWhole) (h1 : (buf1 t).IsWhole) (h2 : (buf2 t).IsWhole) (h3 : (buf3 t).IsWhole) (h9 : (buf9 t).IsWhole) (hs : (Memref.whole cc0_scratch0 : Memref sig .tc .vmem S512x2048 .bf16).IsWhole) (E : Set ℕ)
    (K : PUnit → sProp (MT nD τ sig Unit (Elt F) ℕ (UR sig nD τ) ℕ)) :
    iprop(invariant m c t.val (Nat.le_of_lt t.isLt) ∗ inputsAt m c t ∗ rowsFound m c t
        ∗ (iprop(invariant m c (t.val + 1) t.isLt ∗ inputsAt m c t ∗ (dats m 0 c).leavesExact 9 t) -∗ K ⟨⟩))
      ⊢ wp frame (wpE (defs₀ (F := F)) Variants.none c none) E
          (tilePart (grid0.coords t) (buf0 t) (buf1 t) (buf2 t) (buf3 t) (buf9 t) (Memref.whole cc0_scratch0) hs) K := by
  rw [show invariant m c (t.val + 1) t.isLt = iprop(owns (c : Thread nD τ) (Memref.whole cc0_scratch0) fullShare (tile m c t.val t.isLt).1 ∗ (∃ r, prngReg c r)) from rfl,
    leaves_live m c 9 t rfl, after9]
  by_cases h : t.val % 8 = 0
  · rw [tile_first m c t h]
    refine BIBase.Entails.trans (sep_mono (invariant_any m c t.val _) .rfl) ?_
    rw [invariant_zero]
    iintro ⟨⟨HS, Hg⟩, Hi, ⟨%d, H⟩, Hk⟩
    iapply (run_first c (grid0.coords t) (buf0 t) h0 (buf1 t) h1 (buf2 t) h2 (buf3 t) h3 (buf9 t) h9 (Memref.whole cc0_scratch0) hs
      (iblk m c 0 t) (iblk m c 1 t) (iblk m c 2 t) (iblk m c 3 t) ((first_iff t).2 h) E K)
    isplitl [Hi]; · iexact Hi
    isplitl [H]; · iexists _; iexact H
    isplitl [HS]; · iexact HS
    iintro ⟨Hi, H, HS⟩
    iapply Hk
    isplitl [HS Hg]
    · isplitl [HS]; · iexact HS
      iexact Hg
    isplitl [Hi]; · iexact Hi
    iexact H
  · rw [invariant_pos m c t.val _ (by omega), tile_next m c t h]
    simp only [rowsFound, before9 m c t h]
    iintro ⟨⟨HS, Hg⟩, Hi, ⟨%d, H⟩, Hk⟩
    iapply (run_next c (grid0.coords t) (buf0 t) h0 (buf1 t) h1 (buf2 t) h2 (buf3 t) h3 (buf9 t) h9 (Memref.whole cc0_scratch0) hs
      (iblk m c 0 t) (iblk m c 1 t) (iblk m c 2 t) (iblk m c 3 t) (fun e => h ((first_iff t).1 e)) _ _ E K)
    isplitl [Hi]; · iexact Hi
    isplitl [H]; · iexact H
    isplitl [HS]; · iexact HS
    iintro ⟨Hi, H, HS⟩
    iapply Hk
    isplitl [HS Hg]
    · isplitl [HS]; · iexact HS
      iexact Hg
    isplitl [Hi]; · iexact Hi
    iexact H

set_option maxHeartbeats 4000000 in
/-- The body's obligation with the buffers put together by what uses them. -/
theorem sound (c : Dev nD) (t : Fin cfg0.N) :
    iprop(invariant m c t.val (Nat.le_of_lt t.isLt) ∗ (dats m 0 c).owesAt () t.castSucc ∗ inputsAt m c t ∗ sourcesAt m c t ∗ rowsFound m c t ∗ castsFound m c t)
      ⊢ wp frame (wpE (defs₀ (F := F)) Variants.none c none) Set.univ (bodyAt0 t) (fun _ =>
          iprop(invariant m c (t.val + 1) t.isLt ∗ (dats m 0 c).owesAt () t.castSucc ∗ inputsAt m c t ∗ sourcesAt m c t
            ∗ (dats m 0 c).leavesExact 9 t ∗ castsLeft m c t)) := by
  unfold bodyAt0
  rw [body_eq, wp_bind]
  iintro ⟨HP, Ho, Hi, Hs, H, Hc⟩
  iapply (casts_sound m c t (hstage0_4 _) (hstage0_5 _) (hstage0_6 _) (hstage0_7 _) (hstage0_8 _) _ _ _ _ _ Set.univ _)
  isplitl [Hs]; · iexact Hs
  isplitl [Hc]; · iexact Hc
  iintro ⟨Hs, Hc⟩
  iapply (tile_sound m c t (hstage0_0 _) (hstage0_1 _) (hstage0_2 _) (hstage0_3 _) (hstage0_9 _) _ Set.univ _)
  isplitl [HP]; · iexact HP
  isplitl [Hi]; · iexact Hi
  isplitl [H]; · iexact H
  iintro ⟨HP, Hi, H⟩
  isplitl [HP]; · iexact HP
  isplitl [Ho]; · iexact Ho
  isplitl [Hi]; · iexact Hi
  isplitl [Hs]; · iexact Hs
  isplitl [H]; · iexact H
  iexact Hc

set_option maxHeartbeats 4000000 in
/-- The same with the windows' buffers one by one. -/
theorem sound_windows (c : Dev nD) (t : Fin cfg0.N) :
    iprop((dats m 0 c).Φ t.castSucc ∗ (dats m 0 c).owesAt () t.castSucc
        ∗ (∃ d, owns (c : Thread nD τ) (buf0 t) fullShare ((dats m 0 c).before 0 t d))
        ∗ (∃ d, owns (c : Thread nD τ) (buf1 t) fullShare ((dats m 0 c).before 1 t d))
        ∗ (∃ d, owns (c : Thread nD τ) (buf2 t) fullShare ((dats m 0 c).before 2 t d))
        ∗ (∃ d, owns (c : Thread nD τ) (buf3 t) fullShare ((dats m 0 c).before 3 t d))
        ∗ (∃ d, owns (c : Thread nD τ) (buf4 t) fullShare ((dats m 0 c).before 4 t d))
        ∗ (∃ d, owns (c : Thread nD τ) (buf5 t) fullShare ((dats m 0 c).before 5 t d))
        ∗ (∃ d, owns (c : Thread nD τ) (buf6 t) fullShare ((dats m 0 c).before 6 t d))
        ∗ (∃ d, owns (c : Thread nD τ) (buf7 t) fullShare ((dats m 0 c).before 7 t d))
        ∗ (∃ d, owns (c : Thread nD τ) (buf8 t) fullShare ((dats m 0 c).before 8 t d))
        ∗ (∃ d, owns (c : Thread nD τ) (buf9 t) fullShare ((dats m 0 c).before 9 t d))
        ∗ (∃ d, owns (c : Thread nD τ) (buf10 t) fullShare ((dats m 0 c).before 10 t d))
        ∗ (∃ d, owns (c : Thread nD τ) (buf11 t) fullShare ((dats m 0 c).before 11 t d))
        ∗ (∃ d, owns (c : Thread nD τ) (buf12 t) fullShare ((dats m 0 c).before 12 t d))
        ∗ (∃ d, owns (c : Thread nD τ) (buf13 t) fullShare ((dats m 0 c).before 13 t d))
        ∗ (∃ d, owns (c : Thread nD τ) (buf14 t) fullShare ((dats m 0 c).before 14 t d)))
      ⊢ wp frame (wpE (defs₀ (F := F)) Variants.none c none) Set.univ (bodyAt0 t) (fun _ =>
          iprop((dats m 0 c).Φ t.succ ∗ (dats m 0 c).owesAt () t.succ
            ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)) := by
  simp only [before0, before1, before2, before3, before4, before5, before6, before7, before8]
  rw [show (dats m 0 c).owesAt () t.succ = (dats m 0 c).owesAt () t.castSucc from rfl,
    show (dats m 0 c).Φ t.succ = invariant m c (t.val + 1) t.isLt from rfl,
    show (dats m 0 c).Φ t.castSucc = invariant m c t.val (Nat.le_of_lt t.isLt) from rfl,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl,
    after0, after1, after2, after3, after4, after5, after6, after7, after8]
  refine triple_restated (sound m c t) rfl ?_ fun _ => ?_
  · unfold inputsAt inputs sourcesAt sources castsFound
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, Hc⟩
    isplitl [HP]; · iexact HP
    isplitl [Ho]; · iexact Ho
    isplitl [H0 H1 H2 H3]
    · isplitl [H0]; · iexact H0
      isplitl [H1]; · iexact H1
      isplitl [H2]; · iexact H2
      iexact H3
    isplitl [H4 H5 H6 H7 H8]
    · isplitl [H4]; · iexact H4
      isplitl [H5]; · iexact H5
      isplitl [H6]; · iexact H6
      isplitl [H7]; · iexact H7
      iexact H8
    isplitl [H9]; · iexact H9
    iexact Hc
  · unfold inputsAt inputs sourcesAt sources castsLeft
    iintro ⟨HP, Ho, ⟨H0, H1, H2, H3⟩, ⟨H4, H5, H6, H7, H8⟩, H9, Hc⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hc

/-- The body's obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_windows m c t) rfl .rfl fun _ => .rfl

/-! ## The run and the frame -/

set_option backward.isDefEq.respectTransparency.types false in
/-- Every execution ends, with every array at what the blocks write and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := fun _ => .rfl) (hout := fun c => invariant_any m c cfg0.N le_rfl)

/-- The same without the counters. -/
theorem run_arrays : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (arrays m) (run_arrays m ρ)) ((θ_run defs _ _).mono (fun _ h => h.2) (run_quiescent m ρ))

end Cert.Kernel3Ideal.MlpCast

end
-- ==== Proof.MlpCastValue.lean ====
module

public import proofs.«01_k».proof.Proof.MlpCastFrame
public import proofs.«01_k».proof.Proof.MlpSpec
public import Idealize.ShloMosaic.Lib.Pointwise
public import Idealize.ShloMosaic.Lib.Pipeline.ValueKit.Point

@[expose] public section

set_option maxRecDepth 16384

/-! The arrays of the first layer's feed-forward part: what the scratch and the rows' buffer hold after each point, the
    residual stream, and the five casts. -/

noncomputable section

namespace Cert.Kernel3Ideal.MlpCast

open Cert.Kernel3Ideal Cert.Kernel3Ideal.Gen Cert.Mlp
open Idealize.ShloMosaic Idealize.ShloMosaic.TcCoe
open Idealize.ShloMosaic.Pipeline (Dat Cfg Window BodyObligation cellOf)

/-! ## The body's values at an index -/

theorem normed_at (x : Vec Ideal S512x2048 .f32) (g : Vec Ideal S1x2048 .f32) (i : Fin 512) (n : Fin 2048) :
    (k0_pay6 x g (ix2 i n) : EReal) = normed (fun k => x (ix2 i k)) (fun k => g (ix2 0 k)) n := by
  pointwise [k0_pay6]
  rfl

theorem added_at (h : Vec Ideal S512x2048 .bf16) (u : Vec Ideal S2048x1024 .bf16) (a : Vec Ideal S512x2048 .f32) (d : Vec Ideal S1024x2048 .bf16) (i : Fin 512) (n : Fin 2048) :
    (k0_pay7 h u a d (ix2 i n) : EReal) = a (ix2 i n)
      + ∑ j, max (∑ k, (h (ix2 i k) : EReal) * u (ix2 k j)) 0 * max (∑ k, (h (ix2 i k) : EReal) * u (ix2 k j)) 0 * d (ix2 j n) := by
  pointwise [k0_pay7]

theorem cast1_at (s : Vec Ideal S1x16x8192 .f32) (i : Fin 16) (n : Fin 8192) : (k0_pay1 s (ix2 i n) : EReal) = s (ix3 0 i n) := by
  pointwise [k0_pay1]
theorem cast2_at (s : Vec Ideal S1x64x2048 .f32) (i : Fin 64) (n : Fin 2048) : (k0_pay2 s (ix2 i n) : EReal) = s (ix3 0 i n) := by
  pointwise [k0_pay2]
theorem cast3_at (s : Vec Ideal S1x16x2048 .f32) (i : Fin 16) (n : Fin 2048) : (k0_pay3 s (ix2 i n) : EReal) = s (ix3 0 i n) := by
  pointwise [k0_pay3]
theorem cast4_at (s : Vec Ideal S16x3072 .f32) (i : Fin 16) (n : Fin 3072) : (k0_pay4 s (ix2 i n) : EReal) = s (ix2 i n) := by
  pointwise [k0_pay4]
theorem cast5_at (s : Vec Ideal S1x16x2048 .f32) (i : Fin 16) (n : Fin 2048) : (k0_pay5 s (ix2 i n) : EReal) = s (ix3 0 i n) := by
  pointwise [k0_pay5]

/-! ## The blocks of the feed-forward part -/

variable (m : (ℓ : Loc nD τ sig) → Buf (Elt Ideal) ℓ) (c : Dev nD)

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![0, 0] :=
  (by decide +kernel : ∀ t : Fin grid0.N, win0_1.index t = ![0, 0])
theorem index2 : ∀ t : Fin cfg0.N, win0_2.index t = ![0, t.val % 8] :=
  (by decide +kernel : ∀ t : Fin grid0.N, win0_2.index t = ![0, t.val % 8])
theorem index3 : ∀ t : Fin cfg0.N, win0_3.index t = ![t.val % 8, 0] :=
  (by decide +kernel : ∀ t : Fin grid0.N, win0_3.index t = ![t.val % 8, 0])
theorem index9 : ∀ t : Fin cfg0.N, win0_9.index t = ![t.val / 8, 0] :=
  (by decide +kernel : ∀ t : Fin grid0.N, win0_9.index t = ![t.val / 8, 0])

section
variable (a0 : FVec Ideal S8704x2048 .f32) (a1 : FVec Ideal S2x2048 .f32) (a2 : FVec Ideal S2x2048x8192 .f32) (a3 : FVec Ideal S2x8192x2048 .f32)
  (h0 : m ((c.tc : Thread nD τ).loc main_arg0) = a0) (h1 : m ((c.tc : Thread nD τ).loc main_arg1) = a1) (h2 : m ((c.tc : Thread nD τ).loc main_arg2) = a2)
  (h3 : m ((c.tc : Thread nD τ).loc main_arg3) = a3)

include h2 in
theorem up_weights (k : Fin 2048) (j : Fin 8192) : (V m c main_v4 (ix2 k j) : EReal) = a2 (ix3 0 k j) := by
  have e : V m c main_v4 = (truncf .bf16 (shapeCast S2048x8192 (extractStridedSlice S1x2048x8192 ![0, 0, 0] (m ((c.tc : Thread nD τ).loc main_arg2) : FVec Ideal S2x2048x8192 .f32)
      slices_S2x2048x8192_S1x2048x8192_0_0_0) shapeCasts_S1x2048x8192_S2048x8192) bitsLt_bf16_f32 : FVec Ideal S2048x8192 .bf16) := by
    unfold V hostOps0
    after_results_simp <;> rfl
  rw [e, h2]
  pointwise []

include h3 in
theorem down_weights (j : Fin 8192) (n : Fin 2048) : (V m c main_v7 (ix2 j n) : EReal) = a3 (ix3 0 j n) := by
  have e : V m c main_v7 = (truncf .bf16 (shapeCast S8192x2048 (extractStridedSlice S1x8192x2048 ![0, 0, 0] (m ((c.tc : Thread nD τ).loc main_arg3) : FVec Ideal S2x8192x2048 .f32)
      slices_S2x8192x2048_S1x8192x2048_0_0_0) shapeCasts_S1x8192x2048_S8192x2048) bitsLt_bf16_f32 : FVec Ideal S8192x2048 .bf16) := by
    unfold V hostOps0
    after_results_simp <;> rfl
  rw [e, h3]
  pointwise []

include h1 in
theorem scales (n : Fin 2048) : (V m c main_v8 (ix2 0 n) : EReal) = a1 (ix2 0 n) := by
  have e : V m c main_v8 = shapeCast S1x2048 (shapeCast S2048 (extractStridedSlice S1x2048 ![0, 0] (m ((c.tc : Thread nD τ).loc main_arg1) : FVec Ideal S2x2048 .f32)
      slices_S2x2048_S1x2048_0_0) shapeCasts_S1x2048_S2048) shapeCasts_S2048_S1x2048 := by
    unfold V hostOps0
    after_results_simp <;> rfl
  rw [e, h1]
  pointwise []

variable (t : Fin cfg0.N)

include h0 in
theorem rows_block (i : Fin 512) (n : Fin 2048) : (iblk m c 0 t (ix2 i n) : EReal) = a0 (ix2 ⟨t.val / 8 * 512 + i.val, by have := points t; omega⟩ n) := by
  unfold iblk
  blk_simp
  rw [show V m c (Pipeline.arrRef spec0 0) = a0 from (V_main_arg0 m c).trans h0]
  congr 1
  funext a
  apply Fin.ext
  refine (Pipeline.Window.rect_emb_val win0_0 t _ a).trans ?_
  rw [index0]
  match a with
  | 0 => rfl
  | 1 => show 0 * 2048 + n.val = n.val; omega

include h1 in
theorem scales_block (n : Fin 2048) : (iblk m c 1 t (ix2 0 n) : EReal) = a1 (ix2 0 n) := by
  refine Eq.trans ?_ (scales m c a1 h1 n)
  unfold iblk
  blk_simp
  refine congrArg (V m c main_v8) (funext fun a => Fin.ext ?_)
  refine (Pipeline.Window.rect_emb_val win0_1 t _ a).trans ?_
  rw [index1]
  match a with
  | 0 => rfl
  | 1 => show 0 * 2048 + n.val = n.val; omega

include h2 in
theorem up_block (k : Fin 2048) (j : Fin 1024) : (iblk m c 2 t (ix2 k j) : EReal) = a2 (ix3 0 k ⟨t.val % 8 * 1024 + j.val, by omega⟩) := by
  refine Eq.trans ?_ (up_weights m c a2 h2 k _)
  unfold iblk
  blk_simp
  refine congrArg (V m c main_v4) (funext fun a => Fin.ext ?_)
  refine (Pipeline.Window.rect_emb_val win0_2 t _ a).trans ?_
  rw [index2]
  match a with
  | 0 => show 0 * 2048 + k.val = k.val; omega
  | 1 => rfl

include h3 in
theorem down_block (j : Fin 1024) (n : Fin 2048) : (iblk m c 3 t (ix2 j n) : EReal) = a3 (ix3 0 ⟨t.val % 8 * 1024 + j.val, by omega⟩ n) := by
  refine Eq.trans ?_ (down_weights m c a3 h3 _ n)
  unfold iblk
  blk_simp
  refine congrArg (V m c main_v7) (funext fun a => Fin.ext ?_)
  refine (Pipeline.Window.rect_emb_val win0_3 t _ a).trans ?_
  rw [index3]
  match a with
  | 0 => rfl
  | 1 => show 0 * 2048 + n.val = n.val; omega

/-! ## The residual stream -/

/-- A position's normalized row. -/
def normRow (i : Fin 8704) : Fin 2048 → EReal := normed (fun k => a0 (ix2 i k)) (fun k => a1 (ix2 0 k))

/-- The hidden units' shares of a result. -/
def shares (i : Fin 8704) (n : Fin 2048) : Fin 8192 → EReal := share (normRow a0 a1 i) (fun k j => a2 (ix3 0 k j)) (fun j k => a3 (ix3 0 j k)) n

include h0 h1 in
theorem begun_rows (i : Fin 512) (n : Fin 2048) : (k0_pay6 (iblk m c 0 t) (iblk m c 1 t) (ix2 i n) : EReal)
    = normRow a0 a1 ⟨t.val / 8 * 512 + i.val, by have := points t; omega⟩ n := by
  rw [normed_at]
  unfold normRow
  congr 1
  · funext k; exact rows_block m c a0 h0 t i k
  · funext k; exact scales_block m c a1 h1 t k

include h2 h3 in
/-- One point adds the shares of its hidden units. -/
theorem point_adds (h : Vec Ideal S512x2048 .bf16) (a : Vec Ideal S512x2048 .f32) (i : Fin 512) (n : Fin 2048) (r : Fin 8704) (x : EReal)
    (hh : ∀ k, (h (ix2 i k) : EReal) = normRow a0 a1 r k) (ha : (a (ix2 i n) : EReal) = x + partly (shares a0 a1 a2 a3 r n) (t.val % 8 * 1024)) :
    (k0_pay7 h (iblk m c 2 t) a (iblk m c 3 t) (ix2 i n) : EReal) = x + partly (shares a0 a1 a2 a3 r n) ((t.val % 8 + 1) * 1024) := by
  rw [added_at, ha, ← partly_step _ _ (Nat.mod_lt _ (by decide)), add_assoc]
  congr 2
  refine Finset.sum_congr rfl fun j _ => ?_
  simp only [hh, up_block m c a2 h2 t, down_block m c a3 h3 t]
  rfl

include h0 h1 h2 h3 in
/-- After a block of rows' first point. -/
theorem begun_at (h8 : t.val % 8 = 0) (i : Fin 512) :
    (∀ k, ((begun m c t).1 (ix2 i k) : EReal) = normRow a0 a1 ⟨t.val / 8 * 512 + i.val, by have := points t; omega⟩ k)
    ∧ ∀ k, ((begun m c t).2 (ix2 i k) : EReal) = a0 (ix2 ⟨t.val / 8 * 512 + i.val, by have := points t; omega⟩ k)
        + partly (shares a0 a1 a2 a3 ⟨t.val / 8 * 512 + i.val, by have := points t; omega⟩ k) ((t.val % 8 + 1) * 1024) := by
  have hb := begun_rows m c a0 a1 h0 h1 t i
  refine ⟨hb, fun k => point_adds m c a0 a1 a2 a3 h2 h3 t _ _ i k _ _ hb ?_⟩
  rw [h8, Nat.zero_mul, partly_zero, add_zero]
  exact rows_block m c a0 h0 t i k

include h0 h1 h2 h3 in
/-- After a point: the normalized rows, and the rows with the shares of the hidden units so far. -/
theorem tile_at (i : Fin 512) : ∀ (n : ℕ) (hn : n < cfg0.N),
    (∀ k, ((tile m c n hn).1 (ix2 i k) : EReal) = normRow a0 a1 ⟨n / 8 * 512 + i.val, by have := points ⟨n, hn⟩; dsimp only at this; omega⟩ k)
    ∧ ∀ k, ((tile m c n hn).2 (ix2 i k) : EReal) = a0 (ix2 ⟨n / 8 * 512 + i.val, by have := points ⟨n, hn⟩; dsimp only at this; omega⟩ k)
        + partly (shares a0 a1 a2 a3 ⟨n / 8 * 512 + i.val, by have := points ⟨n, hn⟩; dsimp only at this; omega⟩ k) ((n % 8 + 1) * 1024) := by
  intro n
  induction n with
  | zero => exact fun hn => begun_at m c a0 a1 a2 a3 h0 h1 h2 h3 ⟨0, hn⟩ rfl i
  | succ n ih =>
    intro hn
    by_cases h8 : (n + 1) % 8 = 0
    · rw [tile_first m c ⟨n + 1, hn⟩ h8]
      exact begun_at m c a0 a1 a2 a3 h0 h1 h2 h3 ⟨n + 1, hn⟩ h8 i
    · obtain ⟨i1, i2⟩ := ih (Nat.lt_of_succ_lt hn)
      have e8 : (n + 1) / 8 = n / 8 := by omega
      have m8 : n % 8 + 1 = (n + 1) % 8 := by omega
      rw [tile_next m c ⟨n + 1, hn⟩ h8]
      have er : (⟨(n + 1) / 8 * 512 + i.val, by have := points ⟨n + 1, hn⟩; dsimp only at this; omega⟩ : Fin 8704)
          = ⟨n / 8 * 512 + i.val, by have := points ⟨n + 1, hn⟩; dsimp only at this; omega⟩ := Fin.ext (by show (n + 1) / 8 * 512 + i.val = _; rw [e8])
      rw [er]
      refine ⟨i1, fun k => ?_⟩
      refine point_adds m c a0 a1 a2 a3 h2 h3 ⟨n + 1, hn⟩ _ _ i k _ _ i1 ?_
      rw [← m8]
      exact i2 k

include h0 h1 h2 h3 in
/-- The residual stream's array after the last point. -/
theorem rows_array (R : FVec Ideal S8704x2048 .f32)
    (hR : ∀ (i : Fin 8704) (n : Fin 2048), (R (ix2 i n) : EReal) = HAdd.hAdd (α := EReal) (β := EReal) (γ := EReal) (a0 (ix2 i n)) (∑ j, shares a0 a1 a2 a3 i n j)) :
    (dats m 0 c).arrAt 9 cfg0.N = R := by
  refine (dats m 0 c).arrAt_eq_of_covers 9 _ (by decide +kernel) fun t hf y => ?_
  blk_simp
  rw [after9]
  have ht := points t
  have h7 := (flush0_9 t).1 hf
  have hi : (y 0 : ℕ) < 512 := (y 0).isLt
  have hd : (y 1 : ℕ) < 2048 := (y 1).isLt
  have ey : y = ix2 ⟨(y 0 : ℕ), hi⟩ ⟨(y 1 : ℕ), hd⟩ := eq_ix2 y
  have eo : (win0_9.blk t).view.emb y = ix2 ⟨t.val / 8 * 512 + (y 0 : ℕ), by omega⟩ ⟨(y 1 : ℕ), hd⟩ := by
    funext a
    apply Fin.ext
    refine (Pipeline.Window.rect_emb_val win0_9 t y a).trans ?_
    rw [index9]
    match a with
    | 0 => rfl
    | 1 => show 0 * 2048 + (y 1 : ℕ) = (y 1 : ℕ); omega
  refine Eq.trans ?_ (congrArg R eo).symm
  refine (congrArg _ ey).trans ?_
  refine Eq.trans ?_ (hR _ _).symm
  refine ((tile_at m c a0 a1 a2 a3 h0 h1 h2 h3 ⟨(y 0 : ℕ), hi⟩ t.val t.isLt).2 ⟨(y 1 : ℕ), hd⟩).trans ?_
  rw [h7, ← partly_all]

end

/-! ## The casts -/

theorem index4 : ∀ t : Fin cfg0.N, win0_4.index t = ![1, (chunk t).val, 0] :=
  (by decide +kernel : ∀ t : Fin grid0.N, win0_4.index t = ![1, (chunk t).val, 0])
theorem index10 : ∀ t : Fin cfg0.N, win0_10.index t = ![(chunk t).val, 0] :=
  (by decide +kernel : ∀ t : Fin grid0.N, win0_10.index t = ![(chunk t).val, 0])
theorem index5 : ∀ t : Fin cfg0.N, win0_5.index t = ![1, (chunk t).val, 0] :=
  (by decide +kernel : ∀ t : Fin grid0.N, win0_5.index t = ![1, (chunk t).val, 0])
theorem index11 : ∀ t : Fin cfg0.N, win0_11.index t = ![(chunk t).val, 0] :=
  (by decide +kernel : ∀ t : Fin grid0.N, win0_11.index t = ![(chunk t).val, 0])
theorem index6 : ∀ t : Fin cfg0.N, win0_6.index t = ![1, (chunk t).val, 0] :=
  (by decide +kernel : ∀ t : Fin grid0.N, win0_6.index t = ![1, (chunk t).val, 0])
theorem index12 : ∀ t : Fin cfg0.N, win0_12.index t = ![(chunk t).val, 0] :=
  (by decide +kernel : ∀ t : Fin grid0.N, win0_12.index t = ![(chunk t).val, 0])
theorem index7 : ∀ t : Fin cfg0.N, win0_7.index t = ![(chunk t).val, 0] :=
  (by decide +kernel : ∀ t : Fin grid0.N, win0_7.index t = ![(chunk t).val, 0])
theorem index13 : ∀ t : Fin cfg0.N, win0_13.index t = ![(chunk t).val, 0] :=
  (by decide +kernel : ∀ t : Fin grid0.N, win0_13.index t = ![(chunk t).val, 0])
theorem index8 : ∀ t : Fin cfg0.N, win0_8.index t = ![0, (chunk t).val, 0] :=
  (by decide +kernel : ∀ t : Fin grid0.N, win0_8.index t = ![0, (chunk t).val, 0])
theorem index14 : ∀ t : Fin cfg0.N, win0_14.index t = ![(chunk t).val, 0] :=
  (by decide +kernel : ∀ t : Fin grid0.N, win0_14.index t = ![(chunk t).val, 0])

theorem chunks (t : Fin cfg0.N) : (chunk t).val < 128 := by
  unfold chunk
  split
  · assumption
  · show 127 < 128; decide
theorem chunk_chunk (t : Fin cfg0.N) : chunk (chunk t) = chunk t := chunk_early _ (chunks t)

/-- The casts of the second layer's upward weights. -/
theorem cast_array10 (a : FVec Ideal S2x2048x8192 .f32) (h : m ((c.tc : Thread nD τ).loc main_arg2) = a) (R : FVec Ideal S2048x8192 .bf16)
    (hR : ∀ (i : Fin 2048) (n : Fin 8192), (R (ix2 i n) : EReal) = a (ix3 1 i n)) : (dats m 0 c).arrAt 10 cfg0.N = R := by
  refine (dats m 0 c).arrAt_eq_of_covers 10 _ (by decide +kernel) fun t _ y => ?_
  blk_simp
  rw [after10]
  have ht := chunks t
  have hi : (y 0 : ℕ) < 16 := (y 0).isLt
  have hd : (y 1 : ℕ) < 8192 := (y 1).isLt
  have ey : y = ix2 ⟨(y 0 : ℕ), hi⟩ ⟨(y 1 : ℕ), hd⟩ := eq_ix2 y
  have eo : (win0_10.blk t).view.emb y = ix2 ⟨(chunk t).val * 16 + (y 0 : ℕ), by omega⟩ ⟨(y 1 : ℕ), hd⟩ := by
    funext b
    apply Fin.ext
    refine (Pipeline.Window.rect_emb_val win0_10 t y b).trans ?_
    rw [index10]
    match b with
    | 0 => rfl
    | 1 => show 0 * 8192 + (y 1 : ℕ) = (y 1 : ℕ); omega
  refine Eq.trans ?_ (congrArg R eo).symm
  refine (congrArg _ ey).trans ?_
  refine Eq.trans ?_ (hR _ _).symm
  refine (cast1_at _ _ _).trans ?_
  unfold iblk
  blk_simp
  rw [show V m c (Pipeline.arrRef spec0 4) = a from (V_main_arg2 m c).trans h]
  refine congrArg a (funext fun b => Fin.ext ?_)
  refine (Pipeline.Window.rect_emb_val win0_4 (chunk t) _ b).trans ?_
  rw [index4, chunk_chunk]
  match b with
  | 0 => rfl
  | 1 => rfl
  | 2 => show 0 * 8192 + (y 1 : ℕ) = (y 1 : ℕ); omega

/-- The casts of the second layer's downward weights. -/
theorem cast_array11 (a : FVec Ideal S2x8192x2048 .f32) (h : m ((c.tc : Thread nD τ).loc main_arg3) = a) (R : FVec Ideal S8192x2048 .bf16)
    (hR : ∀ (i : Fin 8192) (n : Fin 2048), (R (ix2 i n) : EReal) = a (ix3 1 i n)) : (dats m 0 c).arrAt 11 cfg0.N = R := by
  refine (dats m 0 c).arrAt_eq_of_covers 11 _ (by decide +kernel) fun t _ y => ?_
  blk_simp
  rw [after11]
  have ht := chunks t
  have hi : (y 0 : ℕ) < 64 := (y 0).isLt
  have hd : (y 1 : ℕ) < 2048 := (y 1).isLt
  have ey : y = ix2 ⟨(y 0 : ℕ), hi⟩ ⟨(y 1 : ℕ), hd⟩ := eq_ix2 y
  have eo : (win0_11.blk t).view.emb y = ix2 ⟨(chunk t).val * 64 + (y 0 : ℕ), by omega⟩ ⟨(y 1 : ℕ), hd⟩ := by
    funext b
    apply Fin.ext
    refine (Pipeline.Window.rect_emb_val win0_11 t y b).trans ?_
    rw [index11]
    match b with
    | 0 => rfl
    | 1 => show 0 * 2048 + (y 1 : ℕ) = (y 1 : ℕ); omega
  refine Eq.trans ?_ (congrArg R eo).symm
  refine (congrArg _ ey).trans ?_
  refine Eq.trans ?_ (hR _ _).symm
  refine (cast2_at _ _ _).trans ?_
  unfold iblk
  blk_simp
  rw [show V m c (Pipeline.arrRef spec0 5) = a from (V_main_arg3 m c).trans h]
  refine congrArg a (funext fun b => Fin.ext ?_)
  refine (Pipeline.Window.rect_emb_val win0_5 (chunk t) _ b).trans ?_
  rw [index5, chunk_chunk]
  match b with
  | 0 => rfl
  | 1 => rfl
  | 2 => show 0 * 2048 + (y 1 : ℕ) = (y 1 : ℕ); omega

/-- The casts of the second output projection. -/
theorem cast_array12 (a : FVec Ideal S2x2048x2048 .f32) (h : m ((c.tc : Thread nD τ).loc main_arg4) = a) (R : FVec Ideal S2048x2048 .bf16)
    (hR : ∀ (i : Fin 2048) (n : Fin 2048), (R (ix2 i n) : EReal) = a (ix3 1 i n)) : (dats m 0 c).arrAt 12 cfg0.N = R := by
  refine (dats m 0 c).arrAt_eq_of_covers 12 _ (by decide +kernel) fun t _ y => ?_
  blk_simp
  rw [after12]
  have ht := chunks t
  have hi : (y 0 : ℕ) < 16 := (y 0).isLt
  have hd : (y 1 : ℕ) < 2048 := (y 1).isLt
  have ey : y = ix2 ⟨(y 0 : ℕ), hi⟩ ⟨(y 1 : ℕ), hd⟩ := eq_ix2 y
  have eo : (win0_12.blk t).view.emb y = ix2 ⟨(chunk t).val * 16 + (y 0 : ℕ), by omega⟩ ⟨(y 1 : ℕ), hd⟩ := by
    funext b
    apply Fin.ext
    refine (Pipeline.Window.rect_emb_val win0_12 t y b).trans ?_
    rw [index12]
    match b with
    | 0 => rfl
    | 1 => show 0 * 2048 + (y 1 : ℕ) = (y 1 : ℕ); omega
  refine Eq.trans ?_ (congrArg R eo).symm
  refine (congrArg _ ey).trans ?_
  refine Eq.trans ?_ (hR _ _).symm
  refine (cast3_at _ _ _).trans ?_
  unfold iblk
  blk_simp
  rw [show V m c (Pipeline.arrRef spec0 6) = a from (V_main_arg4 m c).trans h]
  refine congrArg a (funext fun b => Fin.ext ?_)
  refine (Pipeline.Window.rect_emb_val win0_6 (chunk t) _ b).trans ?_
  rw [index6, chunk_chunk]
  match b with
  | 0 => rfl
  | 1 => rfl
  | 2 => show 0 * 2048 + (y 1 : ℕ) = (y 1 : ℕ); omega

/-- The casts of the key and value projection. -/
theorem cast_array13 (a : FVec Ideal S2048x3072 .f32) (h : m ((c.tc : Thread nD τ).loc main_arg5) = a) (R : FVec Ideal S2048x3072 .bf16)
    (hR : ∀ (i : Fin 2048) (n : Fin 3072), (R (ix2 i n) : EReal) = a (ix2 i n)) : (dats m 0 c).arrAt 13 cfg0.N = R := by
  refine (dats m 0 c).arrAt_eq_of_covers 13 _ (by decide +kernel) fun t _ y => ?_
  blk_simp
  rw [after13]
  have ht := chunks t
  have hi : (y 0 : ℕ) < 16 := (y 0).isLt
  have hd : (y 1 : ℕ) < 3072 := (y 1).isLt
  have ey : y = ix2 ⟨(y 0 : ℕ), hi⟩ ⟨(y 1 : ℕ), hd⟩ := eq_ix2 y
  have eo : (win0_13.blk t).view.emb y = ix2 ⟨(chunk t).val * 16 + (y 0 : ℕ), by omega⟩ ⟨(y 1 : ℕ), hd⟩ := by
    funext b
    apply Fin.ext
    refine (Pipeline.Window.rect_emb_val win0_13 t y b).trans ?_
    rw [index13]
    match b with
    | 0 => rfl
    | 1 => show 0 * 3072 + (y 1 : ℕ) = (y 1 : ℕ); omega
  refine Eq.trans ?_ (congrArg R eo).symm
  refine (congrArg _ ey).trans ?_
  refine Eq.trans ?_ (hR _ _).symm
  refine (cast4_at _ _ _).trans ?_
  unfold iblk
  blk_simp
  rw [show V m c (Pipeline.arrRef spec0 7) = a from (V_main_arg5 m c).trans h]
  refine congrArg a (funext fun b => Fin.ext ?_)
  refine (Pipeline.Window.rect_emb_val win0_7 (chunk t) _ b).trans ?_
  rw [index7, chunk_chunk]
  match b with
  | 0 => rfl
  | 1 => show 0 * 3072 + (y 1 : ℕ) = (y 1 : ℕ); omega

/-- The casts of the second layer's input projection. -/
theorem cast_array14 (a : FVec Ideal S1x2048x2048 .f32) (h : m ((c.tc : Thread nD τ).loc main_arg6) = a) (R : FVec Ideal S2048x2048 .bf16)
    (hR : ∀ (i : Fin 2048) (n : Fin 2048), (R (ix2 i n) : EReal) = a (ix3 0 i n)) : (dats m 0 c).arrAt 14 cfg0.N = R := by
  refine (dats m 0 c).arrAt_eq_of_covers 14 _ (by decide +kernel) fun t _ y => ?_
  blk_simp
  rw [after14]
  have ht := chunks t
  have hi : (y 0 : ℕ) < 16 := (y 0).isLt
  have hd : (y 1 : ℕ) < 2048 := (y 1).isLt
  have ey : y = ix2 ⟨(y 0 : ℕ), hi⟩ ⟨(y 1 : ℕ), hd⟩ := eq_ix2 y
  have eo : (win0_14.blk t).view.emb y = ix2 ⟨(chunk t).val * 16 + (y 0 : ℕ), by omega⟩ ⟨(y 1 : ℕ), hd⟩ := by
    funext b
    apply Fin.ext
    refine (Pipeline.Window.rect_emb_val win0_14 t y b).trans ?_
    rw [index14]
    match b with
    | 0 => rfl
    | 1 => show 0 * 2048 + (y 1 : ℕ) = (y 1 : ℕ); omega
  refine Eq.trans ?_ (congrArg R eo).symm
  refine (congrArg _ ey).trans ?_
  refine Eq.trans ?_ (hR _ _).symm
  refine (cast5_at _ _ _).trans ?_
  unfold iblk
  blk_simp
  rw [show V m c (Pipeline.arrRef spec0 8) = a from (V_main_arg6 m c).trans h]
  refine congrArg a (funext fun b => Fin.ext ?_)
  refine (Pipeline.Window.rect_emb_val win0_8 (chunk t) _ b).trans ?_
  rw [index8, chunk_chunk]
  match b with
  | 0 => rfl
  | 1 => rfl
  | 2 => show 0 * 2048 + (y 1 : ℕ) = (y 1 : ℕ); omega

end Cert.Kernel3Ideal.MlpCast

end
-- ==== Proof.MlpCastRef.lean ====
module

public import proofs.«01_k».proof.Proof.MlpSpec
public import proofs.«01_k».proof.Proof.Gen.Reference3Ideal.Run
public import Idealize.ShloMosaic.Lib.Pointwise

@[expose] public section

set_option maxRecDepth 16384

/-! The reference of the first layer's feed-forward part at an index. -/

noncomputable section

namespace Cert.Reference3Ideal.MlpCast

open Cert.Reference3Ideal Cert.Reference3Ideal.Gen Cert.Reference3Ideal.Value Cert.Mlp
open Idealize.ShloMosaic Idealize.ShloMosaic.TcCoe

variable (a0 : FVec Ideal S8704x2048 .f32) (a1 : FVec Ideal S2x2048 .f32) (a2 : FVec Ideal S2x2048x8192 .f32) (a3 : FVec Ideal S2x8192x2048 .f32)

/-- The normalized rows. -/
abbrev normedRows : FVec Ideal S8704x2048 .f32 :=
  mulf (mulf a0 (broadcastInDim S8704x2048 ![0, 1] bcast_S8704x1_S8704x2048_0_1 (Host.rsqrt (addf (Host.divf (broadcastInDim S8704x1 ![0] bcast_S8704_S8704x1_0 (Host.reduceAdd (mulf a0 a0) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ (extractStridedSlice S1x2048 ![0, 0] a1 slices_S2x2048_S1x2048_0_0) shapeCasts_S1x2048_S2048)))

/-- The hidden units of every row. -/
abbrev hidden : FVec Ideal S8704x8192 .f32 :=
  maximumf (Host.dotGeneral dot_S8704x2048_S2048x8192_S8704x8192_1_0_0_1_n_n none (normedRows a0 a1) (shapeCast _ (extractStridedSlice S1x2048x8192 ![0, 0, 0] a2 slices_S2x2048x8192_S1x2048x8192_0_0_0) shapeCasts_S1x2048x8192_S2048x8192)) (broadcastInDim S8704x8192 ![] bcast_S_S8704x8192 (constant S_ .f32 0x00000000#32))

/-- The residual stream with the feed-forward part added. -/
abbrev added : FVec Ideal S8704x2048 .f32 :=
  addf a0 (Host.dotGeneral dot_S8704x8192_S8192x2048_S8704x2048_1_0_0_1_n_n none (mulf (hidden a0 a1 a2) (hidden a0 a1 a2)) (shapeCast _ (extractStridedSlice S1x8192x2048 ![0, 0, 0] a3 slices_S2x8192x2048_S1x8192x2048_0_0_0) shapeCasts_S1x8192x2048_S8192x2048))

theorem added_at (i : Fin 8704) (n : Fin 2048) : (added a0 a1 a2 a3 (ix2 i n) : EReal)
    = HAdd.hAdd (α := EReal) (β := EReal) (γ := EReal) (a0 (ix2 i n)) (∑ j, share (normed (fun k => a0 (ix2 i k)) (fun k => a1 (ix2 0 k))) (fun k j => a2 (ix3 0 k j)) (fun j k => a3 (ix3 0 j k)) n j) := by
  unfold added hidden normedRows
  pointwise []
  rfl

/-! ## The casts -/

theorem up_cast_at (a : FVec Ideal S2x2048x8192 .f32) (i : Fin 2048) (n : Fin 8192) :
    ((truncf .bf16 (shapeCast S2048x8192 (extractStridedSlice S1x2048x8192 ![1, 0, 0] a slices_S2x2048x8192_S1x2048x8192_1_0_0) shapeCasts_S1x2048x8192_S2048x8192) bitsLt_bf16_f32 : FVec Ideal S2048x8192 .bf16) (ix2 i n) : EReal) = a (ix3 1 i n) := by
  pointwise []

theorem down_cast_at (a : FVec Ideal S2x8192x2048 .f32) (i : Fin 8192) (n : Fin 2048) :
    ((truncf .bf16 (shapeCast S8192x2048 (extractStridedSlice S1x8192x2048 ![1, 0, 0] a slices_S2x8192x2048_S1x8192x2048_1_0_0) shapeCasts_S1x8192x2048_S8192x2048) bitsLt_bf16_f32 : FVec Ideal S8192x2048 .bf16) (ix2 i n) : EReal) = a (ix3 1 i n) := by
  pointwise []

theorem out_cast_at (a : FVec Ideal S2x2048x2048 .f32) (i : Fin 2048) (n : Fin 2048) :
    ((truncf .bf16 (shapeCast S2048x2048 (extractStridedSlice S1x2048x2048 ![1, 0, 0] a slices_S2x2048x2048_S1x2048x2048_1_0_0) shapeCasts_S1x2048x2048_S2048x2048) bitsLt_bf16_f32 : FVec Ideal S2048x2048 .bf16) (ix2 i n) : EReal) = a (ix3 1 i n) := by
  pointwise []

theorem key_value_cast_at (a : FVec Ideal S2048x3072 .f32) (i : Fin 2048) (n : Fin 3072) :
    ((truncf .bf16 a bitsLt_bf16_f32 : FVec Ideal S2048x3072 .bf16) (ix2 i n) : EReal) = a (ix2 i n) := by
  pointwise []

theorem in_cast_at (a : FVec Ideal S1x2048x2048 .f32) (i : Fin 2048) (n : Fin 2048) :
    ((truncf .bf16 (shapeCast S2048x2048 a shapeCasts_S1x2048x2048_S2048x2048) bitsLt_bf16_f32 : FVec Ideal S2048x2048 .bf16) (ix2 i n) : EReal) = a (ix3 0 i n) := by
  pointwise []

end Cert.Reference3Ideal.MlpCast

end
-- ==== Proof.MlpCastClaims.lean ====
module

public import proofs.«01_k».proof.Defs
public import proofs.«01_k».proof.Proof.MlpCastValue
public import proofs.«01_k».proof.Proof.Gen.Kernel3
public import proofs.«01_k».proof.Proof.MlpCastRef
public import Idealize.ShloMosaic.Lib.Quiescent

@[expose] public section

set_option maxRecDepth 16384

/-! The claims about the first layer's feed-forward part. -/

noncomputable section

namespace Cert.MlpCastClaims

open Idealize.ShloMosaic Idealize.ShloMosaic.TcCoe Idealize.SL.Sem

set_option maxHeartbeats 4000000 in
/-- The two programs' kernels are one text. -/
theorem bodies_eq : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => rfl

theorem defs_eq : Cert.Kernel3.defs (F := Bits) = Cert.Kernel3Ideal.defs (F := Bits) :=
  congrArg (Pipeline.defs Cert.Kernel3.pcfgs) bodies_eq

/-- The compiled program's run is the idealized one's, read at words. -/
theorem frame_kernel : Cert.quiescent_Kernel3 := fun m ρ _ =>
  (congrArg (fun D => θ_run D (onTc (τ := Cert.Kernel3.τ) (Cert.Kernel3.main (F := Bits))) ⟨m, fun _ => 0, ρ⟩ _) defs_eq).mpr
    (Cert.Kernel3Ideal.MlpCast.frame_any (F := Bits) m ρ)

theorem frame_ideal : Cert.quiescent_Kernel3Ideal := fun m ρ _ => Cert.Kernel3Ideal.MlpCast.frame_any (F := Ideal) m ρ

theorem frame_reference : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- Nothing is replaced. -/
theorem preserves : Cert.preserves_Kernel3_Kernel3Ideal := trivial

open Cert.Kernel3Ideal Cert.Kernel3Ideal.Gen Cert.Kernel3Ideal.MlpCast in
/-- The kernel's six output arrays, with the arguments unchanged. -/
theorem kernel_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v9_0) = (dats m 0 c).arrAt 9 cfg0.N
        ∧ r.2.mem ((c.tc : Thread nD τ).loc main_v9_1) = (dats m 0 c).arrAt 10 cfg0.N
        ∧ r.2.mem ((c.tc : Thread nD τ).loc main_v9_2) = (dats m 0 c).arrAt 11 cfg0.N
        ∧ r.2.mem ((c.tc : Thread nD τ).loc main_v9_3) = (dats m 0 c).arrAt 12 cfg0.N
        ∧ r.2.mem ((c.tc : Thread nD τ).loc main_v9_4) = (dats m 0 c).arrAt 13 cfg0.N
        ∧ r.2.mem ((c.tc : Thread nD τ).loc main_v9_5) = (dats m 0 c).arrAt 14 cfg0.N)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun _ h c => ⟨⟨(h.1 c).1 9, (h.1 c).1 10, (h.1 c).1 11, (h.1 c).1 12, (h.1 c).1 13, (h.1 c).1 14⟩, h.2 c⟩)
    (θ_run_and (run_arrays m ρ) (frame_of m ρ (dats m) (arrays m) (run_arrays m ρ)))

set_option maxHeartbeats 4000000 in
/-- The kernel's six output arrays are the reference's results. -/
theorem algebraic : Cert.algebraic_Kernel3Ideal_Reference3Ideal := fun m ρ m' ρ' _ ha => by
  refine ⟨_, _, _, _, _, _, (θ_run Cert.Kernel3Ideal.defs _ _).mono (fun r h c => ?_) (kernel_arrays m ρ), Cert.Reference3Ideal.Value.run m' ρ'⟩
  obtain ⟨⟨k0, k1, k2, k3, k4, k5⟩, hr⟩ := h c
  obtain ⟨e0, e1, e2, e3, e4, e5, e6⟩ := ha c
  refine ⟨k0.trans ?_, k1.trans ?_, k2.trans ?_, k3.trans ?_, k4.trans ?_, k5.trans ?_, hr⟩
  · exact Cert.Kernel3Ideal.MlpCast.rows_array m c _ _ _ _ e0.symm e1.symm e2.symm e3.symm _ fun i n => Cert.Reference3Ideal.MlpCast.added_at _ _ _ _ i n
  · exact Cert.Kernel3Ideal.MlpCast.cast_array10 m c _ e2.symm _ fun i n => Cert.Reference3Ideal.MlpCast.up_cast_at _ i n
  · exact Cert.Kernel3Ideal.MlpCast.cast_array11 m c _ e3.symm _ fun i n => Cert.Reference3Ideal.MlpCast.down_cast_at _ i n
  · exact Cert.Kernel3Ideal.MlpCast.cast_array12 m c _ e4.symm _ fun i n => Cert.Reference3Ideal.MlpCast.out_cast_at _ i n
  · exact Cert.Kernel3Ideal.MlpCast.cast_array13 m c _ e5.symm _ fun i n => Cert.Reference3Ideal.MlpCast.key_value_cast_at _ i n
  · exact Cert.Kernel3Ideal.MlpCast.cast_array14 m c _ e6.symm _ fun i n => Cert.Reference3Ideal.MlpCast.in_cast_at _ i n

end Cert.MlpCastClaims

end
-- ==== Proof.KvSpec.lean ====
module

public import proofs.«01_k».proof.Proof.MlpSpec
public import Idealize.ShloMosaic.Lib.Pointwise

@[expose] public section

/-! A row's keys and values before the turn, a position's angles, and the rotary turn of a head's row in extended reals, as the reference writes it (two halves and a rest) and as the kernel
    writes it (the row, and the row rolled both ways, by three tables). -/

noncomputable section

namespace Cert.Kv

open Idealize.ShloMosaic Cert.Mlp

/-- The normalized row through one column of the weights. -/
def proj (x g : Fin 2048 → EReal) (w : Fin 2048 → Fin 3072 → EReal) (n : Fin 3072) : EReal := ∑ k, normed x g k * w k n

/-- A position's angle at one frequency. -/
def angle (p : BitVec 32) (k : Fin 16) : EReal :=
  (FloatOps.sitofp (F := Ideal) FTy.f32 p : EReal) * Ideal.pow (Ideal.ofBits FTy.f32 1223959552#32)
    (Ideal.div (-((FloatOps.sitofp (F := Ideal) FTy.f32 (BitVec.ofNat 32 k.val) : EReal) * Ideal.ofBits FTy.f32 1073741824#32)) (Ideal.ofBits FTy.f32 1107296256#32))

/-- The first thirty-two entries turned, half against half; the others as they are. -/
def turn (f : Fin 128 → EReal) (co si : Fin 16 → EReal) (d : Fin 128) : EReal :=
  if h : d.val < 16 then f d * co ⟨d.val, h⟩ - f ⟨d.val + 16, by omega⟩ * si ⟨d.val, h⟩
  else if h' : d.val < 32 then f d * co ⟨d.val - 16, by omega⟩ + f ⟨d.val - 16, by omega⟩ * si ⟨d.val - 16, by omega⟩
  else f d

/-- The turn read off its three pieces set one after the other. -/
theorem turn_pieces (f : Fin 128 → EReal) (co si : Fin 16 → EReal) (d : Fin 128) :
    turn f co si d = if h : d.val < 16 then f d * co ⟨d.val, h⟩ - f ⟨16 + d.val, by omega⟩ * si ⟨d.val, h⟩
      else if h' : d.val - 16 < 16 then f ⟨16 + (d.val - 16), by omega⟩ * co ⟨d.val - 16, h'⟩ + f ⟨d.val - 16, by omega⟩ * si ⟨d.val - 16, h'⟩
      else f ⟨32 + (d.val - 16 - 16), by omega⟩ := by
  unfold turn
  by_cases h : d.val < 16
  · have e : (⟨16 + d.val, by omega⟩ : Fin 128) = ⟨d.val + 16, by omega⟩ := Fin.ext (Nat.add_comm _ _)
    simp only [h, dif_pos, e]
  · by_cases h' : d.val < 32
    · have e : (⟨16 + (d.val - 16), by omega⟩ : Fin 128) = d := Fin.ext (show 16 + (d.val - 16) = d.val by omega)
      simp only [h, h', show d.val - 16 < 16 by omega, dif_pos, dif_neg, not_false_eq_true, e]
    · have e : (⟨32 + (d.val - 16 - 16), by omega⟩ : Fin 128) = d := Fin.ext (show 32 + (d.val - 16 - 16) = d.val by omega)
      simp only [h, h', show ¬d.val - 16 < 16 by omega, dif_neg, not_false_eq_true, e]

/-- The row times one table, and its two rolls times two others. -/
def rolled (f c s t : Fin 128 → EReal) (d : Fin 128) : EReal :=
  f d * c d + f ⟨(d.val + 16) % 128, Nat.mod_lt _ (by omega)⟩ * s d + f ⟨(d.val + 112) % 128, Nat.mod_lt _ (by omega)⟩ * t d

/-- With the tables filled in, the rolls are the turn. -/
theorem rolled_eq (f c s t : Fin 128 → EReal) (co si : Fin 16 → EReal)
    (hc : ∀ d, c d = if h : d.val < 16 then co ⟨d.val, h⟩ else if h' : d.val < 32 then co ⟨d.val - 16, by omega⟩ else 1)
    (hs : ∀ d, s d = if h : d.val < 16 then -si ⟨d.val, h⟩ else 0)
    (ht : ∀ d, t d = if h : d.val < 16 then 0 else if h' : d.val < 32 then si ⟨d.val - 16, by omega⟩ else 0) (d : Fin 128) :
    rolled f c s t d = turn f co si d := by
  unfold rolled turn
  rw [hc, hs, ht]
  by_cases h : d.val < 16
  · have e : (⟨(d.val + 16) % 128, Nat.mod_lt _ (by omega)⟩ : Fin 128) = ⟨d.val + 16, by omega⟩ := Fin.ext (Nat.mod_eq_of_lt (by omega))
    simp only [h, dif_pos, e, mul_zero, add_zero, mul_neg, sub_eq_add_neg]
  · by_cases h' : d.val < 32
    · have e : (⟨(d.val + 112) % 128, Nat.mod_lt _ (by omega)⟩ : Fin 128) = ⟨d.val - 16, by omega⟩ :=
        Fin.ext (show (d.val + 112) % 128 = d.val - 16 by omega)
      simp only [h, h', dif_pos, dif_neg, not_false_eq_true, e, mul_zero, add_zero]
    · simp only [h, h', dif_neg, not_false_eq_true, mul_zero, add_zero, mul_one]

end Cert.Kv

end
-- ==== Proof.KvTile.lean ====
module

public import proofs.«01_k».proof.Proof.KvSpec
public import proofs.«01_k».proof.Proof.Gen.Kernel4Ideal.Value
public import Idealize.ShloMosaic.Lib.Pointwise
public import Idealize.ShloMosaic.Lib.KernelVsHost
public import Idealize.ShloMosaic.Lib.Pipeline.ValueKit.Basic

@[expose] public section

set_option maxRecDepth 16384

/-! What the prompt's body computes, at an index: the rows through the weights, and one head of the keys turned. -/

noncomputable section

namespace Cert.Kernel4Ideal.Kv

open Cert.Kernel4Ideal Cert.Kernel4Ideal.Gen Cert.Kv
open Idealize.ShloMosaic Idealize.ShloMosaic.TcCoe

theorem both_at (x : Vec Ideal S512x2048 .f32) (g : Vec Ideal S1x2048 .f32) (w : Vec Ideal S2048x3072 .bf16) (i : Fin 512) (n : Fin 3072) :
    (k0_pay2 x g w (ix2 i n) : EReal) = proj (fun k => x (ix2 i k)) (fun k => g (ix2 0 k)) (fun k n => w (ix2 k n)) n := by
  pointwise [k0_pay2]
  rfl

/-- One head of the keys turned: its columns by one table, and rolled by two others. -/
abbrev head (o : ℕ) (hs : S512x3072.Slices ![0, o] S512x128) (a : FVec Ideal S512x3072 .f32) (c s t : FVec Ideal S512x128 .f32) : FVec Ideal S512x128 .f32 :=
  addf (addf (mulf (extractStridedSlice S512x128 ![0, o] a hs) c)
    (mulf (dynamicRotate 1 112#32 none (extractStridedSlice S512x128 ![0, o] a hs) rotates_S512x128_d1) s))
    (mulf (dynamicRotate 1 16#32 none (extractStridedSlice S512x128 ![0, o] a hs) rotates_S512x128_d1) t)

theorem slice_at (o : ℕ) (ho : o + 128 ≤ 3072) (hs : S512x3072.Slices ![0, o] S512x128) (a : FVec Ideal S512x3072 .f32) (i : Fin 512) (d : Fin 128) :
    extractStridedSlice S512x128 ![0, o] a hs (ix2 i d) = a (ix2 i ⟨o + d.val, by omega⟩) :=
  extractStridedSlice_apply ![0, o] a hs _ _ fun b => match b with
    | ⟨0, _⟩ => (Nat.zero_add _).symm
    | ⟨1, _⟩ => rfl

/-- A roll by `sb` columns reads the column that many to the left. -/
theorem roll_at (sb : BitVec 32) (e : ℕ) (he : 128 - sb.toNat % 128 = e) (v : FVec Ideal S512x128 .f32) (i : Fin 512) (d : Fin 128) :
    dynamicRotate 1 sb none v rotates_S512x128_d1 (ix2 i d) = v (ix2 i ⟨(d.val + e) % 128, Nat.mod_lt _ (by omega)⟩) :=
  dynamicRotate_apply 1 sb v _ _ _ fun b => match b with
    | ⟨0, _⟩ => rfl
    | ⟨1, _⟩ => by
        show (d.val + e) % 128 = (d.val + 128 - sb.toNat % 128) % 128
        have := Nat.mod_lt sb.toNat (show 128 > 0 by omega)
        congr 1
        omega

theorem head_slices (n : ℕ) (hn : n < 12) : S512x3072.Slices ![0, n * 128] S512x128 :=
  ⟨rfl, fun b => match b with
    | ⟨0, _⟩ => by show 0 + 512 ≤ 512; omega
    | ⟨1, _⟩ => by show n * 128 + 128 ≤ 3072; omega⟩

theorem head_at (o : ℕ) (ho : o + 128 ≤ 3072) (hs : S512x3072.Slices ![0, o] S512x128) (a : FVec Ideal S512x3072 .f32) (c s t : FVec Ideal S512x128 .f32) (i : Fin 512) (d : Fin 128) :
    (head o hs a c s t (ix2 i d) : EReal) = rolled (fun d => a (ix2 i ⟨o + d.val, by omega⟩)) (fun d => c (ix2 i d)) (fun d => s (ix2 i d)) (fun d => t (ix2 i d)) d := by
  show HAdd.hAdd (α := EReal) (β := EReal) (γ := EReal) (HAdd.hAdd (α := EReal) (β := EReal) (γ := EReal)
      (HMul.hMul (α := EReal) (β := EReal) (γ := EReal) (extractStridedSlice S512x128 ![0, o] a hs (ix2 i d)) (c (ix2 i d)))
      (HMul.hMul (α := EReal) (β := EReal) (γ := EReal) (dynamicRotate 1 112#32 none (extractStridedSlice S512x128 ![0, o] a hs) rotates_S512x128_d1 (ix2 i d)) (s (ix2 i d))))
      (HMul.hMul (α := EReal) (β := EReal) (γ := EReal) (dynamicRotate 1 16#32 none (extractStridedSlice S512x128 ![0, o] a hs) rotates_S512x128_d1 (ix2 i d)) (t (ix2 i d))) = _
  rw [roll_at 112#32 16 rfl, roll_at 16#32 112 rfl, slice_at o ho, slice_at o ho, slice_at o ho]
  rfl

/-! ## The blocks the body leaves -/

/-- The keys' block: every head turned. -/
def keysOf (a : FVec Ideal S512x3072 .f32) (c s t : FVec Ideal S512x128 .f32) (y : S1x12x512x128.Idx) : EReal :=
  rolled (fun d => a (ix2 ⟨(y 2).val, (y 2).isLt⟩ ⟨(y 1).val * 128 + d.val, by have h1 : (y 1).val < 12 := (y 1).isLt; omega⟩)) (fun d => c (ix2 ⟨(y 2).val, (y 2).isLt⟩ d))
    (fun d => s (ix2 ⟨(y 2).val, (y 2).isLt⟩ d)) (fun d => t (ix2 ⟨(y 2).val, (y 2).isLt⟩ d)) ⟨(y 3).val, (y 3).isLt⟩

/-- One head's store is that head of the block. -/
theorem key_piece (n : ℕ) (hn : n < 12) (hs : S512x3072.Slices ![0, n * 128] S512x128)
    (inb : ∀ a, (![0, n, 0, 0] : Fin 4 → Nat) a + S1x1x512x128.size a ≤ S1x12x512x128.size a)
    (a : FVec Ideal S512x3072 .f32) (c s t : FVec Ideal S512x128 .f32) (x : S1x1x512x128.Idx) :
    (shapeCast S1x1x512x128 (head (n * 128) hs a c s t) shapeCasts_S512x128_S1x1x512x128 x : EReal)
      = keysOf a c s t ((Rect.unit (s := S1x12x512x128) ![0, n, 0, 0] S1x1x512x128.size inb).emb x) := by
  have hx0 : (x 0).val < 1 := (x 0).isLt
  have hx1 : (x 1).val < 1 := (x 1).isLt
  have hx2 : (x 2).val < 512 := (x 2).isLt
  have hx3 : (x 3).val < 128 := (x 3).isLt
  have e : (Rect.unit (s := S1x12x512x128) ![0, n, 0, 0] S1x1x512x128.size inb).emb x = ix4 0 ⟨n, hn⟩ ⟨(x 2).val, hx2⟩ ⟨(x 3).val, hx3⟩ := by
    funext b
    apply Fin.ext
    match b with
    | ⟨0, _⟩ => show 0 + 1 * (x 0).val = 0; omega
    | ⟨1, _⟩ => show n + 1 * (x 1).val = n; omega
    | ⟨2, _⟩ => show 0 + 1 * (x 2).val = (x 2).val; omega
    | ⟨3, _⟩ => show 0 + 1 * (x 3).val = (x 3).val; omega
  rw [e]
  refine (shapeCast_apply _ _ x (ix2 ⟨(x 2).val, hx2⟩ ⟨(x 3).val, hx3⟩) ?_).trans (head_at _ (by omega) hs a c s t _ _)
  rw [Shape.rowMajor_val_two, Shape.rowMajor_val_four]
  show (x 2).val * 128 + (x 3).val = (((x 0).val * 1 + (x 1).val) * 512 + (x 2).val) * 128 + (x 3).val
  omega

set_option maxHeartbeats 1000000 in
/-- The keys' buffer after the body. -/
theorem keys_block (x : Vec Ideal S512x2048 .f32) (g : Vec Ideal S1x2048 .f32) (w : Vec Ideal S2048x3072 .bf16) (c s t : Vec Ideal S512x128 .f32) (y : S1x12x512x128.Idx) :
    (out0_6 x g w c s t y : EReal) = keysOf (k0_pay37 x g w c s t) (k0_pay38 x g w c s t) (k0_pay39 x g w c s t) (k0_pay40 x g w c s t) y := by
  unfold out0_6
  refine View.canon_apply_of_pieces (Val := Elt Ideal) (e := .f32) (keysOf (k0_pay37 x g w c s t) (k0_pay38 x g w c s t) (k0_pay39 x g w c s t) (k0_pay40 x g w c s t)) _ ?_ y
    (cover0_6 _ _ _ _ _ _ _ _ _ _ _ _ y)
  simp only [List.forall_mem_cons]
  have piece := fun n hn inb => key_piece n hn (head_slices n hn) inb (k0_pay37 x g w c s t) (k0_pay38 x g w c s t) (k0_pay39 x g w c s t) (k0_pay40 x g w c s t)
  exact ⟨piece 11 (by decide) _, piece 10 (by decide) _, piece 9 (by decide) _,
    piece 8 (by decide) _, piece 7 (by decide) _, piece 6 (by decide) _,
    piece 5 (by decide) _, piece 4 (by decide) _, piece 3 (by decide) _,
    piece 2 (by decide) _, piece 1 (by decide) _, piece 0 (by decide) _, fun _ h => nomatch h⟩

theorem same3 (v : Vec Ideal S512x128 .f32) (i : Fin 512) (d : Fin 128) : (k0_pay3 v (ix2 i d) : EReal) = v (ix2 i d) := by
  pointwise [k0_pay3]
theorem same4 (v : Vec Ideal S512x128 .f32) (i : Fin 512) (d : Fin 128) : (k0_pay4 v (ix2 i d) : EReal) = v (ix2 i d) := by
  pointwise [k0_pay4]
theorem same5 (v : Vec Ideal S512x128 .f32) (i : Fin 512) (d : Fin 128) : (k0_pay5 v (ix2 i d) : EReal) = v (ix2 i d) := by
  pointwise [k0_pay5]

section
variable (x : Vec Ideal S512x2048 .f32) (g : Vec Ideal S1x2048 .f32) (w : Vec Ideal S2048x3072 .bf16) (c s t : Vec Ideal S512x128 .f32)

theorem load0 : View.ld x r0_0 = x := View.ld_unit_lit _ _ (by decide)
theorem load1 : View.ld g r0_1 = g := View.ld_unit_lit _ _ (by decide)
theorem load2 : View.ld w r0_2 = w := View.ld_unit_lit _ _ (by decide)
theorem load3 : View.ld c r0_3 = c := View.ld_unit_lit _ _ (by decide)

/-- The keys' buffer at an index. -/
theorem keys_block_at (n : Fin 12) (i : Fin 512) (d : Fin 128) :
    (out0_6 x g w c s t (ix4 0 n i d) : EReal) = rolled (fun d => proj (fun k => x (ix2 i k)) (fun k => g (ix2 0 k)) (fun k n => w (ix2 k n)) ⟨n.val * 128 + d.val, by omega⟩)
      (fun d => c (ix2 i d)) (fun d => s (ix2 i d)) (fun d => t (ix2 i d)) d := by
  refine (keys_block x g w c s t _).trans ?_
  unfold k0_pay37 k0_pay38 k0_pay39 k0_pay40
  rw [load0, load1, load2, load3, load3, load3]
  show rolled (fun d => k0_pay2 x g w (ix2 i ⟨n.val * 128 + d.val, _⟩)) (fun d => k0_pay3 c (ix2 i d)) (fun d => k0_pay4 s (ix2 i d)) (fun d => k0_pay5 t (ix2 i d)) d = _
  simp only [both_at, same3, same4, same5]

/-- The values' buffer at an index. -/
theorem values_block_at (n : Fin 12) (i : Fin 512) (d : Fin 128) :
    (out0_7 x g w c s t (ix4 0 n i d) : EReal) = proj (fun k => x (ix2 i k)) (fun k => g (ix2 0 k)) (fun k n => w (ix2 k n)) ⟨1536 + (n.val * 128 + d.val), by omega⟩ := by
  refine Eq.trans ?_ (both_at x g w i _)
  unfold out0_7 k0_pay37
  refine (Value.canon7_eq _ _ _ _).trans ?_
  rw [load0, load1, load2]
  refine congrArg (k0_pay2 x g w) (funext fun a => Fin.ext ?_)
  match a with
  | ⟨0, _⟩ => rfl
  | ⟨1, _⟩ => exact Nat.add_comm _ _

end

end Cert.Kernel4Ideal.Kv

end
-- ==== Proof.KvTable.lean ====
module

public import proofs.«01_k».proof.Proof.KvSpec
public import proofs.«01_k».proof.Proof.Gen.Kernel4Ideal.Value
public import Idealize.ShloMosaic.Lib.Pointwise

@[expose] public section

set_option maxRecDepth 16384

/-! The three tables of the rotary turn at an index. -/

noncomputable section

namespace Cert.Kernel4Ideal.Kv

open Cert.Kernel4Ideal Cert.Kernel4Ideal.Gen Cert.Kv
open Idealize.ShloMosaic Idealize.ShloMosaic.TcCoe

/-- The tables' positions: the prompt's, then the sample's four over and over. -/
abbrev places : IVec S2560 32 :=
  concatenate S2560 0 [⟨S2048, iotaInDim S2048 32 0⟩,
    ⟨S512, addi (broadcastInDim S512 ![] bcast_S_S512 (constantI S_ 32 2048#32)) (shapeCast S512 (broadcastInDim S128x4 ![0, 1] bcast_S1x4_S128x4_0_1 (shapeCast S1x4 (iotaInDim S4 32 0) shapeCasts_S4_S1x4)) shapeCasts_S128x4_S512)⟩]
    concatenates_S2048_S512_S2560_d0

/-- The angles at some positions. -/
abbrev angles (p : IVec S2560 32) : FVec Ideal S2560x16 .f32 :=
  mulf (broadcastInDim S2560x16 ![0, 1] bcast_S2560x1_S2560x16_0_1 (broadcastInDim S2560x1 ![0] bcast_S2560_S2560x1_0 (sitofp .f32 p)))
    (broadcastInDim S2560x16 ![0, 1] bcast_S1x16_S2560x16_0_1 (broadcastInDim S1x16 ![1] bcast_S16_S1x16_1 (Host.powf (broadcastInDim S16 ![] bcast_S_S16 (constant S_ .f32 0x48F42400#32))
      (Host.divf (Host.negf (mulf (sitofp .f32 (iotaInDim S16 32 0)) (broadcastInDim S16 ![] bcast_S_S16 (constant S_ .f32 0x40000000#32)))) (broadcastInDim S16 ![] bcast_S_S16 (constant S_ .f32 0x42000000#32))))))

/-- Three runs of columns side by side. -/
abbrev beside (a b : FVec Ideal S2560x16 .f32) (c : FVec Ideal S2560x96 .f32) : FVec Ideal S2560x128 .f32 :=
  concatenate S2560x128 1 [⟨S2560x16, a⟩, ⟨S2560x16, b⟩, ⟨S2560x96, c⟩] concatenates_S2560x16_S2560x16_S2560x96_S2560x128_d1

abbrev zeros16 : FVec Ideal S2560x16 .f32 := broadcastInDim S2560x16 ![] bcast_S_S2560x16 (constant S_ .f32 0x00000000#32)
abbrev zeros96 : FVec Ideal S2560x96 .f32 := broadcastInDim S2560x96 ![] bcast_S_S2560x96 (constant S_ .f32 0x00000000#32)
abbrev ones96 : FVec Ideal S2560x96 .f32 := addf zeros96 (broadcastInDim S2560x96 ![] bcast_S_S2560x96 (constant S_ .f32 0x3F800000#32))

/-- The cosines' table, the sines' table for the first half and the one for the second half. -/
abbrev cosTable : FVec Ideal S2560x128 .f32 := beside (Host.cos (angles places)) (Host.cos (angles places)) ones96
abbrev sinTable1 : FVec Ideal S2560x128 .f32 := beside (Host.negf (Host.sin (angles places))) zeros16 zeros96
abbrev sinTable2 : FVec Ideal S2560x128 .f32 := beside zeros16 (Host.sin (angles places)) zeros96

theorem places_prompt (r : Fin 2560) (h : r.val < 2048) : places (ix1 r) = BitVec.ofNat 32 r.val := by
  unfold places
  pointwise []
  exact dif_pos h

theorem places_sample (i : Fin 512) : places (ix1 ⟨2048 + i.val, by omega⟩) = 2048#32 + BitVec.ofNat 32 (i.val % 4) := by
  unfold places
  pointwise []
  rfl

theorem cos_at (p : IVec S2560 32) (r : Fin 2560) (k : Fin 16) : ((Host.cos (angles p) : FVec Ideal S2560x16 .f32) (ix2 r k) : EReal) = Ideal.cos (angle (p (ix1 r)) k) := by
  unfold angles
  pointwise []
  rfl

theorem sin_at (p : IVec S2560 32) (r : Fin 2560) (k : Fin 16) : ((Host.sin (angles p) : FVec Ideal S2560x16 .f32) (ix2 r k) : EReal) = Ideal.sin (angle (p (ix1 r)) k) := by
  unfold angles
  pointwise []
  rfl

theorem beside_at (a b : FVec Ideal S2560x16 .f32) (c : FVec Ideal S2560x96 .f32) (r : Fin 2560) (d : Fin 128) :
    (beside a b c (ix2 r d) : EReal) = if h : d.val < 16 then (a (ix2 r ⟨d.val, h⟩) : EReal) else if h' : d.val < 32 then (b (ix2 r ⟨d.val - 16, by omega⟩) : EReal)
      else c (ix2 r ⟨d.val - 32, by omega⟩) := by
  unfold beside
  pointwise []
  by_cases h : d.val < 16
  · simp only [h, dif_pos]
  · by_cases h' : d.val < 32
    · simp only [h, h', show d.val - 16 < 16 by omega, dif_pos, dif_neg, not_false_eq_true]
    · simp only [h, h', show ¬d.val - 16 < 16 by omega, dif_neg, not_false_eq_true, Nat.sub_sub]

theorem negated_at (a : FVec Ideal S2560x16 .f32) (r : Fin 2560) (k : Fin 16) : ((Host.negf a : FVec Ideal S2560x16 .f32) (ix2 r k) : EReal) = -(a (ix2 r k) : EReal) := rfl
theorem zeros16_at (r : Fin 2560) (k : Fin 16) : (zeros16 (ix2 r k) : EReal) = 0 := by
  unfold zeros16
  pointwise []
theorem zeros96_at (r : Fin 2560) (k : Fin 96) : (zeros96 (ix2 r k) : EReal) = 0 := by
  unfold zeros96
  pointwise []
theorem ones96_at (r : Fin 2560) (k : Fin 96) : (ones96 (ix2 r k) : EReal) = 1 := by
  unfold ones96 zeros96
  pointwise []

/-- A head's row and its rolls by the three tables' rows are the row turned by that row's position. -/
theorem rolled_tables (f : Fin 128 → EReal) (r : Fin 2560) (d : Fin 128) :
    rolled f (fun d => cosTable (ix2 r d)) (fun d => sinTable1 (ix2 r d)) (fun d => sinTable2 (ix2 r d)) d
      = turn f (fun k => Ideal.cos (angle (places (ix1 r)) k)) (fun k => Ideal.sin (angle (places (ix1 r)) k)) d := by
  refine rolled_eq f _ _ _ _ _ (fun d => ?_) (fun d => ?_) (fun d => ?_) d
  · refine (beside_at _ _ _ r d).trans ?_
    simp only [cos_at, ones96_at]
  · refine (beside_at _ _ _ r d).trans ?_
    simp only [zeros16_at, zeros96_at, negated_at, sin_at]
    by_cases h : d.val < 16
    · simp only [h, dif_pos]
    · simp only [h, dif_neg, not_false_eq_true, dite_eq_ite, ite_self]
  · refine (beside_at _ _ _ r d).trans ?_
    simp only [zeros16_at, zeros96_at, sin_at]

end Cert.Kernel4Ideal.Kv

end
-- ==== Proof.KvValue.lean ====
module

public import proofs.«01_k».proof.Proof.KvTile
public import proofs.«01_k».proof.Proof.KvTable
public import Idealize.ShloMosaic.Lib.Pipeline.ValueKit.Point

@[expose] public section

set_option maxRecDepth 16384

/-! The prompt's two arrays after the last point. -/

noncomputable section

namespace Cert.Kernel4Ideal.Kv

open Cert.Kernel4Ideal Cert.Kernel4Ideal.Gen Cert.Kv
open Idealize.ShloMosaic Idealize.ShloMosaic.TcCoe
open Idealize.ShloMosaic.Pipeline (Dat Cfg Window cellOf)

variable (m : (ℓ : Loc nD τ sig) → Buf (Elt Ideal) ℓ) (c : Dev nD)

theorem points (t : Fin cfg0.N) : t.val < 16 := t.isLt

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![t.val % 4, 0] :=
  (by decide +kernel : ∀ t : Fin grid0.N, win0_3.index t = ![t.val % 4, 0])
theorem index4 : ∀ t : Fin cfg0.N, win0_4.index t = ![t.val % 4, 0] :=
  (by decide +kernel : ∀ t : Fin grid0.N, win0_4.index t = ![t.val % 4, 0])
theorem index5 : ∀ t : Fin cfg0.N, win0_5.index t = ![t.val % 4, 0] :=
  (by decide +kernel : ∀ t : Fin grid0.N, win0_5.index t = ![t.val % 4, 0])
theorem index6 : ∀ t : Fin cfg0.N, win0_6.index t = ![t.val / 4, 0, t.val % 4, 0] :=
  (by decide +kernel : ∀ t : Fin grid0.N, win0_6.index t = ![t.val / 4, 0, t.val % 4, 0])
theorem index7 : ∀ t : Fin cfg0.N, win0_7.index t = ![t.val / 4, 0, t.val % 4, 0] :=
  (by decide +kernel : ∀ t : Fin grid0.N, win0_7.index t = ![t.val / 4, 0, t.val % 4, 0])

/-! ## The arrays the host prepares -/

theorem cos_table : V m c main_v29 = cosTable := by
  unfold V hostOps0
  after_results_simp <;> (try dsimp only [Matrix.cons_val]) <;> (try after_results_simp) <;> rfl

theorem sin_table1 : V m c main_v31 = sinTable1 := by
  unfold V hostOps0
  after_results_simp <;> (try dsimp only [Matrix.cons_val]) <;> (try after_results_simp) <;> rfl

theorem sin_table2 : V m c main_v32 = sinTable2 := by
  unfold V hostOps0
  after_results_simp <;> (try dsimp only [Matrix.cons_val]) <;> (try after_results_simp) <;> rfl

section
variable (a0 : FVec Ideal S8704x2048 .f32) (a1 : FVec Ideal S2048 .f32) (a2 : FVec Ideal S2048x3072 .f32)
  (h0 : m ((c.tc : Thread nD τ).loc main_arg0) = a0) (h1 : m ((c.tc : Thread nD τ).loc main_arg1) = a1) (h2 : m ((c.tc : Thread nD τ).loc main_arg2) = a2)

include h1 in
theorem scales (n : Fin 2048) : (V m c main_v33 (ix2 0 n) : EReal) = a1 (ix1 n) := by
  have e : V m c main_v33 = shapeCast S1x2048 (m ((c.tc : Thread nD τ).loc main_arg1) : FVec Ideal S2048 .f32) shapeCasts_S2048_S1x2048 := by
    unfold V hostOps0
    after_results_simp <;> rfl
  rw [e, h1]
  pointwise []

include h2 in
theorem weights (k : Fin 2048) (n : Fin 3072) : (V m c main_v0 (ix2 k n) : EReal) = a2 (ix2 k n) := by
  have e : V m c main_v0 = (truncf .bf16 (m ((c.tc : Thread nD τ).loc main_arg2) : FVec Ideal S2048x3072 .f32) bitsLt_bf16_f32 : FVec Ideal S2048x3072 .bf16) := by
    unfold V hostOps0
    after_results_simp <;> rfl
  rw [e, h2]
  pointwise []

/-! ## The blocks -/

variable (t : Fin cfg0.N)

include h0 in
theorem rows_block (i : Fin 512) (n : Fin 2048) : (iblk m c 0 t (ix2 i n) : EReal) = a0 (ix2 ⟨t.val * 512 + i.val, by have := points t; omega⟩ n) := by
  unfold iblk
  blk_simp
  rw [show V m c (Pipeline.arrRef spec0 0) = a0 from (V_main_arg0 m c).trans h0]
  congr 1
  funext a
  apply Fin.ext
  refine (Pipeline.Window.rect_emb_val win0_0 t _ a).trans ?_
  rw [index0]
  match a with
  | 0 => rfl
  | 1 => show 0 * 2048 + n.val = n.val; omega

include h1 in
theorem scales_block (n : Fin 2048) : (iblk m c 1 t (ix2 0 n) : EReal) = a1 (ix1 n) := by
  refine Eq.trans ?_ (scales m c a1 h1 n)
  unfold iblk
  blk_simp
  refine congrArg (V m c main_v33) (funext fun a => Fin.ext ?_)
  refine (Pipeline.Window.rect_emb_val win0_1 t _ a).trans ?_
  rw [index1]
  match a with
  | 0 => rfl
  | 1 => show 0 * 2048 + n.val = n.val; omega

include h2 in
theorem weights_block (k : Fin 2048) (n : Fin 3072) : (iblk m c 2 t (ix2 k n) : EReal) = a2 (ix2 k n) := by
  refine Eq.trans ?_ (weights m c a2 h2 k n)
  unfold iblk
  blk_simp
  refine congrArg (V m c main_v0) (funext fun a => Fin.ext ?_)
  refine (Pipeline.Window.rect_emb_val win0_2 t _ a).trans ?_
  rw [index2]
  match a with
  | 0 => show 0 * 2048 + k.val = k.val; omega
  | 1 => show 0 * 3072 + n.val = n.val; omega

theorem cos_block (i : Fin 512) (d : Fin 128) : (iblk m c 3 t (ix2 i d) : EReal) = cosTable (ix2 ⟨t.val % 4 * 512 + i.val, by omega⟩ d) := by
  rw [← cos_table m c]
  unfold iblk
  blk_simp
  refine congrArg (V m c main_v29) (funext fun a => Fin.ext ?_)
  refine (Pipeline.Window.rect_emb_val win0_3 t _ a).trans ?_
  rw [index3]
  match a with
  | 0 => rfl
  | 1 => show 0 * 128 + d.val = d.val; omega

theorem sin_block1 (i : Fin 512) (d : Fin 128) : (iblk m c 4 t (ix2 i d) : EReal) = sinTable1 (ix2 ⟨t.val % 4 * 512 + i.val, by omega⟩ d) := by
  rw [← sin_table1 m c]
  unfold iblk
  blk_simp
  refine congrArg (V m c main_v31) (funext fun a => Fin.ext ?_)
  refine (Pipeline.Window.rect_emb_val win0_4 t _ a).trans ?_
  rw [index4]
  match a with
  | 0 => rfl
  | 1 => show 0 * 128 + d.val = d.val; omega

theorem sin_block2 (i : Fin 512) (d : Fin 128) : (iblk m c 5 t (ix2 i d) : EReal) = sinTable2 (ix2 ⟨t.val % 4 * 512 + i.val, by omega⟩ d) := by
  rw [← sin_table2 m c]
  unfold iblk
  blk_simp
  refine congrArg (V m c main_v32) (funext fun a => Fin.ext ?_)
  refine (Pipeline.Window.rect_emb_val win0_5 t _ a).trans ?_
  rw [index5]
  match a with
  | 0 => rfl
  | 1 => show 0 * 128 + d.val = d.val; omega

theorem row_at (t i : ℕ) (ht : t < 16) (hi : i < 512) : (⟨t * 512 + i, by omega⟩ : Fin 8704) = ⟨t / 4 * 2048 + (t % 4 * 512 + i), by omega⟩ :=
  Fin.ext (show t * 512 + i = t / 4 * 2048 + (t % 4 * 512 + i) by omega)

include h0 h1 h2 in
/-- The values' array after the last point. -/
theorem values_array (R : FVec Ideal S4x12x2048x128 .f32)
    (hR : ∀ (b : Fin 4) (n : Fin 12) (p : Fin 2048) (d : Fin 128), (R (ix4 b n p d) : EReal)
      = proj (fun k => a0 (ix2 ⟨b.val * 2048 + p.val, by omega⟩ k)) (fun k => a1 (ix1 k)) (fun k n => a2 (ix2 k n)) ⟨1536 + (n.val * 128 + d.val), by omega⟩) :
    (dats m 0 c).arrAt 7 cfg0.N = R := by
  refine (dats m 0 c).arrAt_eq_of_covers 7 _ (by decide +kernel) fun t hf y => ?_
  blk_simp
  rw [after0_7]
  have ht := points t
  have hy0 : (y 0 : ℕ) < 1 := (y 0).isLt
  have hy1 : (y 1 : ℕ) < 12 := (y 1).isLt
  have hy2 : (y 2 : ℕ) < 512 := (y 2).isLt
  have hy3 : (y 3 : ℕ) < 128 := (y 3).isLt
  have eo : (win0_7.blk t).view.emb y = ix4 ⟨t.val / 4, by omega⟩ ⟨(y 1 : ℕ), hy1⟩ ⟨t.val % 4 * 512 + (y 2 : ℕ), by omega⟩ ⟨(y 3 : ℕ), hy3⟩ := by
    funext a
    apply Fin.ext
    refine (Pipeline.Window.rect_emb_val win0_7 t y a).trans ?_
    rw [index7]
    match a with
    | 0 => show t.val / 4 * 1 + (y 0 : ℕ) = t.val / 4; omega
    | 1 => show 0 * 12 + (y 1 : ℕ) = (y 1 : ℕ); omega
    | 2 => rfl
    | 3 => show 0 * 128 + (y 3 : ℕ) = (y 3 : ℕ); omega
  refine Eq.trans ?_ (congrArg R eo).symm
  refine Eq.trans ?_ (hR _ _ _ _).symm
  have ey : y = ix4 0 ⟨(y 1 : ℕ), hy1⟩ ⟨(y 2 : ℕ), hy2⟩ ⟨(y 3 : ℕ), hy3⟩ := by
    funext a
    match a with
    | 0 => exact Fin.ext (show (y 0 : ℕ) = 0 by omega)
    | 1 => rfl
    | 2 => rfl
    | 3 => rfl
  refine (congrArg _ ey).trans ((values_block_at _ _ _ _ _ _ _ _ _).trans ?_)
  simp only [rows_block m c a0 h0 t, scales_block m c a1 h1 t, weights_block m c a2 h2 t, row_at t.val (y 2 : ℕ) ht hy2]

include h0 h1 h2 in
/-- The keys' array after the last point. -/
theorem keys_array (R : FVec Ideal S4x12x2048x128 .f32)
    (hR : ∀ (b : Fin 4) (n : Fin 12) (p : Fin 2048) (d : Fin 128), (R (ix4 b n p d) : EReal)
      = turn (fun d => proj (fun k => a0 (ix2 ⟨b.val * 2048 + p.val, by omega⟩ k)) (fun k => a1 (ix1 k)) (fun k n => a2 (ix2 k n)) ⟨n.val * 128 + d.val, by omega⟩)
        (fun k => Ideal.cos (angle (BitVec.ofNat 32 p.val) k)) (fun k => Ideal.sin (angle (BitVec.ofNat 32 p.val) k)) d) :
    (dats m 0 c).arrAt 6 cfg0.N = R := by
  refine (dats m 0 c).arrAt_eq_of_covers 6 _ (by decide +kernel) fun t hf y => ?_
  blk_simp
  rw [after0_6]
  have ht := points t
  have hy0 : (y 0 : ℕ) < 1 := (y 0).isLt
  have hy1 : (y 1 : ℕ) < 12 := (y 1).isLt
  have hy2 : (y 2 : ℕ) < 512 := (y 2).isLt
  have hy3 : (y 3 : ℕ) < 128 := (y 3).isLt
  have eo : (win0_6.blk t).view.emb y = ix4 ⟨t.val / 4, by omega⟩ ⟨(y 1 : ℕ), hy1⟩ ⟨t.val % 4 * 512 + (y 2 : ℕ), by omega⟩ ⟨(y 3 : ℕ), hy3⟩ := by
    funext a
    apply Fin.ext
    refine (Pipeline.Window.rect_emb_val win0_6 t y a).trans ?_
    rw [index6]
    match a with
    | 0 => show t.val / 4 * 1 + (y 0 : ℕ) = t.val / 4; omega
    | 1 => show 0 * 12 + (y 1 : ℕ) = (y 1 : ℕ); omega
    | 2 => rfl
    | 3 => show 0 * 128 + (y 3 : ℕ) = (y 3 : ℕ); omega
  refine Eq.trans ?_ (congrArg R eo).symm
  refine Eq.trans ?_ (hR _ _ _ _).symm
  have ey : y = ix4 0 ⟨(y 1 : ℕ), hy1⟩ ⟨(y 2 : ℕ), hy2⟩ ⟨(y 3 : ℕ), hy3⟩ := by
    funext a
    match a with
    | 0 => exact Fin.ext (show (y 0 : ℕ) = 0 by omega)
    | 1 => rfl
    | 2 => rfl
    | 3 => rfl
  refine (congrArg _ ey).trans ((keys_block_at _ _ _ _ _ _ _ _ _).trans ?_)
  simp only [rows_block m c a0 h0 t, scales_block m c a1 h1 t, weights_block m c a2 h2 t, cos_block m c t, sin_block1 m c t, sin_block2 m c t, row_at t.val (y 2 : ℕ) ht hy2]
  refine (rolled_tables _ _ _).trans ?_
  rw [places_prompt ⟨t.val % 4 * 512 + (y 2 : ℕ), by omega⟩ (show t.val % 4 * 512 + (y 2 : ℕ) < 2048 by omega)]

end

end Cert.Kernel4Ideal.Kv

end
-- ==== Proof.KvRef.lean ====
module

public import proofs.«01_k».proof.Proof.KvSpec
public import proofs.«01_k».proof.Proof.MlpSpec
public import proofs.«01_k».proof.Proof.Gen.Reference4Ideal.Run
public import Idealize.ShloMosaic.Lib.Pointwise

@[expose] public section

set_option maxRecDepth 16384

/-! The reference of the prompt's keys and values at an index. -/

noncomputable section

namespace Cert.Reference4Ideal.Kv

open Cert.Reference4Ideal Cert.Reference4Ideal.Gen Cert.Reference4Ideal.Value Cert.Mlp Cert.Kv
open Idealize.ShloMosaic Idealize.ShloMosaic.TcCoe

variable (a0 : FVec Ideal S8704x2048 .f32) (a1 : FVec Ideal S2048 .f32) (a2 : FVec Ideal S2048x3072 .f32)

/-- The prompt's rows. -/
abbrev rows : FVec Ideal S4x2048x2048 .f32 := shapeCast _ (extractStridedSlice S8192x2048 ![0, 0] a0 slices_S8704x2048_S8192x2048_0_0) shapeCasts_S8192x2048_S4x2048x2048

/-- The keys and values of every row. -/
abbrev both : FVec Ideal S4x2048x3072 .f32 :=
  Host.dotGeneral dot_S4x2048x2048_S2048x3072_S4x2048x3072_2_0_01_1_n_n none (mulf (mulf (rows a0) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (rows a0) (rows a0)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 a1))) a2

/-- The keys before their turn. -/
abbrev heads (b : FVec Ideal S4x2048x3072 .f32) : FVec Ideal S4x2048x12x128 .f32 :=
  shapeCast _ (extractStridedSlice S4x2048x1536 ![0, 0, 0] b slices_S4x2048x3072_S4x2048x1536_0_0_0) shapeCasts_S4x2048x1536_S4x2048x12x128

/-- The angles of every position. -/
abbrev angles : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (mulf (sitofp .f32 (iotaInDim S16 32 0)) (broadcastInDim S16 ![] bcast_S_S16 (constant S_ .f32 0x40000000#32)))) (broadcastInDim S16 ![] bcast_S_S16 (constant S_ .f32 0x42000000#32))))))

/-- A table for every batch entry and head. -/
abbrev spread (t : FVec Ideal S2048x16 .f32) : FVec Ideal S4x2048x12x16 .f32 :=
  broadcastInDim S4x2048x12x16 ![0, 1, 2, 3] bcast_S1x2048x1x16_S4x2048x12x16_0_1_2_3 (broadcastInDim S1x2048x1x16 ![1, 2, 3] bcast_S2048x1x16_S1x2048x1x16_1_2_3 (broadcastInDim S2048x1x16 ![0, 2] bcast_S2048x16_S2048x1x16_0_2 t))

/-- The keys turned. -/
abbrev turned (h : FVec Ideal S4x2048x12x128 .f32) (co si : FVec Ideal S2048x16 .f32) : FVec Ideal S4x12x2048x128 .f32 :=
  transpose S4x12x2048x128 [0, 2, 1, 3] (concatenate S4x2048x12x128 3
    [⟨S4x2048x12x16, subf (mulf (extractStridedSlice S4x2048x12x16 ![0, 0, 0, 0] h slices_S4x2048x12x128_S4x2048x12x16_0_0_0_0) (spread co)) (mulf (extractStridedSlice S4x2048x12x16 ![0, 0, 0, 16] h slices_S4x2048x12x128_S4x2048x12x16_0_0_0_16) (spread si))⟩,
     ⟨S4x2048x12x16, addf (mulf (extractStridedSlice S4x2048x12x16 ![0, 0, 0, 16] h slices_S4x2048x12x128_S4x2048x12x16_0_0_0_16) (spread co)) (mulf (extractStridedSlice S4x2048x12x16 ![0, 0, 0, 0] h slices_S4x2048x12x128_S4x2048x12x16_0_0_0_0) (spread si))⟩,
     ⟨S4x2048x12x96, extractStridedSlice S4x2048x12x96 ![0, 0, 0, 32] h slices_S4x2048x12x128_S4x2048x12x96_0_0_0_32⟩]
    concatenates_S4x2048x12x16_S4x2048x12x16_S4x2048x12x96_S4x2048x12x128_d3) transposes_S4x2048x12x128_S4x12x2048x128_0_2_1_3

/-- The values. -/
abbrev values (b : FVec Ideal S4x2048x3072 .f32) : FVec Ideal S4x12x2048x128 .f32 :=
  transpose S4x12x2048x128 [0, 2, 1, 3] (shapeCast _ (extractStridedSlice S4x2048x1536 ![0, 0, 1536] b slices_S4x2048x3072_S4x2048x1536_0_0_1536) shapeCasts_S4x2048x1536_S4x2048x12x128) transposes_S4x2048x12x128_S4x12x2048x128_0_2_1_3

theorem both_at (b : Fin 4) (p : Fin 2048) (n : Fin 3072) : (both a0 a1 a2 (ix3 b p n) : EReal)
    = proj (fun k => a0 (ix2 ⟨b.val * 2048 + p.val, by omega⟩ k)) (fun k => a1 (ix1 k)) (fun k n => a2 (ix2 k n)) n := by
  unfold both rows
  pointwise []
  rfl

theorem heads_at (x : FVec Ideal S4x2048x3072 .f32) (b : Fin 4) (p : Fin 2048) (n : Fin 12) (d : Fin 128) :
    (heads x (ix4 b p n d) : EReal) = x (ix3 b p ⟨n.val * 128 + d.val, by omega⟩) := by
  unfold heads
  pointwise []

theorem values_at (x : FVec Ideal S4x2048x3072 .f32) (b : Fin 4) (n : Fin 12) (p : Fin 2048) (d : Fin 128) :
    (values x (ix4 b n p d) : EReal) = x (ix3 b p ⟨1536 + (n.val * 128 + d.val), by omega⟩) := by
  unfold values
  pointwise []

theorem turned_at (h : FVec Ideal S4x2048x12x128 .f32) (co si : FVec Ideal S2048x16 .f32) (b : Fin 4) (n : Fin 12) (p : Fin 2048) (d : Fin 128) :
    (turned h co si (ix4 b n p d) : EReal) = turn (fun d => h (ix4 b p n d)) (fun k => co (ix2 p k)) (fun k => si (ix2 p k)) d := by
  unfold turned spread
  pointwise []
  exact (turn_pieces (fun d => h (ix4 b p n d)) (fun k => co (ix2 p k)) (fun k => si (ix2 p k)) d).symm

theorem cos_at (p : Fin 2048) (k : Fin 16) : ((Host.cos angles : FVec Ideal S2048x16 .f32) (ix2 p k) : EReal) = Ideal.cos (angle (BitVec.ofNat 32 p.val) k) := by
  unfold angles
  pointwise []
  rfl

theorem sin_at (p : Fin 2048) (k : Fin 16) : ((Host.sin angles : FVec Ideal S2048x16 .f32) (ix2 p k) : EReal) = Ideal.sin (angle (BitVec.ofNat 32 p.val) k) := by
  unfold angles
  pointwise []
  rfl

/-- The reference's keys at an index. -/
theorem keys_at (b : Fin 4) (n : Fin 12) (p : Fin 2048) (d : Fin 128) :
    (turned (heads (both a0 a1 a2)) (Host.cos angles) (Host.sin angles) (ix4 b n p d) : EReal)
      = turn (fun d => proj (fun k => a0 (ix2 ⟨b.val * 2048 + p.val, by omega⟩ k)) (fun k => a1 (ix1 k)) (fun k n => a2 (ix2 k n)) ⟨n.val * 128 + d.val, by omega⟩)
        (fun k => Ideal.cos (angle (BitVec.ofNat 32 p.val) k)) (fun k => Ideal.sin (angle (BitVec.ofNat 32 p.val) k)) d := by
  refine (turned_at _ _ _ b n p d).trans ?_
  simp only [cos_at, sin_at, heads_at, both_at]

/-- The reference's values at an index. -/
theorem values_are (b : Fin 4) (n : Fin 12) (p : Fin 2048) (d : Fin 128) :
    (values (both a0 a1 a2) (ix4 b n p d) : EReal)
      = proj (fun k => a0 (ix2 ⟨b.val * 2048 + p.val, by omega⟩ k)) (fun k => a1 (ix1 k)) (fun k n => a2 (ix2 k n)) ⟨1536 + (n.val * 128 + d.val), by omega⟩ := by
  rw [values_at, both_at]

end Cert.Reference4Ideal.Kv

end
-- ==== Proof.KvSampleTile.lean ====
module

public import proofs.«01_k».proof.Proof.KvTile
public import proofs.«01_k».proof.Proof.Gen.Kernel5Ideal.Value

@[expose] public section

set_option maxRecDepth 16384

/-! What the sample's body computes, at an index: its rows' turned keys, and beside them their values. -/

noncomputable section

namespace Cert.Kernel5Ideal.Kv

open Cert.Kernel5Ideal Cert.Kernel5Ideal.Gen Cert.Kv
open Cert.Kernel4Ideal.Kv (head head_at head_slices slice_at)
open Idealize.ShloMosaic Idealize.ShloMosaic.TcCoe

theorem both_at (x : Vec Ideal S512x2048 .f32) (g : Vec Ideal S1x2048 .f32) (w : Vec Ideal S2048x3072 .bf16) (i : Fin 512) (n : Fin 3072) :
    (k0_pay5 x g w (ix2 i n) : EReal) = proj (fun k => x (ix2 i k)) (fun k => g (ix2 0 k)) (fun k n => w (ix2 k n)) n := by
  pointwise [k0_pay5]
  rfl

/-- The block: in the first half of its columns every head of the keys turned, in the second the values. -/
def bothOf (a : FVec Ideal S512x3072 .f32) (c s t : FVec Ideal S512x128 .f32) (i : Fin 512) (j : Fin 3072) : EReal :=
  if h : j.val < 1536 then
    rolled (fun d => a (ix2 i ⟨j.val / 128 * 128 + d.val, by omega⟩)) (fun d => c (ix2 i d)) (fun d => s (ix2 i d)) (fun d => t (ix2 i d)) ⟨j.val % 128, Nat.mod_lt _ (by omega)⟩
  else a (ix2 i j)

theorem bothOf_key (a : FVec Ideal S512x3072 .f32) (c s t : FVec Ideal S512x128 .f32) (i : Fin 512) (n : ℕ) (hn : n < 12) (d : Fin 128) :
    bothOf a c s t i ⟨n * 128 + d.val, by omega⟩
      = rolled (fun d => a (ix2 i ⟨n * 128 + d.val, by omega⟩)) (fun d => c (ix2 i d)) (fun d => s (ix2 i d)) (fun d => t (ix2 i d)) d := by
  have e1 : (n * 128 + d.val) / 128 = n := by omega
  have e2 : (n * 128 + d.val) % 128 = d.val := by omega
  unfold bothOf
  rw [dif_pos (show n * 128 + d.val < 1536 by omega)]
  simp only [e1, e2]

theorem bothOf_value (a : FVec Ideal S512x3072 .f32) (c s t : FVec Ideal S512x128 .f32) (i : Fin 512) (j : ℕ) (hj : j < 1536) :
    bothOf a c s t i ⟨1536 + j, by omega⟩ = a (ix2 i ⟨1536 + j, by omega⟩) := by
  unfold bothOf
  exact dif_neg (by show ¬ 1536 + j < 1536; omega)

/-- Where a store of 128 columns lies. -/
theorem emb_at (o : ℕ) (ho : o + 128 ≤ 3072) (inb : ∀ a, (![0, o] : Fin 2 → Nat) a + S512x128.size a ≤ S512x3072.size a) (x : S512x128.Idx) :
    (Rect.unit (s := S512x3072) ![0, o] S512x128.size inb).emb x = ix2 ⟨(x 0).val, (x 0).isLt⟩ ⟨o + (x 1).val, by have h : (x 1).val < 128 := (x 1).isLt; omega⟩ := by
  funext b
  apply Fin.ext
  match b with
  | ⟨0, _⟩ => show 0 + 1 * (x 0).val = (x 0).val; omega
  | ⟨1, _⟩ => show o + 1 * (x 1).val = o + (x 1).val; omega

theorem idx_eq (x : S512x128.Idx) : x = ix2 ⟨(x 0).val, (x 0).isLt⟩ ⟨(x 1).val, (x 1).isLt⟩ := by
  funext b
  match b with
  | ⟨0, _⟩ => rfl
  | ⟨1, _⟩ => rfl

/-- One head of the keys is those columns of the block. -/
theorem key_piece (n : ℕ) (hn : n < 12) (hs : S512x3072.Slices ![0, n * 128] S512x128)
    (inb : ∀ a, (![0, n * 128] : Fin 2 → Nat) a + S512x128.size a ≤ S512x3072.size a)
    (a : FVec Ideal S512x3072 .f32) (c s t : FVec Ideal S512x128 .f32) (x : S512x128.Idx) :
    (head (n * 128) hs a c s t x : EReal)
      = (fun y : S512x3072.Idx => bothOf a c s t ⟨(y 0).val, (y 0).isLt⟩ ⟨(y 1).val, (y 1).isLt⟩) ((Rect.unit (s := S512x3072) ![0, n * 128] S512x128.size inb).emb x) := by
  rw [emb_at (n * 128) (by omega) inb x]
  refine (congrArg _ (idx_eq x)).trans ((head_at (n * 128) (by omega) hs a c s t _ _).trans ?_)
  exact (bothOf_key a c s t _ n hn ⟨(x 1).val, (x 1).isLt⟩).symm

theorem value_slices (n : ℕ) (hn : n < 12) : S512x3072.Slices ![0, 1536 + n * 128] S512x128 :=
  ⟨rfl, fun b => match b with
    | ⟨0, _⟩ => by show 0 + 512 ≤ 512; omega
    | ⟨1, _⟩ => by show 1536 + n * 128 + 128 ≤ 3072; omega⟩

/-- One head of the values is those columns of the block. -/
theorem value_piece (n : ℕ) (hn : n < 12) (hs : S512x3072.Slices ![0, 1536 + n * 128] S512x128)
    (inb : ∀ a, (![0, 1536 + n * 128] : Fin 2 → Nat) a + S512x128.size a ≤ S512x3072.size a)
    (a : FVec Ideal S512x3072 .f32) (c s t : FVec Ideal S512x128 .f32) (x : S512x128.Idx) :
    (extractStridedSlice S512x128 ![0, 1536 + n * 128] a hs x : EReal)
      = (fun y : S512x3072.Idx => bothOf a c s t ⟨(y 0).val, (y 0).isLt⟩ ⟨(y 1).val, (y 1).isLt⟩) ((Rect.unit (s := S512x3072) ![0, 1536 + n * 128] S512x128.size inb).emb x) := by
  have hx : (x 1).val < 128 := (x 1).isLt
  rw [emb_at (1536 + n * 128) (by omega) inb x]
  refine (congrArg _ (idx_eq x)).trans ((slice_at (1536 + n * 128) (by omega) hs a _ _).trans ?_)
  have e : (⟨1536 + n * 128 + (x 1).val, by omega⟩ : Fin 3072) = ⟨1536 + (n * 128 + (x 1).val), by omega⟩ := Fin.ext (Nat.add_assoc _ _ _)
  show a (ix2 ⟨(x 0).val, (x 0).isLt⟩ ⟨1536 + n * 128 + (x 1).val, by omega⟩) = bothOf a c s t ⟨(x 0).val, (x 0).isLt⟩ ⟨1536 + n * 128 + (x 1).val, by omega⟩
  rw [e]
  exact (bothOf_value a c s t _ (n * 128 + (x 1).val) (by omega)).symm

set_option maxHeartbeats 2000000 in
/-- The buffer after the body. -/
theorem block (x : Vec Ideal S512x2048 .f32) (g : Vec Ideal S1x2048 .f32) (w : Vec Ideal S2048x3072 .bf16) (c s t : Vec Ideal S512x128 .f32) (y : S512x3072.Idx) :
    (out0_6 x g w c s t y : EReal) = bothOf (k0_pay37 x g w c s t) (k0_pay38 x g w c s t) (k0_pay39 x g w c s t) (k0_pay40 x g w c s t) ⟨(y 0).val, (y 0).isLt⟩ ⟨(y 1).val, (y 1).isLt⟩ := by
  unfold out0_6
  refine View.canon_apply_of_pieces (Val := Elt Ideal) (e := .f32)
    (fun y : S512x3072.Idx => bothOf (k0_pay37 x g w c s t) (k0_pay38 x g w c s t) (k0_pay39 x g w c s t) (k0_pay40 x g w c s t) ⟨(y 0).val, (y 0).isLt⟩ ⟨(y 1).val, (y 1).isLt⟩) _ ?_ y
    (cover0_6 _ _ _ _ _ _ _ _ _ _ _ _ _ _ _ _ _ _ _ _ _ _ _ _ y)
  simp only [List.forall_mem_cons]
  have key := fun n hn inb => key_piece n hn (head_slices n hn) inb (k0_pay37 x g w c s t) (k0_pay38 x g w c s t) (k0_pay39 x g w c s t) (k0_pay40 x g w c s t)
  have value := fun n hn inb => value_piece n hn (value_slices n hn) inb (k0_pay37 x g w c s t) (k0_pay38 x g w c s t) (k0_pay39 x g w c s t) (k0_pay40 x g w c s t)
  exact ⟨value 11 (by decide) _, key 11 (by decide) _, value 10 (by decide) _, key 10 (by decide) _, value 9 (by decide) _, key 9 (by decide) _,
    value 8 (by decide) _, key 8 (by decide) _, value 7 (by decide) _, key 7 (by decide) _, value 6 (by decide) _, key 6 (by decide) _,
    value 5 (by decide) _, key 5 (by decide) _, value 4 (by decide) _, key 4 (by decide) _, value 3 (by decide) _, key 3 (by decide) _,
    value 2 (by decide) _, key 2 (by decide) _, value 1 (by decide) _, key 1 (by decide) _, value 0 (by decide) _, key 0 (by decide) _, fun _ h => nomatch h⟩

theorem same6 (v : Vec Ideal S512x128 .f32) (i : Fin 512) (d : Fin 128) : (k0_pay6 v (ix2 i d) : EReal) = v (ix2 i d) := by
  pointwise [k0_pay6]
theorem same7 (v : Vec Ideal S512x128 .f32) (i : Fin 512) (d : Fin 128) : (k0_pay7 v (ix2 i d) : EReal) = v (ix2 i d) := by
  pointwise [k0_pay7]
theorem same8 (v : Vec Ideal S512x128 .f32) (i : Fin 512) (d : Fin 128) : (k0_pay8 v (ix2 i d) : EReal) = v (ix2 i d) := by
  pointwise [k0_pay8]

section
variable (x : Vec Ideal S512x2048 .f32) (g : Vec Ideal S1x2048 .f32) (w : Vec Ideal S2048x3072 .bf16) (c s t : Vec Ideal S512x128 .f32)

theorem load0 : View.ld x r0_0 = x := View.ld_unit_lit _ _ (by decide)
theorem load1 : View.ld g r0_1 = g := View.ld_unit_lit _ _ (by decide)
theorem load2 : View.ld w r0_2 = w := View.ld_unit_lit _ _ (by decide)
theorem load3 : View.ld c r0_3 = c := View.ld_unit_lit _ _ (by decide)

/-- The keys at an index. -/
theorem keys_block_at (i : Fin 512) (n : ℕ) (hn : n < 12) (d : Fin 128) :
    (out0_6 x g w c s t (ix2 i ⟨n * 128 + d.val, by omega⟩) : EReal) = rolled (fun d => proj (fun k => x (ix2 i k)) (fun k => g (ix2 0 k)) (fun k n => w (ix2 k n)) ⟨n * 128 + d.val, by omega⟩)
      (fun d => c (ix2 i d)) (fun d => s (ix2 i d)) (fun d => t (ix2 i d)) d := by
  refine (block x g w c s t _).trans ((bothOf_key _ _ _ _ i n hn d).trans ?_)
  unfold k0_pay37 k0_pay38 k0_pay39 k0_pay40
  rw [load0, load1, load2, load3, load3, load3]
  simp only [both_at, same6, same7, same8]

/-- The values at an index. -/
theorem values_block_at (i : Fin 512) (j : ℕ) (hj : j < 1536) :
    (out0_6 x g w c s t (ix2 i ⟨1536 + j, by omega⟩) : EReal) = proj (fun k => x (ix2 i k)) (fun k => g (ix2 0 k)) (fun k n => w (ix2 k n)) ⟨1536 + j, by omega⟩ := by
  refine (block x g w c s t _).trans ((bothOf_value _ _ _ _ i j hj).trans ?_)
  unfold k0_pay37
  rw [load0, load1, load2, both_at]

end

end Cert.Kernel5Ideal.Kv

end
-- ==== Proof.KvSampleValue.lean ====
module

public import proofs.«01_k».proof.Proof.KvSampleTile
public import proofs.«01_k».proof.Proof.KvTable
public import Idealize.ShloMosaic.Lib.Pipeline.ValueKit.Point

@[expose] public section

set_option maxRecDepth 16384

/-! The sample's array after its one point. -/

noncomputable section

namespace Cert.Kernel5Ideal.Kv

open Cert.Kernel5Ideal Cert.Kernel5Ideal.Gen Cert.Kv
open Cert.Kernel4Ideal.Kv (cosTable sinTable1 sinTable2 rolled_tables places_sample)
open Idealize.ShloMosaic Idealize.ShloMosaic.TcCoe
open Idealize.ShloMosaic.Pipeline (Dat Cfg Window cellOf)

variable (m : (ℓ : Loc nD τ sig) → Buf (Elt Ideal) ℓ) (c : Dev nD)

theorem index0 : ∀ t : Fin cfg0.N, win0_0.index t = ![16, 0] :=
  (by decide +kernel : ∀ t : Fin grid0.N, win0_0.index t = ![16, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![4, 0] :=
  (by decide +kernel : ∀ t : Fin grid0.N, win0_3.index t = ![4, 0])
theorem index4 : ∀ t : Fin cfg0.N, win0_4.index t = ![4, 0] :=
  (by decide +kernel : ∀ t : Fin grid0.N, win0_4.index t = ![4, 0])
theorem index5 : ∀ t : Fin cfg0.N, win0_5.index t = ![4, 0] :=
  (by decide +kernel : ∀ t : Fin grid0.N, win0_5.index t = ![4, 0])
theorem index6 : ∀ t : Fin cfg0.N, win0_6.index t = ![0, 0] :=
  (by decide +kernel : ∀ t : Fin grid0.N, win0_6.index t = ![0, 0])

/-! ## The arrays the host prepares -/

theorem cos_table : V m c main_v29 = cosTable := by
  unfold V hostOps0
  after_results_simp <;> (try dsimp only [Matrix.cons_val]) <;> (try after_results_simp) <;> rfl

theorem sin_table1 : V m c main_v31 = sinTable1 := by
  unfold V hostOps0
  after_results_simp <;> (try dsimp only [Matrix.cons_val]) <;> (try after_results_simp) <;> rfl

theorem sin_table2 : V m c main_v32 = sinTable2 := by
  unfold V hostOps0
  after_results_simp <;> (try dsimp only [Matrix.cons_val]) <;> (try after_results_simp) <;> rfl

section
variable (a0 : FVec Ideal S8704x2048 .f32) (a1 : FVec Ideal S2048 .f32) (a2 : FVec Ideal S2048x3072 .f32)
  (h0 : m ((c.tc : Thread nD τ).loc main_arg0) = a0) (h1 : m ((c.tc : Thread nD τ).loc main_arg1) = a1) (h2 : m ((c.tc : Thread nD τ).loc main_arg2) = a2)

include h1 in
theorem scales (n : Fin 2048) : (V m c main_v33 (ix2 0 n) : EReal) = a1 (ix1 n) := by
  have e : V m c main_v33 = shapeCast S1x2048 (m ((c.tc : Thread nD τ).loc main_arg1) : FVec Ideal S2048 .f32) shapeCasts_S2048_S1x2048 := by
    unfold V hostOps0
    after_results_simp <;> rfl
  rw [e, h1]
  pointwise []

include h2 in
theorem weights (k : Fin 2048) (n : Fin 3072) : (V m c main_v0 (ix2 k n) : EReal) = a2 (ix2 k n) := by
  have e : V m c main_v0 = (truncf .bf16 (m ((c.tc : Thread nD τ).loc main_arg2) : FVec Ideal S2048x3072 .f32) bitsLt_bf16_f32 : FVec Ideal S2048x3072 .bf16) := by
    unfold V hostOps0
    after_results_simp <;> rfl
  rw [e, h2]
  pointwise []

/-! ## The blocks -/

variable (t : Fin cfg0.N)

include h0 in
theorem rows_block (i : Fin 512) (n : Fin 2048) : (iblk m c 0 t (ix2 i n) : EReal) = a0 (ix2 ⟨8192 + i.val, by omega⟩ n) := by
  unfold iblk
  blk_simp
  rw [show V m c (Pipeline.arrRef spec0 0) = a0 from (V_main_arg0 m c).trans h0]
  congr 1
  funext a
  apply Fin.ext
  refine (Pipeline.Window.rect_emb_val win0_0 t _ a).trans ?_
  rw [index0]
  match a with
  | 0 => rfl
  | 1 => show 0 * 2048 + n.val = n.val; omega

include h1 in
theorem scales_block (n : Fin 2048) : (iblk m c 1 t (ix2 0 n) : EReal) = a1 (ix1 n) := by
  refine Eq.trans ?_ (scales m c a1 h1 n)
  unfold iblk
  blk_simp
  refine congrArg (V m c main_v33) (funext fun a => Fin.ext ?_)
  refine (Pipeline.Window.rect_emb_val win0_1 t _ a).trans ?_
  rw [index1]
  match a with
  | 0 => rfl
  | 1 => show 0 * 2048 + n.val = n.val; omega

include h2 in
theorem weights_block (k : Fin 2048) (n : Fin 3072) : (iblk m c 2 t (ix2 k n) : EReal) = a2 (ix2 k n) := by
  refine Eq.trans ?_ (weights m c a2 h2 k n)
  unfold iblk
  blk_simp
  refine congrArg (V m c main_v0) (funext fun a => Fin.ext ?_)
  refine (Pipeline.Window.rect_emb_val win0_2 t _ a).trans ?_
  rw [index2]
  match a with
  | 0 => show 0 * 2048 + k.val = k.val; omega
  | 1 => show 0 * 3072 + n.val = n.val; omega

theorem cos_block (i : Fin 512) (d : Fin 128) : (iblk m c 3 t (ix2 i d) : EReal) = cosTable (ix2 ⟨2048 + i.val, by omega⟩ d) := by
  rw [← cos_table m c]
  unfold iblk
  blk_simp
  refine congrArg (V m c main_v29) (funext fun a => Fin.ext ?_)
  refine (Pipeline.Window.rect_emb_val win0_3 t _ a).trans ?_
  rw [index3]
  match a with
  | 0 => rfl
  | 1 => show 0 * 128 + d.val = d.val; omega

theorem sin_block1 (i : Fin 512) (d : Fin 128) : (iblk m c 4 t (ix2 i d) : EReal) = sinTable1 (ix2 ⟨2048 + i.val, by omega⟩ d) := by
  rw [← sin_table1 m c]
  unfold iblk
  blk_simp
  refine congrArg (V m c main_v31) (funext fun a => Fin.ext ?_)
  refine (Pipeline.Window.rect_emb_val win0_4 t _ a).trans ?_
  rw [index4]
  match a with
  | 0 => rfl
  | 1 => show 0 * 128 + d.val = d.val; omega

theorem sin_block2 (i : Fin 512) (d : Fin 128) : (iblk m c 5 t (ix2 i d) : EReal) = sinTable2 (ix2 ⟨2048 + i.val, by omega⟩ d) := by
  rw [← sin_table2 m c]
  unfold iblk
  blk_simp
  refine congrArg (V m c main_v32) (funext fun a => Fin.ext ?_)
  refine (Pipeline.Window.rect_emb_val win0_5 t _ a).trans ?_
  rw [index5]
  match a with
  | 0 => rfl
  | 1 => show 0 * 128 + d.val = d.val; omega

/-- Row `i` of the sample, by batch entry and position. -/
theorem row_split (i : Fin 512) : i = ⟨i.val / 4 * 4 + i.val % 4, by omega⟩ := Fin.ext (show i.val = i.val / 4 * 4 + i.val % 4 by omega)

include h0 h1 h2 in
/-- The array after the point. -/
theorem array (R : FVec Ideal S512x3072 .f32)
    (hk : ∀ (b : Fin 128) (q : Fin 4) (n : Fin 12) (d : Fin 128), (R (ix2 ⟨b.val * 4 + q.val, by omega⟩ ⟨n.val * 128 + d.val, by omega⟩) : EReal)
      = turn (fun d => proj (fun k => a0 (ix2 ⟨8192 + (b.val * 4 + q.val), by omega⟩ k)) (fun k => a1 (ix1 k)) (fun k n => a2 (ix2 k n)) ⟨n.val * 128 + d.val, by omega⟩)
        (fun k => Ideal.cos (angle (2048#32 + BitVec.ofNat 32 q.val) k)) (fun k => Ideal.sin (angle (2048#32 + BitVec.ofNat 32 q.val) k)) d)
    (hv : ∀ (b : Fin 128) (q : Fin 4) (n : Fin 12) (d : Fin 128), (R (ix2 ⟨b.val * 4 + q.val, by omega⟩ ⟨1536 + (n.val * 128 + d.val), by omega⟩) : EReal)
      = proj (fun k => a0 (ix2 ⟨8192 + (b.val * 4 + q.val), by omega⟩ k)) (fun k => a1 (ix1 k)) (fun k n => a2 (ix2 k n)) ⟨1536 + (n.val * 128 + d.val), by omega⟩) :
    (dats m 0 c).arrAt 6 cfg0.N = R := by
  refine (dats m 0 c).arrAt_eq_of_covers 6 _ (by decide +kernel) fun t hf y => ?_
  blk_simp
  rw [after0_6]
  have hy0 : (y 0 : ℕ) < 512 := (y 0).isLt
  have hy1 : (y 1 : ℕ) < 3072 := (y 1).isLt
  have eo : (win0_6.blk t).view.emb y = ix2 ⟨(y 0 : ℕ), hy0⟩ ⟨(y 1 : ℕ), hy1⟩ := by
    funext a
    apply Fin.ext
    refine (Pipeline.Window.rect_emb_val win0_6 t y a).trans ?_
    rw [index6]
    match a with
    | 0 => show 0 * 512 + (y 0 : ℕ) = (y 0 : ℕ); omega
    | 1 => show 0 * 3072 + (y 1 : ℕ) = (y 1 : ℕ); omega
  refine Eq.trans ?_ (congrArg R eo).symm
  have ey : y = ix2 ⟨(y 0 : ℕ), hy0⟩ ⟨(y 1 : ℕ), hy1⟩ := by
    funext a
    match a with
    | 0 => rfl
    | 1 => rfl
  refine (congrArg _ ey).trans ?_
  generalize (⟨(y 0 : ℕ), hy0⟩ : Fin 512) = i
  generalize (y 1 : ℕ) = j at hy1
  have ei : (⟨i.val / 4 * 4 + i.val % 4, by omega⟩ : Fin 512) = i := (row_split i).symm
  have er : (⟨8192 + (i.val / 4 * 4 + i.val % 4), by omega⟩ : Fin 8704) = ⟨8192 + i.val, by omega⟩ := Fin.ext (show 8192 + (i.val / 4 * 4 + i.val % 4) = 8192 + i.val by omega)
  by_cases hj : j < 1536
  · have ej : (⟨j, hy1⟩ : Fin 3072) = ⟨j / 128 * 128 + j % 128, by omega⟩ := Fin.ext (show j = j / 128 * 128 + j % 128 by omega)
    have hk := hk ⟨i.val / 4, by omega⟩ ⟨i.val % 4, by omega⟩ ⟨j / 128, by omega⟩ ⟨j % 128, by omega⟩
    simp only [ei, er] at hk
    rw [ej, hk]
    refine (keys_block_at _ _ _ _ _ _ i (j / 128) (by omega) ⟨j % 128, by omega⟩).trans ?_
    simp only [rows_block m c a0 h0 t, scales_block m c a1 h1 t, weights_block m c a2 h2 t, cos_block m c t, sin_block1 m c t, sin_block2 m c t]
    refine (rolled_tables _ _ _).trans ?_
    rw [places_sample i]
  · have ej : (⟨j, hy1⟩ : Fin 3072) = ⟨1536 + ((j - 1536) / 128 * 128 + (j - 1536) % 128), by omega⟩ := Fin.ext (show j = 1536 + ((j - 1536) / 128 * 128 + (j - 1536) % 128) by omega)
    have hv := hv ⟨i.val / 4, by omega⟩ ⟨i.val % 4, by omega⟩ ⟨(j - 1536) / 128, by omega⟩ ⟨(j - 1536) % 128, by omega⟩
    simp only [ei, er] at hv
    rw [ej, hv]
    refine (values_block_at _ _ _ _ _ _ i ((j - 1536) / 128 * 128 + (j - 1536) % 128) (by omega)).trans ?_
    simp only [rows_block m c a0 h0 t, scales_block m c a1 h1 t, weights_block m c a2 h2 t]

end

end Cert.Kernel5Ideal.Kv

end
-- ==== Proof.KvSampleRef.lean ====
module

public import proofs.«01_k».proof.Proof.KvSpec
public import proofs.«01_k».proof.Proof.Gen.Reference5Ideal.Run
public import Idealize.ShloMosaic.Lib.Pointwise
public import Idealize.ShloMosaic.Lib.Pipeline.Value

@[expose] public section

set_option maxRecDepth 16384

/-! The reference of the sample's keys and values at an index. -/

noncomputable section

namespace Cert.Reference5Ideal.Kv

open Cert.Reference5Ideal Cert.Reference5Ideal.Gen Cert.Reference5Ideal.Value Cert.Kv
open Idealize.ShloMosaic Idealize.ShloMosaic.TcCoe

variable (a0 : FVec Ideal S8704x2048 .f32) (a1 : FVec Ideal S2048 .f32) (a2 : FVec Ideal S2048x3072 .f32)

/-- The sample's rows. -/
abbrev rows : FVec Ideal S128x4x2048 .f32 := shapeCast _ (extractStridedSlice S512x2048 ![8192, 0] a0 slices_S8704x2048_S512x2048_8192_0) shapeCasts_S512x2048_S128x4x2048

/-- The keys and values of every row. -/
abbrev both : FVec Ideal S128x4x3072 .f32 :=
  Host.dotGeneral dot_S128x4x2048_S2048x3072_S128x4x3072_2_0_01_1_n_n none (mulf (mulf (rows a0) (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf (rows a0) (rows a0)) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 a1))) a2

/-- The keys before their turn. -/
abbrev heads (b : FVec Ideal S128x4x3072 .f32) : FVec Ideal S128x4x12x128 .f32 :=
  shapeCast _ (extractStridedSlice S128x4x1536 ![0, 0, 0] b slices_S128x4x3072_S128x4x1536_0_0_0) shapeCasts_S128x4x1536_S128x4x12x128

/-- The values, head by head. -/
abbrev values (b : FVec Ideal S128x4x3072 .f32) : FVec Ideal S128x4x12x128 .f32 :=
  shapeCast _ (extractStridedSlice S128x4x1536 ![0, 0, 1536] b slices_S128x4x3072_S128x4x1536_0_0_1536) shapeCasts_S128x4x1536_S128x4x12x128

/-- The angles of every position. -/
abbrev angles : FVec Ideal S4x16 .f32 :=
  mulf (broadcastInDim S4x16 ![0, 1] bcast_S4x1_S4x16_0_1 (broadcastInDim S4x1 ![0] bcast_S4_S4x1_0 (sitofp .f32 (addi (broadcastInDim S4 ![] bcast_S_S4 (constantI S_ 32 2048#32)) (iotaInDim S4 32 0))))) (broadcastInDim S4x16 ![0, 1] bcast_S1x16_S4x16_0_1 (broadcastInDim S1x16 ![1] bcast_S16_S1x16_1 (Host.powf (broadcastInDim S16 ![] bcast_S_S16 (constant S_ .f32 0x48F42400#32)) (Host.divf (Host.negf (mulf (sitofp .f32 (iotaInDim S16 32 0)) (broadcastInDim S16 ![] bcast_S_S16 (constant S_ .f32 0x40000000#32)))) (broadcastInDim S16 ![] bcast_S_S16 (constant S_ .f32 0x42000000#32))))))

/-- A table for every batch entry and head. -/
abbrev spread (t : FVec Ideal S4x16 .f32) : FVec Ideal S128x4x12x16 .f32 :=
  broadcastInDim S128x4x12x16 ![0, 1, 2, 3] bcast_S1x4x1x16_S128x4x12x16_0_1_2_3 (broadcastInDim S1x4x1x16 ![1, 2, 3] bcast_S4x1x16_S1x4x1x16_1_2_3 (broadcastInDim S4x1x16 ![0, 2] bcast_S4x16_S4x1x16_0_2 t))

/-- The keys turned. -/
abbrev turned (h : FVec Ideal S128x4x12x128 .f32) (co si : FVec Ideal S4x16 .f32) : FVec Ideal S128x4x12x128 .f32 :=
  concatenate S128x4x12x128 3
    [⟨S128x4x12x16, subf (mulf (extractStridedSlice S128x4x12x16 ![0, 0, 0, 0] h slices_S128x4x12x128_S128x4x12x16_0_0_0_0) (spread co)) (mulf (extractStridedSlice S128x4x12x16 ![0, 0, 0, 16] h slices_S128x4x12x128_S128x4x12x16_0_0_0_16) (spread si))⟩,
     ⟨S128x4x12x16, addf (mulf (extractStridedSlice S128x4x12x16 ![0, 0, 0, 16] h slices_S128x4x12x128_S128x4x12x16_0_0_0_16) (spread co)) (mulf (extractStridedSlice S128x4x12x16 ![0, 0, 0, 0] h slices_S128x4x12x128_S128x4x12x16_0_0_0_0) (spread si))⟩,
     ⟨S128x4x12x96, extractStridedSlice S128x4x12x96 ![0, 0, 0, 32] h slices_S128x4x12x128_S128x4x12x96_0_0_0_32⟩]
    concatenates_S128x4x12x16_S128x4x12x16_S128x4x12x96_S128x4x12x128_d3

/-- Two head-by-head arrays laid out as one row of columns. -/
abbrev joined (k v : FVec Ideal S128x4x12x128 .f32) : FVec Ideal S512x3072 .f32 :=
  concatenate S512x3072 1 [⟨S512x1536, shapeCast _ k shapeCasts_S128x4x12x128_S512x1536⟩, ⟨S512x1536, shapeCast _ v shapeCasts_S128x4x12x128_S512x1536⟩] concatenates_S512x1536_S512x1536_S512x3072_d1

/-- The reference's result. -/
abbrev result : FVec Ideal S512x3072 .f32 := joined (turned (heads (both a0 a1 a2)) (Host.cos angles) (Host.sin angles)) (values (both a0 a1 a2))

theorem both_at (b : Fin 128) (q : Fin 4) (n : Fin 3072) : (both a0 a1 a2 (ix3 b q n) : EReal)
    = proj (fun k => a0 (ix2 ⟨8192 + (b.val * 4 + q.val), by omega⟩ k)) (fun k => a1 (ix1 k)) (fun k n => a2 (ix2 k n)) n := by
  unfold both rows
  pointwise []
  rfl

theorem heads_at (x : FVec Ideal S128x4x3072 .f32) (b : Fin 128) (q : Fin 4) (n : Fin 12) (d : Fin 128) :
    (heads x (ix4 b q n d) : EReal) = x (ix3 b q ⟨n.val * 128 + d.val, by omega⟩) := by
  unfold heads
  pointwise []

theorem values_at (x : FVec Ideal S128x4x3072 .f32) (b : Fin 128) (q : Fin 4) (n : Fin 12) (d : Fin 128) :
    (values x (ix4 b q n d) : EReal) = x (ix3 b q ⟨1536 + (n.val * 128 + d.val), by omega⟩) := by
  unfold values
  pointwise []

theorem turned_at (h : FVec Ideal S128x4x12x128 .f32) (co si : FVec Ideal S4x16 .f32) (b : Fin 128) (q : Fin 4) (n : Fin 12) (d : Fin 128) :
    (turned h co si (ix4 b q n d) : EReal) = turn (fun d => h (ix4 b q n d)) (fun k => co (ix2 q k)) (fun k => si (ix2 q k)) d := by
  unfold turned spread
  pointwise []
  exact (turn_pieces (fun d => h (ix4 b q n d)) (fun k => co (ix2 q k)) (fun k => si (ix2 q k)) d).symm

theorem cos_at (q : Fin 4) (k : Fin 16) : ((Host.cos angles : FVec Ideal S4x16 .f32) (ix2 q k) : EReal) = Ideal.cos (angle (2048#32 + BitVec.ofNat 32 q.val) k) := by
  unfold angles
  pointwise []
  rfl

theorem sin_at (q : Fin 4) (k : Fin 16) : ((Host.sin angles : FVec Ideal S4x16 .f32) (ix2 q k) : EReal) = Ideal.sin (angle (2048#32 + BitVec.ofNat 32 q.val) k) := by
  unfold angles
  pointwise []
  rfl

theorem flat_at (k : FVec Ideal S128x4x12x128 .f32) (b : Fin 128) (q : Fin 4) (n : Fin 12) (d : Fin 128) :
    (shapeCast S512x1536 k shapeCasts_S128x4x12x128_S512x1536 (ix2 ⟨b.val * 4 + q.val, by omega⟩ ⟨n.val * 128 + d.val, by omega⟩) : EReal) = k (ix4 b q n d) := by
  refine shapeCast_apply _ _ _ (ix4 b q n d) ?_
  rw [Shape.rowMajor_val_two, Shape.rowMajor_val_four]
  show ((b.val * 4 + q.val) * 12 + n.val) * 128 + d.val = (b.val * 4 + q.val) * 1536 + (n.val * 128 + d.val)
  omega

theorem joined_keys (k v : FVec Ideal S512x1536 .f32) (i : Fin 512) (j : Fin 1536) :
    (concatenate S512x3072 1 [⟨S512x1536, k⟩, ⟨S512x1536, v⟩] concatenates_S512x1536_S512x1536_S512x3072_d1 (ix2 i ⟨j.val, by omega⟩) : EReal) = k (ix2 i j) := by
  pointwise []

theorem joined_values (k v : FVec Ideal S512x1536 .f32) (i : Fin 512) (j : Fin 1536) :
    (concatenate S512x3072 1 [⟨S512x1536, k⟩, ⟨S512x1536, v⟩] concatenates_S512x1536_S512x1536_S512x3072_d1 (ix2 i ⟨1536 + j.val, by omega⟩) : EReal) = v (ix2 i j) := by
  pointwise []

/-- The reference's keys at an index. -/
theorem keys_at (b : Fin 128) (q : Fin 4) (n : Fin 12) (d : Fin 128) :
    (result a0 a1 a2 (ix2 ⟨b.val * 4 + q.val, by omega⟩ ⟨n.val * 128 + d.val, by omega⟩) : EReal)
      = turn (fun d => proj (fun k => a0 (ix2 ⟨8192 + (b.val * 4 + q.val), by omega⟩ k)) (fun k => a1 (ix1 k)) (fun k n => a2 (ix2 k n)) ⟨n.val * 128 + d.val, by omega⟩)
        (fun k => Ideal.cos (angle (2048#32 + BitVec.ofNat 32 q.val) k)) (fun k => Ideal.sin (angle (2048#32 + BitVec.ofNat 32 q.val) k)) d := by
  refine (joined_keys _ _ _ ⟨n.val * 128 + d.val, by omega⟩).trans ((flat_at _ b q n d).trans ((turned_at _ _ _ b q n d).trans ?_))
  simp only [cos_at, sin_at, heads_at, both_at]

/-- The reference's values at an index. -/
theorem values_are (b : Fin 128) (q : Fin 4) (n : Fin 12) (d : Fin 128) :
    (result a0 a1 a2 (ix2 ⟨b.val * 4 + q.val, by omega⟩ ⟨1536 + (n.val * 128 + d.val), by omega⟩) : EReal)
      = proj (fun k => a0 (ix2 ⟨8192 + (b.val * 4 + q.val), by omega⟩ k)) (fun k => a1 (ix1 k)) (fun k n => a2 (ix2 k n)) ⟨1536 + (n.val * 128 + d.val), by omega⟩ := by
  refine (joined_values _ _ _ ⟨n.val * 128 + d.val, by omega⟩).trans ((flat_at _ b q n d).trans ?_)
  rw [values_at, both_at]

end Cert.Reference5Ideal.Kv

end
-- ==== Proof.KvClaims.lean ====
module

public import proofs.«01_k».proof.Defs
public import proofs.«01_k».proof.Proof.Gen.Kernel4.Frame
public import proofs.«01_k».proof.Proof.Gen.Kernel5.Frame
public import proofs.«01_k».proof.Proof.KvValue
public import proofs.«01_k».proof.Proof.KvRef
public import proofs.«01_k».proof.Proof.KvSampleValue
public import proofs.«01_k».proof.Proof.KvSampleRef
public import Idealize.ShloMosaic.Lib.Quiescent

@[expose] public section

set_option maxRecDepth 16384

/-! The claims about the key and value projection's two calls. -/

noncomputable section

namespace Cert.KvClaims

open Idealize.ShloMosaic Idealize.ShloMosaic.TcCoe Idealize.SL.Sem

/-! ## The prompt's call -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Nothing is replaced. -/
theorem preserves4 : Cert.preserves_Kernel4_Kernel4Ideal := trivial

set_option maxHeartbeats 4000000 in
/-- The kernel's two output arrays are the reference's results. -/
theorem algebraic4 : Cert.algebraic_Kernel4Ideal_Reference4Ideal := fun m ρ m' ρ' _ ha => by
  refine ⟨_, _, (θ_run Cert.Kernel4Ideal.defs _ _).mono (fun r h c => ?_) (Cert.Kernel4Ideal.Value.run_blocks m ρ), Cert.Reference4Ideal.Value.run m' ρ'⟩
  obtain ⟨k0, k1, hr⟩ := h c
  obtain ⟨e0, e1, e2⟩ := ha c
  refine ⟨k0.trans ?_, k1.trans ?_, hr⟩
  · exact Cert.Kernel4Ideal.Kv.keys_array m c _ _ _ e0.symm e1.symm e2.symm _ fun b n p d => Cert.Reference4Ideal.Kv.keys_at _ _ _ b n p d
  · exact Cert.Kernel4Ideal.Kv.values_array m c _ _ _ e0.symm e1.symm e2.symm _ fun b n p d => Cert.Reference4Ideal.Kv.values_are _ _ _ b n p d

/-! ## The sample's call -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Nothing is replaced. -/
theorem preserves5 : Cert.preserves_Kernel5_Kernel5Ideal := trivial

set_option maxHeartbeats 4000000 in
/-- The kernel's output array is the reference's result. -/
theorem algebraic5 : Cert.algebraic_Kernel5Ideal_Reference5Ideal := fun m ρ m' ρ' _ ha => by
  refine ⟨_, (θ_run Cert.Kernel5Ideal.defs _ _).mono (fun r h c => ?_) (Cert.Kernel5Ideal.Value.run_blocks m ρ), Cert.Reference5Ideal.Value.run m' ρ'⟩
  obtain ⟨k0, hr⟩ := h c
  obtain ⟨e0, e1, e2⟩ := ha c
  refine ⟨k0.trans ?_, hr⟩
  exact Cert.Kernel5Ideal.Kv.array m c _ _ _ e0.symm e1.symm e2.symm _ (fun b q n d => Cert.Reference5Ideal.Kv.keys_at _ _ _ b q n d)
    fun b q n d => Cert.Reference5Ideal.Kv.values_are _ _ _ b q n d

end Cert.KvClaims

end
-- ==== Proof.MemFrame.lean ====
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp
public import Idealize.ShloMosaic.Lib.Pointwise

@[expose] public section

set_option maxRecDepth 16384

/-! The run of the memory's keys and values, over any float values. Each head's rows are stored through a rectangle that
    takes every fourth row; the four of them cover a block. -/

noncomputable section

namespace Cert.Kernel6Ideal.Mem

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The host's part -/

/-- The arrays when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_arg (b : Ref sig .tc) (h : (hostOps0 : List (HloOp τ sig (Elt F))).Forall fun op => Proc.devRef .tc b ∉ op.writes) (c : Dev nD) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  V_arg m main_arg0 (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)) c

theorem V_main_arg1 (c : Dev nD) : V m c main_arg1 = m ((c : Thread nD τ).loc main_arg1) :=
  V_arg m main_arg1 (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)) c

theorem V_main_arg2 (c : Dev nD) : V m c main_arg2 = m ((c : Thread nD τ).loc main_arg2) :=
  V_arg m main_arg2 (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)) c

/-! ## The blocks -/

/-- A window's block at a grid point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The stores -/

/-- The rows of one head: every fourth from its own. -/
abbrev rows (h : ℕ) (inb : ∀ a, S1x1x256x128.size a = 0 ∨ (![0, 0, h, 0] : Fin 4 → ℕ) a + (![1, 1, 4, 1] : Fin 4 → ℕ) a * (S1x1x256x128.size a - 1) < S1x1x1024x128.size a) :
    Rect S1x1x1024x128 :=
  ⟨(⟨![0, 0, h, 0], S1x1x256x128.size, ![1, 1, 4, 1], inb⟩ : LoadRect S1x1x1024x128), spos_1_1_4_1⟩

abbrev all0 : Rect S256x2048 := Rect.unit (s := S256x2048) ![0, 0] S256x2048.size inb_S256x2048_S256x2048_0_0
abbrev all1 : Rect S1x1x2048 := Rect.unit (s := S1x1x2048) ![0, 0, 0] S1x1x2048.size inb_S1x1x2048_S1x1x2048_0_0_0
abbrev all2 : Rect S1x2048x1024 := Rect.unit (s := S1x2048x1024) ![0, 0, 0] S1x2048x1024.size inb_S1x2048x1024_S1x2048x1024_0_0_0

abbrev r0 := rows 0 inb_S1x1x1024x128_S1x1x256x128_0_0_0_0_s_1_1_4_1
abbrev r1 := rows 1 inb_S1x1x1024x128_S1x1x256x128_0_0_1_0_s_1_1_4_1
abbrev r2 := rows 2 inb_S1x1x1024x128_S1x1x256x128_0_0_2_0_s_1_1_4_1
abbrev r3 := rows 3 inb_S1x1x1024x128_S1x1x256x128_0_0_3_0_s_1_1_4_1

/-- The rows through the weights, as the body loads them. -/
def both (x : Vec F S256x2048 .f32) (g : Vec F S1x1x2048 .f32) (w : Vec F S1x2048x1024 .bf16) : FVec F S256x1024 .f32 := k0_pay6 (View.ld x all0) (View.ld g all1) (View.ld w all2)

/-- The keys' buffer after the body. -/
def out0_3 (x : Vec F S256x2048 .f32) (g : Vec F S1x1x2048 .f32) (w : Vec F S1x2048x1024 .bf16) : Vec F S1x1x1024x128 .f32 :=
  View.canon [⟨r3, k0_pay4 (both x g w)⟩, ⟨r2, k0_pay2 (both x g w)⟩, ⟨r1, k0_pay9 (View.ld x all0) (View.ld g all1) (View.ld w all2)⟩, ⟨r0, k0_pay7 (View.ld x all0) (View.ld g all1) (View.ld w all2)⟩]

/-- The values' buffer after the body. -/
def out0_4 (x : Vec F S256x2048 .f32) (g : Vec F S1x1x2048 .f32) (w : Vec F S1x2048x1024 .bf16) : Vec F S1x1x1024x128 .f32 :=
  View.canon [⟨r3, k0_pay5 (both x g w)⟩, ⟨r2, k0_pay3 (both x g w)⟩, ⟨r1, k0_pay1 (both x g w)⟩, ⟨r0, k0_pay8 (View.ld x all0) (View.ld g all1) (View.ld w all2)⟩]

/-- Where a head's row lies. -/
theorem emb_at (h : ℕ) (hh : h < 4) (inb) (x : S1x1x256x128.Idx) :
    (rows h inb).emb x = ix4 0 0 ⟨h + 4 * (x 2).val, by have h2 : (x 2).val < 256 := (x 2).isLt; omega⟩ ⟨(x 3).val, (x 3).isLt⟩ := by
  have hx0 : (x 0).val < 1 := (x 0).isLt
  have hx1 : (x 1).val < 1 := (x 1).isLt
  funext b
  apply Fin.ext
  match b with
  | ⟨0, _⟩ => show 0 + 1 * (x 0).val = 0; omega
  | ⟨1, _⟩ => show 0 + 1 * (x 1).val = 0; omega
  | ⟨2, _⟩ => rfl
  | ⟨3, _⟩ => show 0 + 1 * (x 3).val = (x 3).val; omega

theorem mem_rows (h : ℕ) (hh : h < 4) (inb) (y : S1x1x1024x128.Idx) (hy : (y 2).val % 4 = h) : y ∈ (rows h inb).set := by
  have hy0 : (y 0).val < 1 := (y 0).isLt
  have hy1 : (y 1).val < 1 := (y 1).isLt
  have hy2 : (y 2).val < 1024 := (y 2).isLt
  have hy3 : (y 3).val < 128 := (y 3).isLt
  refine (rows h inb).toLoadRect.mem_set.mpr fun b => ?_
  match b with
  | ⟨0, _⟩ => exact ⟨0, Nat.zero_lt_one, by show (y 0).val = 0 + 1 * 0; omega⟩
  | ⟨1, _⟩ => exact ⟨0, Nat.zero_lt_one, by show (y 1).val = 0 + 1 * 0; omega⟩
  | ⟨2, _⟩ => exact ⟨(y 2).val / 4, by show (y 2).val / 4 < 256; omega, by show (y 2).val = h + 4 * ((y 2).val / 4); omega⟩
  | ⟨3, _⟩ => exact ⟨(y 3).val, hy3, by show (y 3).val = 0 + 1 * (y 3).val; omega⟩

/-- The four heads' rows cover the block. -/
theorem cover (p0 p1 p2 p3 : Vec F S1x1x256x128 .f32) (y : S1x1x1024x128.Idx) :
    ∃ pc ∈ ([⟨r3, p0⟩, ⟨r2, p1⟩, ⟨r1, p2⟩, ⟨r0, p3⟩] : List (View.Piece (Elt F) S1x1x1024x128 .f32)), y ∈ pc.1.set := by
  have h : (y 2).val % 4 < 4 := Nat.mod_lt _ (by omega)
  rcases (show (y 2).val % 4 = 0 ∨ (y 2).val % 4 = 1 ∨ (y 2).val % 4 = 2 ∨ (y 2).val % 4 = 3 by omega) with h | h | h | h
  · exact ⟨⟨r0, p3⟩, by simp, mem_rows 0 (by omega) _ y h⟩
  · exact ⟨⟨r1, p2⟩, by simp, mem_rows 1 (by omega) _ y h⟩
  · exact ⟨⟨r2, p1⟩, by simp, mem_rows 2 (by omega) _ y h⟩
  · exact ⟨⟨r3, p0⟩, by simp, mem_rows 3 (by omega) _ y h⟩

/-! ## The body -/

set_option maxHeartbeats 1000000 in
/-- The body on any staging buffers. -/
theorem sound_kernel (c : Dev nD) (E : Set ℕ) (i : grid0.Coords) (arg2 : Memref sig .tc .vmem S256x2048 .f32) (harg2 : arg2.IsWhole)
    (arg3 : Memref sig .tc .vmem S1x1x2048 .f32) (harg3 : arg3.IsWhole) (arg4 : Memref sig .tc .vmem S1x2048x1024 .bf16) (harg4 : arg4.IsWhole)
    (arg5 : Memref sig .tc .vmem S1x1x1024x128 .f32) (harg5 : arg5.IsWhole) (arg6 : Memref sig .tc .vmem S1x1x1024x128 .f32) (harg6 : arg6.IsWhole)
    (x : Vec F S256x2048 .f32) (g : Vec F S1x1x2048 .f32) (w : Vec F S1x2048x1024 .bf16) (K : PUnit → sProp (MT nD τ sig Unit (Elt F) ℕ (UR sig nD τ) ℕ)) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (out0_3 x g w) ∗ owns (c : Thread nD τ) arg6 fullShare (out0_4 x g w)) -∗ K ⟨⟩))
      ⊢ wp frame (wpE (defs₀ (F := F)) Variants.none c none) E (cc0_mem_kv i arg2 harg2 arg3 harg3 arg4 harg4 arg5 harg5 arg6 harg6) K := by
  simp only [cc0_mem_kv_eq_skeleton]; unfold cc0_mem_kv_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover _ _ _ _)).trans ?_
    rfl
  iexists _; isplitr
  swap; · iexact H4
  ipureintro
  refine (View.read_writes_eq_canon _ _ _ (cover _ _ _ _)).trans ?_
  rfl

/-! ## The run -/

/-- What every buffer holds after the body at a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a grid point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the whole grid. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

section
variable (r : PUnit × MemSt nD τ sig (Elt F)) (h : Pipeline.FramePost cfgs (dats m) 0 (V m) r) (c : Dev nD)
include h

theorem kept_main_arg0 : r.2.mem ((c : Thread nD τ).loc main_arg0) = m ((c : Thread nD τ).loc main_arg0) :=
  ((h c).2 main_arg0 (Pipeline.mem_restRefs_of main_arg0 (by decide) (by decide))).trans (V_main_arg0 m c)
theorem kept_main_arg1 : r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 : r.2.mem ((c : Thread nD τ).loc main_arg2) = m ((c : Thread nD τ).loc main_arg2) :=
  ((h c).2 main_arg2 (Pipeline.mem_restRefs_of main_arg2 (by decide) (by decide))).trans (V_main_arg2 m c)

end

/-- The two arrays after the run, and the arguments as they were. -/
theorem run_blocks : θ_run defs (onTc (τ := τ) (main (F := F))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, kept_main_arg0 m r h.1 c, kept_main_arg1 m r h.1 c, kept_main_arg2 m r h.1 c⟩)
    (run_main_quiescent m ρ)

/-- The frame, over any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨kept_main_arg0 m r h.1 c, kept_main_arg1 m r h.1 c, kept_main_arg2 m r h.1 c⟩, h.2⟩)
    (run_main_quiescent m ρ)

end Cert.Kernel6Ideal.Mem

end
-- ==== Proof.MemTile.lean ====
module

public import proofs.«01_k».proof.Proof.MemFrame
public import proofs.«01_k».proof.Proof.MlpSpec
public import Idealize.ShloMosaic.Lib.KernelVsHost
public import Idealize.ShloMosaic.Lib.Pipeline.ValueKit.Basic

@[expose] public section

set_option maxRecDepth 16384

/-! What the body of the memory's keys and values leaves in its two blocks, at an index. -/

noncomputable section

namespace Cert.Kernel6Ideal.Mem

open Cert.Kernel6Ideal Cert.Kernel6Ideal.Gen Cert.Mlp
open Idealize.ShloMosaic Idealize.ShloMosaic.TcCoe

theorem product_at (x : Vec Ideal S256x2048 .f32) (g : Vec Ideal S1x1x2048 .f32) (w : Vec Ideal S1x2048x1024 .bf16) (i : Fin 256) (n : Fin 1024) :
    (k0_pay6 x g w (ix2 i n) : EReal) = ∑ k, normed (fun k => x (ix2 i k)) (fun k => g (ix3 0 0 k)) k * w (ix3 0 k n) := by
  pointwise [k0_pay6]
  rfl

theorem load0 (x : Vec Ideal S256x2048 .f32) : View.ld x all0 = x := View.ld_unit_lit _ _ (by decide)
theorem load1 (g : Vec Ideal S1x1x2048 .f32) : View.ld g all1 = g := View.ld_unit_lit _ _ (by decide)
theorem load2 (w : Vec Ideal S1x2048x1024 .bf16) : View.ld w all2 = w := View.ld_unit_lit _ _ (by decide)

/-- A block of four heads: each row of the product gives four rows, one for each head. -/
def headsOf (o : ℕ) (ho : o + 512 ≤ 1024) (a : FVec Ideal S256x1024 .f32) (y : S1x1x1024x128.Idx) : EReal :=
  a (ix2 ⟨(y 2).val / 4, by have h : (y 2).val < 1024 := (y 2).isLt; omega⟩ ⟨o + (y 2).val % 4 * 128 + (y 3).val, by have h : (y 3).val < 128 := (y 3).isLt; omega⟩)

theorem slice_at (o : ℕ) (ho : o + 128 ≤ 1024) (hs : S256x1024.Slices ![0, o] S256x128) (a : FVec Ideal S256x1024 .f32) (i : Fin 256) (d : Fin 128) :
    extractStridedSlice S256x128 ![0, o] a hs (ix2 i d) = a (ix2 i ⟨o + d.val, by omega⟩) :=
  extractStridedSlice_apply ![0, o] a hs _ _ fun b => match b with
    | ⟨0, _⟩ => (Nat.zero_add _).symm
    | ⟨1, _⟩ => rfl

/-- One head's store is that head's rows of the block. -/
theorem piece (o : ℕ) (ho : o + 512 ≤ 1024) (h : ℕ) (hh : h < 4) (o' : ℕ) (e' : o' = o + h * 128) (hs : S256x1024.Slices ![0, o'] S256x128) (inb)
    (a : FVec Ideal S256x1024 .f32) (x : S1x1x256x128.Idx) :
    (shapeCast S1x1x256x128 (extractStridedSlice S256x128 ![0, o'] a hs) shapeCasts_S256x128_S1x1x256x128 x : EReal) = headsOf o ho a ((rows h inb).emb x) := by
  subst e'
  have hx0 : (x 0).val < 1 := (x 0).isLt
  have hx1 : (x 1).val < 1 := (x 1).isLt
  have hx2 : (x 2).val < 256 := (x 2).isLt
  have hx3 : (x 3).val < 128 := (x 3).isLt
  rw [emb_at h hh inb x]
  refine (shapeCast_apply _ _ x (ix2 ⟨(x 2).val, hx2⟩ ⟨(x 3).val, hx3⟩) ?_).trans ((slice_at _ (by omega) hs a _ _).trans ?_)
  · rw [Shape.rowMajor_val_two, Shape.rowMajor_val_four]
    show (x 2).val * 128 + (x 3).val = (((x 0).val * 1 + (x 1).val) * 256 + (x 2).val) * 128 + (x 3).val
    omega
  · refine congrArg a (funext fun b => Fin.ext ?_)
    match b with
    | ⟨0, _⟩ => show (x 2).val = (h + 4 * (x 2).val) / 4; omega
    | ⟨1, _⟩ => show o + h * 128 + (x 3).val = o + (h + 4 * (x 2).val) % 4 * 128 + (x 3).val; omega

section
variable (x : Vec Ideal S256x2048 .f32) (g : Vec Ideal S1x1x2048 .f32) (w : Vec Ideal S1x2048x1024 .bf16)

theorem keys_block (y : S1x1x1024x128.Idx) : (out0_3 x g w y : EReal) = headsOf 0 (by omega) (both x g w) y := by
  unfold out0_3
  refine View.canon_apply_of_pieces (Val := Elt Ideal) (e := .f32) (headsOf 0 (by omega) (both x g w)) _ ?_ y (cover _ _ _ _ y)
  simp only [List.forall_mem_cons]
  exact ⟨piece 0 (by omega) 3 (by omega) 384 rfl slices_S256x1024_o0_384_S256x128 _ (both x g w),
    piece 0 (by omega) 2 (by omega) 256 rfl slices_S256x1024_o0_256_S256x128 _ (both x g w),
    piece 0 (by omega) 1 (by omega) 128 rfl slices_S256x1024_o0_128_S256x128 _ (both x g w),
    piece 0 (by omega) 0 (by omega) 0 rfl slices_S256x1024_o0_0_S256x128 _ (both x g w), fun _ h => nomatch h⟩

theorem values_block (y : S1x1x1024x128.Idx) : (out0_4 x g w y : EReal) = headsOf 512 (by omega) (both x g w) y := by
  unfold out0_4
  refine View.canon_apply_of_pieces (Val := Elt Ideal) (e := .f32) (headsOf 512 (by omega) (both x g w)) _ ?_ y (cover _ _ _ _ y)
  simp only [List.forall_mem_cons]
  exact ⟨piece 512 (by omega) 3 (by omega) 896 rfl slices_S256x1024_o0_896_S256x128 _ (both x g w),
    piece 512 (by omega) 2 (by omega) 768 rfl slices_S256x1024_o0_768_S256x128 _ (both x g w),
    piece 512 (by omega) 1 (by omega) 640 rfl slices_S256x1024_o0_640_S256x128 _ (both x g w),
    piece 512 (by omega) 0 (by omega) 512 rfl slices_S256x1024_o0_512_S256x128 _ (both x g w), fun _ h => nomatch h⟩

/-- A block of heads at an index. -/
theorem heads_at (o : ℕ) (ho : o + 512 ≤ 1024) (r : Fin 1024) (d : Fin 128) :
    headsOf o ho (both x g w) (ix4 0 0 r d)
      = ∑ k, normed (fun k => x (ix2 ⟨r.val / 4, by omega⟩ k)) (fun k => g (ix3 0 0 k)) k * w (ix3 0 k ⟨o + r.val % 4 * 128 + d.val, by omega⟩) := by
  unfold headsOf both
  rw [load0, load1, load2]
  exact product_at x g w _ _

end

end Cert.Kernel6Ideal.Mem

end
-- ==== Proof.MemValue.lean ====
module

public import proofs.«01_k».proof.Proof.MemTile
public import Idealize.ShloMosaic.Lib.Pipeline.ValueKit.Point

@[expose] public section

set_option maxRecDepth 16384

/-! The memory's two arrays after the last point. -/

noncomputable section

namespace Cert.Kernel6Ideal.Mem

open Cert.Kernel6Ideal Cert.Kernel6Ideal.Gen Cert.Mlp
open Idealize.ShloMosaic Idealize.ShloMosaic.TcCoe
open Idealize.ShloMosaic.Pipeline (Dat Cfg Window cellOf)

variable (m : (ℓ : Loc nD τ sig) → Buf (Elt Ideal) ℓ) (c : Dev nD)

theorem points (t : Fin cfg0.N) : t.val < 8 := t.isLt

theorem index0 : ∀ t : Fin cfg0.N, win0_0.index t = ![t.val % 4, 0] :=
  (by decide +kernel : ∀ t : Fin grid0.N, win0_0.index t = ![t.val % 4, 0])
theorem index1 : ∀ t : Fin cfg0.N, win0_1.index t = ![t.val / 4, 0, 0] :=
  (by decide +kernel : ∀ t : Fin grid0.N, win0_1.index t = ![t.val / 4, 0, 0])
theorem index2 : ∀ t : Fin cfg0.N, win0_2.index t = ![t.val / 4, 0, 0] :=
  (by decide +kernel : ∀ t : Fin grid0.N, win0_2.index t = ![t.val / 4, 0, 0])
theorem index3 : ∀ t : Fin cfg0.N, win0_3.index t = ![t.val / 4, t.val % 4, 0, 0] :=
  (by decide +kernel : ∀ t : Fin grid0.N, win0_3.index t = ![t.val / 4, t.val % 4, 0, 0])
theorem index4 : ∀ t : Fin cfg0.N, win0_4.index t = ![t.val / 4, t.val % 4, 0, 0] :=
  (by decide +kernel : ∀ t : Fin grid0.N, win0_4.index t = ![t.val / 4, t.val % 4, 0, 0])

section
variable (a0 : FVec Ideal S4x256x2048 .f32) (a1 : FVec Ideal S2x2048 .f32) (a2 : FVec Ideal S2x2048x1024 .f32)
  (h0 : m ((c.tc : Thread nD τ).loc main_arg0) = a0) (h1 : m ((c.tc : Thread nD τ).loc main_arg1) = a1) (h2 : m ((c.tc : Thread nD τ).loc main_arg2) = a2)

/-! ## The arrays the host prepares -/

include h0 in
theorem memory (b : Fin 4) (i : Fin 256) (k : Fin 2048) : (V m c main_v0 (ix2 ⟨b.val * 256 + i.val, by omega⟩ k) : EReal) = a0 (ix3 b i k) := by
  have e : V m c main_v0 = shapeCast S1024x2048 (m ((c.tc : Thread nD τ).loc main_arg0) : FVec Ideal S4x256x2048 .f32) shapeCasts_S4x256x2048_S1024x2048 := by
    unfold V hostOps0
    after_results_simp <;> rfl
  rw [e, h0]
  refine shapeCast_apply _ _ _ (ix3 b i k) ?_
  rw [Shape.rowMajor_val_three, Shape.rowMajor_val_two]
  rfl

include h1 in
theorem scales (l : Fin 2) (k : Fin 2048) : (V m c main_v2 (ix3 l 0 k) : EReal) = a1 (ix2 l k) := by
  have e : V m c main_v2 = shapeCast S2x1x2048 (m ((c.tc : Thread nD τ).loc main_arg1) : FVec Ideal S2x2048 .f32) shapeCasts_S2x2048_S2x1x2048 := by
    unfold V hostOps0
    after_results_simp <;> rfl
  rw [e, h1]
  refine shapeCast_apply _ _ _ (ix2 l k) ?_
  rw [Shape.rowMajor_val_three, Shape.rowMajor_val_two]
  show l.val * 2048 + k.val = (l.val * 1 + 0) * 2048 + k.val
  omega

include h2 in
theorem weights (l : Fin 2) (k : Fin 2048) (n : Fin 1024) : (V m c main_v1 (ix3 l k n) : EReal) = a2 (ix3 l k n) := by
  have e : V m c main_v1 = (truncf .bf16 (m ((c.tc : Thread nD τ).loc main_arg2) : FVec Ideal S2x2048x1024 .f32) bitsLt_bf16_f32 : FVec Ideal S2x2048x1024 .bf16) := by
    unfold V hostOps0
    after_results_simp <;> rfl
  rw [e, h2]
  pointwise []

/-! ## The blocks -/

variable (t : Fin cfg0.N)

include h0 in
theorem memory_block (i : Fin 256) (k : Fin 2048) : (iblk m c 0 t (ix2 i k) : EReal) = a0 (ix3 ⟨t.val % 4, by omega⟩ i k) := by
  refine Eq.trans ?_ (memory m c a0 h0 ⟨t.val % 4, by omega⟩ i k)
  unfold iblk
  blk_simp
  refine congrArg (V m c main_v0) (funext fun a => Fin.ext ?_)
  refine (Pipeline.Window.rect_emb_val win0_0 t _ a).trans ?_
  rw [index0]
  match a with
  | 0 => rfl
  | 1 => show 0 * 2048 + k.val = k.val; omega

include h1 in
theorem scales_block (k : Fin 2048) : (iblk m c 1 t (ix3 0 0 k) : EReal) = a1 (ix2 ⟨t.val / 4, by have := points t; omega⟩ k) := by
  refine Eq.trans ?_ (scales m c a1 h1 ⟨t.val / 4, by have := points t; omega⟩ k)
  unfold iblk
  blk_simp
  refine congrArg (V m c main_v2) (funext fun a => Fin.ext ?_)
  refine (Pipeline.Window.rect_emb_val win0_1 t _ a).trans ?_
  rw [index1]
  match a with
  | 0 => show t.val / 4 * 1 + 0 = t.val / 4; omega
  | 1 => rfl
  | 2 => show 0 * 2048 + k.val = k.val; omega

include h2 in
theorem weights_block (k : Fin 2048) (n : Fin 1024) : (iblk m c 2 t (ix3 0 k n) : EReal) = a2 (ix3 ⟨t.val / 4, by have := points t; omega⟩ k n) := by
  refine Eq.trans ?_ (weights m c a2 h2 ⟨t.val / 4, by have := points t; omega⟩ k n)
  unfold iblk
  blk_simp
  refine congrArg (V m c main_v1) (funext fun a => Fin.ext ?_)
  refine (Pipeline.Window.rect_emb_val win0_2 t _ a).trans ?_
  rw [index2]
  match a with
  | 0 => show t.val / 4 * 1 + 0 = t.val / 4; omega
  | 1 => show 0 * 2048 + k.val = k.val; omega
  | 2 => show 0 * 1024 + n.val = n.val; omega

/-- An array whose entries are the columns from one on, each row's four heads in four rows. -/
def Holds (o : ℕ) (ho : o + 512 ≤ 1024) (R : FVec Ideal S2x4x1024x128 .f32) : Prop :=
  ∀ (l : Fin 2) (b : Fin 4) (r : Fin 1024) (d : Fin 128), (R (ix4 l b r d) : EReal)
    = ∑ k, normed (fun k => a0 (ix3 b ⟨r.val / 4, by omega⟩ k)) (fun k => a1 (ix2 l k)) k * a2 (ix3 l k ⟨o + r.val % 4 * 128 + d.val, by omega⟩)

include h0 h1 h2 in
/-- The heads a point leaves are its part of such an array. -/
theorem part (o : ℕ) (ho : o + 512 ≤ 1024) (R : FVec Ideal S2x4x1024x128 .f32) (hR : Holds a0 a1 a2 o ho R) (y : S1x1x1024x128.Idx) (z : S2x4x1024x128.Idx)
    (z0 : (z 0).val = t.val / 4 * 1 + (y 0).val) (z1 : (z 1).val = t.val % 4 * 1 + (y 1).val) (z2 : (z 2).val = 0 * 1024 + (y 2).val) (z3 : (z 3).val = 0 * 128 + (y 3).val) :
    headsOf o ho (both (iblk m c 0 t) (iblk m c 1 t) (iblk m c 2 t)) y = R z := by
  have ht := points t
  have hy0 : (y 0 : ℕ) < 1 := (y 0).isLt
  have hy1 : (y 1 : ℕ) < 1 := (y 1).isLt
  have hy2 : (y 2 : ℕ) < 1024 := (y 2).isLt
  have hy3 : (y 3 : ℕ) < 128 := (y 3).isLt
  have ez : z = ix4 ⟨t.val / 4, by omega⟩ ⟨t.val % 4, by omega⟩ ⟨(y 2 : ℕ), hy2⟩ ⟨(y 3 : ℕ), hy3⟩ := by
    funext a
    apply Fin.ext
    match a with
    | 0 => show (z 0).val = t.val / 4; omega
    | 1 => show (z 1).val = t.val % 4; omega
    | 2 => show (z 2).val = (y 2).val; omega
    | 3 => show (z 3).val = (y 3).val; omega
  have ey : y = ix4 0 0 ⟨(y 2 : ℕ), hy2⟩ ⟨(y 3 : ℕ), hy3⟩ := by
    funext a
    match a with
    | 0 => exact Fin.ext (show (y 0 : ℕ) = 0 by omega)
    | 1 => exact Fin.ext (show (y 1 : ℕ) = 0 by omega)
    | 2 => rfl
    | 3 => rfl
  refine (congrArg _ ey).trans ((heads_at _ _ _ o ho _ _).trans (Eq.trans ?_ ((congrArg R ez).trans (hR _ _ _ _)).symm))
  simp only [memory_block m c a0 h0 t, scales_block m c a1 h1 t, weights_block m c a2 h2 t]

include h0 h1 h2 in
/-- The keys' array after the last point. -/
theorem keys_array (R : FVec Ideal S2x4x1024x128 .f32) (hR : Holds a0 a1 a2 0 (by omega) R) : (dats m 0 c).arrAt 3 cfg0.N = R := by
  refine (dats m 0 c).arrAt_eq_of_covers 3 _ (by decide +kernel) fun t hf y => ?_
  blk_simp
  rw [after0_3]
  have e : ∀ a, ((win0_3.blk t).view.emb y a).val = _ := fun a => Pipeline.Window.rect_emb_val win0_3 t y a
  rw [index3] at e
  exact (keys_block _ _ _ y).trans (part m c a0 a1 a2 h0 h1 h2 t 0 (by omega) R hR y _ (e 0) (e 1) (e 2) (e 3))

include h0 h1 h2 in
/-- The values' array after the last point. -/
theorem values_array (R : FVec Ideal S2x4x1024x128 .f32) (hR : Holds a0 a1 a2 512 (by omega) R) : (dats m 0 c).arrAt 4 cfg0.N = R := by
  refine (dats m 0 c).arrAt_eq_of_covers 4 _ (by decide +kernel) fun t hf y => ?_
  blk_simp
  rw [after0_4]
  have e : ∀ a, ((win0_4.blk t).view.emb y a).val = _ := fun a => Pipeline.Window.rect_emb_val win0_4 t y a
  rw [index4] at e
  exact (values_block _ _ _ y).trans (part m c a0 a1 a2 h0 h1 h2 t 512 (by omega) R hR y _ (e 0) (e 1) (e 2) (e 3))

end

end Cert.Kernel6Ideal.Mem

end
-- ==== Proof.MemRef.lean ====
module

public import proofs.«01_k».proof.Proof.MlpSpec
public import proofs.«01_k».proof.Proof.Gen.Reference6Ideal.Run
public import Idealize.ShloMosaic.Lib.Pointwise

@[expose] public section

set_option maxRecDepth 16384

/-! The reference of the memory's keys and values at an index. -/

noncomputable section

namespace Cert.Reference6Ideal.Mem

open Cert.Reference6Ideal Cert.Reference6Ideal.Gen Cert.Reference6Ideal.Value Cert.Mlp
open Idealize.ShloMosaic Idealize.ShloMosaic.TcCoe

variable (a0 : FVec Ideal S4x256x2048 .f32) (a1 : FVec Ideal S2x2048 .f32) (a2 : FVec Ideal S2x2048x1024 .f32)

/-- A layer's scales. -/
abbrev scale (l : ℕ) (hs : S2x2048.Slices ![l, 0] S1x2048) : FVec Ideal S2048 .f32 := shapeCast S2048 (extractStridedSlice S1x2048 ![l, 0] a1 hs) shapeCasts_S1x2048_S2048

/-- A layer's weights. -/
abbrev matrix (l : ℕ) (hs : S2x2048x1024.Slices ![l, 0, 0] S1x2048x1024) : FVec Ideal S2048x1024 .f32 :=
  shapeCast S2048x1024 (extractStridedSlice S1x2048x1024 ![l, 0, 0] a2 hs) shapeCasts_S1x2048x1024_S2048x1024

/-- Every row, normalized and scaled, through the weights. -/
abbrev product (g : FVec Ideal S2048 .f32) (w : FVec Ideal S2048x1024 .f32) : FVec Ideal S4x256x1024 .f32 :=
  Host.dotGeneral dot_S4x256x2048_S2048x1024_S4x256x1024_2_0_01_1_n_n none (mulf (mulf a0 (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf a0 a0) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 g))) w

/-- Four heads' columns, head by head. -/
abbrev heads (o : ℕ) (hs : S4x256x1024.Slices ![0, 0, o] S4x256x512) (z : FVec Ideal S4x256x1024 .f32) : FVec Ideal S4x256x4x128 .f32 :=
  shapeCast S4x256x4x128 (extractStridedSlice S4x256x512 ![0, 0, o] z hs) shapeCasts_S4x256x512_S4x256x4x128

/-- Both layers' heads, one layer after the other. -/
abbrev stacked (u v : FVec Ideal S4x256x4x128 .f32) : FVec Ideal S2x4x1024x128 .f32 :=
  shapeCast S2x4x1024x128 (concatenate S2x4x256x4x128 0 [⟨S1x4x256x4x128, broadcastInDim S1x4x256x4x128 ![1, 2, 3, 4] bcast_S4x256x4x128_S1x4x256x4x128_1_2_3_4 u⟩, ⟨S1x4x256x4x128, broadcastInDim S1x4x256x4x128 ![1, 2, 3, 4] bcast_S4x256x4x128_S1x4x256x4x128_1_2_3_4 v⟩] concatenates_S1x4x256x4x128_S1x4x256x4x128_S2x4x256x4x128_d0) shapeCasts_S2x4x256x4x128_S2x4x1024x128

theorem scale_at (l : Fin 2) (hs) (k : Fin 2048) : (scale a1 l.val hs (ix1 k) : EReal) = a1 (ix2 l k) := by
  unfold scale
  refine (shapeCast_apply _ _ _ (ix2 0 k) ?_).trans (extractStridedSlice_apply ![l.val, 0] a1 hs _ _ fun b => ?_)
  · rw [Shape.rowMajor_val_two, Shape.rowMajor_val_one]
    show 0 * 2048 + k.val = k.val
    omega
  · match b with
    | ⟨0, _⟩ => rfl
    | ⟨1, _⟩ => exact (Nat.zero_add _).symm

theorem matrix_at (l : Fin 2) (hs) (k : Fin 2048) (n : Fin 1024) : (matrix a2 l.val hs (ix2 k n) : EReal) = a2 (ix3 l k n) := by
  unfold matrix
  refine (shapeCast_apply _ _ _ (ix3 0 k n) ?_).trans (extractStridedSlice_apply ![l.val, 0, 0] a2 hs _ _ fun b => ?_)
  · rw [Shape.rowMajor_val_three, Shape.rowMajor_val_two]
    show (0 * 2048 + k.val) * 1024 + n.val = k.val * 1024 + n.val
    omega
  · match b with
    | ⟨0, _⟩ => rfl
    | ⟨1, _⟩ => exact (Nat.zero_add _).symm
    | ⟨2, _⟩ => exact (Nat.zero_add _).symm

theorem product_at (g : FVec Ideal S2048 .f32) (w : FVec Ideal S2048x1024 .f32) (b : Fin 4) (i : Fin 256) (n : Fin 1024) :
    (product a0 g w (ix3 b i n) : EReal) = ∑ k, normed (fun k => a0 (ix3 b i k)) (fun k => g (ix1 k)) k * w (ix2 k n) := by
  unfold product
  pointwise []
  rfl

theorem heads_at (o : ℕ) (ho : o + 512 ≤ 1024) (hs) (z : FVec Ideal S4x256x1024 .f32) (b : Fin 4) (i : Fin 256) (h : Fin 4) (d : Fin 128) :
    (heads o hs z (ix4 b i h d) : EReal) = z (ix3 b i ⟨o + h.val * 128 + d.val, by omega⟩) := by
  unfold heads
  refine (shapeCast_apply _ _ _ (ix3 b i ⟨h.val * 128 + d.val, by omega⟩) ?_).trans (extractStridedSlice_apply ![0, 0, o] z hs _ _ fun a => ?_)
  · rw [Shape.rowMajor_val_three, Shape.rowMajor_val_four]
    show (b.val * 256 + i.val) * 512 + (h.val * 128 + d.val) = ((b.val * 256 + i.val) * 4 + h.val) * 128 + d.val
    omega
  · match a with
    | ⟨0, _⟩ => exact (Nat.zero_add _).symm
    | ⟨1, _⟩ => exact (Nat.zero_add _).symm
    | ⟨2, _⟩ => show o + h.val * 128 + d.val = o + (h.val * 128 + d.val); omega

/-- The two layers' heads by layer, batch entry and row: a row's four heads lie in four rows. -/
theorem stacked_at (u v : FVec Ideal S4x256x4x128 .f32) (l : Fin 2) (b : Fin 4) (r : Fin 1024) (d : Fin 128) :
    (stacked u v (ix4 l b r d) : EReal)
      = (if l.val = 0 then u else v) (ix4 b ⟨r.val / 4, by omega⟩ ⟨r.val % 4, by omega⟩ d) := by
  unfold stacked
  refine (shapeCast_apply _ _ _ (ix5 l b ⟨r.val / 4, by omega⟩ ⟨r.val % 4, by omega⟩ d) ?_).trans ?_
  · rw [Shape.rowMajor_val_five, Shape.rowMajor_val_four]
    show (((l.val * 4 + b.val) * 256 + r.val / 4) * 4 + r.val % 4) * 128 + d.val = ((l.val * 4 + b.val) * 1024 + r.val) * 128 + d.val
    omega
  · rcases (show l = 0 ∨ l = 1 by omega) with rfl | rfl
    · pointwise []
    · pointwise []

section
variable (o : ℕ) (ho : o + 512 ≤ 1024) (hs : S4x256x1024.Slices ![0, 0, o] S4x256x512)

/-- The columns from one on, of both layers. -/
abbrev columns : FVec Ideal S2x4x1024x128 .f32 :=
  stacked (heads o hs (product a0 (scale a1 0 slices_S2x2048_S1x2048_0_0) (matrix a2 0 slices_S2x2048x1024_S1x2048x1024_0_0_0)))
    (heads o hs (product a0 (scale a1 1 slices_S2x2048_S1x2048_1_0) (matrix a2 1 slices_S2x2048x1024_S1x2048x1024_1_0_0)))

theorem layer_at (l : Fin 2) (hg hw) (b : Fin 4) (i : Fin 256) (h : Fin 4) (d : Fin 128) :
    (heads o hs (product a0 (scale a1 l.val hg) (matrix a2 l.val hw)) (ix4 b i h d) : EReal)
      = ∑ k, normed (fun k => a0 (ix3 b i k)) (fun k => a1 (ix2 l k)) k * a2 (ix3 l k ⟨o + h.val * 128 + d.val, by omega⟩) := by
  refine (heads_at o ho hs _ b i h d).trans ((product_at _ _ _ _ _ _).trans ?_)
  simp only [scale_at a1 l hg, matrix_at a2 l hw]

theorem columns_at (l : Fin 2) (b : Fin 4) (r : Fin 1024) (d : Fin 128) :
    (columns a0 a1 a2 o hs (ix4 l b r d) : EReal)
      = ∑ k, normed (fun k => a0 (ix3 b ⟨r.val / 4, by omega⟩ k)) (fun k => a1 (ix2 l k)) k * a2 (ix3 l k ⟨o + r.val % 4 * 128 + d.val, by omega⟩) := by
  unfold columns
  refine (stacked_at _ _ l b r d).trans ?_
  rcases (show l = 0 ∨ l = 1 by omega) with rfl | rfl
  · exact layer_at a0 a1 a2 o ho hs 0 _ _ b _ ⟨r.val % 4, by omega⟩ d
  · exact layer_at a0 a1 a2 o ho hs 1 _ _ b _ ⟨r.val % 4, by omega⟩ d

end

end Cert.Reference6Ideal.Mem

end
-- ==== Proof.MemClaims.lean ====
module

public import proofs.«01_k».proof.Defs
public import proofs.«01_k».proof.Proof.Gen.Kernel6
public import proofs.«01_k».proof.Proof.MemValue
public import proofs.«01_k».proof.Proof.MemRef
public import Idealize.ShloMosaic.Lib.Quiescent

@[expose] public section

set_option maxRecDepth 16384

/-! The claims about the memory's keys and values. -/

noncomputable section

namespace Cert.MemClaims

open Idealize.ShloMosaic Idealize.ShloMosaic.TcCoe Idealize.SL.Sem

theorem bodies_eq : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | 0, (t, s) => rfl

theorem defs_eq : Cert.Kernel6.defs (F := Bits) = Cert.Kernel6Ideal.defs (F := Bits) :=
  congrArg (Pipeline.defs Cert.Kernel6.pcfgs) bodies_eq

/-- The compiled program's run is the idealized one's, read at words. -/
theorem frame_kernel : Cert.quiescent_Kernel6 := fun m ρ _ =>
  (congrArg (fun D => θ_run D (onTc (τ := Cert.Kernel6.τ) (Cert.Kernel6.main (F := Bits))) ⟨m, fun _ => 0, ρ⟩ _) defs_eq).mpr
    (Cert.Kernel6Ideal.Mem.frame_any (F := Bits) m ρ)

theorem frame_ideal : Cert.quiescent_Kernel6Ideal := fun m ρ _ => Cert.Kernel6Ideal.Mem.frame_any (F := Ideal) m ρ

theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Nothing is replaced. -/
theorem preserves : Cert.preserves_Kernel6_Kernel6Ideal := trivial

set_option maxHeartbeats 4000000 in
/-- The kernel's two output arrays are the reference's results. -/
theorem algebraic : Cert.algebraic_Kernel6Ideal_Reference6Ideal := fun m ρ m' ρ' _ ha => by
  refine ⟨_, _, (θ_run Cert.Kernel6Ideal.defs _ _).mono (fun r h c => ?_) (Cert.Kernel6Ideal.Mem.run_blocks m ρ), Cert.Reference6Ideal.Value.run m' ρ'⟩
  obtain ⟨k0, k1, hr⟩ := h c
  obtain ⟨e0, e1, e2⟩ := ha c
  refine ⟨k0.trans ?_, k1.trans ?_, hr⟩
  · exact Cert.Kernel6Ideal.Mem.keys_array m c _ _ _ e0.symm e1.symm e2.symm _ fun l b r d => Cert.Reference6Ideal.Mem.columns_at _ _ _ 0 (by omega) Cert.Reference6Ideal.Gen.slices_S4x256x1024_S4x256x512_0_0_0 l b r d
  · exact Cert.Kernel6Ideal.Mem.values_array m c _ _ _ e0.symm e1.symm e2.symm _ fun l b r d => Cert.Reference6Ideal.Mem.columns_at _ _ _ 512 (by omega) Cert.Reference6Ideal.Gen.slices_S4x256x1024_S4x256x512_0_0_512 l b r d

end Cert.MemClaims

end
-- ==== Proof.QueryTile.lean ====
module

public import proofs.«01_k».proof.Proof.MlpSpec
public import proofs.«01_k».proof.Proof.KvTile
public import proofs.«01_k».proof.Proof.Gen.Kernel7Ideal.Value
public import Idealize.ShloMosaic.Lib.Pointwise
public import Idealize.ShloMosaic.Lib.VecWindow
public import Idealize.ShloMosaic.Lib.Pipeline.ValueKit.Point

@[expose] public section

set_option maxRecDepth 16384

/-! What the second layer's input projection computes, at an index: its rows' turned queries, and beside them the other columns. -/

noncomputable section

namespace Cert.Kernel7Ideal.Query

open Cert.Kernel7Ideal Cert.Kernel7Ideal.Gen Cert.Mlp Cert.Kv
open Cert.Kernel4Ideal.Kv (roll_at)
open Idealize.ShloMosaic Idealize.ShloMosaic.TcCoe

theorem normed_at (x : Vec Ideal S512x2048 .f32) (g : Vec Ideal S1x2048 .f32) (i : Fin 512) (n : Fin 2048) :
    (k0_pay3 x g (ix2 i n) : EReal) = normed (fun k => x (ix2 i k)) (fun k => g (ix2 0 k)) n := by
  pointwise [k0_pay3]
  rfl

theorem product_at (h : Vec Ideal S512x2048 .bf16) (w : Vec Ideal S2048x2048 .bf16) (i : Fin 512) (n : Fin 2048) :
    (k0_pay4 h w (ix2 i n) : EReal) = ∑ k, (h (ix2 i k) : EReal) * w (ix2 k n) := by
  pointwise [k0_pay4]

/-- One head of the queries turned: its columns by one table, and rolled by two others. -/
abbrev head (o : ℕ) (hs : S512x2048.Slices ![0, o] S512x128) (a : FVec Ideal S512x2048 .f32) (c s t : FVec Ideal S512x128 .f32) : FVec Ideal S512x128 .f32 :=
  addf (addf (mulf (extractStridedSlice S512x128 ![0, o] a hs) c)
    (mulf (dynamicRotate 1 112#32 none (extractStridedSlice S512x128 ![0, o] a hs) rotates_S512x128_d1) s))
    (mulf (dynamicRotate 1 16#32 none (extractStridedSlice S512x128 ![0, o] a hs) rotates_S512x128_d1) t)

theorem head_slice_at (o : ℕ) (ho : o + 128 ≤ 2048) (hs : S512x2048.Slices ![0, o] S512x128) (a : FVec Ideal S512x2048 .f32) (i : Fin 512) (d : Fin 128) :
    extractStridedSlice S512x128 ![0, o] a hs (ix2 i d) = a (ix2 i ⟨o + d.val, by omega⟩) :=
  extractStridedSlice_apply ![0, o] a hs _ _ fun b => match b with
    | ⟨0, _⟩ => (Nat.zero_add _).symm
    | ⟨1, _⟩ => rfl

theorem head_slices (n : ℕ) (hn : n < 12) : S512x2048.Slices ![0, n * 128] S512x128 :=
  ⟨rfl, fun b => match b with
    | ⟨0, _⟩ => by show 0 + 512 ≤ 512; omega
    | ⟨1, _⟩ => by show n * 128 + 128 ≤ 2048; omega⟩

theorem head_at (o : ℕ) (ho : o + 128 ≤ 2048) (hs : S512x2048.Slices ![0, o] S512x128) (a : FVec Ideal S512x2048 .f32) (c s t : FVec Ideal S512x128 .f32) (i : Fin 512) (d : Fin 128) :
    (head o hs a c s t (ix2 i d) : EReal) = rolled (fun d => a (ix2 i ⟨o + d.val, by omega⟩)) (fun d => c (ix2 i d)) (fun d => s (ix2 i d)) (fun d => t (ix2 i d)) d := by
  show HAdd.hAdd (α := EReal) (β := EReal) (γ := EReal) (HAdd.hAdd (α := EReal) (β := EReal) (γ := EReal)
      (HMul.hMul (α := EReal) (β := EReal) (γ := EReal) (extractStridedSlice S512x128 ![0, o] a hs (ix2 i d)) (c (ix2 i d)))
      (HMul.hMul (α := EReal) (β := EReal) (γ := EReal) (dynamicRotate 1 112#32 none (extractStridedSlice S512x128 ![0, o] a hs) rotates_S512x128_d1 (ix2 i d)) (s (ix2 i d))))
      (HMul.hMul (α := EReal) (β := EReal) (γ := EReal) (dynamicRotate 1 16#32 none (extractStridedSlice S512x128 ![0, o] a hs) rotates_S512x128_d1 (ix2 i d)) (t (ix2 i d))) = _
  rw [roll_at 112#32 16 rfl, roll_at 16#32 112 rfl, head_slice_at o ho, head_slice_at o ho, head_slice_at o ho]
  rfl

/-- The block: in its first 1536 columns every head of the queries turned, in the rest the product's own columns. -/
def blockOf (a : FVec Ideal S512x2048 .f32) (c s t : FVec Ideal S512x128 .f32) (i : Fin 512) (j : Fin 2048) : EReal :=
  if h : j.val < 1536 then
    rolled (fun d => a (ix2 i ⟨j.val / 128 * 128 + d.val, by omega⟩)) (fun d => c (ix2 i d)) (fun d => s (ix2 i d)) (fun d => t (ix2 i d)) ⟨j.val % 128, Nat.mod_lt _ (by omega)⟩
  else a (ix2 i j)

theorem blockOf_head (a : FVec Ideal S512x2048 .f32) (c s t : FVec Ideal S512x128 .f32) (i : Fin 512) (n : ℕ) (hn : n < 12) (d : Fin 128) :
    blockOf a c s t i ⟨n * 128 + d.val, by omega⟩
      = rolled (fun d => a (ix2 i ⟨n * 128 + d.val, by omega⟩)) (fun d => c (ix2 i d)) (fun d => s (ix2 i d)) (fun d => t (ix2 i d)) d := by
  have e1 : (n * 128 + d.val) / 128 = n := by omega
  have e2 : (n * 128 + d.val) % 128 = d.val := by omega
  unfold blockOf
  rw [dif_pos (show n * 128 + d.val < 1536 by omega)]
  simp only [e1, e2]

theorem blockOf_rest (a : FVec Ideal S512x2048 .f32) (c s t : FVec Ideal S512x128 .f32) (i : Fin 512) (j : ℕ) (hj : j < 512) :
    blockOf a c s t i ⟨1536 + j, by omega⟩ = a (ix2 i ⟨1536 + j, by omega⟩) := by
  unfold blockOf
  exact dif_neg (by show ¬ 1536 + j < 1536; omega)

/-- One head's store is those columns of the block. -/
theorem head_piece (n : ℕ) (hn : n < 12) (hs : S512x2048.Slices ![0, n * 128] S512x128)
    (inb : ∀ a, (![0, n * 128] : Fin 2 → Nat) a + S512x128.size a ≤ S512x2048.size a)
    (a : FVec Ideal S512x2048 .f32) (c s t : FVec Ideal S512x128 .f32) (x : S512x128.Idx) :
    (head (n * 128) hs a c s t x : EReal)
      = (fun y : S512x2048.Idx => blockOf a c s t ⟨(y 0).val, (y 0).isLt⟩ ⟨(y 1).val, (y 1).isLt⟩) ((Rect.unit (s := S512x2048) ![0, n * 128] S512x128.size inb).emb x) := by
  have hx0 : (x 0).val < 512 := (x 0).isLt
  have hx1 : (x 1).val < 128 := (x 1).isLt
  have e : (Rect.unit (s := S512x2048) ![0, n * 128] S512x128.size inb).emb x = ix2 ⟨(x 0).val, hx0⟩ ⟨n * 128 + (x 1).val, by omega⟩ := by
    funext b
    apply Fin.ext
    match b with
    | ⟨0, _⟩ => show 0 + 1 * (x 0).val = (x 0).val; omega
    | ⟨1, _⟩ => show n * 128 + 1 * (x 1).val = n * 128 + (x 1).val; omega
  have ex : x = ix2 ⟨(x 0).val, hx0⟩ ⟨(x 1).val, hx1⟩ := by
    funext b
    match b with
    | ⟨0, _⟩ => rfl
    | ⟨1, _⟩ => rfl
  rw [e]
  refine (congrArg _ ex).trans ((head_at (n * 128) (by omega) hs a c s t _ _).trans ?_)
  exact (blockOf_head a c s t _ n hn ⟨(x 1).val, hx1⟩).symm

theorem rest_slices : S512x2048.Slices ![0, 1536] S512x512 :=
  ⟨rfl, fun b => match b with
    | ⟨0, _⟩ => by show 0 + 512 ≤ 512; omega
    | ⟨1, _⟩ => by show 1536 + 512 ≤ 2048; omega⟩

/-- The last store is the rest of the columns. -/
theorem rest_piece (hs : S512x2048.Slices ![0, 1536] S512x512)
    (inb : ∀ a, (![0, 1536] : Fin 2 → Nat) a + S512x512.size a ≤ S512x2048.size a)
    (a : FVec Ideal S512x2048 .f32) (c s t : FVec Ideal S512x128 .f32) (x : S512x512.Idx) :
    (extractStridedSlice S512x512 ![0, 1536] a hs x : EReal)
      = (fun y : S512x2048.Idx => blockOf a c s t ⟨(y 0).val, (y 0).isLt⟩ ⟨(y 1).val, (y 1).isLt⟩) ((Rect.unit (s := S512x2048) ![0, 1536] S512x512.size inb).emb x) := by
  have hx0 : (x 0).val < 512 := (x 0).isLt
  have hx1 : (x 1).val < 512 := (x 1).isLt
  have e : (Rect.unit (s := S512x2048) ![0, 1536] S512x512.size inb).emb x = ix2 ⟨(x 0).val, hx0⟩ ⟨1536 + (x 1).val, by omega⟩ := by
    funext b
    apply Fin.ext
    match b with
    | ⟨0, _⟩ => show 0 + 1 * (x 0).val = (x 0).val; omega
    | ⟨1, _⟩ => show 1536 + 1 * (x 1).val = 1536 + (x 1).val; omega
  rw [e]
  refine (extractStridedSlice_apply ![0, 1536] a hs x (ix2 ⟨(x 0).val, hx0⟩ ⟨1536 + (x 1).val, by omega⟩) fun b => match b with
    | ⟨0, _⟩ => (Nat.zero_add _).symm
    | ⟨1, _⟩ => rfl).trans (blockOf_rest a c s t ⟨(x 0).val, hx0⟩ (x 1).val hx1).symm

theorem same_cos (v : Vec Ideal S512x128 .f32) (i : Fin 512) (d : Fin 128) : (k0_pay5 v (ix2 i d) : EReal) = v (ix2 i d) := by
  pointwise [k0_pay5]
theorem same_sin1 (v : Vec Ideal S512x128 .f32) (i : Fin 512) (d : Fin 128) : (k0_pay6 v (ix2 i d) : EReal) = v (ix2 i d) := by
  pointwise [k0_pay6]
theorem same_sin2 (v : Vec Ideal S512x128 .f32) (i : Fin 512) (d : Fin 128) : (k0_pay7 v (ix2 i d) : EReal) = v (ix2 i d) := by
  pointwise [k0_pay7]

section
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x2048 .f32) (harg8 : arg8.IsWhole) (arg9 : Memref sig .tc .vmem S512x2048 .bf16) (harg9 : arg9.IsWhole)
  (x0 : Vec Ideal S512x2048 .f32) (x1 : Vec Ideal S1x2048 .f32) (x2 : Vec Ideal S2048x2048 .bf16) (x3 x4 x5 : Vec Ideal S512x128 .f32)

set_option maxHeartbeats 400000 in
/-- The buffer after the body. -/
theorem block (hc0 : cond0_0 i) (y : S512x2048.Idx) :
    (out0_A_6 c i arg2 harg2 arg3 harg3 arg4 harg4 arg5 harg5 arg6 harg6 arg7 harg7 arg8 harg8 arg9 harg9 hc0 x0 x1 x2 x3 x4 x5 y : EReal)
      = blockOf (k0_pay4 (k0_pay3 x0 x1) x2) (k0_pay5 x3) (k0_pay6 x4) (k0_pay7 x5) ⟨(y 0).val, (y 0).isLt⟩ ⟨(y 1).val, (y 1).isLt⟩ := by
  have cov := cover0_A_6 c i arg2 harg2 arg3 harg3 arg4 harg4 arg5 harg5 arg6 harg6 arg7 harg7 arg8 harg8 arg9 harg9 hc0 x0 x1 x2 x3 x4 x5
  unfold out0_A_6
  refine (View.read_writes_junk_apply_eq_canon _ y _).trans ?_
  refine View.canon_apply_of_pieces (Val := Elt Ideal) (e := .f32)
    (fun y : S512x2048.Idx => blockOf (k0_pay4 (k0_pay3 x0 x1) x2) (k0_pay5 x3) (k0_pay6 x4) (k0_pay7 x5) ⟨(y 0).val, (y 0).isLt⟩ ⟨(y 1).val, (y 1).isLt⟩) _ ?_ y (cov y)
  dsimp only [kernelRun0_A]
  unfold kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v3
  have e : (arg9.view.readCov (kernelRun0_A.sl.HS0_1 c arg2 harg2 arg3 harg3 x0 x1) (Rect.unit ![0, 0] S512x2048.size inb_S512x2048_S512x2048_0_0).toLoadRect) = k0_pay3 x0 x1 := by
    unfold kernelRun0_A.sl.HS0_1
    rw [View.readCov_full, View.readAt_full, harg2.read_unread, View.readAt_full, harg3.read_unread]
  have e2 : (View.readAt (Elt Ideal) arg4.view (Rect.unit ![0, 0] S2048x2048.size inb_S2048x2048_S2048x2048_0_0).toLoadRect (harg4.unread x2)) = x2 := by rw [View.readAt_full, harg4.read_unread]
  have e3 : (View.readAt (Elt Ideal) arg5.view (Rect.unit ![0, 0] S512x128.size inb_S512x128_S512x128_0_0).toLoadRect (harg5.unread x3)) = x3 := by rw [View.readAt_full, harg5.read_unread]
  have e4 : (View.readAt (Elt Ideal) arg6.view (Rect.unit ![0, 0] S512x128.size inb_S512x128_S512x128_0_0).toLoadRect (harg6.unread x4)) = x4 := by rw [View.readAt_full, harg6.read_unread]
  have e5 : (View.readAt (Elt Ideal) arg7.view (Rect.unit ![0, 0] S512x128.size inb_S512x128_S512x128_0_0).toLoadRect (harg7.unread x5)) = x5 := by rw [View.readAt_full, harg7.read_unread]
  rw [e, e2, e3, e4, e5]
  clear e e2 e3 e4 e5 cov
  have piece := fun n hn inb => head_piece n hn (head_slices n hn) inb (k0_pay4 (k0_pay3 x0 x1) x2) (k0_pay5 x3) (k0_pay6 x4) (k0_pay7 x5)
  simp only [List.forall_mem_cons]
  exact ⟨rest_piece rest_slices inb_S512x2048_S512x512_0_1536 (k0_pay4 (k0_pay3 x0 x1) x2) (k0_pay5 x3) (k0_pay6 x4) (k0_pay7 x5), piece 11 (by decide) _, piece 10 (by decide) _, piece 9 (by decide) _,
    piece 8 (by decide) _, piece 7 (by decide) _, piece 6 (by decide) _,
    piece 5 (by decide) _, piece 4 (by decide) _, piece 3 (by decide) _,
    piece 2 (by decide) _, piece 1 (by decide) _, piece 0 (by decide) _, fun _ h => nomatch h⟩

/-- The queries at an index. -/
theorem query_block_at (hc0 : cond0_0 i) (r : Fin 512) (n : ℕ) (hn : n < 12) (d : Fin 128) :
    (out0_A_6 c i arg2 harg2 arg3 harg3 arg4 harg4 arg5 harg5 arg6 harg6 arg7 harg7 arg8 harg8 arg9 harg9 hc0 x0 x1 x2 x3 x4 x5 (ix2 r ⟨n * 128 + d.val, by omega⟩) : EReal)
      = rolled (fun d => ∑ k, normed (fun k => x0 (ix2 r k)) (fun k => x1 (ix2 0 k)) k * x2 (ix2 k ⟨n * 128 + d.val, by omega⟩))
        (fun d => x3 (ix2 r d)) (fun d => x4 (ix2 r d)) (fun d => x5 (ix2 r d)) d := by
  refine (block c i arg2 harg2 arg3 harg3 arg4 harg4 arg5 harg5 arg6 harg6 arg7 harg7 arg8 harg8 arg9 harg9 x0 x1 x2 x3 x4 x5 hc0 _).trans ((blockOf_head _ _ _ _ r n hn d).trans ?_)
  simp only [product_at, normed_at, same_cos, same_sin1, same_sin2]

/-- The other columns at an index. -/
theorem rest_block_at (hc0 : cond0_0 i) (r : Fin 512) (j : ℕ) (hj : j < 512) :
    (out0_A_6 c i arg2 harg2 arg3 harg3 arg4 harg4 arg5 harg5 arg6 harg6 arg7 harg7 arg8 harg8 arg9 harg9 hc0 x0 x1 x2 x3 x4 x5 (ix2 r ⟨1536 + j, by omega⟩) : EReal)
      = ∑ k, normed (fun k => x0 (ix2 r k)) (fun k => x1 (ix2 0 k)) k * x2 (ix2 k ⟨1536 + j, by omega⟩) := by
  refine (block c i arg2 harg2 arg3 harg3 arg4 harg4 arg5 harg5 arg6 harg6 arg7 harg7 arg8 harg8 arg9 harg9 x0 x1 x2 x3 x4 x5 hc0 _).trans ((blockOf_rest _ _ _ _ r j hj).trans ?_)
  simp only [product_at, normed_at]

end

end Cert.Kernel7Ideal.Query

end
-- ==== Proof.QueryValue.lean ====
module

public import proofs.«01_k».proof.Proof.QueryTile
public import proofs.«01_k».proof.Proof.KvTable

@[expose] public section

set_option maxRecDepth 16384

/-! The second layer's input projection: the array after its last point. -/

noncomputable section

namespace Cert.Kernel7Ideal.Query

open Cert.Kernel7Ideal Cert.Kernel7Ideal.Gen Cert.Mlp Cert.Kv
open Cert.Kernel4Ideal.Kv (cosTable sinTable1 sinTable2 rolled_tables places places_prompt places_sample)
open Idealize.ShloMosaic Idealize.ShloMosaic.TcCoe
open Idealize.ShloMosaic.Pipeline (Dat Cfg Window cellOf)

variable (m : (ℓ : Loc nD τ sig) → Buf (Elt Ideal) ℓ) (c : Dev nD)

theorem points (t : Fin cfg0.N) : t.val < 17 := lt_of_lt_of_eq t.isLt N_0

/-- The row block of the tables that goes with a point's rows. -/
def part (t : ℕ) : ℕ := if t < 16 then t % 4 else 4

theorem part_lt (t : ℕ) : part t < 5 := by unfold part; split <;> omega

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![part t.val, 0] :=
  (by decide +kernel : ∀ t : Fin grid0.N, win0_3.index t = ![part t.val, 0])
theorem index4 : ∀ t : Fin cfg0.N, win0_4.index t = ![part t.val, 0] :=
  (by decide +kernel : ∀ t : Fin grid0.N, win0_4.index t = ![part t.val, 0])
theorem index5 : ∀ t : Fin cfg0.N, win0_5.index t = ![part t.val, 0] :=
  (by decide +kernel : ∀ t : Fin grid0.N, win0_5.index t = ![part t.val, 0])
theorem index6 : ∀ t : Fin cfg0.N, win0_6.index t = ![t.val, 0] :=
  (by decide +kernel : ∀ t : Fin grid0.N, win0_6.index t = ![t.val, 0])

/-- A row's position: in the prompt its place in the sequence, in the sample its place after the past. -/
def place (r : Fin 8704) : BitVec 32 :=
  if r.val < 8192 then BitVec.ofNat 32 (r.val % 2048) else 2048#32 + BitVec.ofNat 32 ((r.val - 8192) % 4)

/-! ## The arrays the host prepares -/

theorem cos_table : V m c main_v32 = cosTable := by
  unfold V hostOps0
  after_results_simp <;> (try dsimp only [Matrix.cons_val]) <;> (try after_results_simp) <;> rfl

theorem sin_table1 : V m c main_v34 = sinTable1 := by
  unfold V hostOps0
  after_results_simp <;> (try dsimp only [Matrix.cons_val]) <;> (try after_results_simp) <;> rfl

theorem sin_table2 : V m c main_v35 = sinTable2 := by
  unfold V hostOps0
  after_results_simp <;> (try dsimp only [Matrix.cons_val]) <;> (try after_results_simp) <;> rfl

/-- The weights as the host prepares them. -/
theorem prepared (a2 : FVec Ideal S1x2048x2048 .f32) (k n : Fin 2048) :
    ((truncf .bf16 (shapeCast S2048x2048 a2 shapeCasts_S1x2048x2048_S2048x2048) bitsLt_bf16_f32 : FVec Ideal S2048x2048 .bf16) (ix2 k n) : EReal) = a2 (ix3 0 k n) := by
  show (shapeCast S2048x2048 a2 shapeCasts_S1x2048x2048_S2048x2048 (ix2 k n) : EReal) = _
  pointwise []

section
variable (a0 : FVec Ideal S8704x2048 .f32) (a1 : FVec Ideal S2x2048 .f32) (a2 : FVec Ideal S1x2048x2048 .f32)
  (h0 : m ((c.tc : Thread nD τ).loc main_arg0) = a0) (h1 : m ((c.tc : Thread nD τ).loc main_arg1) = a1) (h2 : m ((c.tc : Thread nD τ).loc main_arg2) = a2)

include h1 in
theorem scales (n : Fin 2048) : (V m c main_v36 (ix2 0 n) : EReal) = a1 (ix2 1 n) := by
  have e : V m c main_v36 = shapeCast S1x2048 (shapeCast S2048 (extractStridedSlice S1x2048 ![1, 0] (m ((c.tc : Thread nD τ).loc main_arg1) : FVec Ideal S2x2048 .f32) slices_S2x2048_S1x2048_1_0) shapeCasts_S1x2048_S2048) shapeCasts_S2048_S1x2048 := by
    unfold V hostOps0
    after_results_simp <;> rfl
  rw [e, h1]
  pointwise []

include h2 in
theorem weights (k n : Fin 2048) : (V m c main_v3 (ix2 k n) : EReal) = a2 (ix3 0 k n) := by
  have e : V m c main_v3 = (truncf .bf16 (shapeCast S2048x2048 (m ((c.tc : Thread nD τ).loc main_arg2) : FVec Ideal S1x2048x2048 .f32) shapeCasts_S1x2048x2048_S2048x2048) bitsLt_bf16_f32 : FVec Ideal S2048x2048 .bf16) := by
    unfold V hostOps0
    after_results_simp <;> rfl
  rw [e, h2]
  exact prepared a2 k n

/-! ## The blocks -/

variable (t : Fin cfg0.N)

include h0 in
theorem rows_block (i : Fin 512) (n : Fin 2048) : (iblk m c 0 t (ix2 i n) : EReal) = a0 (ix2 ⟨t.val * 512 + i.val, by have := points t; omega⟩ n) := by
  unfold iblk
  blk_simp
  rw [show V m c (Pipeline.arrRef spec0 0) = a0 from (V_main_arg0 m c).trans h0]
  congr 1
  funext a
  apply Fin.ext
  refine (Pipeline.Window.rect_emb_val win0_0 t _ a).trans ?_
  rw [index0]
  match a with
  | 0 => rfl
  | 1 => show 0 * 2048 + n.val = n.val; omega

include h1 in
theorem scales_block (n : Fin 2048) : (iblk m c 1 t (ix2 0 n) : EReal) = a1 (ix2 1 n) := by
  refine Eq.trans ?_ (scales m c a1 h1 n)
  unfold iblk
  blk_simp
  refine congrArg (V m c main_v36) (funext fun a => Fin.ext ?_)
  refine (Pipeline.Window.rect_emb_val win0_1 t _ a).trans ?_
  rw [index1]
  match a with
  | 0 => rfl
  | 1 => show 0 * 2048 + n.val = n.val; omega

include h2 in
theorem weights_block (k n : Fin 2048) : (iblk m c 2 t (ix2 k n) : EReal) = a2 (ix3 0 k n) := by
  refine Eq.trans ?_ (weights m c a2 h2 k n)
  unfold iblk
  blk_simp
  refine congrArg (V m c main_v3) (funext fun a => Fin.ext ?_)
  refine (Pipeline.Window.rect_emb_val win0_2 t _ a).trans ?_
  rw [index2]
  match a with
  | 0 => show 0 * 2048 + k.val = k.val; omega
  | 1 => show 0 * 2048 + n.val = n.val; omega

theorem cos_block (i : Fin 512) (d : Fin 128) : (iblk m c 3 t (ix2 i d) : EReal) = cosTable (ix2 ⟨part t.val * 512 + i.val, by have := part_lt t.val; omega⟩ d) := by
  rw [← cos_table m c]
  unfold iblk
  blk_simp
  refine congrArg (V m c main_v32) (funext fun a => Fin.ext ?_)
  refine (Pipeline.Window.rect_emb_val win0_3 t _ a).trans ?_
  rw [index3]
  match a with
  | 0 => rfl
  | 1 => show 0 * 128 + d.val = d.val; omega

theorem sin_block1 (i : Fin 512) (d : Fin 128) : (iblk m c 4 t (ix2 i d) : EReal) = sinTable1 (ix2 ⟨part t.val * 512 + i.val, by have := part_lt t.val; omega⟩ d) := by
  rw [← sin_table1 m c]
  unfold iblk
  blk_simp
  refine congrArg (V m c main_v34) (funext fun a => Fin.ext ?_)
  refine (Pipeline.Window.rect_emb_val win0_4 t _ a).trans ?_
  rw [index4]
  match a with
  | 0 => rfl
  | 1 => show 0 * 128 + d.val = d.val; omega

theorem sin_block2 (i : Fin 512) (d : Fin 128) : (iblk m c 5 t (ix2 i d) : EReal) = sinTable2 (ix2 ⟨part t.val * 512 + i.val, by have := part_lt t.val; omega⟩ d) := by
  rw [← sin_table2 m c]
  unfold iblk
  blk_simp
  refine congrArg (V m c main_v35) (funext fun a => Fin.ext ?_)
  refine (Pipeline.Window.rect_emb_val win0_5 t _ a).trans ?_
  rw [index5]
  match a with
  | 0 => rfl
  | 1 => show 0 * 128 + d.val = d.val; omega

/-- The tables' positions are the rows'. -/
theorem places_at (t : ℕ) (ht : t < 17) (i : Fin 512) :
    places (ix1 ⟨part t * 512 + i.val, by have := part_lt t; omega⟩) = place ⟨t * 512 + i.val, by omega⟩ := by
  unfold place
  by_cases h : t < 16
  · have e : part t = t % 4 := if_pos h
    rw [if_pos (show t * 512 + i.val < 8192 by omega), places_prompt _ (show part t * 512 + i.val < 2048 by omega)]
    show BitVec.ofNat 32 (part t * 512 + i.val) = BitVec.ofNat 32 ((t * 512 + i.val) % 2048)
    rw [show (t * 512 + i.val) % 2048 = part t * 512 + i.val by omega]
  · have e : part t = 4 := if_neg h
    rw [if_neg (show ¬ t * 512 + i.val < 8192 by omega)]
    have ei : (⟨part t * 512 + i.val, by have := part_lt t; omega⟩ : Fin 2560) = ⟨2048 + i.val, by omega⟩ := Fin.ext (show part t * 512 + i.val = 2048 + i.val by omega)
    rw [ei, places_sample i]
    show 2048#32 + BitVec.ofNat 32 (i.val % 4) = 2048#32 + BitVec.ofNat 32 ((t * 512 + i.val - 8192) % 4)
    rw [show t * 512 + i.val - 8192 = i.val by omega]

include h0 h1 h2 in
/-- The array after the last point. -/
theorem array (R : FVec Ideal S8704x2048 .f32)
    (hq : ∀ (r : Fin 8704) (n : Fin 12) (d : Fin 128), (R (ix2 r ⟨n.val * 128 + d.val, by omega⟩) : EReal)
      = turn (fun d => ∑ k, normed (fun k => a0 (ix2 r k)) (fun k => a1 (ix2 1 k)) k * a2 (ix3 0 k ⟨n.val * 128 + d.val, by omega⟩))
        (fun k => Ideal.cos (angle (place r) k)) (fun k => Ideal.sin (angle (place r) k)) d)
    (hr : ∀ (r : Fin 8704) (j : Fin 512), (R (ix2 r ⟨1536 + j.val, by omega⟩) : EReal)
      = ∑ k, normed (fun k => a0 (ix2 r k)) (fun k => a1 (ix2 1 k)) k * a2 (ix3 0 k ⟨1536 + j.val, by omega⟩)) :
    (dats m 0 c).arrAt 6 cfg0.N = R := by
  refine (dats m 0 c).arrAt_eq_of_covers 6 _ (by decide +kernel) fun t hf y => ?_
  blk_simp
  rw [after0_6]
  have ht := points t
  have hy0 : (y 0 : ℕ) < 512 := (y 0).isLt
  have hy1 : (y 1 : ℕ) < 2048 := (y 1).isLt
  have eo : (win0_6.blk t).view.emb y = ix2 ⟨t.val * 512 + (y 0 : ℕ), by omega⟩ ⟨(y 1 : ℕ), hy1⟩ := by
    funext a
    apply Fin.ext
    refine (Pipeline.Window.rect_emb_val win0_6 t y a).trans ?_
    rw [index6]
    match a with
    | 0 => rfl
    | 1 => show 0 * 2048 + (y 1 : ℕ) = (y 1 : ℕ); omega
  refine Eq.trans ?_ (congrArg R eo).symm
  have ey : y = ix2 ⟨(y 0 : ℕ), hy0⟩ ⟨(y 1 : ℕ), hy1⟩ := by
    funext a
    match a with
    | 0 => rfl
    | 1 => rfl
  refine (congrArg _ ey).trans ?_
  unfold outsAt0
  by_cases hj : (y 1 : ℕ) < 1536
  · have ej : (⟨(y 1 : ℕ), hy1⟩ : Fin 2048) = ⟨(y 1 : ℕ) / 128 * 128 + (y 1 : ℕ) % 128, by omega⟩ := Fin.ext (show (y 1 : ℕ) = (y 1 : ℕ) / 128 * 128 + (y 1 : ℕ) % 128 by omega)
    rw [ej]
    refine Eq.trans ?_ (hq _ ⟨(y 1 : ℕ) / 128, by omega⟩ ⟨(y 1 : ℕ) % 128, by omega⟩).symm
    refine (query_block_at _ _ _ _ _ _ _ _ _ _ _ _ _ _ _ _ _ _ _ _ _ _ _ _ _ ⟨(y 0 : ℕ), hy0⟩ ((y 1 : ℕ) / 128) (by omega) ⟨(y 1 : ℕ) % 128, by omega⟩).trans ?_
    simp only [rows_block m c a0 h0 t, scales_block m c a1 h1 t, weights_block m c a2 h2 t, cos_block m c t, sin_block1 m c t, sin_block2 m c t]
    refine (rolled_tables _ _ _).trans ?_
    rw [places_at t.val ht ⟨(y 0 : ℕ), hy0⟩]
  · have ej : (⟨(y 1 : ℕ), hy1⟩ : Fin 2048) = ⟨1536 + ((y 1 : ℕ) - 1536), by omega⟩ := Fin.ext (show (y 1 : ℕ) = 1536 + ((y 1 : ℕ) - 1536) by omega)
    rw [ej]
    refine Eq.trans ?_ (hr _ ⟨(y 1 : ℕ) - 1536, by omega⟩).symm
    refine (rest_block_at _ _ _ _ _ _ _ _ _ _ _ _ _ _ _ _ _ _ _ _ _ _ _ _ _ ⟨(y 0 : ℕ), hy0⟩ ((y 1 : ℕ) - 1536) (by omega)).trans ?_
    simp only [rows_block m c a0 h0 t, scales_block m c a1 h1 t, weights_block m c a2 h2 t]

end

end Cert.Kernel7Ideal.Query

end
-- ==== Proof.QueryRef.lean ====
module

public import proofs.«01_k».proof.Proof.KvSpec
public import proofs.«01_k».proof.Proof.MlpSpec
public import proofs.«01_k».proof.Proof.Gen.Reference7Ideal.Run
public import Idealize.ShloMosaic.Lib.Pointwise

@[expose] public section

set_option maxRecDepth 16384

/-! The reference of the second layer's input projection at an index: the prompt's rows, and the sample's. -/

noncomputable section

namespace Cert.Reference7Ideal.Query

open Cert.Reference7Ideal Cert.Reference7Ideal.Gen Cert.Reference7Ideal.Value Cert.Mlp Cert.Kv
open Idealize.ShloMosaic Idealize.ShloMosaic.TcCoe

variable (a0 : FVec Ideal S8704x2048 .f32) (a1 : FVec Ideal S2x2048 .f32) (a2 : FVec Ideal S1x2048x2048 .f32)

/-- The layer's scales. -/
abbrev scale : FVec Ideal S2048 .f32 := shapeCast S2048 (extractStridedSlice S1x2048 ![1, 0] a1 slices_S2x2048_S1x2048_1_0) shapeCasts_S1x2048_S2048

/-- The layer's weights. -/
abbrev matrix : FVec Ideal S2048x2048 .f32 := shapeCast S2048x2048 a2 shapeCasts_S1x2048x2048_S2048x2048

theorem scale_at (k : Fin 2048) : (scale a1 (ix1 k) : EReal) = a1 (ix2 1 k) := by
  unfold scale
  pointwise []

theorem matrix_at (k n : Fin 2048) : (matrix a2 (ix2 k n) : EReal) = a2 (ix3 0 k n) := by
  unfold matrix
  pointwise []

/-! ## The prompt -/

namespace Prompt

/-- The prompt's rows. -/
abbrev rows : FVec Ideal S4x2048x2048 .f32 := shapeCast _ (extractStridedSlice S8192x2048 ![0, 0] a0 slices_S8704x2048_S8192x2048_0_0) shapeCasts_S8192x2048_S4x2048x2048

/-- Every row through the weights. -/
abbrev product : FVec Ideal S4x2048x2048 .f32 :=
  Host.dotGeneral dot_S4x2048x2048_S2048x2048_S4x2048x2048_2_0_01_1_n_n none (mulf (mulf (rows a0) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (rows a0) (rows a0)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (scale a1)))) (matrix a2)

/-- The queries before their turn. -/
abbrev heads (b : FVec Ideal S4x2048x2048 .f32) : FVec Ideal S4x2048x12x128 .f32 :=
  shapeCast _ (extractStridedSlice S4x2048x1536 ![0, 0, 0] b slices_S4x2048x2048_S4x2048x1536_0_0_0) shapeCasts_S4x2048x1536_S4x2048x12x128

/-- The angles of every position. -/
abbrev angles : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (mulf (sitofp .f32 (iotaInDim S16 32 0)) (broadcastInDim S16 ![] bcast_S_S16 (constant S_ .f32 0x40000000#32)))) (broadcastInDim S16 ![] bcast_S_S16 (constant S_ .f32 0x42000000#32))))))

/-- A table for every batch entry and head. -/
abbrev spread (t : FVec Ideal S2048x16 .f32) : FVec Ideal S4x2048x12x16 .f32 :=
  broadcastInDim S4x2048x12x16 ![0, 1, 2, 3] bcast_S1x2048x1x16_S4x2048x12x16_0_1_2_3 (broadcastInDim S1x2048x1x16 ![1, 2, 3] bcast_S2048x1x16_S1x2048x1x16_1_2_3 (broadcastInDim S2048x1x16 ![0, 2] bcast_S2048x16_S2048x1x16_0_2 t))

/-- The queries turned. -/
abbrev turned (h : FVec Ideal S4x2048x12x128 .f32) (co si : FVec Ideal S2048x16 .f32) : FVec Ideal S4x2048x12x128 .f32 :=
  concatenate S4x2048x12x128 3
    [⟨S4x2048x12x16, subf (mulf (extractStridedSlice S4x2048x12x16 ![0, 0, 0, 0] h slices_S4x2048x12x128_S4x2048x12x16_0_0_0_0) (spread co)) (mulf (extractStridedSlice S4x2048x12x16 ![0, 0, 0, 16] h slices_S4x2048x12x128_S4x2048x12x16_0_0_0_16) (spread si))⟩,
     ⟨S4x2048x12x16, addf (mulf (extractStridedSlice S4x2048x12x16 ![0, 0, 0, 16] h slices_S4x2048x12x128_S4x2048x12x16_0_0_0_16) (spread co)) (mulf (extractStridedSlice S4x2048x12x16 ![0, 0, 0, 0] h slices_S4x2048x12x128_S4x2048x12x16_0_0_0_0) (spread si))⟩,
     ⟨S4x2048x12x96, extractStridedSlice S4x2048x12x96 ![0, 0, 0, 32] h slices_S4x2048x12x128_S4x2048x12x96_0_0_0_32⟩]
    concatenates_S4x2048x12x16_S4x2048x12x16_S4x2048x12x96_S4x2048x12x128_d3

/-- The turned queries and the other columns side by side. -/
abbrev joined (q : FVec Ideal S4x2048x12x128 .f32) (b : FVec Ideal S4x2048x2048 .f32) : FVec Ideal S8192x2048 .f32 :=
  concatenate S8192x2048 1 [⟨S8192x1536, shapeCast _ q shapeCasts_S4x2048x12x128_S8192x1536⟩, ⟨S8192x512, shapeCast _ (extractStridedSlice S4x2048x512 ![0, 0, 1536] b slices_S4x2048x2048_S4x2048x512_0_0_1536) shapeCasts_S4x2048x512_S8192x512⟩] concatenates_S8192x1536_S8192x512_S8192x2048_d1

/-- The prompt's part of the result. -/
abbrev part : FVec Ideal S8192x2048 .f32 := joined (turned (heads (product a0 a1 a2)) (Host.cos angles) (Host.sin angles)) (product a0 a1 a2)

theorem product_at (b : Fin 4) (p : Fin 2048) (n : Fin 2048) : (product a0 a1 a2 (ix3 b p n) : EReal)
    = ∑ k, normed (fun k => a0 (ix2 ⟨b.val * 2048 + p.val, by omega⟩ k)) (fun k => a1 (ix2 1 k)) k * a2 (ix3 0 k n) := by
  unfold product rows
  have es := scale_at a1
  have em := matrix_at a2
  generalize scale a1 = g at es
  generalize matrix a2 = w at em
  pointwise []
  simp only [es, em]
  rfl

theorem heads_at (x : FVec Ideal S4x2048x2048 .f32) (b : Fin 4) (p : Fin 2048) (n : Fin 12) (d : Fin 128) :
    (heads x (ix4 b p n d) : EReal) = x (ix3 b p ⟨n.val * 128 + d.val, by omega⟩) := by
  unfold heads
  pointwise []

theorem turned_at (h : FVec Ideal S4x2048x12x128 .f32) (co si : FVec Ideal S2048x16 .f32) (b : Fin 4) (p : Fin 2048) (n : Fin 12) (d : Fin 128) :
    (turned h co si (ix4 b p n d) : EReal) = turn (fun d => h (ix4 b p n d)) (fun k => co (ix2 p k)) (fun k => si (ix2 p k)) d := by
  unfold turned spread
  pointwise []
  exact (turn_pieces (fun d => h (ix4 b p n d)) (fun k => co (ix2 p k)) (fun k => si (ix2 p k)) d).symm

theorem cos_at (p : Fin 2048) (k : Fin 16) : ((Host.cos angles : FVec Ideal S2048x16 .f32) (ix2 p k) : EReal) = Ideal.cos (angle (BitVec.ofNat 32 p.val) k) := by
  unfold angles
  pointwise []
  rfl

theorem sin_at (p : Fin 2048) (k : Fin 16) : ((Host.sin angles : FVec Ideal S2048x16 .f32) (ix2 p k) : EReal) = Ideal.sin (angle (BitVec.ofNat 32 p.val) k) := by
  unfold angles
  pointwise []
  rfl

theorem flat_at (q : FVec Ideal S4x2048x12x128 .f32) (b : Fin 4) (p : Fin 2048) (n : Fin 12) (d : Fin 128) :
    (shapeCast S8192x1536 q shapeCasts_S4x2048x12x128_S8192x1536 (ix2 ⟨b.val * 2048 + p.val, by omega⟩ ⟨n.val * 128 + d.val, by omega⟩) : EReal) = q (ix4 b p n d) := by
  refine shapeCast_apply _ _ _ (ix4 b p n d) ?_
  rw [Shape.rowMajor_val_two, Shape.rowMajor_val_four]
  show ((b.val * 2048 + p.val) * 12 + n.val) * 128 + d.val = (b.val * 2048 + p.val) * 1536 + (n.val * 128 + d.val)
  omega

theorem rest_at (x : FVec Ideal S4x2048x2048 .f32) (b : Fin 4) (p : Fin 2048) (j : Fin 512) :
    (shapeCast S8192x512 (extractStridedSlice S4x2048x512 ![0, 0, 1536] x slices_S4x2048x2048_S4x2048x512_0_0_1536) shapeCasts_S4x2048x512_S8192x512 (ix2 ⟨b.val * 2048 + p.val, by omega⟩ j) : EReal) = x (ix3 b p ⟨1536 + j.val, by omega⟩) := by
  refine (shapeCast_apply _ _ _ (ix3 b p j) ?_).trans ?_
  · rw [Shape.rowMajor_val_two, Shape.rowMajor_val_three]
    show (b.val * 2048 + p.val) * 512 + j.val = (b.val * 2048 + p.val) * 512 + j.val
    rfl
  · pointwise []

theorem joined_left (k : FVec Ideal S8192x1536 .f32) (v : FVec Ideal S8192x512 .f32) (i : Fin 8192) (j : Fin 1536) :
    (concatenate S8192x2048 1 [⟨S8192x1536, k⟩, ⟨S8192x512, v⟩] concatenates_S8192x1536_S8192x512_S8192x2048_d1 (ix2 i ⟨j.val, by omega⟩) : EReal) = k (ix2 i j) := by
  pointwise []

theorem joined_right (k : FVec Ideal S8192x1536 .f32) (v : FVec Ideal S8192x512 .f32) (i : Fin 8192) (j : Fin 512) :
    (concatenate S8192x2048 1 [⟨S8192x1536, k⟩, ⟨S8192x512, v⟩] concatenates_S8192x1536_S8192x512_S8192x2048_d1 (ix2 i ⟨1536 + j.val, by omega⟩) : EReal) = v (ix2 i j) := by
  pointwise []

/-- The prompt's queries at an index. -/
theorem queries_at (b : Fin 4) (p : Fin 2048) (n : Fin 12) (d : Fin 128) :
    (part a0 a1 a2 (ix2 ⟨b.val * 2048 + p.val, by omega⟩ ⟨n.val * 128 + d.val, by omega⟩) : EReal)
      = turn (fun d => ∑ k, normed (fun k => a0 (ix2 ⟨b.val * 2048 + p.val, by omega⟩ k)) (fun k => a1 (ix2 1 k)) k * a2 (ix3 0 k ⟨n.val * 128 + d.val, by omega⟩))
        (fun k => Ideal.cos (angle (BitVec.ofNat 32 p.val) k)) (fun k => Ideal.sin (angle (BitVec.ofNat 32 p.val) k)) d := by
  refine (joined_left _ _ _ ⟨n.val * 128 + d.val, by omega⟩).trans ((flat_at _ b p n d).trans ((turned_at _ _ _ b p n d).trans ?_))
  simp only [cos_at, sin_at, heads_at, product_at]

/-- The prompt's other columns at an index. -/
theorem others_at (b : Fin 4) (p : Fin 2048) (j : Fin 512) :
    (part a0 a1 a2 (ix2 ⟨b.val * 2048 + p.val, by omega⟩ ⟨1536 + j.val, by omega⟩) : EReal)
      = ∑ k, normed (fun k => a0 (ix2 ⟨b.val * 2048 + p.val, by omega⟩ k)) (fun k => a1 (ix2 1 k)) k * a2 (ix3 0 k ⟨1536 + j.val, by omega⟩) := by
  refine (joined_right _ _ _ j).trans ((rest_at _ b p j).trans ?_)
  rw [product_at]

end Prompt

/-! ## The sample -/

namespace Sample

/-- The sample's rows. -/
abbrev rows : FVec Ideal S128x4x2048 .f32 := shapeCast _ (extractStridedSlice S512x2048 ![8192, 0] a0 slices_S8704x2048_S512x2048_8192_0) shapeCasts_S512x2048_S128x4x2048

/-- Every row through the weights. -/
abbrev product : FVec Ideal S128x4x2048 .f32 :=
  Host.dotGeneral dot_S128x4x2048_S2048x2048_S128x4x2048_2_0_01_1_n_n none (mulf (mulf (rows a0) (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf (rows a0) (rows a0)) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 (scale a1)))) (matrix a2)

/-- The queries before their turn. -/
abbrev heads (b : FVec Ideal S128x4x2048 .f32) : FVec Ideal S128x4x12x128 .f32 :=
  shapeCast _ (extractStridedSlice S128x4x1536 ![0, 0, 0] b slices_S128x4x2048_S128x4x1536_0_0_0) shapeCasts_S128x4x1536_S128x4x12x128

/-- The angles of every position. -/
abbrev angles : FVec Ideal S4x16 .f32 :=
  mulf (broadcastInDim S4x16 ![0, 1] bcast_S4x1_S4x16_0_1 (broadcastInDim S4x1 ![0] bcast_S4_S4x1_0 (sitofp .f32 (addi (broadcastInDim S4 ![] bcast_S_S4 (constantI S_ 32 2048#32)) (iotaInDim S4 32 0))))) (broadcastInDim S4x16 ![0, 1] bcast_S1x16_S4x16_0_1 (broadcastInDim S1x16 ![1] bcast_S16_S1x16_1 (Host.powf (broadcastInDim S16 ![] bcast_S_S16 (constant S_ .f32 0x48F42400#32)) (Host.divf (Host.negf (mulf (sitofp .f32 (iotaInDim S16 32 0)) (broadcastInDim S16 ![] bcast_S_S16 (constant S_ .f32 0x40000000#32)))) (broadcastInDim S16 ![] bcast_S_S16 (constant S_ .f32 0x42000000#32))))))

/-- A table for every batch entry and head. -/
abbrev spread (t : FVec Ideal S4x16 .f32) : FVec Ideal S128x4x12x16 .f32 :=
  broadcastInDim S128x4x12x16 ![0, 1, 2, 3] bcast_S1x4x1x16_S128x4x12x16_0_1_2_3 (broadcastInDim S1x4x1x16 ![1, 2, 3] bcast_S4x1x16_S1x4x1x16_1_2_3 (broadcastInDim S4x1x16 ![0, 2] bcast_S4x16_S4x1x16_0_2 t))

/-- The queries turned. -/
abbrev turned (h : FVec Ideal S128x4x12x128 .f32) (co si : FVec Ideal S4x16 .f32) : FVec Ideal S128x4x12x128 .f32 :=
  concatenate S128x4x12x128 3
    [⟨S128x4x12x16, subf (mulf (extractStridedSlice S128x4x12x16 ![0, 0, 0, 0] h slices_S128x4x12x128_S128x4x12x16_0_0_0_0) (spread co)) (mulf (extractStridedSlice S128x4x12x16 ![0, 0, 0, 16] h slices_S128x4x12x128_S128x4x12x16_0_0_0_16) (spread si))⟩,
     ⟨S128x4x12x16, addf (mulf (extractStridedSlice S128x4x12x16 ![0, 0, 0, 16] h slices_S128x4x12x128_S128x4x12x16_0_0_0_16) (spread co)) (mulf (extractStridedSlice S128x4x12x16 ![0, 0, 0, 0] h slices_S128x4x12x128_S128x4x12x16_0_0_0_0) (spread si))⟩,
     ⟨S128x4x12x96, extractStridedSlice S128x4x12x96 ![0, 0, 0, 32] h slices_S128x4x12x128_S128x4x12x96_0_0_0_32⟩]
    concatenates_S128x4x12x16_S128x4x12x16_S128x4x12x96_S128x4x12x128_d3

/-- The turned queries and the other columns side by side. -/
abbrev joined (q : FVec Ideal S128x4x12x128 .f32) (b : FVec Ideal S128x4x2048 .f32) : FVec Ideal S512x2048 .f32 :=
  concatenate S512x2048 1 [⟨S512x1536, shapeCast _ q shapeCasts_S128x4x12x128_S512x1536⟩, ⟨S512x512, shapeCast _ (extractStridedSlice S128x4x512 ![0, 0, 1536] b slices_S128x4x2048_S128x4x512_0_0_1536) shapeCasts_S128x4x512_S512x512⟩] concatenates_S512x1536_S512x512_S512x2048_d1

/-- The sample's part of the result. -/
abbrev part : FVec Ideal S512x2048 .f32 := joined (turned (heads (product a0 a1 a2)) (Host.cos angles) (Host.sin angles)) (product a0 a1 a2)

theorem product_at (b : Fin 128) (p : Fin 4) (n : Fin 2048) : (product a0 a1 a2 (ix3 b p n) : EReal)
    = ∑ k, normed (fun k => a0 (ix2 ⟨8192 + (b.val * 4 + p.val), by omega⟩ k)) (fun k => a1 (ix2 1 k)) k * a2 (ix3 0 k n) := by
  unfold product rows
  have es := scale_at a1
  have em := matrix_at a2
  generalize scale a1 = g at es
  generalize matrix a2 = w at em
  pointwise []
  simp only [es, em]
  rfl

theorem heads_at (x : FVec Ideal S128x4x2048 .f32) (b : Fin 128) (p : Fin 4) (n : Fin 12) (d : Fin 128) :
    (heads x (ix4 b p n d) : EReal) = x (ix3 b p ⟨n.val * 128 + d.val, by omega⟩) := by
  unfold heads
  pointwise []

theorem turned_at (h : FVec Ideal S128x4x12x128 .f32) (co si : FVec Ideal S4x16 .f32) (b : Fin 128) (p : Fin 4) (n : Fin 12) (d : Fin 128) :
    (turned h co si (ix4 b p n d) : EReal) = turn (fun d => h (ix4 b p n d)) (fun k => co (ix2 p k)) (fun k => si (ix2 p k)) d := by
  unfold turned spread
  pointwise []
  exact (turn_pieces (fun d => h (ix4 b p n d)) (fun k => co (ix2 p k)) (fun k => si (ix2 p k)) d).symm

theorem cos_at (p : Fin 4) (k : Fin 16) : ((Host.cos angles : FVec Ideal S4x16 .f32) (ix2 p k) : EReal) = Ideal.cos (angle (2048#32 + BitVec.ofNat 32 p.val) k) := by
  unfold angles
  pointwise []
  rfl

theorem sin_at (p : Fin 4) (k : Fin 16) : ((Host.sin angles : FVec Ideal S4x16 .f32) (ix2 p k) : EReal) = Ideal.sin (angle (2048#32 + BitVec.ofNat 32 p.val) k) := by
  unfold angles
  pointwise []
  rfl

theorem flat_at (q : FVec Ideal S128x4x12x128 .f32) (b : Fin 128) (p : Fin 4) (n : Fin 12) (d : Fin 128) :
    (shapeCast S512x1536 q shapeCasts_S128x4x12x128_S512x1536 (ix2 ⟨b.val * 4 + p.val, by omega⟩ ⟨n.val * 128 + d.val, by omega⟩) : EReal) = q (ix4 b p n d) := by
  refine shapeCast_apply _ _ _ (ix4 b p n d) ?_
  rw [Shape.rowMajor_val_two, Shape.rowMajor_val_four]
  show ((b.val * 4 + p.val) * 12 + n.val) * 128 + d.val = (b.val * 4 + p.val) * 1536 + (n.val * 128 + d.val)
  omega

theorem rest_at (x : FVec Ideal S128x4x2048 .f32) (b : Fin 128) (p : Fin 4) (j : Fin 512) :
    (shapeCast S512x512 (extractStridedSlice S128x4x512 ![0, 0, 1536] x slices_S128x4x2048_S128x4x512_0_0_1536) shapeCasts_S128x4x512_S512x512 (ix2 ⟨b.val * 4 + p.val, by omega⟩ j) : EReal) = x (ix3 b p ⟨1536 + j.val, by omega⟩) := by
  refine (shapeCast_apply _ _ _ (ix3 b p j) ?_).trans ?_
  · rw [Shape.rowMajor_val_two, Shape.rowMajor_val_three]
    show (b.val * 4 + p.val) * 512 + j.val = (b.val * 4 + p.val) * 512 + j.val
    rfl
  · pointwise []

theorem joined_left (k : FVec Ideal S512x1536 .f32) (v : FVec Ideal S512x512 .f32) (i : Fin 512) (j : Fin 1536) :
    (concatenate S512x2048 1 [⟨S512x1536, k⟩, ⟨S512x512, v⟩] concatenates_S512x1536_S512x512_S512x2048_d1 (ix2 i ⟨j.val, by omega⟩) : EReal) = k (ix2 i j) := by
  pointwise []

theorem joined_right (k : FVec Ideal S512x1536 .f32) (v : FVec Ideal S512x512 .f32) (i : Fin 512) (j : Fin 512) :
    (concatenate S512x2048 1 [⟨S512x1536, k⟩, ⟨S512x512, v⟩] concatenates_S512x1536_S512x512_S512x2048_d1 (ix2 i ⟨1536 + j.val, by omega⟩) : EReal) = v (ix2 i j) := by
  pointwise []

/-- The sample's queries at an index. -/
theorem queries_at (b : Fin 128) (p : Fin 4) (n : Fin 12) (d : Fin 128) :
    (part a0 a1 a2 (ix2 ⟨b.val * 4 + p.val, by omega⟩ ⟨n.val * 128 + d.val, by omega⟩) : EReal)
      = turn (fun d => ∑ k, normed (fun k => a0 (ix2 ⟨8192 + (b.val * 4 + p.val), by omega⟩ k)) (fun k => a1 (ix2 1 k)) k * a2 (ix3 0 k ⟨n.val * 128 + d.val, by omega⟩))
        (fun k => Ideal.cos (angle (2048#32 + BitVec.ofNat 32 p.val) k)) (fun k => Ideal.sin (angle (2048#32 + BitVec.ofNat 32 p.val) k)) d := by
  refine (joined_left _ _ _ ⟨n.val * 128 + d.val, by omega⟩).trans ((flat_at _ b p n d).trans ((turned_at _ _ _ b p n d).trans ?_))
  simp only [cos_at, sin_at, heads_at, product_at]

/-- The sample's other columns at an index. -/
theorem others_at (b : Fin 128) (p : Fin 4) (j : Fin 512) :
    (part a0 a1 a2 (ix2 ⟨b.val * 4 + p.val, by omega⟩ ⟨1536 + j.val, by omega⟩) : EReal)
      = ∑ k, normed (fun k => a0 (ix2 ⟨8192 + (b.val * 4 + p.val), by omega⟩ k)) (fun k => a1 (ix2 1 k)) k * a2 (ix3 0 k ⟨1536 + j.val, by omega⟩) := by
  refine (joined_right _ _ _ j).trans ((rest_at _ b p j).trans ?_)
  rw [product_at]

end Sample

/-- The reference's result. -/
abbrev result : FVec Ideal S8704x2048 .f32 :=
  concatenate S8704x2048 0 [⟨S8192x2048, Prompt.part a0 a1 a2⟩, ⟨S512x2048, Sample.part a0 a1 a2⟩] concatenates_S8192x2048_S512x2048_S8704x2048_d0

theorem result_prompt (k : FVec Ideal S8192x2048 .f32) (v : FVec Ideal S512x2048 .f32) (r : Fin 8192) (n : Fin 2048) :
    (concatenate S8704x2048 0 [⟨S8192x2048, k⟩, ⟨S512x2048, v⟩] concatenates_S8192x2048_S512x2048_S8704x2048_d0 (ix2 ⟨r.val, by omega⟩ n) : EReal) = k (ix2 r n) := by
  pointwise []

theorem result_sample (k : FVec Ideal S8192x2048 .f32) (v : FVec Ideal S512x2048 .f32) (r : Fin 512) (n : Fin 2048) :
    (concatenate S8704x2048 0 [⟨S8192x2048, k⟩, ⟨S512x2048, v⟩] concatenates_S8192x2048_S512x2048_S8704x2048_d0 (ix2 ⟨8192 + r.val, by omega⟩ n) : EReal) = v (ix2 r n) := by
  pointwise []

theorem result_queries (r : Fin 8704) (n : Fin 12) (d : Fin 128) :
    (result a0 a1 a2 (ix2 r ⟨n.val * 128 + d.val, by omega⟩) : EReal)
      = turn (fun d => ∑ k, normed (fun k => a0 (ix2 r k)) (fun k => a1 (ix2 1 k)) k * a2 (ix3 0 k ⟨n.val * 128 + d.val, by omega⟩))
        (fun k => Ideal.cos (angle (if r.val < 8192 then BitVec.ofNat 32 (r.val % 2048) else 2048#32 + BitVec.ofNat 32 ((r.val - 8192) % 4)) k))
        (fun k => Ideal.sin (angle (if r.val < 8192 then BitVec.ofNat 32 (r.val % 2048) else 2048#32 + BitVec.ofNat 32 ((r.val - 8192) % 4)) k)) d := by
  by_cases h : r.val < 8192
  · simp only [if_pos h]
    have e : (⟨r.val / 2048 * 2048 + r.val % 2048, by omega⟩ : Fin 8192) = ⟨r.val, h⟩ := Fin.ext (show r.val / 2048 * 2048 + r.val % 2048 = r.val by omega)
    have e' : (⟨r.val / 2048 * 2048 + r.val % 2048, by omega⟩ : Fin 8704) = r := Fin.ext (show r.val / 2048 * 2048 + r.val % 2048 = r.val by omega)
    have q := Prompt.queries_at a0 a1 a2 ⟨r.val / 2048, by omega⟩ ⟨r.val % 2048, by omega⟩ n d
    simp only [e, e'] at q
    exact (result_prompt _ _ ⟨r.val, h⟩ _).trans q
  · simp only [if_neg h]
    have e : (⟨(r.val - 8192) / 4 * 4 + (r.val - 8192) % 4, by omega⟩ : Fin 512) = ⟨r.val - 8192, by omega⟩ := Fin.ext (show (r.val - 8192) / 4 * 4 + (r.val - 8192) % 4 = r.val - 8192 by omega)
    have e' : (⟨8192 + ((r.val - 8192) / 4 * 4 + (r.val - 8192) % 4), by omega⟩ : Fin 8704) = r := Fin.ext (show 8192 + ((r.val - 8192) / 4 * 4 + (r.val - 8192) % 4) = r.val by omega)
    have er : (⟨8192 + (r.val - 8192), by omega⟩ : Fin 8704) = r := Fin.ext (show 8192 + (r.val - 8192) = r.val by omega)
    have q := Sample.queries_at a0 a1 a2 ⟨(r.val - 8192) / 4, by omega⟩ ⟨(r.val - 8192) % 4, by omega⟩ n d
    simp only [e, e'] at q
    have s := result_sample (Prompt.part a0 a1 a2) (Sample.part a0 a1 a2) ⟨r.val - 8192, by omega⟩ ⟨n.val * 128 + d.val, by omega⟩
    simp only [er] at s
    exact s.trans q

theorem result_others (r : Fin 8704) (j : Fin 512) :
    (result a0 a1 a2 (ix2 r ⟨1536 + j.val, by omega⟩) : EReal)
      = ∑ k, normed (fun k => a0 (ix2 r k)) (fun k => a1 (ix2 1 k)) k * a2 (ix3 0 k ⟨1536 + j.val, by omega⟩) := by
  by_cases h : r.val < 8192
  · have e : (⟨r.val / 2048 * 2048 + r.val % 2048, by omega⟩ : Fin 8192) = ⟨r.val, h⟩ := Fin.ext (show r.val / 2048 * 2048 + r.val % 2048 = r.val by omega)
    have e' : (⟨r.val / 2048 * 2048 + r.val % 2048, by omega⟩ : Fin 8704) = r := Fin.ext (show r.val / 2048 * 2048 + r.val % 2048 = r.val by omega)
    have q := Prompt.others_at a0 a1 a2 ⟨r.val / 2048, by omega⟩ ⟨r.val % 2048, by omega⟩ j
    simp only [e, e'] at q
    exact (result_prompt _ _ ⟨r.val, h⟩ _).trans q
  · have e : (⟨(r.val - 8192) / 4 * 4 + (r.val - 8192) % 4, by omega⟩ : Fin 512) = ⟨r.val - 8192, by omega⟩ := Fin.ext (show (r.val - 8192) / 4 * 4 + (r.val - 8192) % 4 = r.val - 8192 by omega)
    have e' : (⟨8192 + ((r.val - 8192) / 4 * 4 + (r.val - 8192) % 4), by omega⟩ : Fin 8704) = r := Fin.ext (show 8192 + ((r.val - 8192) / 4 * 4 + (r.val - 8192) % 4) = r.val by omega)
    have er : (⟨8192 + (r.val - 8192), by omega⟩ : Fin 8704) = r := Fin.ext (show 8192 + (r.val - 8192) = r.val by omega)
    have q := Sample.others_at a0 a1 a2 ⟨(r.val - 8192) / 4, by omega⟩ ⟨(r.val - 8192) % 4, by omega⟩ j
    simp only [e, e'] at q
    have s := result_sample (Prompt.part a0 a1 a2) (Sample.part a0 a1 a2) ⟨r.val - 8192, by omega⟩ ⟨1536 + j.val, by omega⟩
    simp only [er] at s
    exact s.trans q

end Cert.Reference7Ideal.Query

end
-- ==== Proof.OutTile.lean ====
module

public import proofs.«01_k».proof.Proof.Gen.Kernel8Ideal.Value
public import Idealize.ShloMosaic.Lib.Pointwise
public import Idealize.ShloMosaic.Lib.VecWindow
public import Idealize.ShloMosaic.Lib.Pipeline.ValueKit.Point

@[expose] public section

set_option maxRecDepth 16384

/-! What the second layer's output projection computes at a point: the rows it is added to, and the mixer's and the memory attention's outputs, each through its rows of the weights. -/

noncomputable section

namespace Cert.Kernel8Ideal.Out

open Cert.Kernel8Ideal Cert.Kernel8Ideal.Gen
open Idealize.ShloMosaic Idealize.ShloMosaic.TcCoe

theorem prompt_at (a : Vec Ideal S512x1536 .bf16) (u : Vec Ideal S1536x2048 .bf16) (b : Vec Ideal S512x512 .bf16) (v : Vec Ideal S512x2048 .bf16) (x : Vec Ideal S512x2048 .f32) (i : Fin 512) (n : Fin 2048) :
    (k0_pay1 a u b v x (ix2 i n) : EReal) = x (ix2 i n) + (∑ k, (a (ix2 i k) : EReal) * u (ix2 k n) + ∑ k, (b (ix2 i k) : EReal) * v (ix2 k n)) := by
  pointwise [k0_pay1]

theorem sample_at (a : Vec Ideal S512x1536 .bf16) (u : Vec Ideal S1536x2048 .bf16) (b : Vec Ideal S512x512 .bf16) (v : Vec Ideal S512x2048 .bf16) (x : Vec Ideal S512x2048 .f32) (i : Fin 512) (n : Fin 2048) :
    (k0_pay2 a u b v x (ix2 i n) : EReal) = x (ix2 i n) + (∑ k, (a (ix2 i k) : EReal) * u (ix2 k n) + ∑ k, (b (ix2 i k) : EReal) * v (ix2 k n)) := by
  pointwise [k0_pay2]

section
variable (c : Dev nD) (i : grid0.Coords) (arg2 : Memref sig .tc .vmem S512x2048 .f32) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1536x2048 .bf16) (harg7 : arg7.IsWhole) (arg8 : Memref sig .tc .vmem S512x2048 .bf16) (harg8 : arg8.IsWhole) (arg9 : Memref sig .tc .vmem S512x2048 .f32) (harg9 : arg9.IsWhole)
  (x0 : Vec Ideal S512x2048 .f32) (x1 x2 : Vec Ideal S512x1536 .bf16) (x3 x4 : Vec Ideal S512x512 .bf16) (x5 : Vec Ideal S1536x2048 .bf16) (x6 : Vec Ideal S512x2048 .bf16)

theorem prompt_block (hc0 : cond0_0 i) (hc1 : ¬cond0_1 i) :
    out0_A_7 c i arg2 harg2 arg3 harg3 arg4 harg4 arg5 harg5 arg6 harg6 arg7 harg7 arg8 harg8 arg9 harg9 hc0 hc1 x0 x1 x2 x3 x4 x5 x6 = k0_pay1 x1 x5 x3 x6 x0 := by
  unfold out0_A_7
  dsimp only [kernelRun0_A]
  rw [View.read_writes_full, View.readAt_full, harg3.read_unread, View.readAt_full, harg7.read_unread, View.readAt_full, harg5.read_unread,
    View.readAt_full, harg8.read_unread, View.readAt_full, harg2.read_unread]

theorem sample_block (hc0 : ¬cond0_0 i) (hc1 : cond0_1 i) :
    out0_B_7 c i arg2 harg2 arg3 harg3 arg4 harg4 arg5 harg5 arg6 harg6 arg7 harg7 arg8 harg8 arg9 harg9 hc0 hc1 x0 x1 x2 x3 x4 x5 x6 = k0_pay2 x2 x5 x4 x6 x0 := by
  unfold out0_B_7
  dsimp only [kernelRun0_B]
  rw [View.read_writes_full, View.readAt_full, harg4.read_unread, View.readAt_full, harg7.read_unread, View.readAt_full, harg6.read_unread,
    View.readAt_full, harg8.read_unread, View.readAt_full, harg2.read_unread]

end

end Cert.Kernel8Ideal.Out

end
-- ==== Proof.OutValue.lean ====
module

public import proofs.«01_k».proof.Proof.OutTile

@[expose] public section

set_option maxRecDepth 16384

/-! The second layer's output projection: the array after its last point. -/

noncomputable section

namespace Cert.Kernel8Ideal.Out

open Cert.Kernel8Ideal Cert.Kernel8Ideal.Gen
open Idealize.ShloMosaic Idealize.ShloMosaic.TcCoe
open Idealize.ShloMosaic.Pipeline (Dat Cfg Window cellOf)

variable (m : (ℓ : Loc nD τ sig) → Buf (Elt Ideal) ℓ) (c : Dev nD)

theorem points (t : Fin cfg0.N) : t.val < 17 := lt_of_lt_of_eq t.isLt N_0

theorem index0 : ∀ t : Fin cfg0.N, win0_0.index t = ![t.val, 0] :=
  (by decide +kernel : ∀ t : Fin grid0.N, win0_0.index t = ![t.val, 0])
theorem index1 : ∀ t : Fin cfg0.N, win0_1.index t = ![min t.val 15, 0] :=
  (by decide +kernel : ∀ t : Fin grid0.N, win0_1.index t = ![min t.val 15, 0])
theorem index2 : ∀ t : Fin cfg0.N, win0_2.index t = ![0, 0] :=
  (by decide +kernel : ∀ t : Fin grid0.N, win0_2.index t = ![0, 0])
theorem index3 : ∀ t : Fin cfg0.N, win0_3.index t = ![min t.val 15, 0] :=
  (by decide +kernel : ∀ t : Fin grid0.N, win0_3.index t = ![min t.val 15, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![3, 0] :=
  (by decide +kernel : ∀ t : Fin grid0.N, win0_6.index t = ![3, 0])
theorem index7 : ∀ t : Fin cfg0.N, win0_7.index t = ![t.val, 0] :=
  (by decide +kernel : ∀ t : Fin grid0.N, win0_7.index t = ![t.val, 0])

/-- The prompt's entries and after them the sample's. -/
def row {n : ℕ} (a : (⟨2, ![8192, n]⟩ : Shape).Idx → EReal) (b : (⟨2, ![512, n]⟩ : Shape).Idx → EReal) (r : Fin 8704) (k : Fin n) : EReal :=
  if h : r.val < 8192 then a (ix2 ⟨r.val, h⟩ k) else b (ix2 ⟨r.val - 8192, by omega⟩ k)

/-- The weights as the host prepares them. -/
theorem prepared (a5 : FVec Ideal S2x2048x2048 .f32) (k : Fin 2048) (n : Fin 2048) :
    ((truncf .bf16 (shapeCast S2048x2048 (extractStridedSlice S1x2048x2048 ![1, 0, 0] a5 slices_S2x2048x2048_S1x2048x2048_1_0_0) shapeCasts_S1x2048x2048_S2048x2048) bitsLt_bf16_f32 : FVec Ideal S2048x2048 .bf16) (ix2 k n) : EReal) = a5 (ix3 1 k n) := by
  show (shapeCast S2048x2048 (extractStridedSlice S1x2048x2048 ![1, 0, 0] a5 slices_S2x2048x2048_S1x2048x2048_1_0_0) shapeCasts_S1x2048x2048_S2048x2048 (ix2 k n) : EReal) = _
  pointwise []

section
variable (a0 : FVec Ideal S8704x2048 .f32) (a1 : FVec Ideal S8192x1536 .bf16) (a2 : FVec Ideal S512x1536 .bf16) (a3 : FVec Ideal S8192x512 .bf16) (a4 : FVec Ideal S512x512 .bf16) (a5 : FVec Ideal S2x2048x2048 .f32)
  (h0 : m ((c.tc : Thread nD τ).loc main_arg0) = a0) (h1 : m ((c.tc : Thread nD τ).loc main_arg1) = a1)
  (h2 : m ((c.tc : Thread nD τ).loc main_arg2) = a2) (h3 : m ((c.tc : Thread nD τ).loc main_arg3) = a3)
  (h4 : m ((c.tc : Thread nD τ).loc main_arg4) = a4) (h5 : m ((c.tc : Thread nD τ).loc main_arg5) = a5)

include h5 in
theorem weights (k : Fin 2048) (n : Fin 2048) : (V m c main_v2 (ix2 k n) : EReal) = a5 (ix3 1 k n) := by
  have e : V m c main_v2 = (truncf .bf16 (shapeCast S2048x2048 (extractStridedSlice S1x2048x2048 ![1, 0, 0] (m ((c.tc : Thread nD τ).loc main_arg5) : FVec Ideal S2x2048x2048 .f32) slices_S2x2048x2048_S1x2048x2048_1_0_0) shapeCasts_S1x2048x2048_S2048x2048) bitsLt_bf16_f32 : FVec Ideal S2048x2048 .bf16) := by
    unfold V hostOps0
    after_results_simp <;> rfl
  rw [e, h5]
  exact prepared a5 k n

/-! ## The blocks -/

variable (t : Fin cfg0.N)

include h0 in
theorem rows_block (i : Fin 512) (n : Fin 2048) :
    (iblk m c 0 t (ix2 i n) : EReal) = a0 (ix2 ⟨t.val * 512 + i.val, by have := points t; omega⟩ n) := by
  unfold iblk
  blk_simp
  rw [show V m c (Pipeline.arrRef spec0 0) = a0 from (V_main_arg0 m c).trans h0]
  congr 1
  funext a
  apply Fin.ext
  refine (Pipeline.Window.rect_emb_val win0_0 t _ a).trans ?_
  rw [index0]
  match a with
  | 0 => rfl
  | 1 => show 0 * 2048 + n.val = n.val; omega

include h1 in
theorem prompt_mix (ht : t.val < 16) (i : Fin 512) (k : Fin 1536) :
    (iblk m c 1 t (ix2 i k) : EReal) = row a1 a2 ⟨t.val * 512 + i.val, by omega⟩ k := by
  unfold row
  rw [dif_pos (show t.val * 512 + i.val < 8192 by omega)]
  unfold iblk
  blk_simp
  rw [show V m c (Pipeline.arrRef spec0 1) = a1 from (V_main_arg1 m c).trans h1]
  congr 1
  funext a
  apply Fin.ext
  refine (Pipeline.Window.rect_emb_val win0_1 t _ a).trans ?_
  rw [index1]
  match a with
  | 0 => show min t.val 15 * 512 + i.val = t.val * 512 + i.val; omega
  | 1 => show 0 * 1536 + k.val = k.val; omega

include h2 in
theorem sample_mix (ht : t.val = 16) (i : Fin 512) (k : Fin 1536) :
    (iblk m c 2 t (ix2 i k) : EReal) = row a1 a2 ⟨t.val * 512 + i.val, by omega⟩ k := by
  unfold row
  rw [dif_neg (show ¬ t.val * 512 + i.val < 8192 by omega)]
  unfold iblk
  blk_simp
  rw [show V m c (Pipeline.arrRef spec0 2) = a2 from (V_main_arg2 m c).trans h2]
  congr 1
  funext a
  apply Fin.ext
  refine (Pipeline.Window.rect_emb_val win0_2 t _ a).trans ?_
  rw [index2]
  match a with
  | 0 => show 0 * 512 + i.val = t.val * 512 + i.val - 8192; omega
  | 1 => show 0 * 1536 + k.val = k.val; omega

include h3 in
theorem prompt_memory (ht : t.val < 16) (i : Fin 512) (k : Fin 512) :
    (iblk m c 3 t (ix2 i k) : EReal) = row a3 a4 ⟨t.val * 512 + i.val, by omega⟩ k := by
  unfold row
  rw [dif_pos (show t.val * 512 + i.val < 8192 by omega)]
  unfold iblk
  blk_simp
  rw [show V m c (Pipeline.arrRef spec0 3) = a3 from (V_main_arg3 m c).trans h3]
  congr 1
  funext a
  apply Fin.ext
  refine (Pipeline.Window.rect_emb_val win0_3 t _ a).trans ?_
  rw [index3]
  match a with
  | 0 => show min t.val 15 * 512 + i.val = t.val * 512 + i.val; omega
  | 1 => show 0 * 512 + k.val = k.val; omega

include h4 in
theorem sample_memory (ht : t.val = 16) (i : Fin 512) (k : Fin 512) :
    (iblk m c 4 t (ix2 i k) : EReal) = row a3 a4 ⟨t.val * 512 + i.val, by omega⟩ k := by
  unfold row
  rw [dif_neg (show ¬ t.val * 512 + i.val < 8192 by omega)]
  unfold iblk
  blk_simp
  rw [show V m c (Pipeline.arrRef spec0 4) = a4 from (V_main_arg4 m c).trans h4]
  congr 1
  funext a
  apply Fin.ext
  refine (Pipeline.Window.rect_emb_val win0_4 t _ a).trans ?_
  rw [index4]
  match a with
  | 0 => show 0 * 512 + i.val = t.val * 512 + i.val - 8192; omega
  | 1 => show 0 * 512 + k.val = k.val; omega

include h5 in
theorem upper_weights (k : Fin 1536) (n : Fin 2048) : (X0_5 m c t (ix2 k n) : EReal) = a5 (ix3 1 ⟨k.val, by omega⟩ n) := by
  refine Eq.trans ?_ (weights m c a5 h5 _ n)
  unfold X0_5 Pipeline.Window.fill
  rw [dif_pos (moved0_5 t _)]
  unfold iblk
  blk_simp
  refine congrArg (V m c main_v2) (funext fun a => Fin.ext ?_)
  have e := Pipeline.Window.rect_emb_val win0_5 t
  match a with
  | 0 =>
    refine (e _ 0).trans ?_
    rw [index5]
    show 0 * 1536 + k.val = k.val
    omega
  | 1 =>
    refine (e _ 1).trans ?_
    rw [index5]
    show 0 * 2048 + n.val = n.val
    omega

include h5 in
theorem lower_weights (k : Fin 512) (n : Fin 2048) : (iblk m c 6 t (ix2 k n) : EReal) = a5 (ix3 1 ⟨1536 + k.val, by omega⟩ n) := by
  refine Eq.trans ?_ (weights m c a5 h5 _ n)
  unfold iblk
  blk_simp
  refine congrArg (V m c main_v2) (funext fun a => Fin.ext ?_)
  refine (Pipeline.Window.rect_emb_val win0_6 t _ a).trans ?_
  rw [index6]
  match a with
  | 0 => rfl
  | 1 => show 0 * 2048 + n.val = n.val; omega

include h0 h1 h2 h3 h4 h5 in
/-- What each point leaves. -/
theorem left (i : Fin 512) (n : Fin 2048) :
    (outsAt0 m c t.val t.isLt (ix2 i n) : EReal)
      = a0 (ix2 ⟨t.val * 512 + i.val, by have := points t; omega⟩ n)
        + (∑ k : Fin 1536, row a1 a2 ⟨t.val * 512 + i.val, by have := points t; omega⟩ k * a5 (ix3 1 ⟨k.val, by omega⟩ n)
          + ∑ k : Fin 512, row a3 a4 ⟨t.val * 512 + i.val, by have := points t; omega⟩ k * a5 (ix3 1 ⟨1536 + k.val, by omega⟩ n)) := by
  have ht := points t
  by_cases hs : t.val < 16
  · rw [outsAt0_A m c t (by omega) (by omega), prompt_block, prompt_at]
    simp only [rows_block m c a0 h0 t, prompt_mix m c a1 a2 h1 t hs, prompt_memory m c a3 a4 h3 t hs, upper_weights m c a5 h5 t, lower_weights m c a5 h5 t]
  · rw [outsAt0_B m c t (by omega) (by omega), sample_block, sample_at]
    simp only [rows_block m c a0 h0 t, sample_mix m c a1 a2 h2 t (by omega), sample_memory m c a3 a4 h4 t (by omega), upper_weights m c a5 h5 t, lower_weights m c a5 h5 t]

include h0 h1 h2 h3 h4 h5 in
/-- The array after the last point. -/
theorem array (R : FVec Ideal S8704x2048 .f32)
    (hr : ∀ (r : Fin 8704) (n : Fin 2048), (R (ix2 r n) : EReal) = a0 (ix2 r n)
      + (∑ k : Fin 1536, row a1 a2 r k * a5 (ix3 1 ⟨k.val, by omega⟩ n) + ∑ k : Fin 512, row a3 a4 r k * a5 (ix3 1 ⟨1536 + k.val, by omega⟩ n))) :
    (dats m 0 c).arrAt 7 cfg0.N = R := by
  refine (dats m 0 c).arrAt_eq_of_covers 7 _ (by decide +kernel) fun t hf y => ?_
  blk_simp
  rw [after0_7]
  have ht := points t
  have hy0 : (y 0 : ℕ) < 512 := (y 0).isLt
  have hy1 : (y 1 : ℕ) < 2048 := (y 1).isLt
  have eo : (win0_7.blk t).view.emb y = ix2 ⟨t.val * 512 + (y 0 : ℕ), by omega⟩ ⟨(y 1 : ℕ), hy1⟩ := by
    funext a
    apply Fin.ext
    refine (Pipeline.Window.rect_emb_val win0_7 t y a).trans ?_
    rw [index7]
    match a with
    | 0 => rfl
    | 1 => show 0 * 2048 + (y 1 : ℕ) = (y 1 : ℕ); omega
  refine Eq.trans ?_ (congrArg R eo).symm
  have ey : y = ix2 ⟨(y 0 : ℕ), hy0⟩ ⟨(y 1 : ℕ), hy1⟩ := by
    funext a
    match a with
    | 0 => rfl
    | 1 => rfl
  refine (congrArg _ ey).trans ?_
  exact (left m c a0 a1 a2 a3 a4 a5 h0 h1 h2 h3 h4 h5 t _ _).trans (hr _ _).symm

end

end Cert.Kernel8Ideal.Out

end
-- ==== Proof.OutRef.lean ====
module

public import proofs.«01_k».proof.Proof.Gen.Reference8Ideal.Run
public import Idealize.ShloMosaic.Lib.Pointwise
public import Idealize.ShloMosaic.Lib.Pipeline.Value

@[expose] public section

set_option maxRecDepth 16384

/-! The reference of the second layer's output projection at an index. -/

noncomputable section

namespace Cert.Reference8Ideal.Out

open Cert.Reference8Ideal Cert.Reference8Ideal.Gen Cert.Reference8Ideal.Value
open Idealize.ShloMosaic Idealize.ShloMosaic.TcCoe

variable (a0 : FVec Ideal S8704x2048 .f32) (a1 : FVec Ideal S8192x1536 .bf16) (a2 : FVec Ideal S512x1536 .bf16) (a3 : FVec Ideal S8192x512 .bf16) (a4 : FVec Ideal S512x512 .bf16) (a5 : FVec Ideal S2x2048x2048 .f32)

/-- The mixer's outputs, the prompt's rows and after them the sample's. -/
abbrev mixed : FVec Ideal S8704x1536 .f32 := extf .f32 (concatenate S8704x1536 0 [⟨S8192x1536, a1⟩, ⟨S512x1536, a2⟩] concatenates_S8192x1536_S512x1536_S8704x1536_d0) bitsLt_bf16_f32

/-- The memory attention's outputs, likewise. -/
abbrev recalled : FVec Ideal S8704x512 .f32 := extf .f32 (concatenate S8704x512 0 [⟨S8192x512, a3⟩, ⟨S512x512, a4⟩] concatenates_S8192x512_S512x512_S8704x512_d0) bitsLt_bf16_f32

/-- Both side by side. -/
abbrev joined (u : FVec Ideal S8704x1536 .f32) (v : FVec Ideal S8704x512 .f32) : FVec Ideal S8704x2048 .f32 :=
  concatenate S8704x2048 1 [⟨S8704x1536, u⟩, ⟨S8704x512, v⟩] concatenates_S8704x1536_S8704x512_S8704x2048_d1

/-- The reference's result. -/
abbrev result : FVec Ideal S8704x2048 .f32 :=
  addf a0 (Host.dotGeneral dot_S8704x2048_S2048x2048_S8704x2048_1_0_0_1_n_n none (joined (mixed a1 a2) (recalled a3 a4)) (shapeCast _ (extractStridedSlice S1x2048x2048 ![1, 0, 0] a5 slices_S2x2048x2048_S1x2048x2048_1_0_0) shapeCasts_S1x2048x2048_S2048x2048))

theorem mixed_at (r : Fin 8704) (k : Fin 1536) :
    (mixed a1 a2 (ix2 r k) : EReal) = if h : r.val < 8192 then a1 (ix2 ⟨r.val, h⟩ k) else a2 (ix2 ⟨r.val - 8192, by omega⟩ k) := by
  unfold mixed
  pointwise []

theorem recalled_at (r : Fin 8704) (k : Fin 512) :
    (recalled a3 a4 (ix2 r k) : EReal) = if h : r.val < 8192 then a3 (ix2 ⟨r.val, h⟩ k) else a4 (ix2 ⟨r.val - 8192, by omega⟩ k) := by
  unfold recalled
  pointwise []

theorem joined_left (u : FVec Ideal S8704x1536 .f32) (v : FVec Ideal S8704x512 .f32) (r : Fin 8704) (k : Fin 1536) :
    (joined u v (ix2 r ⟨k.val, by omega⟩) : EReal) = u (ix2 r k) := by
  unfold joined
  pointwise []

theorem joined_right (u : FVec Ideal S8704x1536 .f32) (v : FVec Ideal S8704x512 .f32) (r : Fin 8704) (k : Fin 512) :
    (joined u v (ix2 r ⟨1536 + k.val, by omega⟩) : EReal) = v (ix2 r k) := by
  unfold joined
  pointwise []

/-- The product, for any rows. -/
theorem product_at (x : FVec Ideal S8704x2048 .f32) (r : Fin 8704) (n : Fin 2048) :
    ((addf a0 (Host.dotGeneral dot_S8704x2048_S2048x2048_S8704x2048_1_0_0_1_n_n none x (shapeCast _ (extractStridedSlice S1x2048x2048 ![1, 0, 0] a5 slices_S2x2048x2048_S1x2048x2048_1_0_0) shapeCasts_S1x2048x2048_S2048x2048)) : FVec Ideal S8704x2048 .f32) (ix2 r n) : EReal)
      = a0 (ix2 r n) + ∑ k : Fin 2048, (x (ix2 r k) : EReal) * a5 (ix3 1 k n) := by
  pointwise []

/-- A sum over the joined columns is the sum over each part's. -/
theorem sum_parts (f : Fin 2048 → EReal) : ∑ k, f k = ∑ k : Fin 1536, f ⟨k.val, by omega⟩ + ∑ k : Fin 512, f ⟨1536 + k.val, by omega⟩ :=
  Fin.sum_univ_add (a := 1536) (b := 512) f

theorem result_at (r : Fin 8704) (n : Fin 2048) :
    (result a0 a1 a2 a3 a4 a5 (ix2 r n) : EReal) = a0 (ix2 r n)
      + (∑ k : Fin 1536, (if h : r.val < 8192 then a1 (ix2 ⟨r.val, h⟩ k) else a2 (ix2 ⟨r.val - 8192, by omega⟩ k)) * a5 (ix3 1 ⟨k.val, by omega⟩ n)
        + ∑ k : Fin 512, (if h : r.val < 8192 then a3 (ix2 ⟨r.val, h⟩ k) else a4 (ix2 ⟨r.val - 8192, by omega⟩ k)) * a5 (ix3 1 ⟨1536 + k.val, by omega⟩ n)) := by
  refine (product_at a0 a5 _ r n).trans (congrArg (HAdd.hAdd _) ((sum_parts _).trans ?_))
  simp only [joined_left, joined_right, mixed_at, recalled_at]

end Cert.Reference8Ideal.Out

end
-- ==== Proof.InTile.lean ====
module

public import proofs.«01_k».proof.Proof.MlpSpec
public import proofs.«01_k».proof.Proof.Gen.Kernel9Ideal.Value
public import Idealize.ShloMosaic.Lib.Pointwise
public import Idealize.ShloMosaic.Lib.VecWindow
public import Idealize.ShloMosaic.Lib.Pipeline.ValueKit.Point

@[expose] public section

set_option maxRecDepth 16384

/-! What the first layer's input projection computes at a point: rows normalized (kept for the second half of the columns) and through the weights. -/

noncomputable section

namespace Cert.Kernel9Ideal.In

open Cert.Kernel9Ideal Cert.Kernel9Ideal.Gen Cert.Mlp
open Idealize.ShloMosaic Idealize.ShloMosaic.TcCoe

theorem prompt_at (x : Vec Ideal S512x2048 .f32) (g : Vec Ideal S1x2048 .f32) (i : Fin 512) (n : Fin 2048) :
    (k0_pay1 x g (ix2 i n) : EReal) = normed (fun k => x (ix2 i k)) (fun k => g (ix2 0 k)) n := by
  pointwise [k0_pay1]
  rfl

theorem sample_at (x : Vec Ideal S512x2048 .f32) (g : Vec Ideal S1x2048 .f32) (i : Fin 512) (n : Fin 2048) :
    (k0_pay2 x g (ix2 i n) : EReal) = normed (fun k => x (ix2 i k)) (fun k => g (ix2 0 k)) n := by
  pointwise [k0_pay2]
  rfl

theorem product_at (h : Vec Ideal S512x2048 .bf16) (w : Vec Ideal S2048x1792 .bf16) (i : Fin 512) (n : Fin 1792) :
    (k0_pay3 h w (ix2 i n) : EReal) = ∑ k, (h (ix2 i k) : EReal) * w (ix2 k n) := by
  pointwise [k0_pay3]

section
variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x1792 .bf16) (harg5 : arg5.IsWhole) (arg6 : Memref sig .tc .vmem S512x1792 .f32) (harg6 : arg6.IsWhole) (arg7 : Memref sig .tc .vmem S512x2048 .bf16) (harg7 : arg7.IsWhole)
  (x0 x1 : Vec Ideal S512x2048 .f32) (x2 : Vec Ideal S1x2048 .f32) (x3 : Vec Ideal S2048x1792 .bf16) (xs : Vec Ideal S512x2048 .bf16)

theorem prompt_kept (hc0 : cond0_0 i) (hc1 : ¬cond0_1 i) :
    sout0_A_0 c i arg2 harg2 arg3 harg3 arg4 harg4 arg5 harg5 arg6 harg6 arg7 harg7 hc0 hc1 x0 x1 x2 x3 = k0_pay1 x0 x2 := by
  unfold sout0_A_0
  dsimp only [kernelRun0_A]
  unfold kernelRun0_A.sl.HS0_1
  rw [View.read_writes_full, View.readAt_full, harg2.read_unread, View.readAt_full, harg4.read_unread]

theorem prompt_block (hc0 : cond0_0 i) (hc1 : ¬cond0_1 i) :
    out0_A_4 c i arg2 harg2 arg3 harg3 arg4 harg4 arg5 harg5 arg6 harg6 arg7 harg7 hc0 hc1 x0 x1 x2 x3 = k0_pay3 (k0_pay1 x0 x2) x3 := by
  unfold out0_A_4
  dsimp only [kernelRun0_A]
  unfold kernelRun0_A.sl.v10 kernelRun0_A.sl.HS0_1
  rw [View.read_writes_full, View.readCov_full, View.readAt_full, harg2.read_unread, View.readAt_full, harg4.read_unread, View.readAt_full, harg5.read_unread]

theorem sample_kept (hc0 : ¬cond0_0 i) (hc1 : cond0_1 i) :
    sout0_C_0 c i arg2 harg2 arg3 harg3 arg4 harg4 arg5 harg5 arg6 harg6 arg7 harg7 hc0 hc1 x0 x1 x2 x3 = k0_pay2 x1 x2 := by
  unfold sout0_C_0
  dsimp only [kernelRun0_C]
  unfold kernelRun0_C.sl.HS0_1
  rw [View.read_writes_full, View.readAt_full, harg3.read_unread, View.readAt_full, harg4.read_unread]

theorem sample_block (hc0 : ¬cond0_0 i) (hc1 : cond0_1 i) :
    out0_C_4 c i arg2 harg2 arg3 harg3 arg4 harg4 arg5 harg5 arg6 harg6 arg7 harg7 hc0 hc1 x0 x1 x2 x3 = k0_pay3 (k0_pay2 x1 x2) x3 := by
  unfold out0_C_4
  dsimp only [kernelRun0_C]
  unfold kernelRun0_C.sl.v10 kernelRun0_C.sl.HS0_1
  rw [View.read_writes_full, View.readCov_full, View.readAt_full, harg3.read_unread, View.readAt_full, harg4.read_unread, View.readAt_full, harg5.read_unread]

theorem kept_block (hc0 : ¬cond0_0 i) (hc1 : ¬cond0_1 i) :
    out0_B_4 c i arg2 harg2 arg3 harg3 arg4 harg4 arg5 harg5 arg6 harg6 arg7 harg7 hc0 hc1 x0 x1 x2 x3 xs = k0_pay3 xs x3 := by
  unfold out0_B_4
  dsimp only [kernelRun0_B]
  rw [View.read_writes_full, View.readAt_full, harg7.read_unread, View.readAt_full, harg5.read_unread]

end

end Cert.Kernel9Ideal.In

end
-- ==== Proof.InValue.lean ====
module

public import proofs.«01_k».proof.Proof.InTile

@[expose] public section

set_option maxRecDepth 16384

/-! The first layer's input projection: the array after its last point. -/

noncomputable section

namespace Cert.Kernel9Ideal.In

open Cert.Kernel9Ideal Cert.Kernel9Ideal.Gen Cert.Mlp
open Idealize.ShloMosaic Idealize.ShloMosaic.TcCoe
open Idealize.ShloMosaic.Pipeline (Dat Cfg Window cellOf)

variable (m : (ℓ : Loc nD τ sig) → Buf (Elt Ideal) ℓ) (c : Dev nD)

theorem points (t : Fin cfg0.N) : t.val < 34 := lt_of_lt_of_eq t.isLt N_0

theorem index0 : ∀ t : Fin cfg0.N, win0_0.index t = ![min (t.val / 2) 15, 0] :=
  (by decide +kernel : ∀ t : Fin grid0.N, win0_0.index t = ![min (t.val / 2) 15, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, t.val % 2] :=
  (by decide +kernel : ∀ t : Fin grid0.N, win0_3.index t = ![0, t.val % 2])
theorem index4 : ∀ t : Fin cfg0.N, win0_4.index t = ![t.val / 2, t.val % 2] :=
  (by decide +kernel : ∀ t : Fin grid0.N, win0_4.index t = ![t.val / 2, t.val % 2])

/-- The prompt's rows and after them the sample's. -/
def row (a0 : FVec Ideal S8192x2048 .f32) (a1 : FVec Ideal S512x2048 .f32) (r : Fin 8704) (k : Fin 2048) : EReal :=
  if h : r.val < 8192 then a0 (ix2 ⟨r.val, h⟩ k) else a1 (ix2 ⟨r.val - 8192, by omega⟩ k)

section
variable (a0 : FVec Ideal S8192x2048 .f32) (a1 : FVec Ideal S512x2048 .f32) (a2 : FVec Ideal S2x2048 .f32) (a3 : FVec Ideal S1x2048x3584 .f32)
  (h0 : m ((c.tc : Thread nD τ).loc main_arg0) = a0) (h1 : m ((c.tc : Thread nD τ).loc main_arg1) = a1)
  (h2 : m ((c.tc : Thread nD τ).loc main_arg2) = a2) (h3 : m ((c.tc : Thread nD τ).loc main_arg3) = a3)

/-- The weights as the host prepares them. -/
theorem truncated (a3 : FVec Ideal S1x2048x3584 .f32) (k : Fin 2048) (n : Fin 3584) :
    ((truncf .bf16 (shapeCast S2048x3584 a3 shapeCasts_S1x2048x3584_S2048x3584) bitsLt_bf16_f32 : FVec Ideal S2048x3584 .bf16) (ix2 k n) : EReal) = a3 (ix3 0 k n) := by
  show (shapeCast S2048x3584 a3 shapeCasts_S1x2048x3584_S2048x3584 (ix2 k n) : EReal) = _
  pointwise []

include h2 in
theorem scales (n : Fin 2048) : (V m c main_v4 (ix2 0 n) : EReal) = a2 (ix2 0 n) := by
  have e : V m c main_v4 = shapeCast S1x2048 (shapeCast S2048 (extractStridedSlice S1x2048 ![0, 0] (m ((c.tc : Thread nD τ).loc main_arg2) : FVec Ideal S2x2048 .f32) slices_S2x2048_S1x2048_0_0) shapeCasts_S1x2048_S2048) shapeCasts_S2048_S1x2048 := by
    unfold V hostOps0
    after_results_simp <;> rfl
  rw [e, h2]
  pointwise []

include h3 in
theorem weights (k : Fin 2048) (n : Fin 3584) : (V m c main_v3 (ix2 k n) : EReal) = a3 (ix3 0 k n) := by
  have e : V m c main_v3 = (truncf .bf16 (shapeCast S2048x3584 (m ((c.tc : Thread nD τ).loc main_arg3) : FVec Ideal S1x2048x3584 .f32) shapeCasts_S1x2048x3584_S2048x3584) bitsLt_bf16_f32 : FVec Ideal S2048x3584 .bf16) := by
    unfold V hostOps0
    after_results_simp <;> rfl
  rw [e, h3]
  exact truncated a3 k n

/-! ## The blocks -/

variable (t : Fin cfg0.N)

include h0 in
theorem prompt_rows (ht : t.val < 32) (i : Fin 512) (k : Fin 2048) :
    (iblk m c 0 t (ix2 i k) : EReal) = row a0 a1 ⟨t.val / 2 * 512 + i.val, by omega⟩ k := by
  unfold row
  rw [dif_pos (show t.val / 2 * 512 + i.val < 8192 by omega)]
  unfold iblk
  blk_simp
  rw [show V m c (Pipeline.arrRef spec0 0) = a0 from (V_main_arg0 m c).trans h0]
  congr 1
  funext a
  apply Fin.ext
  refine (Pipeline.Window.rect_emb_val win0_0 t _ a).trans ?_
  rw [index0]
  match a with
  | 0 => show min (t.val / 2) 15 * 512 + i.val = t.val / 2 * 512 + i.val; omega
  | 1 => show 0 * 2048 + k.val = k.val; omega

include h1 in
theorem sample_rows (ht : t.val / 2 = 16) (i : Fin 512) (k : Fin 2048) :
    (iblk m c 1 t (ix2 i k) : EReal) = row a0 a1 ⟨t.val / 2 * 512 + i.val, by omega⟩ k := by
  unfold row
  rw [dif_neg (show ¬ t.val / 2 * 512 + i.val < 8192 by omega)]
  unfold iblk
  blk_simp
  rw [show V m c (Pipeline.arrRef spec0 1) = a1 from (V_main_arg1 m c).trans h1]
  congr 1
  funext a
  apply Fin.ext
  refine (Pipeline.Window.rect_emb_val win0_1 t _ a).trans ?_
  rw [index1]
  match a with
  | 0 => show 0 * 512 + i.val = t.val / 2 * 512 + i.val - 8192; omega
  | 1 => show 0 * 2048 + k.val = k.val; omega

include h2 in
theorem scales_block (n : Fin 2048) : (iblk m c 2 t (ix2 0 n) : EReal) = a2 (ix2 0 n) := by
  refine Eq.trans ?_ (scales m c a2 h2 n)
  unfold iblk
  blk_simp
  refine congrArg (V m c main_v4) (funext fun a => Fin.ext ?_)
  refine (Pipeline.Window.rect_emb_val win0_2 t _ a).trans ?_
  rw [index2]
  match a with
  | 0 => rfl
  | 1 => show 0 * 2048 + n.val = n.val; omega

include h3 in
theorem weights_block (k : Fin 2048) (n : Fin 1792) : (iblk m c 3 t (ix2 k n) : EReal) = a3 (ix3 0 k ⟨t.val % 2 * 1792 + n.val, by omega⟩) := by
  refine Eq.trans ?_ (weights m c a3 h3 k _)
  unfold iblk
  blk_simp
  refine congrArg (V m c main_v3) (funext fun a => Fin.ext ?_)
  refine (Pipeline.Window.rect_emb_val win0_3 t _ a).trans ?_
  rw [index3]
  match a with
  | 0 => show 0 * 2048 + k.val = k.val; omega
  | 1 => rfl

/-! ## What the points leave -/

include h0 h1 h2 in
/-- At the first of a row block's two points its rows are kept normalized. -/
theorem kept (he : t.val % 2 = 0) (i : Fin 512) (k : Fin 2048) :
    ((outsAt0 m c t.val t.isLt).2 (ix2 i k) : EReal) = normed (row a0 a1 ⟨t.val / 2 * 512 + i.val, by have := points t; omega⟩) (fun k => a2 (ix2 0 k)) k := by
  have ht := points t
  by_cases hs : t.val = 32
  · rw [outsAt0_C m c t (by omega) (by omega)]
    dsimp only
    rw [sample_kept, sample_at]
    simp only [sample_rows m c a0 a1 h1 t (by omega), scales_block m c a2 h2 t]
  · rw [outsAt0_A m c t (by omega) (by omega)]
    dsimp only
    rw [prompt_kept, prompt_at]
    simp only [prompt_rows m c a0 a1 h0 t (by omega), scales_block m c a2 h2 t]

include h0 h1 h2 h3 in
/-- Each point leaves its rows through its columns of the weights. -/
theorem left (i : Fin 512) (n : Fin 1792) :
    ((outsAt0 m c t.val t.isLt).1 (ix2 i n) : EReal)
      = ∑ k, normed (row a0 a1 ⟨t.val / 2 * 512 + i.val, by have := points t; omega⟩) (fun k => a2 (ix2 0 k)) k * a3 (ix3 0 k ⟨t.val % 2 * 1792 + n.val, by omega⟩) := by
  have ht := points t
  by_cases he : t.val % 2 = 0
  · by_cases hs : t.val = 32
    · rw [outsAt0_C m c t (by omega) (by omega)]
      dsimp only
      rw [sample_block, product_at]
      simp only [sample_at, sample_rows m c a0 a1 h1 t (by omega), scales_block m c a2 h2 t, weights_block m c a3 h3 t]
    · rw [outsAt0_A m c t (by omega) (by omega)]
      dsimp only
      rw [prompt_block, product_at]
      simp only [prompt_at, prompt_rows m c a0 a1 h0 t (by omega), scales_block m c a2 h2 t, weights_block m c a3 h3 t]
  · rw [outsAt0_B m c t (by omega) (by omega)]
    dsimp only
    rw [kept_block, product_at]
    have hk := kept m c a0 a1 a2 h0 h1 h2 ⟨t.val - 1, Nat.lt_of_le_of_lt (Nat.sub_le _ _) t.isLt⟩ (show (t.val - 1) % 2 = 0 by omega) i
    dsimp only at hk
    simp only [hk, weights_block m c a3 h3 t]
    have e : (⟨(t.val - 1) / 2 * 512 + i.val, by omega⟩ : Fin 8704) = ⟨t.val / 2 * 512 + i.val, by omega⟩ :=
      Fin.ext (show (t.val - 1) / 2 * 512 + i.val = t.val / 2 * 512 + i.val by omega)
    rw [e]

include h0 h1 h2 h3 in
/-- The array after the last point. -/
theorem array (R : FVec Ideal S8704x3584 .f32)
    (hr : ∀ (r : Fin 8704) (n : Fin 3584), (R (ix2 r n) : EReal) = ∑ k, normed (row a0 a1 r) (fun k => a2 (ix2 0 k)) k * a3 (ix3 0 k n)) :
    (dats m 0 c).arrAt 4 cfg0.N = R := by
  refine (dats m 0 c).arrAt_eq_of_covers 4 _ (by decide +kernel) fun t hf y => ?_
  blk_simp
  rw [after0_4]
  have ht := points t
  have hy0 : (y 0 : ℕ) < 512 := (y 0).isLt
  have hy1 : (y 1 : ℕ) < 1792 := (y 1).isLt
  have eo : (win0_4.blk t).view.emb y = ix2 ⟨t.val / 2 * 512 + (y 0 : ℕ), by omega⟩ ⟨t.val % 2 * 1792 + (y 1 : ℕ), by omega⟩ := by
    funext a
    apply Fin.ext
    refine (Pipeline.Window.rect_emb_val win0_4 t y a).trans ?_
    rw [index4]
    match a with
    | 0 => rfl
    | 1 => rfl
  refine Eq.trans ?_ (congrArg R eo).symm
  have ey : y = ix2 ⟨(y 0 : ℕ), hy0⟩ ⟨(y 1 : ℕ), hy1⟩ := by
    funext a
    match a with
    | 0 => rfl
    | 1 => rfl
  refine (congrArg _ ey).trans ?_
  exact (left m c a0 a1 a2 a3 h0 h1 h2 h3 t _ _).trans (hr _ _).symm

end

end Cert.Kernel9Ideal.In

end
-- ==== Proof.InRef.lean ====
module

public import proofs.«01_k».proof.Proof.MlpSpec
public import proofs.«01_k».proof.Proof.Gen.Reference9Ideal.Run
public import Idealize.ShloMosaic.Lib.Pointwise
public import Idealize.ShloMosaic.Lib.Pipeline.Value

@[expose] public section

set_option maxRecDepth 16384

/-! The reference of the first layer's input projection at an index. -/

noncomputable section

namespace Cert.Reference9Ideal.In

open Cert.Reference9Ideal Cert.Reference9Ideal.Gen Cert.Reference9Ideal.Value Cert.Mlp
open Idealize.ShloMosaic Idealize.ShloMosaic.TcCoe

variable (a0 : FVec Ideal S8192x2048 .f32) (a1 : FVec Ideal S512x2048 .f32) (a2 : FVec Ideal S2x2048 .f32) (a3 : FVec Ideal S1x2048x3584 .f32)

/-- The prompt's rows and after them the sample's. -/
abbrev rows : FVec Ideal S8704x2048 .f32 := concatenate S8704x2048 0 [⟨S8192x2048, a0⟩, ⟨S512x2048, a1⟩] concatenates_S8192x2048_S512x2048_S8704x2048_d0

/-- The reference's result. -/
abbrev result : FVec Ideal S8704x3584 .f32 :=
  Host.dotGeneral dot_S8704x2048_S2048x3584_S8704x3584_1_0_0_1_n_n none (mulf (mulf (rows a0 a1) (broadcastInDim S8704x2048 ![0, 1] bcast_S8704x1_S8704x2048_0_1 (Host.rsqrt (addf (Host.divf (broadcastInDim S8704x1 ![0] bcast_S8704_S8704x1_0 (Host.reduceAdd (mulf (rows a0 a1) (rows a0 a1)) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ (extractStridedSlice S1x2048 ![0, 0] a2 slices_S2x2048_S1x2048_0_0) shapeCasts_S1x2048_S2048)))) (shapeCast _ a3 shapeCasts_S1x2048x3584_S2048x3584)

theorem rows_at (r : Fin 8704) (k : Fin 2048) :
    (rows a0 a1 (ix2 r k) : EReal) = if h : r.val < 8192 then a0 (ix2 ⟨r.val, h⟩ k) else a1 (ix2 ⟨r.val - 8192, by omega⟩ k) := by
  unfold rows
  pointwise []

theorem result_at (r : Fin 8704) (n : Fin 3584) :
    (result a0 a1 a2 a3 (ix2 r n) : EReal)
      = ∑ k, normed (fun k => if h : r.val < 8192 then a0 (ix2 ⟨r.val, h⟩ k) else a1 (ix2 ⟨r.val - 8192, by omega⟩ k)) (fun k => a2 (ix2 0 k)) k * a3 (ix3 0 k n) := by
  unfold result
  have e := rows_at a0 a1
  generalize rows a0 a1 = x at e
  refine Eq.trans (b := ∑ k, normed (fun k => (x (ix2 r k) : EReal)) (fun k => a2 (ix2 0 k)) k * a3 (ix3 0 k n)) ?_ ?_
  · pointwise []
    rfl
  · simp only [e]

end Cert.Reference9Ideal.In

end
-- ==== Proof.ProjClaims.lean ====
module

public import proofs.«01_k».proof.Defs
public import proofs.«01_k».proof.Proof.Gen.Kernel7.Frame
public import proofs.«01_k».proof.Proof.QueryValue
public import proofs.«01_k».proof.Proof.QueryRef
public import proofs.«01_k».proof.Proof.Gen.Kernel8.Frame
public import proofs.«01_k».proof.Proof.OutValue
public import proofs.«01_k».proof.Proof.OutRef
public import proofs.«01_k».proof.Proof.Gen.Kernel9.Frame
public import proofs.«01_k».proof.Proof.InValue
public import proofs.«01_k».proof.Proof.InRef
public import Idealize.ShloMosaic.Lib.Quiescent

@[expose] public section

set_option maxRecDepth 16384

/-! The claims about the projections in and out. -/

noncomputable section

namespace Cert.ProjClaims

open Idealize.ShloMosaic Idealize.ShloMosaic.TcCoe Idealize.SL.Sem

/-! ## The projection of the second layer in -/

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Nothing is replaced. -/
theorem preserves7 : Cert.preserves_Kernel7_Kernel7Ideal := trivial

set_option maxHeartbeats 4000000 in
/-- The kernel's output array is the reference's result. -/
theorem algebraic7 : Cert.algebraic_Kernel7Ideal_Reference7Ideal := fun m ρ m' ρ' _ ha => by
  refine ⟨_, (θ_run Cert.Kernel7Ideal.defs _ _).mono (fun r h c => ?_) (Cert.Kernel7Ideal.Value.run_blocks m ρ), Cert.Reference7Ideal.Value.run m' ρ'⟩
  obtain ⟨k0, hr⟩ := h c
  obtain ⟨e0, e1, e2⟩ := ha c
  refine ⟨k0.trans ?_, hr⟩
  exact Cert.Kernel7Ideal.Query.array m c _ _ _ e0.symm e1.symm e2.symm _ (fun r n d => Cert.Reference7Ideal.Query.result_queries _ _ _ r n d) fun r j => Cert.Reference7Ideal.Query.result_others _ _ _ r j

/-! ## The projection of the second layer out -/

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Nothing is replaced. -/
theorem preserves8 : Cert.preserves_Kernel8_Kernel8Ideal := trivial

set_option maxHeartbeats 4000000 in
/-- The kernel's output array is the reference's result. -/
theorem algebraic8 : Cert.algebraic_Kernel8Ideal_Reference8Ideal := fun m ρ m' ρ' _ ha => by
  refine ⟨_, (θ_run Cert.Kernel8Ideal.defs _ _).mono (fun r h c => ?_) (Cert.Kernel8Ideal.Value.run_blocks m ρ), Cert.Reference8Ideal.Value.run m' ρ'⟩
  obtain ⟨k0, hr⟩ := h c
  obtain ⟨e0, e1, e2, e3, e4, e5⟩ := ha c
  refine ⟨k0.trans ?_, hr⟩
  exact Cert.Kernel8Ideal.Out.array m c _ _ _ _ _ _ e0.symm e1.symm e2.symm e3.symm e4.symm e5.symm _ fun r n => Cert.Reference8Ideal.Out.result_at _ _ _ _ _ _ r n

/-! ## The projection of the first layer in -/

theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Nothing is replaced. -/
theorem preserves9 : Cert.preserves_Kernel9_Kernel9Ideal := trivial

set_option maxHeartbeats 4000000 in
/-- The kernel's output array is the reference's result. -/
theorem algebraic9 : Cert.algebraic_Kernel9Ideal_Reference9Ideal := fun m ρ m' ρ' _ ha => by
  refine ⟨_, (θ_run Cert.Kernel9Ideal.defs _ _).mono (fun r h c => ?_) (Cert.Kernel9Ideal.Value.run_blocks m ρ), Cert.Reference9Ideal.Value.run m' ρ'⟩
  obtain ⟨k0, hr⟩ := h c
  obtain ⟨e0, e1, e2, e3⟩ := ha c
  refine ⟨k0.trans ?_, hr⟩
  exact Cert.Kernel9Ideal.In.array m c _ _ _ _ e0.symm e1.symm e2.symm e3.symm _ fun r n => Cert.Reference9Ideal.In.result_at _ _ _ _ r n

end Cert.ProjClaims

end
-- ==== Proof.GateSpec.lean ====
module

public import Idealize.ShloMosaic.PureOps.Ideal

@[expose] public section

/-! The gate's values in extended reals: an entry through the activation, a row of 1536 normalized and scaled. -/

noncomputable section

namespace Cert.Gate

open Idealize.ShloMosaic

/-- The activation, with its hyperbolic tangent. -/
def act (x : EReal) : EReal :=
  x * (Ideal.ofBits FTy.f32 0x3F000000#32 * (1
    + Ideal.tanh (Ideal.ofBits FTy.f32 0x3F4C422A#32 * (x + Ideal.ofBits FTy.f32 0x3D372713#32 * (x * x * x)))))

/-- A row divided by the root of its mean square, and scaled. -/
def scaled (x g : Fin 1536 → EReal) (n : Fin 1536) : EReal :=
  x n * Ideal.rsqrt (Ideal.div (∑ k, x k * x k) (Ideal.ofBits FTy.f32 0x44C00000#32) + Ideal.ofBits FTy.f32 0x358637BD#32) * g n

end Cert.Gate

end
-- ==== Proof.GateValue.lean ====
module

public import proofs.«01_k».proof.Proof.GateSpec
public import proofs.«01_k».proof.Proof.Gen.Kernel10Ideal.Value
public import Idealize.ShloMosaic.Lib.KernelVsHost
public import Idealize.ShloMosaic.Lib.Pointwise
public import Idealize.ShloMosaic.Lib.Pipeline.ValueKit.Basic
public import Idealize.ShloMosaic.Lib.Pipeline.ValueKit.Point

@[expose] public section

set_option maxRecDepth 16384

/-! The mixing call's normalized rows of the sample: what the body stores, and the array after the last point. -/

noncomputable section

namespace Cert.Kernel10Ideal.Gate

open Cert.Kernel10Ideal Cert.Kernel10Ideal.Gen Cert.Gate
open Idealize.ShloMosaic Idealize.ShloMosaic.TcCoe
open Idealize.ShloMosaic.Pipeline (Dat Cfg Window cellOf)

theorem row_at (x : Vec Ideal S128x1536 .f32) (g : Vec Ideal S1x1536 .f32) (i : Fin 128) (n : Fin 1536) :
    (k0_pay2 x g (ix2 i n) : EReal) = scaled (fun k => act (x (ix2 i k))) (fun k => g (ix2 0 k)) n := by
  pointwise [k0_pay2]
  rfl

theorem load_right (x : Vec Ideal S128x3584 .f32) (i : Fin 128) (n : Fin 1536) : View.ld x r0_1 (ix2 i n) = x (ix2 i ⟨1536 + n.val, by omega⟩) := by
  refine congrArg x (funext fun a => Fin.ext ?_)
  match a with
  | ⟨0, _⟩ => show 0 + 1 * i.val = i.val; omega
  | ⟨1, _⟩ => show 1536 + 1 * n.val = 1536 + n.val; omega

theorem load_scales (g : Vec Ideal S1x1536 .f32) : View.ld g r0_2 = g := View.ld_unit_lit _ _ (by decide)

/-- The block of normalized rows. -/
theorem block_at (x0 : Vec Ideal S128x3584 .f32) (x1 : Vec Ideal S1x1536 .f32) (x2 : Vec Ideal S1x12x128x128 .bf16) (x3 : Vec Ideal S1x128x12 .f32) (i : Fin 128) (n : Fin 1536) :
    (out0_5 x0 x1 x2 x3 (ix2 i n) : EReal) = scaled (fun k => act (x0 (ix2 i ⟨1536 + k.val, by omega⟩))) (fun k => x1 (ix2 0 k)) n := by
  have e : (out0_5 x0 x1 x2 x3 (ix2 i n) : EReal) = k0_pay2 (View.ld x0 r0_1) (View.ld x1 r0_2) (ix2 i n) := by
    unfold out0_5
    refine View.canon_apply_of_pieces (Val := Elt Ideal) (e := .f32) (k0_pay2 (View.ld x0 r0_1) (View.ld x1 r0_2)) _ ?_ _ (cover0_5 _ _)
    simp only [List.forall_mem_cons]
    refine ⟨fun x => congrArg (k0_pay2 (View.ld x0 r0_1) (View.ld x1 r0_2)) (funext fun a => Fin.ext ?_), fun _ h => nomatch h⟩
    match a with
    | ⟨0, _⟩ => show (x 0).val = 0 + 1 * (x 0).val; omega
    | ⟨1, _⟩ => show (x 1).val = 0 + 1 * (x 1).val; omega
  rw [e, load_scales]
  refine (row_at _ _ i n).trans ?_
  exact congrArg (fun f => scaled f (fun k => (x1 (ix2 0 k) : EReal)) n) (funext fun k => congrArg act (load_right x0 i k))

variable (m : (ℓ : Loc nD τ sig) → Buf (Elt Ideal) ℓ) (c : Dev nD)

theorem points (t : Fin cfg0.N) : t.val < 68 := lt_of_lt_of_eq t.isLt N_0

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index5 : ∀ t : Fin cfg0.N, win0_5.index t = ![t.val - 64, 0] :=
  (by decide +kernel : ∀ t : Fin grid0.N, win0_5.index t = ![t.val - 64, 0])

/-- The array is written back at the sample's points only. -/
theorem written : ∀ t : Fin cfg0.N, (cfg0.win 5).flush t = true → 64 ≤ t.val :=
  (by decide +kernel : ∀ t : Fin grid0.N, win0_5.flush t = true → 64 ≤ t.val)

section
variable (a0 : FVec Ideal S8704x3584 .f32) (a1 : FVec Ideal S1x1536 .f32)
  (h0 : m ((c.tc : Thread nD τ).loc main_arg0) = a0) (h1 : m ((c.tc : Thread nD τ).loc main_arg1) = a1)

include h1 in
theorem scales (n : Fin 1536) : (V m c main_v1 (ix2 0 n) : EReal) = a1 (ix2 0 n) := by
  have e : V m c main_v1 = shapeCast S1x1536 (shapeCast S1536 (m ((c.tc : Thread nD τ).loc main_arg1) : FVec Ideal S1x1536 .f32) shapeCasts_S1x1536_S1536) shapeCasts_S1536_S1x1536 := by
    unfold V hostOps0
    after_results_simp <;> rfl
  rw [e, h1]
  pointwise []

variable (t : Fin cfg0.N)

include h0 in
theorem rows_block (i : Fin 128) (n : Fin 3584) : (iblk m c 0 t (ix2 i n) : EReal) = a0 (ix2 ⟨t.val * 128 + i.val, by have := points t; omega⟩ n) := by
  unfold iblk
  blk_simp
  rw [show V m c (Pipeline.arrRef spec0 0) = a0 from (V_main_arg0 m c).trans h0]
  refine congrArg a0 (funext fun a => Fin.ext ?_)
  refine (Pipeline.Window.rect_emb_val win0_0 t _ a).trans ?_
  rw [index0]
  match a with
  | 0 => rfl
  | 1 => show 0 * 3584 + n.val = n.val; omega

include h1 in
theorem scales_block (n : Fin 1536) : (iblk m c 1 t (ix2 0 n) : EReal) = a1 (ix2 0 n) := by
  refine Eq.trans ?_ (scales m c a1 h1 n)
  unfold iblk
  blk_simp
  refine congrArg (V m c main_v1) (funext fun a => Fin.ext ?_)
  refine (Pipeline.Window.rect_emb_val win0_1 t _ a).trans ?_
  rw [index1]
  match a with
  | 0 => rfl
  | 1 => show 0 * 1536 + n.val = n.val; omega

include h0 h1 in
/-- The normalized rows' array after the last point. -/
theorem array (R : FVec Ideal S512x1536 .f32)
    (hR : ∀ (i : Fin 512) (n : Fin 1536), (R (ix2 i n) : EReal) = scaled (fun k => act (a0 (ix2 ⟨8192 + i.val, by omega⟩ ⟨1536 + k.val, by omega⟩))) (fun k => a1 (ix2 0 k)) n) :
    (dats m 0 c).arrAt 5 cfg0.N = R := by
  refine (dats m 0 c).arrAt_eq_of_covers 5 _ (by decide +kernel) fun t hf y => ?_
  blk_simp
  rw [after0_5]
  have hfl := written t hf
  have ht := points t
  have hi : (y 0 : ℕ) < 128 := (y 0).isLt
  have hd : (y 1 : ℕ) < 1536 := (y 1).isLt
  have ey : y = ix2 ⟨(y 0 : ℕ), hi⟩ ⟨(y 1 : ℕ), hd⟩ := by
    funext a
    match a with
    | 0 => rfl
    | 1 => rfl
  have eo : (win0_5.blk t).view.emb y = ix2 ⟨(t.val - 64) * 128 + (y 0 : ℕ), by omega⟩ ⟨(y 1 : ℕ), hd⟩ := by
    funext a
    apply Fin.ext
    refine (Pipeline.Window.rect_emb_val win0_5 t y a).trans ?_
    rw [index5]
    match a with
    | 0 => rfl
    | 1 => show 0 * 1536 + (y 1 : ℕ) = (y 1 : ℕ); omega
  refine Eq.trans ?_ (congrArg R eo).symm
  refine (congrArg _ ey).trans ?_
  refine Eq.trans ?_ (hR _ _).symm
  refine (block_at _ _ _ _ _ _).trans ?_
  have er : (⟨t.val * 128 + (y 0 : ℕ), by omega⟩ : Fin 8704) = ⟨8192 + ((t.val - 64) * 128 + (y 0 : ℕ)), by omega⟩ :=
    Fin.ext (show t.val * 128 + (y 0 : ℕ) = 8192 + ((t.val - 64) * 128 + (y 0 : ℕ)) by omega)
  simp only [rows_block m c a0 h0 t, scales_block m c a1 h1 t, er]

end

end Cert.Kernel10Ideal.Gate

end
-- ==== Proof.GateRef.lean ====
module

public import proofs.«01_k».proof.Proof.GateSpec
public import proofs.«01_k».proof.Proof.Gen.Reference10Ideal.Run
public import Idealize.ShloMosaic.Lib.Pointwise

@[expose] public section

set_option maxRecDepth 16384

/-! The reference of the sample's normalized rows at an index. -/

noncomputable section

namespace Cert.Reference10Ideal.Gate

open Cert.Reference10Ideal Cert.Reference10Ideal.Gen Cert.Reference10Ideal.Value Cert.Gate
open Idealize.ShloMosaic Idealize.ShloMosaic.TcCoe

/-- The sample's rows, the columns of the gate's two halves. -/
abbrev both (a0 : FVec Ideal S8704x3584 .f32) : FVec Ideal S128x4x3072 .f32 :=
  extractStridedSlice S128x4x3072 ![0, 0, 0] (shapeCast S128x4x3584 (extractStridedSlice S512x3584 ![8192, 0] a0 slices_S8704x3584_S512x3584_8192_0) shapeCasts_S512x3584_S128x4x3584) slices_S128x4x3584_S128x4x3072_0_0_0

/-- Through the activation, the right half. -/
abbrev right (u : FVec Ideal S128x4x3072 .f32) : FVec Ideal S128x4x1536 .f32 :=
  extractStridedSlice S128x4x1536 ![0, 0, 1536] (mulf u (mulf (broadcastInDim S128x4x3072 ![] bcast_S_S128x4x3072 (constant S_ .f32 0x3F000000#32)) (addf (broadcastInDim S128x4x3072 ![] bcast_S_S128x4x3072 (constant S_ .f32 0x3F800000#32)) (Host.tanh (mulf (broadcastInDim S128x4x3072 ![] bcast_S_S128x4x3072 (constant S_ .f32 0x3F4C422A#32)) (addf u (mulf (broadcastInDim S128x4x3072 ![] bcast_S_S128x4x3072 (constant S_ .f32 0x3D372713#32)) (mulf (mulf u u) u)))))))) slices_S128x4x3072_S128x4x1536_0_0_1536

/-- Normalized and scaled. -/
abbrev rows (v : FVec Ideal S128x4x1536 .f32) (a1 : FVec Ideal S1x1536 .f32) : FVec Ideal S128x4x1536 .f32 :=
  mulf (mulf v (broadcastInDim S128x4x1536 ![0, 1, 2] bcast_S128x4x1_S128x4x1536_0_1_2 (Host.rsqrt (addf (Host.divf (broadcastInDim S128x4x1 ![0, 1] bcast_S128x4_S128x4x1_0_1 (Host.reduceAdd (mulf v v) (constant S_ .f32 0x00000000#32) reducesTo_S128x4x1536_S128x4_d2 h_S_)) (broadcastInDim S128x4x1 ![] bcast_S_S128x4x1 (constant S_ .f32 0x44C00000#32))) (broadcastInDim S128x4x1 ![] bcast_S_S128x4x1 (constant S_ .f32 0x358637BD#32)))))) (broadcastInDim S128x4x1536 ![0, 1, 2] bcast_S1x1x1536_S128x4x1536_0_1_2 (broadcastInDim S1x1x1536 ![2] bcast_S1536_S1x1x1536_2 (shapeCast S1536 a1 shapeCasts_S1x1536_S1536)))

/-- The reference's result. -/
abbrev result (a0 : FVec Ideal S8704x3584 .f32) (a1 : FVec Ideal S1x1536 .f32) : FVec Ideal S512x1536 .f32 :=
  shapeCast S512x1536 (rows (right (both a0)) a1) shapeCasts_S128x4x1536_S512x1536

theorem both_at (a0 : FVec Ideal S8704x3584 .f32) (b : Fin 128) (q : Fin 4) (n : Fin 3072) :
    (both a0 (ix3 b q n) : EReal) = a0 (ix2 ⟨8192 + (b.val * 4 + q.val), by omega⟩ ⟨n.val, by omega⟩) := by
  unfold both
  pointwise []

theorem right_at (u : FVec Ideal S128x4x3072 .f32) (b : Fin 128) (q : Fin 4) (n : Fin 1536) :
    (right u (ix3 b q n) : EReal) = act (u (ix3 b q ⟨1536 + n.val, by omega⟩)) := by
  unfold right
  pointwise []
  rfl

theorem rows_at (v : FVec Ideal S128x4x1536 .f32) (a1 : FVec Ideal S1x1536 .f32) (b : Fin 128) (q : Fin 4) (n : Fin 1536) :
    (rows v a1 (ix3 b q n) : EReal) = scaled (fun k => v (ix3 b q k)) (fun k => a1 (ix2 0 k)) n := by
  unfold rows
  pointwise []
  rfl

theorem result_at (a0 : FVec Ideal S8704x3584 .f32) (a1 : FVec Ideal S1x1536 .f32) (i : Fin 512) (n : Fin 1536) :
    (result a0 a1 (ix2 i n) : EReal) = scaled (fun k => act (a0 (ix2 ⟨8192 + i.val, by omega⟩ ⟨1536 + k.val, by omega⟩))) (fun k => a1 (ix2 0 k)) n := by
  unfold result
  refine (shapeCast_apply _ _ _ (ix3 ⟨i.val / 4, by omega⟩ ⟨i.val % 4, by omega⟩ n) ?_).trans ((rows_at _ _ _ _ _).trans ?_)
  · rw [Shape.rowMajor_val_three, Shape.rowMajor_val_two]
    show (i.val / 4 * 4 + i.val % 4) * 1536 + n.val = i.val * 1536 + n.val
    omega
  · have e : (⟨8192 + (i.val / 4 * 4 + i.val % 4), by omega⟩ : Fin 8704) = ⟨8192 + i.val, by omega⟩ := Fin.ext (show 8192 + (i.val / 4 * 4 + i.val % 4) = 8192 + i.val by omega)
    simp only [right_at, both_at, e]

end Cert.Reference10Ideal.Gate

end
-- ==== Proof.GateClaims.lean ====
module

public import proofs.«01_k».proof.Defs
public import proofs.«01_k».proof.Proof.Gen.Kernel10.Frame
public import proofs.«01_k».proof.Proof.GateValue
public import proofs.«01_k».proof.Proof.GateRef
public import Idealize.ShloMosaic.Lib.Quiescent

@[expose] public section

set_option maxRecDepth 16384

/-! The claims about the mixing call's normalized rows of the sample. -/

noncomputable section

namespace Cert.GateClaims

open Idealize.ShloMosaic Idealize.ShloMosaic.TcCoe Idealize.SL.Sem

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Nothing is replaced. -/
theorem preserves : Cert.preserves_Kernel10_Kernel10Ideal := trivial

set_option maxHeartbeats 4000000 in
/-- The kernel's second output array is the reference's result. -/
theorem algebraic : Cert.algebraic_Kernel10Ideal_Reference10Ideal := fun m ρ m' ρ' _ ha => by
  refine ⟨_, (θ_run Cert.Kernel10Ideal.defs _ _).mono (fun r h c => ?_) (Cert.Kernel10Ideal.Value.run_blocks m ρ), Cert.Reference10Ideal.Value.run m' ρ'⟩
  obtain ⟨_, k1, hr⟩ := h c
  obtain ⟨e0, e1, _⟩ := ha c
  refine ⟨k1.trans ?_, hr⟩
  exact Cert.Kernel10Ideal.Gate.array m c _ _ e0.symm e1.symm _ fun i n => Cert.Reference10Ideal.Gate.result_at _ _ i n

end Cert.GateClaims

end
-- ==== Proof.lean ====
module

public import proofs.«01_k».proof.Defs
public import proofs.«01_k».proof.Proof.MobaClaims
public import proofs.«01_k».proof.Proof.MlpClaims
public import proofs.«01_k».proof.Proof.MlpCastClaims
public import proofs.«01_k».proof.Proof.KvClaims
public import proofs.«01_k».proof.Proof.MemClaims
public import proofs.«01_k».proof.Proof.ProjClaims
public import proofs.«01_k».proof.Proof.GateClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Gen.facts,
    MobaClaims.frame_kernel, MobaClaims.frame_ideal, MobaClaims.frame_ideal_finite, MobaClaims.frame_reference, MobaClaims.frame_reference_finite,
    MlpClaims.frame_kernel, MlpClaims.frame_ideal, MlpClaims.frame_reference,
    MlpCastClaims.frame_kernel, MlpCastClaims.frame_ideal, MlpCastClaims.frame_reference,
    KvClaims.frame_kernel4, KvClaims.frame_ideal4, KvClaims.frame_reference4, KvClaims.frame_kernel5, KvClaims.frame_ideal5, KvClaims.frame_reference5,
    MemClaims.frame_kernel, MemClaims.frame_ideal, MemClaims.frame_reference,
    ProjClaims.frame_kernel7, ProjClaims.frame_ideal7, ProjClaims.frame_reference7,
    ProjClaims.frame_kernel8, ProjClaims.frame_ideal8, ProjClaims.frame_reference8,
    ProjClaims.frame_kernel9, ProjClaims.frame_ideal9, ProjClaims.frame_reference9,
    GateClaims.frame_kernel, GateClaims.frame_ideal, GateClaims.frame_reference,
    MobaClaims.preserves, MobaClaims.algebraic, MlpClaims.preserves, MlpClaims.algebraic, MlpCastClaims.preserves, MlpCastClaims.algebraic,
    KvClaims.preserves4, KvClaims.algebraic4, KvClaims.preserves5, KvClaims.algebraic5,
    MemClaims.preserves, MemClaims.algebraic,
    ProjClaims.preserves7, ProjClaims.algebraic7, ProjClaims.preserves8, ProjClaims.algebraic8, ProjClaims.preserves9, ProjClaims.algebraic9,
    GateClaims.preserves, GateClaims.algebraic⟩

end Cert.Proof

end
